-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_heads [hPre_finite_heads : Cert.Pre_finite_heads.Facts] (m : (ℓ : Loc Cert.AttnIdeal.nD Cert.AttnIdeal.τ Cert.AttnIdeal.sig) → Buf (Elt Ideal) ℓ) : Prop :=
  ∀ c : Dev Cert.AttnIdeal.nD,
    (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_heads [hPre_finite_heads : Cert.Pre_finite_heads.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_heads.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5)
      ∧ r.2.mem ((c.tc : Thread Cert.GatherReferenceIdeal.nD Cert.GatherReferenceIdeal.τ).loc Cert.GatherReferenceIdeal.main_arg6) = m ((c.tc : Thread Cert.GatherReferenceIdeal.nD Cert.GatherReferenceIdeal.τ).loc Cert.GatherReferenceIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_heads [hAttnIdeal : Cert.AttnIdeal.Facts] [hPre_finite_heads : Cert.Pre_finite_heads.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_heads m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_finite_heads [hAttnReferenceIdeal : Cert.AttnReferenceIdeal.Facts] [hPre_finite_heads : Cert.Pre_finite_heads.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_heads m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 512]⟩ (Layout.meshBlock [2, 4, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![512, 2048]⟩ (Layout.meshBlock [2, 4, 4] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![512, 2048]⟩ (Layout.meshBlock [2, 4, 4] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = m' (((0 : Dev Cert.GatherReferenceIdeal.nD).tc : Thread Cert.GatherReferenceIdeal.nD Cert.GatherReferenceIdeal.τ).loc Cert.GatherReferenceIdeal.main_arg0)
      ∧ m ((c.tc : Thread Cert.GatherIdeal.nD Cert.GatherIdeal.τ).loc Cert.GatherIdeal.main_arg1) = Layout.blockN ⟨2, ![2048, 128]⟩ ⟨2, ![2048, 512]⟩ (Layout.meshBlock [2, 4, 4] ![[], [2]] c) (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.blockN ⟨2, ![128, 2048]⟩ ⟨2, ![512, 2048]⟩ (Layout.meshBlock [2, 4, 4] ![[2], []] c) (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.blockN ⟨2, ![128, 2048]⟩ ⟨2, ![512, 2048]⟩ (Layout.meshBlock [2, 4, 4] ![[2], []] c) (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = m' (((0 : Dev Cert.GatherReferenceIdeal.nD).tc : Thread Cert.GatherReferenceIdeal.nD Cert.GatherReferenceIdeal.τ).loc Cert.GatherReferenceIdeal.main_arg4)
      ∧ m ((c.tc : Thread Cert.GatherIdeal.nD Cert.GatherIdeal.τ).loc Cert.GatherIdeal.main_arg5) = m' (((0 : Dev Cert.GatherReferenceIdeal.nD).tc : Thread Cert.GatherReferenceIdeal.nD Cert.GatherReferenceIdeal.τ).loc Cert.GatherReferenceIdeal.main_arg5)
      ∧ m ((c.tc : Thread Cert.GatherIdeal.nD Cert.GatherIdeal.τ).loc Cert.GatherIdeal.main_arg6) = m' (((0 : Dev Cert.GatherReferenceIdeal.nD).tc : Thread Cert.GatherReferenceIdeal.nD Cert.GatherReferenceIdeal.τ).loc Cert.GatherReferenceIdeal.main_arg6)) →
    ∃ (v0 : Buf (Elt Ideal) (((0 : Dev Cert.GatherReferenceIdeal.nD).tc : Thread Cert.GatherReferenceIdeal.nD Cert.GatherReferenceIdeal.τ).loc Cert.GatherReferenceIdeal.main_v3)) (v1 : Buf (Elt Ideal) (((0 : Dev Cert.GatherReferenceIdeal.nD).tc : Thread Cert.GatherReferenceIdeal.nD Cert.GatherReferenceIdeal.τ).loc Cert.GatherReferenceIdeal.main_v5)) (v2 : Buf (Elt Ideal) (((0 : Dev Cert.GatherReferenceIdeal.nD).tc : Thread Cert.GatherReferenceIdeal.nD Cert.GatherReferenceIdeal.τ).loc Cert.GatherReferenceIdeal.main_v7)) (v3 : Buf (Elt Ideal) (((0 : Dev Cert.GatherReferenceIdeal.nD).tc : Thread Cert.GatherReferenceIdeal.nD Cert.GatherReferenceIdeal.τ).loc Cert.GatherReferenceIdeal.main_v9)) (v4 : Buf (Elt Ideal) (((0 : Dev Cert.GatherReferenceIdeal.nD).tc : Thread Cert.GatherReferenceIdeal.nD Cert.GatherReferenceIdeal.τ).loc Cert.GatherReferenceIdeal.main_v11)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v3) = v0
          ∧ r.2.mem (((0 : Dev Cert.GatherReferenceIdeal.nD).tc : Thread Cert.GatherReferenceIdeal.nD Cert.GatherReferenceIdeal.τ).loc Cert.GatherReferenceIdeal.main_v5) = v1
          ∧ r.2.mem (((0 : Dev Cert.GatherReferenceIdeal.nD).tc : Thread Cert.GatherReferenceIdeal.nD Cert.GatherReferenceIdeal.τ).loc Cert.GatherReferenceIdeal.main_v7) = v2
          ∧ r.2.mem (((0 : Dev Cert.GatherReferenceIdeal.nD).tc : Thread Cert.GatherReferenceIdeal.nD Cert.GatherReferenceIdeal.τ).loc Cert.GatherReferenceIdeal.main_v9) = v3
          ∧ r.2.mem (((0 : Dev Cert.GatherReferenceIdeal.nD).tc : Thread Cert.GatherReferenceIdeal.nD Cert.GatherReferenceIdeal.τ).loc Cert.GatherReferenceIdeal.main_v11) = v4
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5)
          ∧ r.2.mem (((0 : Dev Cert.GatherReferenceIdeal.nD).tc : Thread Cert.GatherReferenceIdeal.nD Cert.GatherReferenceIdeal.τ).loc Cert.GatherReferenceIdeal.main_arg6) = m' (((0 : Dev Cert.GatherReferenceIdeal.nD).tc : Thread Cert.GatherReferenceIdeal.nD Cert.GatherReferenceIdeal.τ).loc Cert.GatherReferenceIdeal.main_arg6))

def preserves_Attn_AttnIdeal : Prop :=
  True

def algebraic_AttnIdeal_AttnReferenceIdeal_pre_finite_heads [hAttnIdeal : Cert.AttnIdeal.Facts] [hAttnReferenceIdeal : Cert.AttnReferenceIdeal.Facts] [hPre_finite_heads : Cert.Pre_finite_heads.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite_heads m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v29) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hAttn : Cert.Attn.Facts) (hAttnIdeal : Cert.AttnIdeal.Facts) (hAttnReferenceIdeal : Cert.AttnReferenceIdeal.Facts) (hOutProj : Cert.OutProj.Facts) (hOutProjIdeal : Cert.OutProjIdeal.Facts) (hOutProjReferenceIdeal : Cert.OutProjReferenceIdeal.Facts) (hPre_finite_KernelIdeal : Cert.Pre_finite_KernelIdeal.Facts) (hPre_finite_ReferenceIdeal : Cert.Pre_finite_ReferenceIdeal.Facts) (hPre_finite_heads : Cert.Pre_finite_heads.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ quiescent_Gather (hGather := hGather)
    ∧ quiescent_GatherIdeal (hGatherIdeal := hGatherIdeal)
    ∧ quiescent_GatherReferenceIdeal (hGatherReferenceIdeal := hGatherReferenceIdeal)
    ∧ quiescent_Attn (hAttn := hAttn)
    ∧ quiescent_AttnIdeal (hAttnIdeal := hAttnIdeal)
    ∧ quiescent_AttnIdeal_pre_finite_heads (hAttnIdeal := hAttnIdeal) (hPre_finite_heads := hPre_finite_heads)
    ∧ quiescent_AttnReferenceIdeal (hAttnReferenceIdeal := hAttnReferenceIdeal)
    ∧ quiescent_AttnReferenceIdeal_pre_finite_heads (hAttnReferenceIdeal := hAttnReferenceIdeal) (hPre_finite_heads := hPre_finite_heads)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
    ∧ preserves_Gather_GatherIdeal
    ∧ algebraic_GatherIdeal_GatherReferenceIdeal (hGatherIdeal := hGatherIdeal) (hGatherReferenceIdeal := hGatherReferenceIdeal)
    ∧ preserves_Attn_AttnIdeal
    ∧ algebraic_AttnIdeal_AttnReferenceIdeal_pre_finite_heads (hAttnIdeal := hAttnIdeal) (hAttnReferenceIdeal := hAttnReferenceIdeal) (hPre_finite_heads := hPre_finite_heads)
    ∧ preserves_OutProj_OutProjIdeal
    ∧ algebraic_OutProjIdeal_OutProjReferenceIdeal (hOutProjIdeal := hOutProjIdeal) (hOutProjReferenceIdeal := hOutProjReferenceIdeal)
-- ==== Pre_finite_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .bf16) (main_arg6 : FVec F S2048x32 .bf16) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .bf16 := Host.absf main_arg5
  let main_cst_6 : FVec F S_ .bf16 := constant S_ .bf16 0x7F80#16
  let main_v20 : FVec F S2048x512 .bf16 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .bf16 := Host.absf main_arg6
  let main_cst_8 : FVec F S_ .bf16 := constant S_ .bf16 0x7F80#16
  let main_v25 : FVec F S2048x32 .bf16 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .bf16) (main_arg1 : FVec F S2048x128 .bf16) (main_arg2 : FVec F S128x2048 .bf16) (main_arg3 : FVec F S128x2048 .bf16) (main_arg4 : FVec F S2048x2048 .bf16) (main_arg5 : FVec F S2048x512 .bf16) (main_arg6 : FVec F S2048x32 .bf16) (main_arg7 : FVec F S2048x2048 .bf16) : IVec S_ 1 :=
  let main_v0 : FVec F S2x512x2048 .bf16 := Host.absf main_arg0
  let main_cst : FVec F S_ .bf16 := constant S_ .bf16 0x7F80#16
  let main_v1 : FVec F S2x512x2048 .bf16 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x128 .bf16 := Host.absf main_arg1
  let main_cst_0 : FVec F S_ .bf16 := constant S_ .bf16 0x7F80#16
  let main_v5 : FVec F S2048x128 .bf16 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .bf16 := Host.absf main_arg2
  let main_cst_2 : FVec F S_ .bf16 := constant S_ .bf16 0x7F80#16
  let main_v10 : FVec F S128x2048 .bf16 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .bf16 := Host.absf main_arg4
  let main_cst_4 : FVec F S_ .bf16 := constant S_ .bf16 0x7F80#16
  let main_v15 : FVec F S2048x2048 .bf16 := broadcastInDim S2048x2048 ![] bcast_S_S2048x2048 main_cst_4
  let main_v16 : IVec S2048x2048 1 := cmpf .olt main_v14 main_v15
  fn_part1 (F := F) main_arg5 main_arg6 main_v13 main_v16
-- ==== Pre_finite_ReferenceIdeal.lean ====
abbrev S2x512x2048 : Shape := ⟨3, ![2, 512, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .bf16) (main_arg6 : FVec F S2048x32 .bf16) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .bf16 := Host.absf main_arg5
  let main_cst_6 : FVec F S_ .bf16 := constant S_ .bf16 0x7F80#16
  let main_v20 : FVec F S2048x512 .bf16 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .bf16 := Host.absf main_arg6
  let main_cst_8 : FVec F S_ .bf16 := constant S_ .bf16 0x7F80#16
  let main_v25 : FVec F S2048x32 .bf16 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .bf16) (main_arg1 : FVec F S2048x512 .bf16) (main_arg2 : FVec F S512x2048 .bf16) (main_arg3 : FVec F S512x2048 .bf16) (main_arg4 : FVec F S2048x2048 .bf16) (main_arg5 : FVec F S2048x512 .bf16) (main_arg6 : FVec F S2048x32 .bf16) (main_arg7 : FVec F S2048x2048 .bf16) : IVec S_ 1 :=
  let main_v0 : FVec F S2x512x2048 .bf16 := Host.absf main_arg0
  let main_cst : FVec F S_ .bf16 := constant S_ .bf16 0x7F80#16
  let main_v1 : FVec F S2x512x2048 .bf16 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x512 .bf16 := Host.absf main_arg1
  let main_cst_0 : FVec F S_ .bf16 := constant S_ .bf16 0x7F80#16
  let main_v5 : FVec F S2048x512 .bf16 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x2048 .bf16 := Host.absf main_arg2
  let main_cst_2 : FVec F S_ .bf16 := constant S_ .bf16 0x7F80#16
  let main_v10 : FVec F S512x2048 .bf16 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048x2048 .bf16 := Host.absf main_arg4
  let main_cst_4 : FVec F S_ .bf16 := constant S_ .bf16 0x7F80#16
  let main_v15 : FVec F S2048x2048 .bf16 := broadcastInDim S2048x2048 ![] bcast_S_S2048x2048 main_cst_4
  let main_v16 : IVec S2048x2048 1 := cmpf .olt main_v14 main_v15
  fn_part1 (F := F) main_arg5 main_arg6 main_v13 main_v16
-- ==== Pre_finite_heads.lean ====
abbrev S2x512x2048 : Shape := ⟨3, ![2, 512, 2048]⟩
abbrev S2x512x512 : Shape := ⟨3, ![2, 512, 512]⟩
abbrev S2x512x32 : Shape := ⟨3, ![2, 512, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S2x512x32 : S_.BroadcastsInDim S2x512x32 (![] : Fin 0 → Fin S2x512x32.rank)
  reducesTo_S2x512x32_S_d0_1_2 : S2x512x32.ReducesTo [0, 1, 2] S_

variable [Facts]

def fn_part1 {F : FTy → Type} [FloatOps F] (main_v13 : IVec S_ 1) (main_v16 : IVec S2x512x32 1) : IVec S_ 1 :=
  let main_c_5 : IVec S_ 1 := constantI S_ 1 1#1
  let main_v17 : IVec S_ 1 := (fun x v => Host.reduce IntOp.andi x v reducesTo_S2x512x32_S_d0_1_2 h_S_) main_v16 main_c_5
  let main_v18 : IVec S_ 1 := andi main_v13 main_v17
  main_v18

def fn {F : FTy → Type} [FloatOps F] (main_arg0 : FVec F S2x512x2048 .bf16) (main_arg1 : FVec F S2x512x2048 .bf16) (main_arg2 : FVec F S2x512x2048 .bf16) (main_arg3 : FVec F S2x512x512 .bf16) (main_arg4 : FVec F S2x512x32 .bf16) : IVec S_ 1 :=
  let main_v0 : FVec F S2x512x2048 .bf16 := Host.absf main_arg0
  let main_cst : FVec F S_ .bf16 := constant S_ .bf16 0x7F80#16
  let main_v1 : FVec F S2x512x2048 .bf16 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2x512x2048 .bf16 := Host.absf main_arg1
  let main_cst_0 : FVec F S_ .bf16 := constant S_ .bf16 0x7F80#16
  let main_v5 : FVec F S2x512x2048 .bf16 := broadcastInDim S2x512x2048 ![] bcast_S_S2x512x2048 main_cst_0
  let main_v6 : IVec S2x512x2048 1 := cmpf .olt main_v4 main_v5
  let main_c_1 : IVec S_ 1 := constantI S_ 1 1#1
  let main_v7 : IVec S_ 1 := (fun x v => Host.reduce IntOp.andi x v reducesTo_S2x512x2048_S_d0_1_2 h_S_) main_v6 main_c_1
  let main_v8 : IVec S_ 1 := andi main_v3 main_v7
  let main_v9 : FVec F S2x512x512 .bf16 := Host.absf main_arg3
  let main_cst_2 : FVec F S_ .bf16 := constant S_ .bf16 0x7F80#16
  let main_v10 : FVec F S2x512x512 .bf16 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S2x512x32 .bf16 := Host.absf main_arg4
  let main_cst_4 : FVec F S_ .bf16 := constant S_ .bf16 0x7F80#16
  let main_v15 : FVec F S2x512x32 .bf16 := broadcastInDim S2x512x32 ![] bcast_S_S2x512x32 main_cst_4
  let main_v16 : IVec S2x512x32 1 := cmpf .olt main_v14 main_v15
  fn_part1 (F := F) main_v13 main_v16
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x512 : Shape := ⟨2, ![1024, 512]⟩
abbrev S1024x32 : Shape := ⟨2, ![1024, 32]⟩
abbrev S4x1024x128 : Shape := ⟨3, ![4, 1024, 128]⟩
abbrev S4x128x2048 : Shape := ⟨3, ![4, 128, 2048]⟩
abbrev S9 : Shape := ⟨1, ![9]⟩
abbrev S_ : Shape := ⟨0, ![]⟩
abbrev S1024x128 : Shape := ⟨2, ![1024, 128]⟩
abbrev S1x1024x128 : Shape := ⟨3, ![1, 1024, 128]⟩
abbrev S1x128x2048 : Shape := ⟨3, ![1, 128, 2048]⟩
abbrev S1 : Shape := ⟨1, ![1]⟩
abbrev S1x512x128 : Shape := ⟨3, ![1, 512, 128]⟩
abbrev S512x128 : Shape := ⟨2, ![512, 128]⟩
abbrev S1x64x2048 : Shape := ⟨3, ![1, 64, 2048]⟩
abbrev S64x2048 : Shape := ⟨2, ![64, 2048]⟩
abbrev S512x2048 : Shape := ⟨2, ![512, 2048]⟩
abbrev S512x512 : Shape := ⟨2, ![512, 512]⟩
abbrev S2x512x512 : Shape := ⟨3, ![2, 512, 512]⟩
abbrev S2x512x32 : Shape := ⟨3, ![2, 512, 32]⟩
abbrev S1x512x2048 : Shape := ⟨3, ![1, 512, 2048]⟩
abbrev S1x512x512 : Shape := ⟨3, ![1, 512, 512]⟩
abbrev S1x512x32 : Shape := ⟨3, ![1, 512, 32]⟩
abbrev S512x32 : Shape := ⟨2, ![512, 32]⟩
abbrev S512 : Shape := ⟨1, ![512]⟩
abbrev S512x1 : Shape := ⟨2, ![512, 1]⟩

abbrev nBuf : Space → Nat
  | .hbm => 23
  | .vmem => 32
  | .smem => 0
  | _ => 0

abbrev bufTy : (tb : Table) → Fin (tcTables nBuf tb) → BufTy
  | .hbm, ⟨0, _⟩ => ⟨S2x512x2048, .bf16⟩
  | .hbm, ⟨1, _⟩ => ⟨S2048x128, .bf16⟩
  | .hbm, ⟨2, _⟩ => ⟨S128x2048, .bf16⟩
  | .hbm, ⟨3, _⟩ => ⟨S128x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S1024x2048, .bf16⟩
  | .hbm, ⟨9, _⟩ => ⟨S1024x2048, .bf16⟩
  | .hbm, ⟨10, _⟩ => ⟨S1024x2048, .bf16⟩
  | .hbm, ⟨11, _⟩ => ⟨S1024x2048, .bf16⟩
  | .hbm, ⟨12, _⟩ => ⟨S1024x512, .bf16⟩
  | .hbm, ⟨13, _⟩ => ⟨S1024x32, .bf16⟩
  | .hbm, ⟨14, _⟩ => ⟨S2x512x2048, .bf16⟩
  | .hbm, ⟨15, _⟩ => ⟨S2x512x2048, .bf16⟩
  | .hbm, ⟨16, _⟩ => ⟨S2x512x2048, .bf16⟩
  | .hbm, ⟨17, _⟩ => ⟨S2x512x512, .bf16⟩
  | .hbm, ⟨18, _⟩ => ⟨S2x512x32, .bf16⟩
  | .hbm, ⟨19, _⟩ => ⟨S2x512x2048, .bf16⟩
  | .hbm, ⟨20, _⟩ => ⟨S1024x2048, .bf16⟩
  | .hbm, ⟨21, _⟩ => ⟨S1024x2048, .f32⟩
  | .hbm, ⟨22, _⟩ => ⟨S2x512x2048, .f32⟩
  | .local _ .vmem, ⟨0, _⟩ => ⟨S1024x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x2048, .bf16⟩
  | .local _ .vmem, ⟨5, _⟩ => ⟨S2048x512, .bf16⟩
  | .local _ .vmem, ⟨6, _⟩ => ⟨S2048x32, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x512, .bf16⟩
  | .local _ .vmem, ⟨11, _⟩ => ⟨S1024x32, .bf16⟩
  | .local _ .vmem, ⟨12, _⟩ => ⟨S4x1024x128, .bf16⟩
  | .local _ .vmem, ⟨13, _⟩ => ⟨S4x128x2048, .bf16⟩
  | .local _ .vmem, ⟨14, _⟩ => ⟨S4x128x2048, .bf16⟩
  | .local _ .vmem, ⟨15, _⟩ => ⟨S1x512x2048, .bf16⟩
  | .local _ .vmem, ⟨16, _⟩ => ⟨S1x512x2048, .bf16⟩
  | .local _ .vmem, ⟨17, _⟩ => ⟨S1x512x2048, .bf16⟩
  | .local _ .vmem, ⟨18, _⟩ => ⟨S1x512x2048, .bf16⟩
  | .local _ .vmem, ⟨19, _⟩ => ⟨S1x512x2048, .bf16⟩
  | .local _ .vmem, ⟨20, _⟩ => ⟨S1x512x2048, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x32, .bf16⟩
  | .local _ .vmem, ⟨24, _⟩ => ⟨S1x512x32, .bf16⟩
  | .local _ .vmem, ⟨25, _⟩ => ⟨S1x512x2048, .bf16⟩
  | .local _ .vmem, ⟨26, _⟩ => ⟨S1x512x2048, .bf16⟩
  | .local _ .vmem, ⟨27, _⟩ => ⟨S1024x2048, .bf16⟩
  | .local _ .vmem, ⟨28, _⟩ => ⟨S2048x512, .bf16⟩
  | .local _ .vmem, ⟨29, _⟩ => ⟨S2048x512, .bf16⟩
  | .local _ .vmem, ⟨30, _⟩ => ⟨S1024x512, .f32⟩
  | .local _ .vmem, ⟨31, _⟩ => ⟨S1024x512, .f32⟩
  | _, _ => ⟨S2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 48
abbrev cc1_sem0_1 : DmaSem sig := 49
abbrev cc1_sem1_0 : DmaSem sig := 50
abbrev cc1_sem1_1 : DmaSem sig := 51
abbrev cc1_sem2_0 : DmaSem sig := 52
abbrev cc1_sem2_1 : DmaSem sig := 53
abbrev cc1_sem3_0 : DmaSem sig := 54
abbrev cc1_sem3_1 : DmaSem sig := 55
abbrev cc1_sem4_0 : DmaSem sig := 56
abbrev cc1_sem4_1 : DmaSem sig := 57
abbrev cc1_sem5_0 : DmaSem sig := 58
abbrev cc1_sem5_1 : DmaSem sig := 59
abbrev cc2_sem0_0 : DmaSem sig := 60
abbrev cc2_sem1_0 : DmaSem sig := 61
abbrev cc2_sem1_1 : DmaSem sig := 62
abbrev cc2_sem2_0 : DmaSem sig := 63
abbrev cc2_sem2_1 : DmaSem sig := 64
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v45 : BitVec 32 := Scalar.muli v2 c16_i32_24
  let v46 : BitVec 32 := Scalar.addi c0_i32_25 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v47 : BitVec 32 := Scalar.muli v5 c4_i32_26
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_27 : BitVec 32 := 1#32
  let v49 : BitVec 32 := Scalar.muli v19 c1_i32_27
  let v50 : BitVec 32 := Scalar.addi v48 v49
  v50.toNat
def k0_dev2 (d0 : Dev nD) : Nat :=
  let c0_i32_30 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_29 : BitVec 32 := 16#32
  let v51 : BitVec 32 := Scalar.muli v2 c16_i32_29
  let v52 : BitVec 32 := Scalar.addi c0_i32_30 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v53 : BitVec 32 := Scalar.muli v5 c4_i32_31
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_32 : BitVec 32 := 1#32
  let v55 : BitVec 32 := Scalar.muli v30 c1_i32_32
  let v56 : BitVec 32 := Scalar.addi v54 v55
  v56.toNat
def k0_dev3 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v57 : BitVec 32 := Scalar.muli v2 c16_i32_34
  let v58 : BitVec 32 := Scalar.addi c0_i32_35 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_36 : BitVec 32 := 4#32
  let v59 : BitVec 32 := Scalar.muli v43 c4_i32_36
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v61 : BitVec 32 := Scalar.muli v8 c1_i32_37
  let v62 : BitVec 32 := Scalar.addi v60 v61
  v62.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_54 : BitVec 32 := 0#32
  let v82 : BitVec 1 := Scalar.cmpi .eq v40 c0_i32_54
  let v83 : BitVec 32 := Scalar.extui v82
  let c0_i32_55 : BitVec 32 := 0#32
  let v84 : BitVec 1 := Scalar.cmpi .ne v83 c0_i32_55
  v84

def k0_dev4 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev5 (d0 : Dev nD) : Nat :=
  let c0_i32_183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182 : BitVec 32 := 16#32
  let v227 : BitVec 32 := Scalar.muli v2 c16_i32_182
  let v228 : BitVec 32 := Scalar.addi c0_i32_183 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v229 : BitVec 32 := Scalar.muli v5 c4_i32_184
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_185 : BitVec 32 := 1#32
  let v231 : BitVec 32 := Scalar.muli v30 c1_i32_185
  let v232 : BitVec 32 := Scalar.addi v230 v231
  v232.toNat
def k0_dev6 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v241 : BitVec 32 := Scalar.muli v2 c16_i32_193
  let v242 : BitVec 32 := Scalar.addi c0_i32_194 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_195 : BitVec 32 := 4#32
  let v243 : BitVec 32 := Scalar.muli v5 c4_i32_195
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_196 : BitVec 32 := 1#32
  let v245 : BitVec 32 := Scalar.muli v30 c1_i32_196
  let v246 : BitVec 32 := Scalar.addi v244 v245
  v246.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_56 : BitVec 32 := 1#32
  let v85 : BitVec 1 := Scalar.cmpi .eq v40 c1_i32_56
  let v86 : BitVec 32 := Scalar.extui v85
  let c0_i32_57 : BitVec 32 := 0#32
  let v87 : BitVec 1 := Scalar.cmpi .ne v86 c0_i32_57
  v87

def k0_dev7 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev8 (d0 : Dev nD) : Nat :=
  let c0_i32_182 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_181 : BitVec 32 := 16#32
  let v227 : BitVec 32 := Scalar.muli v2 c16_i32_181
  let v228 : BitVec 32 := Scalar.addi c0_i32_182 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v229 : BitVec 32 := Scalar.muli v5 c4_i32_183
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_184 : BitVec 32 := 1#32
  let v231 : BitVec 32 := Scalar.muli v30 c1_i32_184
  let v232 : BitVec 32 := Scalar.addi v230 v231
  v232.toNat
def k0_dev9 (d0 : Dev nD) : Nat :=
  let c0_i32_192 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_191 : BitVec 32 := 16#32
  let v241 : BitVec 32 := Scalar.muli v2 c16_i32_191
  let v242 : BitVec 32 := Scalar.addi c0_i32_192 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_193 : BitVec 32 := 4#32
  let v243 : BitVec 32 := Scalar.muli v5 c4_i32_193
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_194 : BitVec 32 := 1#32
  let v245 : BitVec 32 := Scalar.muli v30 c1_i32_194
  let v246 : BitVec 32 := Scalar.addi v244 v245
  v246.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_63 : BitVec 32 := 0#32
  let v93 : BitVec 1 := Scalar.cmpi .eq v40 c0_i32_63
  let v94 : BitVec 32 := Scalar.extui v93
  let c0_i32_64 : BitVec 32 := 0#32
  let v95 : BitVec 1 := Scalar.cmpi .ne v94 c0_i32_64
  v95

def k0_dev10 (d0 : Dev nD) : Nat :=
  let c0_i32_233 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_232 : BitVec 32 := 16#32
  let v267 : BitVec 32 := Scalar.muli v2 c16_i32_232
  let v268 : BitVec 32 := Scalar.addi c0_i32_233 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_234 : BitVec 32 := 4#32
  let v269 : BitVec 32 := Scalar.muli v43 c4_i32_234
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v271 : BitVec 32 := Scalar.muli v8 c1_i32_235
  let v272 : BitVec 32 := Scalar.addi v270 v271
  v272.toNat
def k0_dev11 (d0 : Dev nD) : Nat :=
  let c0_i32_245 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_244 : BitVec 32 := 16#32
  let v281 : BitVec 32 := Scalar.muli v2 c16_i32_244
  let v282 : BitVec 32 := Scalar.addi c0_i32_245 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_246 : BitVec 32 := 4#32
  let v283 : BitVec 32 := Scalar.muli v43 c4_i32_246
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v285 : BitVec 32 := Scalar.muli v8 c1_i32_247
  let v286 : BitVec 32 := Scalar.addi v284 v285
  v286.toNat
def k0_dev12 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v295 : BitVec 32 := Scalar.muli v2 c16_i32_256
  let v296 : BitVec 32 := Scalar.addi c0_i32_257 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_258 : BitVec 32 := 4#32
  let v297 : BitVec 32 := Scalar.muli v43 c4_i32_258
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v299 : BitVec 32 := Scalar.muli v8 c1_i32_259
  let v300 : BitVec 32 := Scalar.addi v298 v299
  v300.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_65 : BitVec 32 := 1#32
  let v96 : BitVec 1 := Scalar.cmpi .eq v40 c1_i32_65
  let v97 : BitVec 32 := Scalar.extui v96
  let c0_i32_66 : BitVec 32 := 0#32
  let v98 : BitVec 1 := Scalar.cmpi .ne v97 c0_i32_66
  v98

def k0_dev13 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v267 : BitVec 32 := Scalar.muli v2 c16_i32_230
  let v268 : BitVec 32 := Scalar.addi c0_i32_231 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_232 : BitVec 32 := 4#32
  let v269 : BitVec 32 := Scalar.muli v43 c4_i32_232
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v271 : BitVec 32 := Scalar.muli v8 c1_i32_233
  let v272 : BitVec 32 := Scalar.addi v270 v271
  v272.toNat
def k0_dev14 (d0 : Dev nD) : Nat :=
  let c0_i32_243 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_242 : BitVec 32 := 16#32
  let v281 : BitVec 32 := Scalar.muli v2 c16_i32_242
  let v282 : BitVec 32 := Scalar.addi c0_i32_243 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_244 : BitVec 32 := 4#32
  let v283 : BitVec 32 := Scalar.muli v43 c4_i32_244
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v285 : BitVec 32 := Scalar.muli v8 c1_i32_245
  let v286 : BitVec 32 := Scalar.addi v284 v285
  v286.toNat
def k0_dev15 (d0 : Dev nD) : Nat :=
  let c0_i32_255 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_254 : BitVec 32 := 16#32
  let v295 : BitVec 32 := Scalar.muli v2 c16_i32_254
  let v296 : BitVec 32 := Scalar.addi c0_i32_255 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_256 : BitVec 32 := 4#32
  let v297 : BitVec 32 := Scalar.muli v43 c4_i32_256
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v299 : BitVec 32 := Scalar.muli v8 c1_i32_257
  let v300 : BitVec 32 := Scalar.addi v298 v299
  v300.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_67 : BitVec 32 := 0#32
  let v99 : BitVec 1 := Scalar.cmpi .eq v40 c0_i32_67
  let v100 : BitVec 32 := Scalar.extui v99
  let c0_i32_68 : BitVec 32 := 0#32
  let v101 : BitVec 1 := Scalar.cmpi .ne v100 c0_i32_68
  v101

def k0_dev16 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev17 (d0 : Dev nD) : Nat :=
  let c0_i32_183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182 : BitVec 32 := 16#32
  let v227 : BitVec 32 := Scalar.muli v2 c16_i32_182
  let v228 : BitVec 32 := Scalar.addi c0_i32_183 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v229 : BitVec 32 := Scalar.muli v5 c4_i32_184
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_185 : BitVec 32 := 1#32
  let v231 : BitVec 32 := Scalar.muli v30 c1_i32_185
  let v232 : BitVec 32 := Scalar.addi v230 v231
  v232.toNat
def k0_dev18 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v241 : BitVec 32 := Scalar.muli v2 c16_i32_193
  let v242 : BitVec 32 := Scalar.addi c0_i32_194 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_195 : BitVec 32 := 4#32
  let v243 : BitVec 32 := Scalar.muli v5 c4_i32_195
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_196 : BitVec 32 := 1#32
  let v245 : BitVec 32 := Scalar.muli v30 c1_i32_196
  let v246 : BitVec 32 := Scalar.addi v244 v245
  v246.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_69 : BitVec 32 := 1#32
  let v102 : BitVec 1 := Scalar.cmpi .eq v40 c1_i32_69
  let v103 : BitVec 32 := Scalar.extui v102
  let c0_i32_70 : BitVec 32 := 0#32
  let v104 : BitVec 1 := Scalar.cmpi .ne v103 c0_i32_70
  v104

def k0_dev19 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev20 (d0 : Dev nD) : Nat :=
  let c0_i32_182 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_181 : BitVec 32 := 16#32
  let v227 : BitVec 32 := Scalar.muli v2 c16_i32_181
  let v228 : BitVec 32 := Scalar.addi c0_i32_182 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v229 : BitVec 32 := Scalar.muli v5 c4_i32_183
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_184 : BitVec 32 := 1#32
  let v231 : BitVec 32 := Scalar.muli v30 c1_i32_184
  let v232 : BitVec 32 := Scalar.addi v230 v231
  v232.toNat
def k0_dev21 (d0 : Dev nD) : Nat :=
  let c0_i32_192 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_191 : BitVec 32 := 16#32
  let v241 : BitVec 32 := Scalar.muli v2 c16_i32_191
  let v242 : BitVec 32 := Scalar.addi c0_i32_192 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_193 : BitVec 32 := 4#32
  let v243 : BitVec 32 := Scalar.muli v5 c4_i32_193
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_194 : BitVec 32 := 1#32
  let v245 : BitVec 32 := Scalar.muli v30 c1_i32_194
  let v246 : BitVec 32 := Scalar.addi v244 v245
  v246.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_79 : BitVec 32 := 0#32
  let v115 : BitVec 1 := Scalar.cmpi .eq v40 c0_i32_79
  let v116 : BitVec 32 := Scalar.extui v115
  let c0_i32_80 : BitVec 32 := 0#32
  let v117 : BitVec 1 := Scalar.cmpi .ne v116 c0_i32_80
  v117

def k0_dev22 (d0 : Dev nD) : Nat :=
  let c0_i32_233 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_232 : BitVec 32 := 16#32
  let v267 : BitVec 32 := Scalar.muli v2 c16_i32_232
  let v268 : BitVec 32 := Scalar.addi c0_i32_233 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_234 : BitVec 32 := 4#32
  let v269 : BitVec 32 := Scalar.muli v43 c4_i32_234
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v271 : BitVec 32 := Scalar.muli v8 c1_i32_235
  let v272 : BitVec 32 := Scalar.addi v270 v271
  v272.toNat
def k0_dev23 (d0 : Dev nD) : Nat :=
  let c0_i32_245 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_244 : BitVec 32 := 16#32
  let v281 : BitVec 32 := Scalar.muli v2 c16_i32_244
  let v282 : BitVec 32 := Scalar.addi c0_i32_245 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_246 : BitVec 32 := 4#32
  let v283 : BitVec 32 := Scalar.muli v43 c4_i32_246
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v285 : BitVec 32 := Scalar.muli v8 c1_i32_247
  let v286 : BitVec 32 := Scalar.addi v284 v285
  v286.toNat
def k0_dev24 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v295 : BitVec 32 := Scalar.muli v2 c16_i32_256
  let v296 : BitVec 32 := Scalar.addi c0_i32_257 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_258 : BitVec 32 := 4#32
  let v297 : BitVec 32 := Scalar.muli v43 c4_i32_258
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v299 : BitVec 32 := Scalar.muli v8 c1_i32_259
  let v300 : BitVec 32 := Scalar.addi v298 v299
  v300.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_81 : BitVec 32 := 1#32
  let v118 : BitVec 1 := Scalar.cmpi .eq v40 c1_i32_81
  let v119 : BitVec 32 := Scalar.extui v118
  let c0_i32_82 : BitVec 32 := 0#32
  let v120 : BitVec 1 := Scalar.cmpi .ne v119 c0_i32_82
  v120

def k0_dev25 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v267 : BitVec 32 := Scalar.muli v2 c16_i32_230
  let v268 : BitVec 32 := Scalar.addi c0_i32_231 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_232 : BitVec 32 := 4#32
  let v269 : BitVec 32 := Scalar.muli v43 c4_i32_232
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v271 : BitVec 32 := Scalar.muli v8 c1_i32_233
  let v272 : BitVec 32 := Scalar.addi v270 v271
  v272.toNat
def k0_dev26 (d0 : Dev nD) : Nat :=
  let c0_i32_243 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_242 : BitVec 32 := 16#32
  let v281 : BitVec 32 := Scalar.muli v2 c16_i32_242
  let v282 : BitVec 32 := Scalar.addi c0_i32_243 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_244 : BitVec 32 := 4#32
  let v283 : BitVec 32 := Scalar.muli v43 c4_i32_244
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v285 : BitVec 32 := Scalar.muli v8 c1_i32_245
  let v286 : BitVec 32 := Scalar.addi v284 v285
  v286.toNat
def k0_dev27 (d0 : Dev nD) : Nat :=
  let c0_i32_255 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_254 : BitVec 32 := 16#32
  let v295 : BitVec 32 := Scalar.muli v2 c16_i32_254
  let v296 : BitVec 32 := Scalar.addi c0_i32_255 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_256 : BitVec 32 := 4#32
  let v297 : BitVec 32 := Scalar.muli v43 c4_i32_256
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v299 : BitVec 32 := Scalar.muli v8 c1_i32_257
  let v300 : BitVec 32 := Scalar.addi v298 v299
  v300.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_83 : BitVec 32 := 0#32
  let v121 : BitVec 1 := Scalar.cmpi .eq v40 c0_i32_83
  let v122 : BitVec 32 := Scalar.extui v121
  let c0_i32_84 : BitVec 32 := 0#32
  let v123 : BitVec 1 := Scalar.cmpi .ne v122 c0_i32_84
  v123

def k0_dev28 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev29 (d0 : Dev nD) : Nat :=
  let c0_i32_182 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_181 : BitVec 32 := 16#32
  let v227 : BitVec 32 := Scalar.muli v2 c16_i32_181
  let v228 : BitVec 32 := Scalar.addi c0_i32_182 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v229 : BitVec 32 := Scalar.muli v5 c4_i32_183
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_184 : BitVec 32 := 1#32
  let v231 : BitVec 32 := Scalar.muli v30 c1_i32_184
  let v232 : BitVec 32 := Scalar.addi v230 v231
  v232.toNat
def k0_dev30 (d0 : Dev nD) : Nat :=
  let c0_i32_193 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_192 : BitVec 32 := 16#32
  let v241 : BitVec 32 := Scalar.muli v2 c16_i32_192
  let v242 : BitVec 32 := Scalar.addi c0_i32_193 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_194 : BitVec 32 := 4#32
  let v243 : BitVec 32 := Scalar.muli v5 c4_i32_194
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_195 : BitVec 32 := 1#32
  let v245 : BitVec 32 := Scalar.muli v30 c1_i32_195
  let v246 : BitVec 32 := Scalar.addi v244 v245
  v246.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_85 : BitVec 32 := 1#32
  let v124 : BitVec 1 := Scalar.cmpi .eq v40 c1_i32_85
  let v125 : BitVec 32 := Scalar.extui v124
  let c0_i32_86 : BitVec 32 := 0#32
  let v126 : BitVec 1 := Scalar.cmpi .ne v125 c0_i32_86
  v126

def k0_dev31 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev32 (d0 : Dev nD) : Nat :=
  let c0_i32_181 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_180 : BitVec 32 := 16#32
  let v227 : BitVec 32 := Scalar.muli v2 c16_i32_180
  let v228 : BitVec 32 := Scalar.addi c0_i32_181 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_182 : BitVec 32 := 4#32
  let v229 : BitVec 32 := Scalar.muli v5 c4_i32_182
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_183 : BitVec 32 := 1#32
  let v231 : BitVec 32 := Scalar.muli v30 c1_i32_183
  let v232 : BitVec 32 := Scalar.addi v230 v231
  v232.toNat
def k0_dev33 (d0 : Dev nD) : Nat :=
  let c0_i32_191 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_190 : BitVec 32 := 16#32
  let v241 : BitVec 32 := Scalar.muli v2 c16_i32_190
  let v242 : BitVec 32 := Scalar.addi c0_i32_191 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_192 : BitVec 32 := 4#32
  let v243 : BitVec 32 := Scalar.muli v5 c4_i32_192
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_193 : BitVec 32 := 1#32
  let v245 : BitVec 32 := Scalar.muli v30 c1_i32_193
  let v246 : BitVec 32 := Scalar.addi v244 v245
  v246.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_101 : BitVec 32 := 0#32
  let v142 : BitVec 1 := Scalar.cmpi .eq v40 c0_i32_101
  let v143 : BitVec 32 := Scalar.extui v142
  let c0_i32_102 : BitVec 32 := 0#32
  let v144 : BitVec 1 := Scalar.cmpi .ne v143 c0_i32_102
  v144

def k0_dev34 (d0 : Dev nD) : Nat :=
  let c0_i32_232 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_231 : BitVec 32 := 16#32
  let v267 : BitVec 32 := Scalar.muli v2 c16_i32_231
  let v268 : BitVec 32 := Scalar.addi c0_i32_232 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_233 : BitVec 32 := 4#32
  let v269 : BitVec 32 := Scalar.muli v43 c4_i32_233
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v271 : BitVec 32 := Scalar.muli v8 c1_i32_234
  let v272 : BitVec 32 := Scalar.addi v270 v271
  v272.toNat
def k0_dev35 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v281 : BitVec 32 := Scalar.muli v2 c16_i32_243
  let v282 : BitVec 32 := Scalar.addi c0_i32_244 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_245 : BitVec 32 := 4#32
  let v283 : BitVec 32 := Scalar.muli v43 c4_i32_245
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v285 : BitVec 32 := Scalar.muli v8 c1_i32_246
  let v286 : BitVec 32 := Scalar.addi v284 v285
  v286.toNat
def k0_dev36 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v295 : BitVec 32 := Scalar.muli v2 c16_i32_255
  let v296 : BitVec 32 := Scalar.addi c0_i32_256 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_257 : BitVec 32 := 4#32
  let v297 : BitVec 32 := Scalar.muli v43 c4_i32_257
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v299 : BitVec 32 := Scalar.muli v8 c1_i32_258
  let v300 : BitVec 32 := Scalar.addi v298 v299
  v300.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_103 : BitVec 32 := 1#32
  let v145 : BitVec 1 := Scalar.cmpi .eq v40 c1_i32_103
  let v146 : BitVec 32 := Scalar.extui v145
  let c0_i32_104 : BitVec 32 := 0#32
  let v147 : BitVec 1 := Scalar.cmpi .ne v146 c0_i32_104
  v147

def k0_dev37 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_229 : BitVec 32 := 16#32
  let v267 : BitVec 32 := Scalar.muli v2 c16_i32_229
  let v268 : BitVec 32 := Scalar.addi c0_i32_230 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_231 : BitVec 32 := 4#32
  let v269 : BitVec 32 := Scalar.muli v43 c4_i32_231
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v271 : BitVec 32 := Scalar.muli v8 c1_i32_232
  let v272 : BitVec 32 := Scalar.addi v270 v271
  v272.toNat
def k0_dev38 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v281 : BitVec 32 := Scalar.muli v2 c16_i32_241
  let v282 : BitVec 32 := Scalar.addi c0_i32_242 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_243 : BitVec 32 := 4#32
  let v283 : BitVec 32 := Scalar.muli v43 c4_i32_243
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v285 : BitVec 32 := Scalar.muli v8 c1_i32_244
  let v286 : BitVec 32 := Scalar.addi v284 v285
  v286.toNat
def k0_dev39 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v295 : BitVec 32 := Scalar.muli v2 c16_i32_253
  let v296 : BitVec 32 := Scalar.addi c0_i32_254 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_255 : BitVec 32 := 4#32
  let v297 : BitVec 32 := Scalar.muli v43 c4_i32_255
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v299 : BitVec 32 := Scalar.muli v8 c1_i32_256
  let v300 : BitVec 32 := Scalar.addi v298 v299
  v300.toNat
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S2x512x2048 : Shape := ⟨3, ![2, 512, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S2x512x512 : Shape := ⟨3, ![2, 512, 512]⟩
abbrev S2x512x16x128 : Shape := ⟨4, ![2, 512, 16, 128]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 56
  | .vmem => 0
  | .smem => 0
  | _ => 0

abbrev bufTy : (tb : Table) → Fin (tcTables nBuf tb) → BufTy
  | .hbm, ⟨0, _⟩ => ⟨S2x512x2048, .bf16⟩
  | .hbm, ⟨1, _⟩ => ⟨S2048x512, .bf16⟩
  | .hbm, ⟨2, _⟩ => ⟨S512x2048, .bf16⟩
  | .hbm, ⟨3, _⟩ => ⟨S512x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S2x512x512, .f32⟩
  | .hbm, ⟨9, _⟩ => ⟨S2x512x512, .bf16⟩
  | .hbm, ⟨10, _⟩ => ⟨S2x512x2048, .f32⟩
  | .hbm, ⟨11, _⟩ => ⟨S2x512x2048, .bf16⟩
  | .hbm, ⟨12, _⟩ => ⟨S2x512x16x128, .bf16⟩
  | .hbm, ⟨13, _⟩ => ⟨S2x512x2048, .f32⟩
  | .hbm, ⟨14, _⟩ => ⟨S2x512x2048, .bf16⟩
  | .hbm, ⟨15, _⟩ => ⟨S2x512x16x128, .bf16⟩
  | .hbm, ⟨16, _⟩ => ⟨S2x512x2048, .f32⟩
  | .hbm, ⟨17, _⟩ => ⟨S2x512x2048, .bf16⟩
  | .hbm, ⟨18, _⟩ => ⟨S2x512x16x128, .bf16⟩
  | .hbm, ⟨19, _⟩ => ⟨S2x512x512, .f32⟩
  | .hbm, ⟨20, _⟩ => ⟨S2x512x512, .bf16⟩
  | .hbm, ⟨21, _⟩ => ⟨S2x512x16x32, .bf16⟩
  | .hbm, ⟨22, _⟩ => ⟨S2x512x32, .f32⟩
  | .hbm, ⟨23, _⟩ => ⟨S2x512x32, .bf16⟩
  | .hbm, ⟨24, _⟩ => ⟨S2x512x1x32, .bf16⟩
  | .hbm, ⟨25, _⟩ => ⟨S2x16x512x512, .f32⟩
  | .hbm, ⟨26, _⟩ => ⟨S2x16x512x512, .bf16⟩
  | .hbm, ⟨27, _⟩ => ⟨S2x512x16x32, .bf16⟩
  | .hbm, ⟨28, _⟩ => ⟨S2x16x512x512, .f32⟩
  | .hbm, ⟨29, _⟩ => ⟨S2x16x512x512, .bf16⟩
  | .hbm, ⟨30, _⟩ => ⟨S2x16x512x512, .bf16⟩
  | .hbm, ⟨31, _⟩ => ⟨S2x16x512x512, .f32⟩
  | .hbm, ⟨32, _⟩ => ⟨S_, .f32⟩
  | .hbm, ⟨33, _⟩ => ⟨S2x16x512x512, .f32⟩
  | .hbm, ⟨34, _⟩ => ⟨S2x16x512x512, .f32⟩
  | .hbm, ⟨35, _⟩ => ⟨S2x16x512x512, .bf16⟩
  | .hbm, ⟨36, _⟩ => ⟨S_, .bf16⟩
  | .hbm, ⟨37, _⟩ => ⟨S2x16x512, .bf16⟩
  | .hbm, ⟨38, _⟩ => ⟨S2x16x512x1, .bf16⟩
  | .hbm, ⟨39, _⟩ => ⟨S2x16x512x512, .bf16⟩
  | .hbm, ⟨40, _⟩ => ⟨S2x16x512x512, .bf16⟩
  | .hbm, ⟨41, _⟩ => ⟨S2x16x512x512, .bf16⟩
  | .hbm, ⟨42, _⟩ => ⟨S2x16x512x512, .f32⟩
  | .hbm, ⟨43, _⟩ => ⟨S_, .f32⟩
  | .hbm, ⟨44, _⟩ => ⟨S2x16x512, .f32⟩
  | .hbm, ⟨45, _⟩ => ⟨S2x16x512x1, .f32⟩
  | .hbm, ⟨46, _⟩ => ⟨S2x16x512x1, .bf16⟩
  | .hbm, ⟨47, _⟩ => ⟨S2x16x512x512, .bf16⟩
  | .hbm, ⟨48, _⟩ => ⟨S2x16x512x512, .bf16⟩
  | .hbm, ⟨49, _⟩ => ⟨S2x16x128x512, .f32⟩
  | .hbm, ⟨50, _⟩ => ⟨S2x512x16x128, .f32⟩
  | .hbm, ⟨51, _⟩ => ⟨S2x512x16x128, .bf16⟩
  | .hbm, ⟨52, _⟩ => ⟨S2x512x2048, .bf16⟩
  | .hbm, ⟨53, _⟩ => ⟨S2x512x2048, .f32⟩
  | .hbm, ⟨54, _⟩ => ⟨S2x512x2048, .bf16⟩
  | .hbm, ⟨55, _⟩ => ⟨S2x512x2048, .f32⟩
  | _, _ => ⟨S2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Gather.lean ====
abbrev S1024x2048 : Shape := ⟨2, ![1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x512 : Shape := ⟨2, ![1024, 512]⟩
abbrev S1024x32 : Shape := ⟨2, ![1024, 32]⟩
abbrev S4x1024x128 : Shape := ⟨3, ![4, 1024, 128]⟩
abbrev S4x128x2048 : Shape := ⟨3, ![4, 128, 2048]⟩
abbrev S9 : Shape := ⟨1, ![9]⟩
abbrev S_ : Shape := ⟨0, ![]⟩
abbrev S1024x128 : Shape := ⟨2, ![1024, 128]⟩
abbrev S1x1024x128 : Shape := ⟨3, ![1, 1024, 128]⟩
abbrev S1x128x2048 : Shape := ⟨3, ![1, 128, 2048]⟩
abbrev S1 : Shape := ⟨1, ![1]⟩
abbrev S1x512x128 : Shape := ⟨3, ![1, 512, 128]⟩
abbrev S512x128 : Shape := ⟨2, ![512, 128]⟩
abbrev S1x64x2048 : Shape := ⟨3, ![1, 64, 2048]⟩
abbrev S64x2048 : Shape := ⟨2, ![64, 2048]⟩
abbrev S512x2048 : Shape := ⟨2, ![512, 2048]⟩
abbrev S512x512 : Shape := ⟨2, ![512, 512]⟩

abbrev nBuf : Space → Nat
  | .hbm => 12
  | .vmem => 15
  | .smem => 0
  | _ => 0

abbrev bufTy : (tb : Table) → Fin (tcTables nBuf tb) → BufTy
  | .hbm, ⟨0, _⟩ => ⟨S1024x2048, .bf16⟩
  | .hbm, ⟨1, _⟩ => ⟨S2048x128, .bf16⟩
  | .hbm, ⟨2, _⟩ => ⟨S128x2048, .bf16⟩
  | .hbm, ⟨3, _⟩ => ⟨S128x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S1024x2048, .bf16⟩
  | .hbm, ⟨8, _⟩ => ⟨S1024x2048, .bf16⟩
  | .hbm, ⟨9, _⟩ => ⟨S1024x2048, .bf16⟩
  | .hbm, ⟨10, _⟩ => ⟨S1024x512, .bf16⟩
  | .hbm, ⟨11, _⟩ => ⟨S1024x32, .bf16⟩
  | .local _ .vmem, ⟨0, _⟩ => ⟨S1024x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x2048, .bf16⟩
  | .local _ .vmem, ⟨5, _⟩ => ⟨S2048x512, .bf16⟩
  | .local _ .vmem, ⟨6, _⟩ => ⟨S2048x32, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x512, .bf16⟩
  | .local _ .vmem, ⟨11, _⟩ => ⟨S1024x32, .bf16⟩
  | .local _ .vmem, ⟨12, _⟩ => ⟨S4x1024x128, .bf16⟩
  | .local _ .vmem, ⟨13, _⟩ => ⟨S4x128x2048, .bf16⟩
  | .local _ .vmem, ⟨14, _⟩ => ⟨S4x128x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v45 : BitVec 32 := Scalar.muli v2 c16_i32_24
  let v46 : BitVec 32 := Scalar.addi c0_i32_25 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v47 : BitVec 32 := Scalar.muli v5 c4_i32_26
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_27 : BitVec 32 := 1#32
  let v49 : BitVec 32 := Scalar.muli v19 c1_i32_27
  let v50 : BitVec 32 := Scalar.addi v48 v49
  v50.toNat
def k0_dev2 (d0 : Dev nD) : Nat :=
  let c0_i32_30 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_29 : BitVec 32 := 16#32
  let v51 : BitVec 32 := Scalar.muli v2 c16_i32_29
  let v52 : BitVec 32 := Scalar.addi c0_i32_30 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v53 : BitVec 32 := Scalar.muli v5 c4_i32_31
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_32 : BitVec 32 := 1#32
  let v55 : BitVec 32 := Scalar.muli v30 c1_i32_32
  let v56 : BitVec 32 := Scalar.addi v54 v55
  v56.toNat
def k0_dev3 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v57 : BitVec 32 := Scalar.muli v2 c16_i32_34
  let v58 : BitVec 32 := Scalar.addi c0_i32_35 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_36 : BitVec 32 := 4#32
  let v59 : BitVec 32 := Scalar.muli v43 c4_i32_36
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v61 : BitVec 32 := Scalar.muli v8 c1_i32_37
  let v62 : BitVec 32 := Scalar.addi v60 v61
  v62.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_54 : BitVec 32 := 0#32
  let v82 : BitVec 1 := Scalar.cmpi .eq v40 c0_i32_54
  let v83 : BitVec 32 := Scalar.extui v82
  let c0_i32_55 : BitVec 32 := 0#32
  let v84 : BitVec 1 := Scalar.cmpi .ne v83 c0_i32_55
  v84

def k0_dev4 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev5 (d0 : Dev nD) : Nat :=
  let c0_i32_183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182 : BitVec 32 := 16#32
  let v227 : BitVec 32 := Scalar.muli v2 c16_i32_182
  let v228 : BitVec 32 := Scalar.addi c0_i32_183 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v229 : BitVec 32 := Scalar.muli v5 c4_i32_184
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_185 : BitVec 32 := 1#32
  let v231 : BitVec 32 := Scalar.muli v30 c1_i32_185
  let v232 : BitVec 32 := Scalar.addi v230 v231
  v232.toNat
def k0_dev6 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v241 : BitVec 32 := Scalar.muli v2 c16_i32_193
  let v242 : BitVec 32 := Scalar.addi c0_i32_194 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_195 : BitVec 32 := 4#32
  let v243 : BitVec 32 := Scalar.muli v5 c4_i32_195
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_196 : BitVec 32 := 1#32
  let v245 : BitVec 32 := Scalar.muli v30 c1_i32_196
  let v246 : BitVec 32 := Scalar.addi v244 v245
  v246.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_56 : BitVec 32 := 1#32
  let v85 : BitVec 1 := Scalar.cmpi .eq v40 c1_i32_56
  let v86 : BitVec 32 := Scalar.extui v85
  let c0_i32_57 : BitVec 32 := 0#32
  let v87 : BitVec 1 := Scalar.cmpi .ne v86 c0_i32_57
  v87

def k0_dev7 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev8 (d0 : Dev nD) : Nat :=
  let c0_i32_182 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_181 : BitVec 32 := 16#32
  let v227 : BitVec 32 := Scalar.muli v2 c16_i32_181
  let v228 : BitVec 32 := Scalar.addi c0_i32_182 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v229 : BitVec 32 := Scalar.muli v5 c4_i32_183
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_184 : BitVec 32 := 1#32
  let v231 : BitVec 32 := Scalar.muli v30 c1_i32_184
  let v232 : BitVec 32 := Scalar.addi v230 v231
  v232.toNat
def k0_dev9 (d0 : Dev nD) : Nat :=
  let c0_i32_192 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_191 : BitVec 32 := 16#32
  let v241 : BitVec 32 := Scalar.muli v2 c16_i32_191
  let v242 : BitVec 32 := Scalar.addi c0_i32_192 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_193 : BitVec 32 := 4#32
  let v243 : BitVec 32 := Scalar.muli v5 c4_i32_193
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_194 : BitVec 32 := 1#32
  let v245 : BitVec 32 := Scalar.muli v30 c1_i32_194
  let v246 : BitVec 32 := Scalar.addi v244 v245
  v246.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_63 : BitVec 32 := 0#32
  let v93 : BitVec 1 := Scalar.cmpi .eq v40 c0_i32_63
  let v94 : BitVec 32 := Scalar.extui v93
  let c0_i32_64 : BitVec 32 := 0#32
  let v95 : BitVec 1 := Scalar.cmpi .ne v94 c0_i32_64
  v95

def k0_dev10 (d0 : Dev nD) : Nat :=
  let c0_i32_233 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_232 : BitVec 32 := 16#32
  let v267 : BitVec 32 := Scalar.muli v2 c16_i32_232
  let v268 : BitVec 32 := Scalar.addi c0_i32_233 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_234 : BitVec 32 := 4#32
  let v269 : BitVec 32 := Scalar.muli v43 c4_i32_234
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v271 : BitVec 32 := Scalar.muli v8 c1_i32_235
  let v272 : BitVec 32 := Scalar.addi v270 v271
  v272.toNat
def k0_dev11 (d0 : Dev nD) : Nat :=
  let c0_i32_245 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_244 : BitVec 32 := 16#32
  let v281 : BitVec 32 := Scalar.muli v2 c16_i32_244
  let v282 : BitVec 32 := Scalar.addi c0_i32_245 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_246 : BitVec 32 := 4#32
  let v283 : BitVec 32 := Scalar.muli v43 c4_i32_246
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v285 : BitVec 32 := Scalar.muli v8 c1_i32_247
  let v286 : BitVec 32 := Scalar.addi v284 v285
  v286.toNat
def k0_dev12 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v295 : BitVec 32 := Scalar.muli v2 c16_i32_256
  let v296 : BitVec 32 := Scalar.addi c0_i32_257 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_258 : BitVec 32 := 4#32
  let v297 : BitVec 32 := Scalar.muli v43 c4_i32_258
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v299 : BitVec 32 := Scalar.muli v8 c1_i32_259
  let v300 : BitVec 32 := Scalar.addi v298 v299
  v300.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_65 : BitVec 32 := 1#32
  let v96 : BitVec 1 := Scalar.cmpi .eq v40 c1_i32_65
  let v97 : BitVec 32 := Scalar.extui v96
  let c0_i32_66 : BitVec 32 := 0#32
  let v98 : BitVec 1 := Scalar.cmpi .ne v97 c0_i32_66
  v98

def k0_dev13 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v267 : BitVec 32 := Scalar.muli v2 c16_i32_230
  let v268 : BitVec 32 := Scalar.addi c0_i32_231 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_232 : BitVec 32 := 4#32
  let v269 : BitVec 32 := Scalar.muli v43 c4_i32_232
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v271 : BitVec 32 := Scalar.muli v8 c1_i32_233
  let v272 : BitVec 32 := Scalar.addi v270 v271
  v272.toNat
def k0_dev14 (d0 : Dev nD) : Nat :=
  let c0_i32_243 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_242 : BitVec 32 := 16#32
  let v281 : BitVec 32 := Scalar.muli v2 c16_i32_242
  let v282 : BitVec 32 := Scalar.addi c0_i32_243 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_244 : BitVec 32 := 4#32
  let v283 : BitVec 32 := Scalar.muli v43 c4_i32_244
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v285 : BitVec 32 := Scalar.muli v8 c1_i32_245
  let v286 : BitVec 32 := Scalar.addi v284 v285
  v286.toNat
def k0_dev15 (d0 : Dev nD) : Nat :=
  let c0_i32_255 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_254 : BitVec 32 := 16#32
  let v295 : BitVec 32 := Scalar.muli v2 c16_i32_254
  let v296 : BitVec 32 := Scalar.addi c0_i32_255 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_256 : BitVec 32 := 4#32
  let v297 : BitVec 32 := Scalar.muli v43 c4_i32_256
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v299 : BitVec 32 := Scalar.muli v8 c1_i32_257
  let v300 : BitVec 32 := Scalar.addi v298 v299
  v300.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_67 : BitVec 32 := 0#32
  let v99 : BitVec 1 := Scalar.cmpi .eq v40 c0_i32_67
  let v100 : BitVec 32 := Scalar.extui v99
  let c0_i32_68 : BitVec 32 := 0#32
  let v101 : BitVec 1 := Scalar.cmpi .ne v100 c0_i32_68
  v101

def k0_dev16 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev17 (d0 : Dev nD) : Nat :=
  let c0_i32_183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182 : BitVec 32 := 16#32
  let v227 : BitVec 32 := Scalar.muli v2 c16_i32_182
  let v228 : BitVec 32 := Scalar.addi c0_i32_183 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v229 : BitVec 32 := Scalar.muli v5 c4_i32_184
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_185 : BitVec 32 := 1#32
  let v231 : BitVec 32 := Scalar.muli v30 c1_i32_185
  let v232 : BitVec 32 := Scalar.addi v230 v231
  v232.toNat
def k0_dev18 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v241 : BitVec 32 := Scalar.muli v2 c16_i32_193
  let v242 : BitVec 32 := Scalar.addi c0_i32_194 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_195 : BitVec 32 := 4#32
  let v243 : BitVec 32 := Scalar.muli v5 c4_i32_195
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_196 : BitVec 32 := 1#32
  let v245 : BitVec 32 := Scalar.muli v30 c1_i32_196
  let v246 : BitVec 32 := Scalar.addi v244 v245
  v246.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_69 : BitVec 32 := 1#32
  let v102 : BitVec 1 := Scalar.cmpi .eq v40 c1_i32_69
  let v103 : BitVec 32 := Scalar.extui v102
  let c0_i32_70 : BitVec 32 := 0#32
  let v104 : BitVec 1 := Scalar.cmpi .ne v103 c0_i32_70
  v104

def k0_dev19 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev20 (d0 : Dev nD) : Nat :=
  let c0_i32_182 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_181 : BitVec 32 := 16#32
  let v227 : BitVec 32 := Scalar.muli v2 c16_i32_181
  let v228 : BitVec 32 := Scalar.addi c0_i32_182 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v229 : BitVec 32 := Scalar.muli v5 c4_i32_183
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_184 : BitVec 32 := 1#32
  let v231 : BitVec 32 := Scalar.muli v30 c1_i32_184
  let v232 : BitVec 32 := Scalar.addi v230 v231
  v232.toNat
def k0_dev21 (d0 : Dev nD) : Nat :=
  let c0_i32_192 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_191 : BitVec 32 := 16#32
  let v241 : BitVec 32 := Scalar.muli v2 c16_i32_191
  let v242 : BitVec 32 := Scalar.addi c0_i32_192 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_193 : BitVec 32 := 4#32
  let v243 : BitVec 32 := Scalar.muli v5 c4_i32_193
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_194 : BitVec 32 := 1#32
  let v245 : BitVec 32 := Scalar.muli v30 c1_i32_194
  let v246 : BitVec 32 := Scalar.addi v244 v245
  v246.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_79 : BitVec 32 := 0#32
  let v115 : BitVec 1 := Scalar.cmpi .eq v40 c0_i32_79
  let v116 : BitVec 32 := Scalar.extui v115
  let c0_i32_80 : BitVec 32 := 0#32
  let v117 : BitVec 1 := Scalar.cmpi .ne v116 c0_i32_80
  v117

def k0_dev22 (d0 : Dev nD) : Nat :=
  let c0_i32_233 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_232 : BitVec 32 := 16#32
  let v267 : BitVec 32 := Scalar.muli v2 c16_i32_232
  let v268 : BitVec 32 := Scalar.addi c0_i32_233 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_234 : BitVec 32 := 4#32
  let v269 : BitVec 32 := Scalar.muli v43 c4_i32_234
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v271 : BitVec 32 := Scalar.muli v8 c1_i32_235
  let v272 : BitVec 32 := Scalar.addi v270 v271
  v272.toNat
def k0_dev23 (d0 : Dev nD) : Nat :=
  let c0_i32_245 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_244 : BitVec 32 := 16#32
  let v281 : BitVec 32 := Scalar.muli v2 c16_i32_244
  let v282 : BitVec 32 := Scalar.addi c0_i32_245 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_246 : BitVec 32 := 4#32
  let v283 : BitVec 32 := Scalar.muli v43 c4_i32_246
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v285 : BitVec 32 := Scalar.muli v8 c1_i32_247
  let v286 : BitVec 32 := Scalar.addi v284 v285
  v286.toNat
def k0_dev24 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v295 : BitVec 32 := Scalar.muli v2 c16_i32_256
  let v296 : BitVec 32 := Scalar.addi c0_i32_257 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_258 : BitVec 32 := 4#32
  let v297 : BitVec 32 := Scalar.muli v43 c4_i32_258
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v299 : BitVec 32 := Scalar.muli v8 c1_i32_259
  let v300 : BitVec 32 := Scalar.addi v298 v299
  v300.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_81 : BitVec 32 := 1#32
  let v118 : BitVec 1 := Scalar.cmpi .eq v40 c1_i32_81
  let v119 : BitVec 32 := Scalar.extui v118
  let c0_i32_82 : BitVec 32 := 0#32
  let v120 : BitVec 1 := Scalar.cmpi .ne v119 c0_i32_82
  v120

def k0_dev25 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v267 : BitVec 32 := Scalar.muli v2 c16_i32_230
  let v268 : BitVec 32 := Scalar.addi c0_i32_231 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_232 : BitVec 32 := 4#32
  let v269 : BitVec 32 := Scalar.muli v43 c4_i32_232
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v271 : BitVec 32 := Scalar.muli v8 c1_i32_233
  let v272 : BitVec 32 := Scalar.addi v270 v271
  v272.toNat
def k0_dev26 (d0 : Dev nD) : Nat :=
  let c0_i32_243 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_242 : BitVec 32 := 16#32
  let v281 : BitVec 32 := Scalar.muli v2 c16_i32_242
  let v282 : BitVec 32 := Scalar.addi c0_i32_243 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_244 : BitVec 32 := 4#32
  let v283 : BitVec 32 := Scalar.muli v43 c4_i32_244
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v285 : BitVec 32 := Scalar.muli v8 c1_i32_245
  let v286 : BitVec 32 := Scalar.addi v284 v285
  v286.toNat
def k0_dev27 (d0 : Dev nD) : Nat :=
  let c0_i32_255 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_254 : BitVec 32 := 16#32
  let v295 : BitVec 32 := Scalar.muli v2 c16_i32_254
  let v296 : BitVec 32 := Scalar.addi c0_i32_255 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_256 : BitVec 32 := 4#32
  let v297 : BitVec 32 := Scalar.muli v43 c4_i32_256
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v299 : BitVec 32 := Scalar.muli v8 c1_i32_257
  let v300 : BitVec 32 := Scalar.addi v298 v299
  v300.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_83 : BitVec 32 := 0#32
  let v121 : BitVec 1 := Scalar.cmpi .eq v40 c0_i32_83
  let v122 : BitVec 32 := Scalar.extui v121
  let c0_i32_84 : BitVec 32 := 0#32
  let v123 : BitVec 1 := Scalar.cmpi .ne v122 c0_i32_84
  v123

def k0_dev28 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev29 (d0 : Dev nD) : Nat :=
  let c0_i32_182 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_181 : BitVec 32 := 16#32
  let v227 : BitVec 32 := Scalar.muli v2 c16_i32_181
  let v228 : BitVec 32 := Scalar.addi c0_i32_182 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v229 : BitVec 32 := Scalar.muli v5 c4_i32_183
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_184 : BitVec 32 := 1#32
  let v231 : BitVec 32 := Scalar.muli v30 c1_i32_184
  let v232 : BitVec 32 := Scalar.addi v230 v231
  v232.toNat
def k0_dev30 (d0 : Dev nD) : Nat :=
  let c0_i32_193 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_192 : BitVec 32 := 16#32
  let v241 : BitVec 32 := Scalar.muli v2 c16_i32_192
  let v242 : BitVec 32 := Scalar.addi c0_i32_193 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_194 : BitVec 32 := 4#32
  let v243 : BitVec 32 := Scalar.muli v5 c4_i32_194
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_195 : BitVec 32 := 1#32
  let v245 : BitVec 32 := Scalar.muli v30 c1_i32_195
  let v246 : BitVec 32 := Scalar.addi v244 v245
  v246.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_85 : BitVec 32 := 1#32
  let v124 : BitVec 1 := Scalar.cmpi .eq v40 c1_i32_85
  let v125 : BitVec 32 := Scalar.extui v124
  let c0_i32_86 : BitVec 32 := 0#32
  let v126 : BitVec 1 := Scalar.cmpi .ne v125 c0_i32_86
  v126

def k0_dev31 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v213 : BitVec 32 := Scalar.muli v2 c16_i32_170
  let v214 : BitVec 32 := Scalar.addi c0_i32_171 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v215 : BitVec 32 := Scalar.muli v5 c4_i32_172
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_173 : BitVec 32 := 1#32
  let v217 : BitVec 32 := Scalar.muli v30 c1_i32_173
  let v218 : BitVec 32 := Scalar.addi v216 v217
  v218.toNat
def k0_dev32 (d0 : Dev nD) : Nat :=
  let c0_i32_181 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_180 : BitVec 32 := 16#32
  let v227 : BitVec 32 := Scalar.muli v2 c16_i32_180
  let v228 : BitVec 32 := Scalar.addi c0_i32_181 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_182 : BitVec 32 := 4#32
  let v229 : BitVec 32 := Scalar.muli v5 c4_i32_182
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_183 : BitVec 32 := 1#32
  let v231 : BitVec 32 := Scalar.muli v30 c1_i32_183
  let v232 : BitVec 32 := Scalar.addi v230 v231
  v232.toNat
def k0_dev33 (d0 : Dev nD) : Nat :=
  let c0_i32_191 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_190 : BitVec 32 := 16#32
  let v241 : BitVec 32 := Scalar.muli v2 c16_i32_190
  let v242 : BitVec 32 := Scalar.addi c0_i32_191 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_192 : BitVec 32 := 4#32
  let v243 : BitVec 32 := Scalar.muli v5 c4_i32_192
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_193 : BitVec 32 := 1#32
  let v245 : BitVec 32 := Scalar.muli v30 c1_i32_193
  let v246 : BitVec 32 := Scalar.addi v244 v245
  v246.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c0_i32_101 : BitVec 32 := 0#32
  let v142 : BitVec 1 := Scalar.cmpi .eq v40 c0_i32_101
  let v143 : BitVec 32 := Scalar.extui v142
  let c0_i32_102 : BitVec 32 := 0#32
  let v144 : BitVec 1 := Scalar.cmpi .ne v143 c0_i32_102
  v144

def k0_dev34 (d0 : Dev nD) : Nat :=
  let c0_i32_232 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_231 : BitVec 32 := 16#32
  let v267 : BitVec 32 := Scalar.muli v2 c16_i32_231
  let v268 : BitVec 32 := Scalar.addi c0_i32_232 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_233 : BitVec 32 := 4#32
  let v269 : BitVec 32 := Scalar.muli v43 c4_i32_233
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v271 : BitVec 32 := Scalar.muli v8 c1_i32_234
  let v272 : BitVec 32 := Scalar.addi v270 v271
  v272.toNat
def k0_dev35 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v281 : BitVec 32 := Scalar.muli v2 c16_i32_243
  let v282 : BitVec 32 := Scalar.addi c0_i32_244 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_245 : BitVec 32 := 4#32
  let v283 : BitVec 32 := Scalar.muli v43 c4_i32_245
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v285 : BitVec 32 := Scalar.muli v8 c1_i32_246
  let v286 : BitVec 32 := Scalar.addi v284 v285
  v286.toNat
def k0_dev36 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v295 : BitVec 32 := Scalar.muli v2 c16_i32_255
  let v296 : BitVec 32 := Scalar.addi c0_i32_256 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_257 : BitVec 32 := 4#32
  let v297 : BitVec 32 := Scalar.muli v43 c4_i32_257
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v299 : BitVec 32 := Scalar.muli v8 c1_i32_258
  let v300 : BitVec 32 := Scalar.addi v298 v299
  v300.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_103 : BitVec 32 := 1#32
  let v145 : BitVec 1 := Scalar.cmpi .eq v40 c1_i32_103
  let v146 : BitVec 32 := Scalar.extui v145
  let c0_i32_104 : BitVec 32 := 0#32
  let v147 : BitVec 1 := Scalar.cmpi .ne v146 c0_i32_104
  v147

def k0_dev37 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_229 : BitVec 32 := 16#32
  let v267 : BitVec 32 := Scalar.muli v2 c16_i32_229
  let v268 : BitVec 32 := Scalar.addi c0_i32_230 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_231 : BitVec 32 := 4#32
  let v269 : BitVec 32 := Scalar.muli v43 c4_i32_231
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v271 : BitVec 32 := Scalar.muli v8 c1_i32_232
  let v272 : BitVec 32 := Scalar.addi v270 v271
  v272.toNat
def k0_dev38 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v281 : BitVec 32 := Scalar.muli v2 c16_i32_241
  let v282 : BitVec 32 := Scalar.addi c0_i32_242 v281
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_243 : BitVec 32 := 4#32
  let v283 : BitVec 32 := Scalar.muli v43 c4_i32_243
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v285 : BitVec 32 := Scalar.muli v8 c1_i32_244
  let v286 : BitVec 32 := Scalar.addi v284 v285
  v286.toNat
def k0_dev39 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v295 : BitVec 32 := Scalar.muli v2 c16_i32_253
  let v296 : BitVec 32 := Scalar.addi c0_i32_254 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v41 : BitVec 32 := Scalar.addi v5 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v5 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c4_i32_255 : BitVec 32 := 4#32
  let v297 : BitVec 32 := Scalar.muli v43 c4_i32_255
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v299 : BitVec 32 := Scalar.muli v8 c1_i32_256
  let v300 : BitVec 32 := Scalar.addi v298 v299
  v300.toNat
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== GatherReferenceIdeal.lean ====
abbrev S1024x2048 : Shape := ⟨2, ![1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S1024x512 : Shape := ⟨2, ![1024, 512]⟩
abbrev S1024x32 : Shape := ⟨2, ![1024, 32]⟩

abbrev nBuf : Space → Nat
  | .hbm => 19
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x512, .bf16⟩
  | .hbm, ⟨2, _⟩ => ⟨S512x2048, .bf16⟩
  | .hbm, ⟨3, _⟩ => ⟨S512x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S1024x512, .f32⟩
  | .hbm, ⟨8, _⟩ => ⟨S1024x512, .bf16⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S1024x512, .f32⟩
  | .hbm, ⟨16, _⟩ => ⟨S1024x512, .bf16⟩
  | .hbm, ⟨17, _⟩ => ⟨S1024x32, .f32⟩
  | .hbm, ⟨18, _⟩ => ⟨S1024x32, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Attn.lean ====
abbrev S2x512x2048 : Shape := ⟨3, ![2, 512, 2048]⟩
abbrev S2x512x512 : Shape := ⟨3, ![2, 512, 512]⟩
abbrev S2x512x32 : Shape := ⟨3, ![2, 512, 32]⟩
abbrev S1x512x2048 : Shape := ⟨3, ![1, 512, 2048]⟩
abbrev S1x512x512 : Shape := ⟨3, ![1, 512, 512]⟩
abbrev S1x512x32 : Shape := ⟨3, ![1, 512, 32]⟩
abbrev S512x32 : Shape := ⟨2, ![512, 32]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x512x2048, .bf16⟩
  | .hbm, ⟨1, _⟩ => ⟨S2x512x2048, .bf16⟩
  | .hbm, ⟨2, _⟩ => ⟨S2x512x2048, .bf16⟩
  | .hbm, ⟨3, _⟩ => ⟨S2x512x512, .bf16⟩
  | .hbm, ⟨4, _⟩ => ⟨S2x512x32, .bf16⟩
  | .hbm, ⟨5, _⟩ => ⟨S2x512x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x32, .bf16⟩
  | .local _ .vmem, ⟨9, _⟩ => ⟨S1x512x32, .bf16⟩
  | .local _ .vmem, ⟨10, _⟩ => ⟨S1x512x2048, .bf16⟩
  | .local _ .vmem, ⟨11, _⟩ => ⟨S1x512x2048, .bf16⟩
  | _, _ => ⟨S2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnReferenceIdeal.lean ====
abbrev S2x512x2048 : Shape := ⟨3, ![2, 512, 2048]⟩
abbrev S2x512x512 : Shape := ⟨3, ![2, 512, 512]⟩
abbrev S2x512x32 : Shape := ⟨3, ![2, 512, 32]⟩
abbrev S2x512x16x128 : Shape := ⟨4, ![2, 512, 16, 128]⟩
abbrev S2x512x16x32 : Shape := ⟨4, ![2, 512, 16, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 38
  | .vmem => 0
  | .smem => 0
  | _ => 0

abbrev bufTy : (tb : Table) → Fin (tcTables nBuf tb) → BufTy
  | .hbm, ⟨0, _⟩ => ⟨S2x512x2048, .bf16⟩
  | .hbm, ⟨1, _⟩ => ⟨S2x512x2048, .bf16⟩
  | .hbm, ⟨2, _⟩ => ⟨S2x512x2048, .bf16⟩
  | .hbm, ⟨3, _⟩ => ⟨S2x512x512, .bf16⟩
  | .hbm, ⟨4, _⟩ => ⟨S2x512x32, .bf16⟩
  | .hbm, ⟨5, _⟩ => ⟨S2x512x16x128, .bf16⟩
  | .hbm, ⟨6, _⟩ => ⟨S2x512x16x128, .bf16⟩
  | .hbm, ⟨7, _⟩ => ⟨S2x512x16x128, .bf16⟩
  | .hbm, ⟨8, _⟩ => ⟨S2x512x16x32, .bf16⟩
  | .hbm, ⟨9, _⟩ => ⟨S2x512x1x32, .bf16⟩
  | .hbm, ⟨10, _⟩ => ⟨S2x16x512x512, .f32⟩
  | .hbm, ⟨11, _⟩ => ⟨S2x16x512x512, .bf16⟩
  | .hbm, ⟨12, _⟩ => ⟨S2x512x16x32, .bf16⟩
  | .hbm, ⟨13, _⟩ => ⟨S2x16x512x512, .f32⟩
  | .hbm, ⟨14, _⟩ => ⟨S2x16x512x512, .bf16⟩
  | .hbm, ⟨15, _⟩ => ⟨S2x16x512x512, .bf16⟩
  | .hbm, ⟨16, _⟩ => ⟨S2x16x512x512, .f32⟩
  | .hbm, ⟨17, _⟩ => ⟨S_, .f32⟩
  | .hbm, ⟨18, _⟩ => ⟨S2x16x512x512, .f32⟩
  | .hbm, ⟨19, _⟩ => ⟨S2x16x512x512, .f32⟩
  | .hbm, ⟨20, _⟩ => ⟨S2x16x512x512, .bf16⟩
  | .hbm, ⟨21, _⟩ => ⟨S_, .bf16⟩
  | .hbm, ⟨22, _⟩ => ⟨S2x16x512, .bf16⟩
  | .hbm, ⟨23, _⟩ => ⟨S2x16x512x1, .bf16⟩
  | .hbm, ⟨24, _⟩ => ⟨S2x16x512x512, .bf16⟩
  | .hbm, ⟨25, _⟩ => ⟨S2x16x512x512, .bf16⟩
  | .hbm, ⟨26, _⟩ => ⟨S2x16x512x512, .bf16⟩
  | .hbm, ⟨27, _⟩ => ⟨S2x16x512x512, .f32⟩
  | .hbm, ⟨28, _⟩ => ⟨S_, .f32⟩
  | .hbm, ⟨29, _⟩ => ⟨S2x16x512, .f32⟩
  | .hbm, ⟨30, _⟩ => ⟨S2x16x512x1, .f32⟩
  | .hbm, ⟨31, _⟩ => ⟨S2x16x512x1, .bf16⟩
  | .hbm, ⟨32, _⟩ => ⟨S2x16x512x512, .bf16⟩
  | .hbm, ⟨33, _⟩ => ⟨S2x16x512x512, .bf16⟩
  | .hbm, ⟨34, _⟩ => ⟨S2x16x128x512, .f32⟩
  | .hbm, ⟨35, _⟩ => ⟨S2x512x16x128, .f32⟩
  | .hbm, ⟨36, _⟩ => ⟨S2x512x16x128, .bf16⟩
  | .hbm, ⟨37, _⟩ => ⟨S2x512x2048, .bf16⟩
  | _, _ => ⟨S2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutProj.lean ====
abbrev S1024x2048 : Shape := ⟨2, ![1024, 2048]⟩
abbrev S2048x2048 : Shape := ⟨2, ![2048, 2048]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutProjReferenceIdeal.lean ====
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .f32⟩
  | .hbm, ⟨3, _⟩ => ⟨S1024x2048, .bf16⟩
  | .hbm, ⟨4, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Softmax.lean ====
/- Softmax over the extended reals: the same weights with and without the row's maximum subtracted, for real scores. -/
module

public import Idealize.ShloMosaic.Lib.IdealHost
public import Idealize.ShloMosaic.PureOps.Ideal.Laws

@[expose] public section

noncomputable section

namespace Cert.Softmax

open Idealize.ShloMosaic

/-- An extended real that is a real. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {n : ℕ} (r : Fin n → ℝ) : ∑ k, ((r k : ℝ) : EReal) = ((∑ k, r k : ℝ) : EReal) := by
  induction n with
  | zero => simp
  | succ n ih => rw [Fin.sum_univ_succ, Fin.sum_univ_succ, ih, EReal.coe_add]

theorem IsReal.sum {n : ℕ} {f : Fin n → EReal} (h : ∀ k, IsReal (f k)) : IsReal (∑ k, f k) := by
  choose r hr using h
  exact ⟨∑ k, r k, by rw [← coe_sum]; exact Finset.sum_congr rfl fun k _ => hr k⟩

theorem isReal_of_ne {x : EReal} (ht : x ≠ ⊤) (hb : x ≠ ⊥) : IsReal x := ⟨x.toReal, (EReal.coe_toReal ht hb).symm⟩

/-- The maximum of real scores, starting from minus infinity, is real. -/
theorem IsReal.fold_max {ι : Type} {S : Finset ι} (hS : S.Nonempty) {f : ι → EReal} (h : ∀ k, IsReal (f k)) :
    IsReal (S.fold max ⊥ f) := by
  refine isReal_of_ne (ne_of_lt ((Finset.fold_max_lt _).2 ⟨bot_lt_top, fun k _ => ?_⟩)) (ne_of_gt ((Finset.lt_fold_max _).2 (.inr ?_)))
  · obtain ⟨r, hr⟩ := h k; rw [hr]; exact EReal.coe_lt_top r
  · obtain ⟨k, hk⟩ := hS; obtain ⟨r, hr⟩ := h k; exact ⟨k, hk, by rw [hr]; exact EReal.bot_lt_coe r⟩

/-- The weight of score `t` in its row, as the kernel has it: the exponential times the reciprocal of the row's sum. -/
def weight {n : ℕ} (f : Fin n → EReal) (t : Fin n) : EReal := Ideal.exp (f t) * Ideal.div 1 (∑ u, Ideal.exp (f u))

/-- The same weight from the scores less a real number, by one quotient. -/
theorem weight_shift {n : ℕ} {f : Fin n → EReal} (hf : ∀ t, IsReal (f t)) {M : EReal} (hM : IsReal M) (t : Fin n) :
    weight f t = Ideal.div (Ideal.exp (f t - M)) (∑ u, Ideal.exp (f u - M)) := by
  choose r hr using hf
  obtain ⟨μ, rfl⟩ := hM
  obtain rfl : f = fun t => ((r t : ℝ) : EReal) := funext hr
  unfold weight
  have e (u : Fin n) : Ideal.exp (((r u : ℝ) : EReal) - (μ : EReal)) = ((Real.exp (r u - μ) : ℝ) : EReal) := by
    rw [← EReal.coe_sub, Ideal.exp_coe]
  simp only [e, Ideal.exp_coe, coe_sum]
  have p1 : 0 < ∑ u, Real.exp (r u) := Finset.sum_pos (fun u _ => Real.exp_pos _) ⟨t, Finset.mem_univ t⟩
  have p2 : 0 < ∑ u, Real.exp (r u - μ) := Finset.sum_pos (fun u _ => Real.exp_pos _) ⟨t, Finset.mem_univ t⟩
  have d1 : ((∑ u, Real.exp (r u) : ℝ) : EReal) ≠ 0 := by exact_mod_cast p1.ne'
  have d2 : ((∑ u, Real.exp (r u - μ) : ℝ) : EReal) ≠ 0 := by exact_mod_cast p2.ne'
  rw [Ideal.mul_one_div d1]
  unfold Ideal.div
  rw [if_neg d1, if_neg d2, ← EReal.coe_inv, ← EReal.coe_inv, ← EReal.coe_mul, ← EReal.coe_mul]
  congr 1
  have s : ∑ u, Real.exp (r u - μ) = (∑ u, Real.exp (r u)) * Real.exp (-μ) := by
    rw [Finset.sum_mul]; exact Finset.sum_congr rfl fun u _ => by rw [← Real.exp_add]; rfl
  rw [s, sub_eq_add_neg, Real.exp_add]
  have := Real.exp_pos (-μ)
  field_simp

end Cert.Softmax

end
-- ==== Proof.Attention.lean ====
/- Attention over the extended reals, as a function of the five operands: each head's weights times its values. -/
module

public import proofs.«01_k».proof.Proof.Softmax
public import Idealize.ShloMosaic.Lib.ValueIdxCore

@[expose] public section

noncomputable section

namespace Cert.Attention

open Idealize.ShloMosaic Idealize.ShloMosaic.ValueIdx

variable {B : ℕ}

abbrev Arr (B D : ℕ) : Type := (⟨3, ![B, 512, D]⟩ : Shape).Idx → EReal

/-- Column `d` of head `h`. -/
def col (h : Fin 16) (d : Fin 128) : Fin 2048 := ⟨h.val * 128 + d.val, by omega⟩
/-- Rotary column `d` of head `h`. -/
def rcol (h : Fin 16) (d : Fin 32) : Fin 512 := ⟨h.val * 32 + d.val, by omega⟩
/-- The head of a column. -/
def head (c : Fin 2048) : Fin 16 := ⟨c.val / 128, by omega⟩

theorem head_col (h : Fin 16) (d : Fin 128) : head (col h d) = h :=
  Fin.ext (by show (h.val * 128 + d.val) / 128 = h.val; omega)

/-- The scaled score of query `s` and key `t` in head `h` of batch `b`. -/
def score (q k : Arr B 2048) (qr : Arr B 512) (kr : Arr B 32) (b : Fin B) (h : Fin 16) (s t : Fin 512) : EReal :=
  ((∑ d : Fin 128, q (ix3 b s (col h d)) * k (ix3 b t (col h d))) + ∑ d : Fin 32, qr (ix3 b s (rcol h d)) * kr (ix3 b t d))
    * Ideal.ofBits .f32 0x3DA1E89B#32

/-- Row `s` and column `c` of the result in batch `b`. -/
def entry (q k v : Arr B 2048) (qr : Arr B 512) (kr : Arr B 32) (b : Fin B) (s : Fin 512) (c : Fin 2048) : EReal :=
  ∑ t : Fin 512, Softmax.weight (score q k qr kr b (head c) s) t * v (ix3 b t c)

/-- The result. -/
def out (q k v : Arr B 2048) (qr : Arr B 512) (kr : Arr B 32) : Arr B 2048 := fun j => entry q k v qr kr (j 0) (j 1) (j 2)

end Cert.Attention

end
-- ==== Proof.Product.lean ====
/- Matrix products over the extended reals, as sums. -/
module

public import Idealize.ShloMosaic.Lib.MatmulPlain
public import Idealize.ShloMosaic.Lib.KernelVsHost
public import Idealize.ShloMosaic.Lib.StackMember
public import Idealize.ShloMosaic.Lib.Pipeline.Value

@[expose] public section

noncomputable section

namespace Cert.Product

open Idealize.ShloMosaic Idealize.ShloMosaic.ValueIdx Idealize.ShloMosaic.StackMember

variable {M K N : ℕ}

abbrev Mat (M N : ℕ) : Type := (⟨2, ![M, N]⟩ : Shape).Idx → EReal

/-- The product of two matrices. -/
def prod (A : Mat M K) (B : Mat K N) : Mat M N := fun j => ∑ k : Fin K, A (ix2 (j 0) k) * B (ix2 k (j 1))

theorem host (d : DotDims ⟨2, ![M, K]⟩ ⟨2, ![K, N]⟩ ⟨2, ![M, N]⟩) (hd : d = DotDims.plain M K N) (A : FVec Ideal ⟨2, ![M, K]⟩ .bf16) (B : FVec Ideal ⟨2, ![K, N]⟩ .bf16)
    (h) : truncf (F := Ideal) .bf16 (Host.dotGeneral d none A B) h = prod A B := by
  subst hd
  funext j
  exact (congrArg (Host.dotGeneral (DotDims.plain M K N) none A B) (eq_ix2 j)).trans (dotGeneral_plain_apply none A B (j 0) (j 1))

theorem dot (d : DotDims ⟨2, ![M, K]⟩ ⟨2, ![K, N]⟩ ⟨2, ![M, N]⟩) (hd : d = DotDims.plain M K N) (A : FVec Ideal ⟨2, ![M, K]⟩ .bf16) (B : FVec Ideal ⟨2, ![K, N]⟩ .bf16)
    (h) : truncf (F := Ideal) .bf16 (matmul d none A B (constant ⟨2, ![M, N]⟩ .f32 0x00000000#32)) h = prod A B := by
  rw [matmul_zero_eq_dotGeneral]
  exact host d hd A B h

theorem dot_cast (d : DotDims ⟨2, ![M, K]⟩ ⟨2, ![K, N]⟩ ⟨2, ![M, N]⟩) (hd : d = DotDims.plain M K N) (A : FVec Ideal ⟨2, ![M, K]⟩ .bf16) (B : FVec Ideal ⟨2, ![K, N]⟩ .bf16)
    (h hA hB) : truncf (F := Ideal) .bf16 (matmul d none (shapeCast ⟨2, ![M, K]⟩ A hA : FVec Ideal _ .bf16) (shapeCast ⟨2, ![K, N]⟩ B hB : FVec Ideal _ .bf16) (constant ⟨2, ![M, N]⟩ .f32 0x00000000#32)) h = prod A B := by
  rw [shapeCast_self, shapeCast_self]
  exact dot d hd A B h

/-- The contracted index may run in another order. -/
theorem prod_perm (σ : Equiv.Perm (Fin K)) (A A' : Mat M K) (B B' : Mat K N) (hA : ∀ r k, A' (ix2 r k) = A (ix2 r (σ k)))
    (hB : ∀ k s, B' (ix2 k s) = B (ix2 (σ k) s)) : prod A' B' = prod A B := by
  funext j
  refine (Finset.sum_congr rfl fun k _ => ?_).trans (Equiv.sum_comp σ fun k => A (ix2 (j 0) k) * B (ix2 k (j 1)))
  exact congrArg₂ (· * ·) (hA (j 0) k) (hB k (j 1))

end Cert.Product

end
-- ==== Proof.Rows.lean ====
/- Two batches of 512 rows as 1024 rows, and back; products of batched rows with a matrix. -/
module

public import proofs.«01_k».proof.Proof.Attention
public import proofs.«01_k».proof.Proof.Product
public import Idealize.ShloMosaic.Lib.IdealHost

@[expose] public section

noncomputable section

namespace Cert.Rows

open Cert.Product Cert.Softmax
open Cert.Attention (Arr)
open Idealize.ShloMosaic Idealize.ShloMosaic.ValueIdx

variable {D N : ℕ}

/-- 1024 rows as two batches of 512, -/
def split (X : Mat 1024 D) : Arr 2 D := fun j =>
  X (ix2 ⟨(j 0).val * 512 + (j 1).val, by have h0 : (j 0).val < 2 := (j 0).isLt; have h1 : (j 1).val < 512 := (j 1).isLt; omega⟩ (j 2))
/-- and two batches as 1024 rows. -/
def join (Y : Arr 2 D) : Mat 1024 D := fun j =>
  Y (ix3 ⟨(j 0).val / 512, by have h0 : (j 0).val < 1024 := (j 0).isLt; omega⟩ ⟨(j 0).val % 512, Nat.mod_lt _ (by decide)⟩ (j 1))

theorem join_split (X : Mat 1024 D) : join (split X) = X := by
  funext j
  refine congrArg X ((congrArg (ix2 · (j 1)) (Fin.ext ?_)).trans (eq_ix2 j).symm)
  show (j 0).val / 512 * 512 + (j 0).val % 512 = (j 0).val
  omega

theorem split_apply (X : Mat 1024 D) (b : Fin 2) (s : Fin 512) (d : Fin D) : split X (ix3 b s d) = X (ix2 ⟨b.val * 512 + s.val, by omega⟩ d) := rfl

theorem split_join (Y : Arr 2 D) : split (join Y) = Y := by
  funext j
  have h1 : (j 1).val < 512 := (j 1).isLt
  refine (congrArg Y ?_).trans (congrArg Y (eq_ix3 j).symm)
  refine (congrArg₂ (fun (a : Fin 2) (b : Fin 512) => (ix3 a b (j 2) : (⟨3, ![2, 512, D]⟩ : Shape).Idx)) (Fin.ext ?_) (Fin.ext ?_))
  · show ((j 0).val * 512 + (j 1).val) / 512 = (j 0).val
    omega
  · show ((j 0).val * 512 + (j 1).val) % 512 = (j 1).val
    omega

theorem cast_split {α : Type} (X : (⟨2, ![1024, D]⟩ : Shape).Idx → α) (h) (b : Fin 2) (s : Fin 512) (d : Fin D) :
    shapeCast ⟨3, ![2, 512, D]⟩ X h (ix3 b s d) = X (ix2 ⟨b.val * 512 + s.val, by omega⟩ d) := by
  refine shapeCast_apply _ _ _ _ ?_
  rw [Shape.rowMajor_val_two, Shape.rowMajor_val_three]
  rfl

theorem cast_join {α : Type} (Y : (⟨3, ![2, 512, D]⟩ : Shape).Idx → α) (h) (r : Fin 1024) (d : Fin D) :
    shapeCast ⟨2, ![1024, D]⟩ Y h (ix2 r d) = Y (ix3 ⟨r.val / 512, by omega⟩ ⟨r.val % 512, Nat.mod_lt _ (by decide)⟩ d) := by
  refine shapeCast_apply _ _ _ _ ?_
  rw [Shape.rowMajor_val_two, Shape.rowMajor_val_three]
  show (r.val / 512 * 512 + r.val % 512) * D + d.val = r.val * D + d.val
  rw [Nat.div_add_mod']

theorem split_cast {t : FTy} (X : FVec Ideal ⟨2, ![1024, D]⟩ t) (h) : (shapeCast ⟨3, ![2, 512, D]⟩ X h : FVec Ideal _ t) = split X := by
  funext j
  exact (congrArg (shapeCast ⟨3, ![2, 512, D]⟩ X h) (eq_ix3 j)).trans (cast_split X h (j 0) (j 1) (j 2))

theorem join_cast {t : FTy} (Y : FVec Ideal ⟨3, ![2, 512, D]⟩ t) (h) : (shapeCast ⟨2, ![1024, D]⟩ Y h : FVec Ideal _ t) = join Y := by
  funext j
  exact (congrArg (shapeCast ⟨2, ![1024, D]⟩ Y h) (eq_ix2 j)).trans (cast_join Y h (j 0) (j 1))

/-- Each batch's rows times a matrix. -/
theorem host (d : DotDims ⟨3, ![2, 512, D]⟩ ⟨2, ![D, N]⟩ ⟨3, ![2, 512, N]⟩) (w) (hd : d = ⟨[2], [0], [0, 1], [1], [], [], w⟩)
    (Y : FVec Ideal ⟨3, ![2, 512, D]⟩ .bf16) (W : FVec Ideal ⟨2, ![D, N]⟩ .bf16) (h) :
    (truncf .bf16 (Host.dotGeneral d none Y W) h : FVec Ideal _ .bf16) = split (prod (join Y) W) := by
  subst hd
  funext j
  obtain ⟨b, s, c, rfl⟩ : ∃ (b : Fin 2) (s : Fin 512) (c : Fin N), j = ix3 b s c := ⟨j 0, j 1, j 2, eq_ix3 j⟩
  refine (show _ = Host.dotGeneral ⟨[2], [0], [0, 1], [1], [], [], w⟩ none Y W (ix3 b s c) from rfl).trans ?_
  show FloatOps.dotGeneral _ none _ Y W (ix3 b s c) = _
  rw [Ideal.dotGeneral_apply, ← Equiv.sum_comp (contrEquiv1 _ D rfl rfl).symm]
  refine Finset.sum_congr rfl fun e _ => ?_
  have he := contrEquiv1_symm_val (⟨[2], [0], [0, 1], [1], [], [], w⟩ : DotDims ⟨3, ![2, 512, D]⟩ ⟨2, ![D, N]⟩ ⟨3, ![2, 512, N]⟩) D rfl rfl e
  refine congrArg₂ (fun x y : EReal => x * y) (congrArg Y ?_) (congrArg W ?_)
  · funext ax; apply Fin.ext
    match ax with
    | ⟨0, _⟩ => simp [DotDims.lhsIdx]; show b.val = (b.val * 512 + s.val) / 512; omega
    | ⟨1, _⟩ => simp [DotDims.lhsIdx]; show s.val = (b.val * 512 + s.val) % 512; omega
    | ⟨2, _⟩ => simp [DotDims.lhsIdx]; exact he
  · funext ax; apply Fin.ext
    match ax with
    | ⟨0, _⟩ => simp [DotDims.rhsIdx]; exact he
    | ⟨1, _⟩ => simp [DotDims.rhsIdx]; rfl

/-! ## Real entries -/

theorem prod_real {M K : ℕ} {A : Mat M K} {B : Mat K N} (hA : ∀ i, IsReal (A i)) (hB : ∀ i, IsReal (B i)) (j) : IsReal (prod A B j) :=
  IsReal.sum fun _ => (hA _).mul (hB _)
theorem split_real {X : Mat 1024 D} (h : ∀ i, IsReal (X i)) (j) : IsReal (split X j) := h _
theorem join_real {Y : Arr 2 D} (h : ∀ i, IsReal (Y i)) (j) : IsReal (join Y j) := h _

/-- The whole layer: the projections, the attention, and the output product. -/
def layer (x : Arr 2 2048) (Wd : Mat 2048 512) (Wk Wv : Mat 512 2048) (Wq : Mat 2048 2048) (Wqr : Mat 2048 512) (Wkr : Mat 2048 32) (Wo : Mat 2048 2048) : Arr 2 2048 :=
  split (prod (join (Attention.out (split (prod (join x) Wq)) (split (prod (prod (join x) Wd) Wk)) (split (prod (prod (join x) Wd) Wv))
    (split (prod (join x) Wqr)) (split (prod (join x) Wkr)))) Wo)

end Cert.Rows

end
-- ==== Proof.Kernel.Cells.lean ====
/- The gather call's devices, semaphore cells, scratch regions and what each region holds in the end.

   Two kinds of remote copies: kind 0 goes to the right neighbour along z, kind 1 to the partner along y. Three
   hops `h` and three buffers `t` (the latent chunk, the key up-projection, the value up-projection) each. A copy
   moves one half (of the rows) of one slot of a buffer. -/
module

public import proofs.«01_k».proof.Proof.Gen.Kernel.Skeleton
public import proofs.«01_k».proof.Proof.Gen.Kernel.Launch
public import Idealize.ShloMosaic.Lib.Rounds
public import Idealize.ShloMosaic.Lib.Tactic

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh: device `16 x + 4 y + z` -/

/-- The neighbour one up along z, the one before, the partner along y. -/
def rt (c : Dev nD) : Dev nD := ⟨4 * (c.val / 4) + (c.val % 4 + 1) % 4, by have := c.isLt; show _ < 32; have : c.val < 32 := this; omega⟩
def lf (c : Dev nD) : Dev nD := ⟨4 * (c.val / 4) + (c.val % 4 + 3) % 4, by have := c.isLt; show _ < 32; have : c.val < 32 := this; omega⟩
def pt (c : Dev nD) : Dev nD :=
  ⟨8 * (c.val / 8) + (c.val % 8 + 4) % 8, by have := c.isLt; show _ < 32; have : c.val < 32 := this; omega⟩
/-- Which half of the rows a device moves itself: its y coordinate's parity. -/
def par (c : Dev nD) : Fin 2 := ⟨c.val / 4 % 2, Nat.mod_lt _ (by decide)⟩
def oth (p : Fin 2) : Fin 2 := if p = 0 then 1 else 0

theorem lf_rt (c : Dev nD) : lf (rt c) = c := by revert c; decide
theorem rt_lf (c : Dev nD) : rt (lf c) = c := by revert c; decide
theorem pt_pt (c : Dev nD) : pt (pt c) = c := by revert c; decide
theorem par_rt (c : Dev nD) : par (rt c) = par c := by revert c; decide
theorem par_lf (c : Dev nD) : par (lf c) = par c := by revert c; decide
theorem par_pt (c : Dev nD) : par (pt c) = oth (par c) := by revert c; decide
theorem oth_oth (p : Fin 2) : oth (oth p) = p := by revert p; decide
theorem oth_ne (p : Fin 2) : oth p ≠ p := by revert p; decide

/-- The device whose chunk lies in half `p` of slot `i` on `c`. -/
def org (c : Dev nD) (i : Fin 4) (p : Fin 2) : Dev nD :=
  if i = 0 then c else if p = par c then lf^[i.val] c else lf^[i.val] (pt c)

theorem org_z (c : Dev nD) (h : Fin 3) : org (rt c) h.succ (par c) = org c h.castSucc (par c) := by revert c h; decide
theorem org_y (c : Dev nD) (h : Fin 3) : org (pt c) h.succ (par c) = org c h.succ (par c) := by revert c h; decide
theorem org_zero (c : Dev nD) (p : Fin 2) : org c 0 p = c := if_pos rfl

/-! ## The regions -/

/-- The shape of half a slot of buffer `t`. -/
abbrev hS : Fin 3 → Shape := fun | 0 => S512x128 | 1 => S64x2048 | 2 => S64x2048

theorem inbC (i : Fin 4) (p : Fin 2) : ∀ a, (![i.val, 512 * p.val, 0] : Fin 3 → Nat) a + S1x512x128.size a ≤ S4x1024x128.size a := by
  revert i p; decide
theorem inbU (i : Fin 4) (p : Fin 2) : ∀ a, (![i.val, 64 * p.val, 0] : Fin 3 → Nat) a + S1x64x2048.size a ≤ S4x128x2048.size a := by
  revert i p; decide

/-- Half `p` of slot `i` of buffer `t`. -/
def hM (t : Fin 3) (i : Fin 4) (p : Fin 2) : Memref sig .tc .vmem (hS t) .bf16 := match t with
  | 0 => ((Memref.whole cc0_scratch0).slice (Rect.unit (s := S4x1024x128) ![i.val, 512 * p.val, 0] S1x512x128.size (inbC i p)) (fun _ => rfl)).squeeze S512x128 squeezes_S1x512x128_S512x128
  | 1 => ((Memref.whole cc0_scratch1).slice (Rect.unit (s := S4x128x2048) ![i.val, 64 * p.val, 0] S1x64x2048.size (inbU i p)) (fun _ => rfl)).squeeze S64x2048 squeezes_S1x64x2048_S64x2048
  | 2 => ((Memref.whole cc0_scratch2).slice (Rect.unit (s := S4x128x2048) ![i.val, 64 * p.val, 0] S1x64x2048.size (inbU i p)) (fun _ => rfl)).squeeze S64x2048 squeezes_S1x64x2048_S64x2048

/-- The credit of one half's copy. -/
def N (t : Fin 3) : ℕ := (hM t 0 0).view.dmaCredit
theorem N_pos (t : Fin 3) : 0 < N t := View.dmaCredit_pos _ (by revert t; decide)
theorem N_eq (t : Fin 3) (i : Fin 4) (p : Fin 2) : (hM t i p).view.dmaCredit = N t := by
  match t with
  | 0 => rfl
  | 1 => rfl
  | 2 => rfl

/-! ## What the call reads, and the chunks it makes of it -/

/-- The call's seven inputs, a block of each per device. -/
structure Ins (F : FTy → Type) where
  x : Dev nD → Vec F S1024x2048 .bf16
  wd : Dev nD → Vec F S2048x128 .bf16
  wk : Dev nD → Vec F S128x2048 .bf16
  wv : Dev nD → Vec F S128x2048 .bf16
  wq : Dev nD → Vec F S2048x2048 .bf16
  wqr : Dev nD → Vec F S2048x512 .bf16
  wkr : Dev nD → Vec F S2048x32 .bf16

variable (I : Ins F)

/-- The chunk of the latent, and of the two up-projections, that device `c` contributes. -/
def chC (c : Dev nD) : S1x1024x128.Idx → Elt F .bf16 := k0_pay3 (k0_pay2 (I.x c)) (I.wd c)
def chK (c : Dev nD) : S1x128x2048.Idx → Elt F .bf16 := k0_pay4 (I.wk c)
def chV (c : Dev nD) : S1x128x2048.Idx → Elt F .bf16 := k0_pay5 (I.wv c)

/-- The half of the rows an index lies in, and the index within its slot. -/
def halfC (j : S4x1024x128.Idx) : Fin 2 := ⟨(j 1).val / 512, by have : (j 1).val < 1024 := (j 1).isLt; omega⟩
def halfU (j : S4x128x2048.Idx) : Fin 2 := ⟨(j 1).val / 64, by have : (j 1).val < 128 := (j 1).isLt; omega⟩
def inC (j : S4x1024x128.Idx) : S1x1024x128.Idx := fun a => match a with
  | ⟨0, _⟩ => ⟨0, Nat.one_pos⟩ | ⟨1, _⟩ => j 1 | ⟨2, _⟩ => j 2
def inU (j : S4x128x2048.Idx) : S1x128x2048.Idx := fun a => match a with
  | ⟨0, _⟩ => ⟨0, Nat.one_pos⟩ | ⟨1, _⟩ => j 1 | ⟨2, _⟩ => j 2

/-- What the three scratch buffers hold in the end. -/
def fullC (c : Dev nD) : S4x1024x128.Idx → Elt F .bf16 := fun j => chC I (org c (j 0) (halfC j)) (inC j)
def fullK (c : Dev nD) : S4x128x2048.Idx → Elt F .bf16 := fun j => chK I (org c (j 0) (halfU j)) (inU j)
def fullV (c : Dev nD) : S4x128x2048.Idx → Elt F .bf16 := fun j => chV I (org c (j 0) (halfU j)) (inU j)

def full (t : Fin 3) (i : Fin 4) (p : Fin 2) (c : Dev nD) : Buf (Elt F) ((hM t i p).view.loc (c : Thread nD τ)) := match t with
  | 0 => fullC I c
  | 1 => fullK I c
  | 2 => fullV I c

/-! ## The cells -/

/-- The runtime's barrier semaphore; the copies' own semaphores: `b` 0 the sender's, 1 the receiver's. -/
abbrev barS : Sem sig := (SemArray.scalar (sig.barrier 0 rfl) : Sems sig S_).sem
abbrev XC : Type := Fin 2 × Fin 2 × Fin 3 × Fin 3
def dsem (x : XC) : DmaSem sig :=
  ⟨12 + 9 * (2 * x.2.1.val + x.1.val) + 3 * x.2.2.1.val + x.2.2.2.val, by
    obtain ⟨b, k, t, h⟩ := x; show _ < 65; have := b.isLt; have := k.isLt; have := t.isLt; have := h.isLt; dsimp only; omega⟩
/-- Back from a semaphore to the copy it belongs to. -/
def dec (q : DmaSem sig) : XC :=
  (⟨(q.val - 12) / 9 % 2, Nat.mod_lt _ (by decide)⟩, ⟨(q.val - 12) / 18 % 2, Nat.mod_lt _ (by decide)⟩,
    ⟨(q.val - 12) % 9 / 3 % 3, Nat.mod_lt _ (by decide)⟩, ⟨(q.val - 12) % 3, Nat.mod_lt _ (by decide)⟩)
theorem dec_dsem (x : XC) : dec (dsem x) = x := by revert x; decide
theorem dsem_ge (x : XC) : 12 ≤ (dsem x).val := by revert x; decide
theorem dsem_lt (x : XC) : (dsem x).val < 48 := by revert x; decide
theorem dsem_inj : Function.Injective dsem := fun x y h => by rw [← dec_dsem x, h, dec_dsem]

abbrev barCell (c : Dev nD) : GSem nD τ sig := ((c : Thread nD τ), .reg barS)
abbrev xCell (c : Dev nD) (x : XC) : GSem nD τ sig := ((c : Thread nD τ), .dma (dsem x))
abbrev SC (k : Fin 2) (c : Dev nD) (t h : Fin 3) : GSem nD τ sig := xCell c (0, k, t, h)
abbrev RC (k : Fin 2) (c : Dev nD) (t h : Fin 3) : GSem nD τ sig := xCell c (1, k, t, h)

/-- Where a copy of kind `k` goes to, and where it comes from. -/
def peer (k : Fin 2) (c : Dev nD) : Dev nD := if k = 0 then rt c else pt c
def from' (k : Fin 2) (c : Dev nD) : Dev nD := if k = 0 then lf c else pt c
theorem from_peer (k : Fin 2) (c : Dev nD) : from' k (peer k c) = c := by revert k c; decide
theorem peer_from (k : Fin 2) (c : Dev nD) : peer k (from' k c) = c := by revert k c; decide

/-- The half of the landing slot a copy of kind `k` fills on device `c`; the slot it is read from; the share read. -/
def lh (k : Fin 2) (c : Dev nD) : Fin 2 := if k = 0 then par c else oth (par c)
def sl (k : Fin 2) (h : Fin 3) : Fin 4 := if k = 0 then h.castSucc else h.succ
def shr (k : Fin 2) : PosShare TreeShare := if k = 0 then fullShare.right else fullShare.left
theorem lh_peer (k : Fin 2) (c : Dev nD) : lh k (peer k c) = par c := by revert k c; decide

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Half `p` of slot `i` of buffer `t` on `c`, at its final contents; at some contents. -/
def pts (c : Dev nD) (t : Fin 3) (i : Fin 4) (p : Fin 2) (q : PosShare TreeShare) : sProp 𝕄 :=
  (hM t i p).view.loc (c : Thread nD τ) ↦[(hM t i p).view.set]{q} full I t i p c
def ptsE (c : Dev nD) (t : Fin 3) (i : Fin 4) (p : Fin 2) : sProp 𝕄 :=
  iprop(∃ f : Buf (Elt F) ((hM t i p).view.loc (c : Thread nD τ)), (hM t i p).view.loc (c : Thread nD τ) ↦[(hM t i p).view.set]{fullShare} f)

instance pts_storable (c : Dev nD) (t i p q) : BI.Storable (upEmb : UEmb _ 𝕄) (pts I c t i p q) := by unfold pts; infer_instance
instance ptsE_storable (c : Dev nD) (t i p) : BI.Storable (upEmb : UEmb _ 𝕄) (ptsE (F := F) c t i p) := by unfold ptsE; infer_instance

/-- The region a copy reads, and the one it fills. -/
def srcP (k : Fin 2) (c : Dev nD) (t h : Fin 3) : sProp 𝕄 := pts I c t (sl k h) (par c) (shr k)
def dstP (k : Fin 2) (c : Dev nD) (t h : Fin 3) : sProp 𝕄 := pts I c t h.succ (lh k c) fullShare
def dstE (k : Fin 2) (c : Dev nD) (t h : Fin 3) : sProp 𝕄 := ptsE c t h.succ (lh k c)

instance srcP_storable (k c t h) : BI.Storable (upEmb : UEmb _ 𝕄) (srcP I k c t h) := by unfold srcP; infer_instance
instance dstP_storable (k c t h) : BI.Storable (upEmb : UEmb _ 𝕄) (dstP I k c t h) := by unfold dstP; infer_instance
instance dstE_storable (k c t h) : BI.Storable (upEmb : UEmb _ 𝕄) (dstE (F := F) k c t h) := by unfold dstE; infer_instance

/-! ## A landed copy holds what the landing region holds in the end -/

omit [FloatOps F] in
theorem write_read_view {s : Shape} {e : EltTy} {sp : Space} (vs vd : View sig .tc sp s e)
    (fd : vd.ty.Contents (Elt F)) (fs : vs.ty.Contents (Elt F)) (g : vd.ty.Contents (Elt F))
    (h : ∀ y, vd.read (Elt F) g y = vs.read (Elt F) fs y) : ∀ j ∈ vd.set, vd.write (Elt F) fd (vs.read (Elt F) fs) Finset.univ j = g j := by
  have hw : vd.write (Elt F) fd (vs.read (Elt F) fs) Finset.univ = vd.write (Elt F) fd (vd.read (Elt F) g) Finset.univ := by
    rw [show vs.read (Elt F) fs = vd.read (Elt F) g from funext fun y => (h y).symm]
  intro j hj
  rw [hw]
  obtain ⟨y, -, rfl⟩ := Finset.mem_map.mp hj
  rw [View.write_emb_of_mem _ _ (Finset.mem_univ y), View.read_apply, cast_cast, cast_eq]

/-- Half `p` of slot `i`, as a rectangle of the latent's buffer and of the up-projections'. -/
abbrev rC (i : Fin 4) (p : Fin 2) : Rect S4x1024x128 := Rect.unit (s := S4x1024x128) ![i.val, 512 * p.val, 0] S1x512x128.size (inbC i p)
abbrev rU (i : Fin 4) (p : Fin 2) : Rect S4x128x2048 := Rect.unit (s := S4x128x2048) ![i.val, 64 * p.val, 0] S1x64x2048.size (inbU i p)

theorem slotC (i : Fin 4) (p : Fin 2) (z : S1x512x128.Idx) : ((rC i p).emb z) 0 = i := Fin.ext (by
  show i.val + 1 * (z 0).val = i.val
  have : (z 0).val < 1 := (z 0).isLt
  omega)
theorem slotU (i : Fin 4) (p : Fin 2) (z : S1x64x2048.Idx) : ((rU i p).emb z) 0 = i := Fin.ext (by
  show i.val + 1 * (z 0).val = i.val
  have : (z 0).val < 1 := (z 0).isLt
  omega)
theorem halfC_emb (i : Fin 4) (p : Fin 2) (z : S1x512x128.Idx) : halfC ((rC i p).emb z) = p := Fin.ext (by
  show (512 * p.val + 1 * (z 1).val) / 512 = p.val
  have : (z 1).val < 512 := (z 1).isLt
  omega)
theorem halfU_emb (i : Fin 4) (p : Fin 2) (z : S1x64x2048.Idx) : halfU ((rU i p).emb z) = p := Fin.ext (by
  show (64 * p.val + 1 * (z 1).val) / 64 = p.val
  have : (z 1).val < 64 := (z 1).isLt
  omega)
theorem inC_emb (i i' : Fin 4) (p : Fin 2) (z : S1x512x128.Idx) : inC ((rC i p).emb z) = inC ((rC i' p).emb z) := by
  funext a
  match a with
  | ⟨0, _⟩ => rfl
  | ⟨1, _⟩ => rfl
  | ⟨2, _⟩ => rfl
theorem inU_emb (i i' : Fin 4) (p : Fin 2) (z : S1x64x2048.Idx) : inU ((rU i p).emb z) = inU ((rU i' p).emb z) := by
  funext a
  match a with
  | ⟨0, _⟩ => rfl
  | ⟨1, _⟩ => rfl
  | ⟨2, _⟩ => rfl

theorem fullC_move (c n : Dev nD) (i i' : Fin 4) (p : Fin 2) (h : org n i' p = org c i p) (z : S1x512x128.Idx) :
    fullC I n ((rC i' p).emb z) = fullC I c ((rC i p).emb z) := by
  unfold fullC; rw [slotC, slotC, halfC_emb, halfC_emb, h, inC_emb i' i]
theorem fullK_move (c n : Dev nD) (i i' : Fin 4) (p : Fin 2) (h : org n i' p = org c i p) (z : S1x64x2048.Idx) :
    fullK I n ((rU i' p).emb z) = fullK I c ((rU i p).emb z) := by
  unfold fullK; rw [slotU, slotU, halfU_emb, halfU_emb, h, inU_emb i' i]
theorem fullV_move (c n : Dev nD) (i i' : Fin 4) (p : Fin 2) (h : org n i' p = org c i p) (z : S1x64x2048.Idx) :
    fullV I n ((rU i' p).emb z) = fullV I c ((rU i p).emb z) := by
  unfold fullV; rw [slotU, slotU, halfU_emb, halfU_emb, h, inU_emb i' i]

theorem full_move (t : Fin 3) (c n : Dev nD) (i i' : Fin 4) (p : Fin 2) (h : org n i' p = org c i p) (y : (hS t).Idx) :
    (hM t i' p).view.read (Elt F) (full I t i' p n) y = (hM t i p).view.read (Elt F) (full I t i p c) y := by
  match t, y with
  | 0, y => exact fullC_move I c n i i' p h _
  | 1, y => exact fullK_move I c n i i' p h _
  | 2, y => exact fullV_move I c n i i' p h _

/-- A copy from half `p` of slot `i` on `c` into half `p` of slot `i'` on `n`, where both hold the same chunk in the end. -/
theorem landed (t : Fin 3) (c n : Dev nD) (i i' : Fin 4) (p : Fin 2) (h : org n i' p = org c i p)
    (fd : Buf (Elt F) ((hM t i' p).view.loc (n : Thread nD τ))) :
    ((hM t i' p).view.loc (n : Thread nD τ) ↦[(hM t i' p).view.set]{fullShare}
        ((hM t i' p).view.write (Elt F) fd ((hM t i p).view.read (Elt F) (full I t i p c)) Finset.univ) : sProp 𝕄)
      = pts I n t i' p fullShare := by
  unfold pts
  exact pointsTo_congr (write_read_view _ _ _ _ _ (full_move I t c n i i' p h))

theorem org_copy (k : Fin 2) (c : Dev nD) (h : Fin 3) : org (peer k c) h.succ (par c) = org c (sl k h) (par c) := by
  revert k c h; decide

end Cert.Kernel.Talk

end
-- ==== Proof.Kernel.Sched.lean ====
/- The gather call's handshake: what each semaphore cell is raised by and hands over, what a device owes, in which
   order of levels it waits, and the three steps of a copy (start it, wait for it to be read, wait for one to land). -/
module

public import proofs.«01_k».proof.Proof.Kernel.Cells

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## The schedule -/

/-- The landing region of one copy from `c`, and that its cell there is open. -/
def Land (k : Fin 2) (c : Dev nD) (t h : Fin 3) : sProp 𝕄 :=
  iprop(dstE k (peer k c) t h ∗ reached ER (RC k (peer k c) t h) 0)
def Land3 (k : Fin 2) (c : Dev nD) (h : Fin 3) : sProp 𝕄 := iprop(Land k c 0 h ∗ Land k c 1 h ∗ Land k c 2 h)
/-- All of them: what a neighbour's barrier signal hands over. -/
def Lands (k : Fin 2) (c : Dev nD) : sProp 𝕄 := iprop(Land3 k c 0 ∗ Land3 k c 1 ∗ Land3 k c 2)

instance Lands_storable (k : Fin 2) (c : Dev nD) : BI.Storable (upEmb : UEmb _ 𝕄) (Lands (F := F) k c) := by
  unfold Lands Land3 Land; infer_instance

/-- One round. A device's barrier cell is raised once each by its right neighbour (duty 0, handing over its landing
    regions), its left neighbour (1, nothing) and its partner (2, its landing regions); a copy's cells once, by the credit. -/
def copyRd : Rounds.Schedule (GSem nD τ sig) (Fin 3) 𝕄 where
  duties g r := if r = 0 ∧ g.1.2 = .tc then (match g.2 with
    | .reg s => if s = barS then (Finset.univ : Finset (Fin 3)) else ∅
    | .dma q => if 12 ≤ q.val ∧ q.val < 48 then ({0} : Finset (Fin 3)) else ∅) else ∅
  unitless _ := False
  amount g _ _ := match g.2 with
    | .reg _ => 1
    | .dma q => N (dec q).2.2.1
  payload g _ d := match g.2 with
    | .reg _ => if d = 0 then Lands 0 g.1.1 else if d = 1 then iprop(emp) else Lands 1 g.1.1
    | .dma q => if (dec q).1 = 0 then srcP I (dec q).2.1 g.1.1 (dec q).2.2.1 (dec q).2.2.2
        else dstP I (dec q).2.1 g.1.1 (dec q).2.2.1 (dec q).2.2.2
  amount_pos g _ _ _ := by
    match g with
    | (_, .reg _) => exact Nat.one_pos
    | (_, .dma q) => exact N_pos _

instance copyRd_payload_storable (g : GSem nD τ sig) (r : ℕ) (d : Fin 3) :
    BI.Storable (upEmb : UEmb _ 𝕄) ((copyRd I).payload g r d) := by
  match g with
  | (c, .reg _) =>
    show BI.Storable upEmb (if d = 0 then Lands 0 c.1 else if d = 1 then iprop(emp) else Lands 1 c.1)
    (repeat' split) <;> infer_instance
  | (c, .dma q) =>
    show BI.Storable upEmb (if (dec q).1 = 0 then srcP I (dec q).2.1 c.1 (dec q).2.2.1 (dec q).2.2.2
        else dstP I (dec q).2.1 c.1 (dec q).2.2.1 (dec q).2.2.2)
    split <;> infer_instance

section Tables
variable (c : Dev nD) (x : XC) (k : Fin 2) (t h : Fin 3)

theorem duties_bar : (copyRd I).duties (barCell c) 0 = Finset.univ := by
  show (if (0 : ℕ) = 0 ∧ (c : Thread nD τ).2 = .tc then (if barS = barS then (Finset.univ : Finset (Fin 3)) else ∅) else ∅) = _
  rw [if_pos ⟨rfl, rfl⟩, if_pos rfl]
theorem dsem_range : 12 ≤ (dsem x).val ∧ (dsem x).val < 48 := ⟨dsem_ge x, dsem_lt x⟩
theorem duties_x : (copyRd I).duties (xCell c x) 0 = {0} := by
  show (if (0 : ℕ) = 0 ∧ (c : Thread nD τ).2 = .tc then (if 12 ≤ (dsem x).val ∧ (dsem x).val < 48 then ({0} : Finset (Fin 3)) else ∅) else ∅) = _
  rw [if_pos ⟨rfl, rfl⟩, if_pos (dsem_range x)]
theorem duties_later (g : GSem nD τ sig) (r : ℕ) (hr : 1 ≤ r) : (copyRd I).duties g r = ∅ := by
  dsimp only [copyRd]; rw [if_neg fun h => by omega]
theorem amount_bar (d : Fin 3) : (copyRd I).amount (barCell c) 0 d = 1 := rfl
theorem amount_x (d : Fin 3) : (copyRd I).amount (xCell c x) 0 d = N x.2.2.1 := by
  show N (dec (dsem x)).2.2.1 = _; rw [dec_dsem]
theorem expect_bar : (copyRd I).expect (barCell c) 0 = 3 := by
  unfold Schedule.expect Schedule.amountOf
  rw [duties_bar, Finset.sum_congr rfl fun d _ => amount_bar I c d, Finset.sum_const, Finset.card_univ, Fintype.card_fin, smul_eq_mul]
theorem expect_x : (copyRd I).expect (xCell c x) 0 = N x.2.2.1 := by
  unfold Schedule.expect Schedule.amountOf; rw [duties_x, Finset.sum_singleton, amount_x]
theorem payload_bar_right : (copyRd I).payload (barCell c) 0 0 = Lands 0 c := by
  dsimp only [copyRd, barCell]; exact if_pos rfl
theorem payload_bar_left : (copyRd I).payload (barCell c) 0 1 = iprop(emp) := by
  dsimp only [copyRd, barCell]; rw [if_neg (by decide), if_pos rfl]
theorem payload_bar_partner : (copyRd I).payload (barCell c) 0 2 = Lands 1 c := by
  dsimp only [copyRd, barCell]; rw [if_neg (by decide), if_neg (by decide)]
theorem payload_S (d : Fin 3) : (copyRd I).payload (SC k c t h) 0 d = srcP I k c t h := by
  show (if (dec (dsem (0, k, t, h))).1 = 0 then _ else _) = _
  rw [dec_dsem]; exact if_pos rfl
theorem payload_R (d : Fin 3) : (copyRd I).payload (RC k c t h) 0 d = dstP I k c t h := by
  show (if (dec (dsem (1, k, t, h))).1 = 0 then _ else _) = _
  rw [dec_dsem]; exact if_neg (by show ¬(1 : Fin 2) = 0; decide)
theorem rest_bar : bigSep ((copyRd I).duties (barCell c) 0 \ ∅) (fun d => (copyRd I).payload (barCell c) 0 d)
    = iprop(Lands 0 c ∗ emp ∗ Lands 1 c) := by
  rw [Finset.sdiff_empty, duties_bar, bigSep_univ_eq_bigSepL [0, 1, 2] (by decide) (by decide), bigSepL_cons_cons, bigSepL_cons_cons,
    bigSepL_singleton, payload_bar_right, payload_bar_left, payload_bar_partner]
  rfl
theorem rest_S : bigSep ((copyRd I).duties (SC k c t h) 0 \ ∅) (fun d => (copyRd I).payload (SC k c t h) 0 d) = srcP I k c t h := by
  rw [Finset.sdiff_empty, duties_x, bigSep_singleton, payload_S]
theorem rest_R : bigSep ((copyRd I).duties (RC k c t h) 0 \ ∅) (fun d => (copyRd I).payload (RC k c t h) 0 d) = dstP I k c t h := by
  rw [Finset.sdiff_empty, duties_x, bigSep_singleton, payload_R]

end Tables

/-! ## What a device owes; the levels -/

/-- One copy: its kind, its buffer, its hop. -/
abbrev CP : Type := Fin 2 × Fin 3 × Fin 3
/-- The copies in the order a device starts them. -/
def order : List CP :=
  [(0, 0, 0), (0, 1, 0), (0, 2, 0), (1, 0, 0), (1, 1, 0), (1, 2, 0),
   (0, 0, 1), (0, 1, 1), (0, 2, 1), (1, 0, 1), (1, 1, 1), (1, 2, 1),
   (0, 0, 2), (0, 1, 2), (0, 2, 2), (1, 0, 2), (1, 1, 2), (1, 2, 2)]

/-- The credits owed for the copies still to be started. -/
def owedL (c : Dev nD) (l : List CP) : CellTallies nD τ sig Unit :=
  (l.map fun x => tallyAt (RC x.1 (peer x.1 c) x.2.1 x.2.2) () (N x.2.1)).sum
theorem owedL_cons (c : Dev nD) (x : CP) (l : List CP) :
    owedL c (x :: l) = owedL c l + tallyAt (RC x.1 (peer x.1 c) x.2.1 x.2.2) () (N x.2.1) := by
  unfold owedL; rw [List.map_cons, List.sum_cons, add_comm]
theorem owedL_nil (c : Dev nD) : owedL c [] = 0 := rfl

/-- At launch, besides, the three barrier signals (the first to be given last in the sum). -/
def O₀ (c : Dev nD) : CellTallies nD τ sig Unit :=
  owedL c order + tallyAt (barCell (pt c)) () 1 + tallyAt (barCell (rt c)) () 1 + tallyAt (barCell (lf c)) () 1

def L (g : GSem nD τ sig) : Finset Unit := if g.1.2 = .tc then {()} else ∅
/-- Barrier cells at 1; the cells on which hop `h`'s z-copy lands at `2 + h`; those on which y-copies land at 10; others at 0. -/
def lvX (x : CP) : ℕ := if x.1 = 0 then 2 + x.2.2.val else 10
def lv (g : GSem nD τ sig) (_ : Unit) : ℕ := match g.2 with
  | .reg s => if s = barS then 1 else 0
  | .dma q => if 12 ≤ q.val ∧ q.val < 48 ∧ (dec q).1 = 1 then lvX (dec q).2 else 0

theorem L_of_ne (g : GSem nD τ sig) (h : g.1.2 ≠ .tc) : L g = ∅ := if_neg h
theorem L_tc (c : Dev nD) (sm : SemLoc sig) : L ((c : Thread nD τ), sm) = {()} := if_pos rfl
theorem L_bar (c : Dev nD) : L (barCell c) = {()} := if_pos rfl
theorem L_R (c : Dev nD) (k : Fin 2) (t h : Fin 3) : L (RC k c t h) = {()} := if_pos rfl
theorem lv_bar (c : Dev nD) : lv (barCell c) () = 1 := by show (if barS = barS then 1 else 0) = 1; exact if_pos rfl
theorem lv_S (c : Dev nD) (k : Fin 2) (t h : Fin 3) : lv (SC k c t h) () = 0 := by
  refine if_neg fun hh => ?_
  have := hh.2.2; rw [dec_dsem] at this; exact absurd (show (0 : Fin 2) = 1 from this) (by decide)
theorem lv_R (c : Dev nD) (k : Fin 2) (t h : Fin 3) : lv (RC k c t h) () = lvX (k, t, h) := by
  refine (if_pos ⟨dsem_ge _, dsem_lt _, by rw [dec_dsem]⟩).trans ?_
  rw [dec_dsem]

theorem owedL_pos {c : Dev nD} {l : List CP} {g : GSem nD τ sig} {u : Unit} (h : 0 < owedL c l g u) :
    ∃ x ∈ l, g = RC x.1 (peer x.1 c) x.2.1 x.2.2 := by
  induction l with
  | nil => exact absurd h (Nat.lt_irrefl 0)
  | cons x l ih =>
    rw [owedL_cons, Pi.add_apply, Finsupp.add_apply, tallyAt_apply] at h
    by_cases hx : g = RC x.1 (peer x.1 c) x.2.1 x.2.2
    · exact ⟨x, List.mem_cons_self, hx⟩
    · rw [if_neg (fun h' => hx h'.1), Nat.add_zero] at h
      obtain ⟨y, hy, e⟩ := ih h
      exact ⟨y, List.mem_cons_of_mem _ hy, e⟩

/-- A device may wait on a cell below every landing it still owes. -/
theorem mayWait (c : Dev nD) (sm : SemLoc sig) (n : ℕ) (l : List CP) (hs : lv ((c : Thread nD τ), sm) () ≤ n) (hl : ∀ x ∈ l, n < lvX x) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨x, -, rfl⟩ := owedL_pos hg; rw [L_R]; exact Finset.mem_singleton_self _)
    (fun p hp => by rw [Finset.mem_singleton.mp hp]; exact hs)
    (fun g u hg => by
      obtain ⟨x, hx, rfl⟩ := owedL_pos hg
      obtain ⟨k, t, h⟩ := x
      rw [lv_R]; exact hl _ hx)

/-- So it may wait on its staging cells, whatever it owes. -/
theorem mayWait_stage (c : Dev nD) (q : DmaSem sig) (hq : ¬ (12 ≤ q.val ∧ q.val < 48)) (O : CellTallies nD τ sig Unit) (hO : O = O₀ c ∨ O = 0) :
    (levAts L lv : sProp 𝕄) ⊢ MayWait (c : Thread nD τ) (.dma q) () O := by
  rcases hO with rfl | rfl
  · have hcase : ∀ (g : GSem nD τ sig) (u : Unit), 0 < O₀ c g u →
        (∃ x : CP, g = RC x.1 (peer x.1 c) x.2.1 x.2.2) ∨ g = barCell (pt c) ∨ g = barCell (rt c) ∨ g = barCell (lf c) := by
      intro g u hg
      unfold O₀ at hg
      rw [Pi.add_apply, Finsupp.add_apply, Pi.add_apply, Finsupp.add_apply, Pi.add_apply, Finsupp.add_apply,
        tallyAt_apply, tallyAt_apply, tallyAt_apply] at hg
      by_contra hn
      rw [not_or, not_or, not_or] at hn
      rw [if_neg (fun h' => hn.2.1 h'.1), if_neg (fun h' => hn.2.2.1 h'.1), if_neg (fun h' => hn.2.2.2 h'.1)] at hg
      simp only [Nat.add_zero] at hg
      exact hn.1 ((owedL_pos hg).imp fun x h => h.2)
    refine MayOwe.of_cut (L := L) (lev := lv) 0 (fun p hp => by rw [Finset.mem_singleton.mp hp, L_tc]; exact Finset.mem_singleton_self _)
      (fun g u hg => by rcases hcase g u hg with ⟨x, rfl⟩ | rfl | rfl | rfl <;> first | rw [L_R]; exact Finset.mem_singleton_self _ | rw [L_bar]; exact Finset.mem_singleton_self _)
      (fun p hp => by
        rw [Finset.mem_singleton.mp hp]; exact le_of_eq (if_neg fun h' => hq ⟨h'.1, h'.2.1⟩))
      (fun g u hg => by
        rcases hcase g u hg with ⟨⟨k, t, h⟩, rfl⟩ | rfl | rfl | rfl
        · rw [lv_R]; unfold lvX; split <;> omega
        all_goals rw [lv_bar]; decide)
  · rw [MayWait_zero]; iintro -; iempintro

/-! ## The state of a copy -/

abbrev KN : Type := (Dev nD → ℕ) × (Dev nD × XC → ℕ)
/-- The invariants of all the cells, under the names the launch allocated them at. -/
def records (K : KN) : sProp 𝕄 :=
  iprop((bigSep Finset.univ fun c : Dev nD => cellInv ER (copyRd I) (K.1 c) (barCell c))
    ∗ (bigSep Finset.univ fun c : Dev nD => reached ER (barCell c) 0)
    ∗ bigSep Finset.univ fun cx : Dev nD × XC => cellInv ER (copyRd I) (K.2 cx) (xCell cx.1 cx.2))
instance records_persistent (K : KN) : BI.Persistent (records I K) := by unfold records; infer_instance

theorem elimP {ι : Type} [Fintype ι] [DecidableEq ι] (Φ : ι → sProp 𝕄) (i : ι) : iprop(bigSep Finset.univ fun j => Φ j) ⊢ Φ i :=
  bigSep_elim (Finset.mem_univ i)
theorem rec_bar (K : KN) (c : Dev nD) : records I K ⊢ iprop(cellInv ER (copyRd I) (K.1 c) (barCell c) ∗ reached ER (barCell c) 0) := by
  unfold records
  iintro ⟨#H1, #H2, -⟩
  isplitr
  · iapply (elimP (Φ := fun c : Dev nD => cellInv ER (copyRd I) (K.1 c) (barCell c)) c); iexact H1
  · iapply (elimP (Φ := fun c : Dev nD => (reached ER (barCell c) 0 : sProp 𝕄)) c); iexact H2
theorem rec_x (K : KN) (c : Dev nD) (x : XC) : records I K ⊢ cellInv ER (copyRd I) (K.2 (c, x)) (xCell c x) := by
  unfold records
  iintro ⟨-, -, #H⟩
  iapply (elimP (Φ := fun cx : Dev nD × XC => cellInv ER (copyRd I) (K.2 cx) (xCell cx.1 cx.2)) (c, x)); iexact H

/-- What device `c` still owes, with the records and the level facts it needs throughout. -/
def owesA (K : KN) (c : Dev nD) (l : List CP) : sProp 𝕄 :=
  iprop(records I K ∗ levAts L lv ∗ ∃ W, owes (c : Thread nD τ) (owedL c l) W)

/-- Before a copy starts; while it is under way; once it has been read; once one has landed here as well. -/
def Pre (k : Fin 2) (c : Dev nD) (t h : Fin 3) : sProp 𝕄 :=
  iprop(dutyTok ER (SC k c t h) 0 0 ∗ reached ER (SC k c t h) 0 ∗ dutyTok ER (RC k (peer k c) t h) 0 0
    ∗ atPos ER (SC k c t h) 0 ∅ 0 ∗ atPos ER (RC k c t h) 0 ∅ 0 ∗ cred (tallyAt (RC k c t h) () (N t)))
def Fly (k : Fin 2) (c : Dev nD) (t h : Fin 3) : sProp 𝕄 :=
  iprop(cred (tallyAt (SC k c t h) () (N t)) ∗ atPos ER (SC k c t h) 0 ∅ 0 ∗ atPos ER (RC k c t h) 0 ∅ 0 ∗ cred (tallyAt (RC k c t h) () (N t)))
def Mid (k : Fin 2) (c : Dev nD) (t h : Fin 3) : sProp 𝕄 :=
  iprop(srcP I k c t h ∗ semVal (SC k c t h) 0 ∗ atPos ER (RC k c t h) 0 ∅ 0 ∗ cred (tallyAt (RC k c t h) () (N t)))
/-- The two cells of a copy, at zero and closed. -/
def Zero (k : Fin 2) (c : Dev nD) (t h : Fin 3) : sProp 𝕄 := iprop(semVal (SC k c t h) 0 ∗ semVal (RC k c t h) 0)

abbrev 𝒱₀ : Variants := Variants.none

section Steps
variable (K : KN) (k : Fin 2) (t h : Fin 3) (c : Dev nD) {l : List CP}
  {α : Type} {kk : PUnit → Prog (TpuEff nD τ sig (Elt F) Λ₀ .tc) α}

theorem wp_start {Q : α → sProp 𝕄} (n : Dev nD) (hn : n = peer k c) {p : Fin 2} (hp : par c = p)
    {src dst : Memref sig .tc .vmem (hS t) .bf16} (hs : src = hM t (sl k h) p) (hd : dst = hM t h.succ p)
    {s₁ s₂ : DmaSem sig} (h₁ : s₁ = dsem (0, k, t, h)) (h₂ : s₂ = dsem (1, k, t, h))
    {hsc : (dst : Memref sig (Dev.tc n : Thread nD τ).2.kind .vmem (hS t) .bf16).view.ref.isScScratch = false}
    {hsrc : src.view.WordExact} {hdst : dst.view.WordExact}
    {hsem : DmaTarget.Typed .vmem (.dma s₂) (.remote (Dev.tc n : Thread nD τ) (dst : Memref sig .tc .vmem (hS t) .bf16) (.dma s₁) hsc)} :
    owesA I K c ((k, t, h) :: l)
      ⊢ iprop(Pre k c t h -∗ Land k c t h -∗ srcP I k c t h
          -∗ (owesA I K c l -∗ Fly k c t h -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma s₁) hsc) (.dma s₂) hsrc hdst hsem) kk) Q) := by
  subst hn hp hs hd h₁ h₂
  unfold owesA Pre Land dstE ptsE srcP
  rw [lh_peer]
  iintro ⟨#HI, #Hlev, ⟨%W, HO⟩⟩ ⟨HtS, #HrS, HtR, HaS, HaR, HcR⟩ ⟨⟨%fd, Hd⟩, #HrR⟩ Hs Hk
  unfold pts
  iapply (Rounds.wp_send_pointsTo 𝒱₀ ER (copyRd I) (c : Thread nD τ) none (sS := .dma (dsem (0, k, t, h))) (sem := .dma (dsem (1, k, t, h))) (κ₁ := K.2 (c, (0, k, t, h))) (κ₂ := K.2 (peer k c, (1, k, t, h)))
    (r₁ := 0) (r₂ := 0) (d₁ := 0) (d₂ := 0) (fd := fd)
    (by rw [duties_x]; exact Finset.mem_singleton_self _) (by rw [duties_x]; exact Finset.mem_singleton_self _)
    () () (N t) (show (hM t h.succ (par c)).view.dmaCredit = N t from N_eq t _ _) (amount_x I c _ 0) (amount_x I (peer k c) _ 0) (owedL c l) (owedL_cons c (k, t, h) l) (W := W)
    (by rw [payload_S]; exact BI.Entails.refl _)
    (by rw [payload_R]; unfold dstP; rw [lh_peer, landed I t c (peer k c) (sl k h) h.succ (par c) (org_copy k c h)])) $$ [Hs Hd HO HtS HtR]
  · isplitr; · iapply (rec_x I K c (0, k, t, h)); iexact HI
    isplitr; · iapply (rec_x I K (peer k c) (1, k, t, h)); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk $$ [HO] [HcS HaS HaR HcR]
  · isplitr; · iexact HI
    isplitr; · iexact Hlev
    iexists W; iexact HO
  · unfold Fly
    isplitl [HcS]; · iexact HcS
    isplitl [HaS]; · iexact HaS
    isplitl [HaR]; · iexact HaR
    iexact HcR

theorem wp_waitS {Q : α → sProp 𝕄} {s : DmaSem sig} (hs : s = dsem (0, k, t, h)) (hl : ∀ x ∈ l, 0 < lvX x)
    {sp sp' : Space} {s1 s2 : Shape} {e1 e2 : EltTy} {src : Memref sig .tc sp' s2 e2} {dst : Memref sig .tc sp s1 e1}
    {hsrc : src.view.WordExact} {hdst : dst.view.WordExact} (hN : dst.view.dmaCredit = N t) :
    owesA I K c l
      ⊢ iprop(Fly k c t h
          -∗ (owesA I K c l -∗ Mid I k c t h -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  unfold owesA Fly
  iintro ⟨#HI, #Hlev, ⟨%W, HO⟩⟩ ⟨HcS, HaS, HaR, HcR⟩ Hk
  rw [← hN]
  ihave #HIs := (rec_x I K c (0, k, t, h)) $$ HI
  iapply (Rounds.wp_wait_rest_token 𝒱₀ ER (copyRd I) (c : Thread nD τ) none (κ := K.2 (c, (0, k, t, h)))
      (wpE_waitDma2_eq 𝒱₀ (c : Thread nD τ) none Set.univ) (Set.mem_univ _) () (O := owedL c l) (W := W) (R := 0) (m := 0) (T := ∅)
      (by rw [Nat.zero_add, expect_x, hN])) $$ [HcS HO HaS]
  · isplitr; · iexact HIs
    isplitl [HcS]; · iexact HcS
    isplitl [HO]; · iexact HO
    isplitr; · iapply (mayWait (F := F) c (.dma (dsem (0, k, t, h))) 0 l (le_of_eq (lv_S c k t h)) hl); iexact Hlev
    iexact HaS
  iintro ⟨HO, HaS, -, Hpay⟩
  ihave Hs := (Entails.of_eq (rest_S I c k t h)) $$ Hpay
  imod (Rounds.cell_close ER (copyRd I) (Set.mem_univ (K.2 (c, (0, k, t, h)))) (fun h => h) (R := 0 + 1) (duties_later I (SC k c t h))) $$ [HaS] with Hz
  · isplitr; · iexact HIs
    iexact HaS
  iapply Hk $$ [HO] [Hs Hz HaR HcR]
  · isplitr; · iexact HI
    isplitr; · iexact Hlev
    iexists _; iexact HO
  · unfold Mid
    isplitl [Hs]; · iexact Hs
    isplitl [Hz]; · iexact Hz
    isplitl [HaR]; · iexact HaR
    rw [hN]; iexact HcR

theorem wp_waitR {Q : α → sProp 𝕄} {s : DmaSem sig} (hs : s = dsem (1, k, t, h)) (hl : ∀ x ∈ l, lvX (k, t, h) < lvX x)
    {sp sp' : Space} {s1 s2 : Shape} {e1 e2 : EltTy} {src : Memref sig .tc sp' s2 e2} {dst : Memref sig .tc sp s1 e1}
    {hsrc : src.view.WordExact} {hdst : dst.view.WordExact} (hN : dst.view.dmaCredit = N t) :
    owesA I K c l
      ⊢ iprop(Mid I k c t h
          -∗ (owesA I K c l -∗ srcP I k c t h -∗ dstP I k c t h -∗ Zero k c t h
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  unfold owesA Mid
  iintro ⟨#HI, #Hlev, ⟨%W, HO⟩⟩ ⟨Hs, HzS, HaR, HcR⟩ Hk
  rw [← hN]
  ihave #HIr := (rec_x I K c (1, k, t, h)) $$ HI
  iapply (Rounds.wp_wait_rest_token 𝒱₀ ER (copyRd I) (c : Thread nD τ) none (κ := K.2 (c, (1, k, t, h)))
      (wpE_waitDma2_eq 𝒱₀ (c : Thread nD τ) none Set.univ) (Set.mem_univ _) () (O := owedL c l) (W := W) (R := 0) (m := 0) (T := ∅)
      (by rw [Nat.zero_add, expect_x, hN])) $$ [HcR HO HaR]
  · isplitr; · iexact HIr
    isplitl [HcR]; · iexact HcR
    isplitl [HO]; · iexact HO
    isplitr; · iapply (mayWait (F := F) c (.dma (dsem (1, k, t, h))) _ l (le_of_eq (lv_R c k t h)) hl); iexact Hlev
    iexact HaR
  iintro ⟨HO, HaR, -, Hpay⟩
  ihave Hd := (Entails.of_eq (rest_R I c k t h)) $$ Hpay
  imod (Rounds.cell_close ER (copyRd I) (Set.mem_univ (K.2 (c, (1, k, t, h)))) (fun h => h) (R := 0 + 1) (duties_later I (RC k c t h))) $$ [HaR] with Hz
  · isplitr; · iexact HIr
    iexact HaR
  iapply Hk $$ [HO] Hs Hd [HzS Hz]
  · isplitr; · iexact HI
    isplitr; · iexact Hlev
    iexists _; iexact HO
  · unfold Zero
    isplitl [HzS]; · iexact HzS
    iexact Hz

end Steps

end Cert.Kernel.Talk

end
-- ==== Proof.Kernel.Steps.lean ====
/- The copies of one hop come in threes, one for each buffer: started together, and waited for together. -/
module

public import proofs.«01_k».proof.Proof.Kernel.Sched

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-- One assertion for each of the three buffers. -/
def Tri (Φ : Fin 3 → sProp 𝕄) : sProp 𝕄 := iprop(Φ 0 ∗ Φ 1 ∗ Φ 2)

section Steps
variable (K : KN) (k : Fin 2) (h : Fin 3) (c : Dev nD) {l : List CP}
  {α : Type} {kk : PUnit → Prog (TpuEff nD τ sig (Elt F) Λ₀ .tc) α}

/-- The three copies of a hop, started one after the other. -/
theorem wp_start3 {Q : α → sProp 𝕄} {n₀ n₁ n₂ : Dev nD} (hn₀ : n₀ = peer k c) (hn₁ : n₁ = peer k c) (hn₂ : n₂ = peer k c)
    {p : Fin 2} (hp : par c = p)
    {r₀ w₀ : Memref sig .tc .vmem (hS 0) .bf16} {r₁ w₁ : Memref sig .tc .vmem (hS 1) .bf16} {r₂ w₂ : Memref sig .tc .vmem (hS 2) .bf16}
    (hr₀ : r₀ = hM 0 (sl k h) p) (hr₁ : r₁ = hM 1 (sl k h) p) (hr₂ : r₂ = hM 2 (sl k h) p)
    (hw₀ : w₀ = hM 0 h.succ p) (hw₁ : w₁ = hM 1 h.succ p) (hw₂ : w₂ = hM 2 h.succ p)
    {s₀ s₁ s₂ d₀ d₁ d₂ : DmaSem sig} (hs₀ : s₀ = dsem (0, k, 0, h)) (hs₁ : s₁ = dsem (0, k, 1, h)) (hs₂ : s₂ = dsem (0, k, 2, h))
    (hd₀ : d₀ = dsem (1, k, 0, h)) (hd₁ : d₁ = dsem (1, k, 1, h)) (hd₂ : d₂ = dsem (1, k, 2, h))
    {e₀ : (w₀ : Memref sig (Dev.tc n₀ : Thread nD τ).2.kind .vmem (hS 0) .bf16).view.ref.isScScratch = false}
    {e₁ : (w₁ : Memref sig (Dev.tc n₁ : Thread nD τ).2.kind .vmem (hS 1) .bf16).view.ref.isScScratch = false}
    {e₂ : (w₂ : Memref sig (Dev.tc n₂ : Thread nD τ).2.kind .vmem (hS 2) .bf16).view.ref.isScScratch = false}
    {x₀ : r₀.view.WordExact} {x₁ : r₁.view.WordExact} {x₂ : r₂.view.WordExact}
    {y₀ : w₀.view.WordExact} {y₁ : w₁.view.WordExact} {y₂ : w₂.view.WordExact}
    {z₀ : DmaTarget.Typed .vmem (.dma d₀) (.remote (Dev.tc n₀ : Thread nD τ) (w₀ : Memref sig .tc .vmem (hS 0) .bf16) (.dma s₀) e₀)}
    {z₁ : DmaTarget.Typed .vmem (.dma d₁) (.remote (Dev.tc n₁ : Thread nD τ) (w₁ : Memref sig .tc .vmem (hS 1) .bf16) (.dma s₁) e₁)}
    {z₂ : DmaTarget.Typed .vmem (.dma d₂) (.remote (Dev.tc n₂ : Thread nD τ) (w₂ : Memref sig .tc .vmem (hS 2) .bf16) (.dma s₂) e₂)} :
    owesA I K c ((k, 0, h) :: (k, 1, h) :: (k, 2, h) :: l)
      ⊢ iprop(Tri (fun t => Pre k c t h) -∗ Land3 k c h -∗ Tri (fun t => srcP I k c t h)
          -∗ (owesA I K c l -∗ Tri (fun t => Fly k c t h) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma r₀ (.remote (Dev.tc n₀ : Thread nD τ) w₀ (.dma s₀) e₀) (.dma d₀) x₀ y₀ z₀) fun _ =>
                .op (.enqueueDma r₁ (.remote (Dev.tc n₁ : Thread nD τ) w₁ (.dma s₁) e₁) (.dma d₁) x₁ y₁ z₁) fun _ =>
                .op (.enqueueDma r₂ (.remote (Dev.tc n₂ : Thread nD τ) w₂ (.dma s₂) e₂) (.dma d₂) x₂ y₂ z₂) kk) Q) := by
  unfold Tri Land3
  iintro HO ⟨HP0, HP1, HP2⟩ ⟨HL0, HL1, HL2⟩ ⟨HS0, HS1, HS2⟩ Hk
  iapply (wp_start I K k 0 h c n₀ hn₀ hp hr₀ hw₀ hs₀ hd₀) $$ HO HP0 HL0 HS0
  iintro HO HF0
  iapply (wp_start I K k 1 h c n₁ hn₁ hp hr₁ hw₁ hs₁ hd₁) $$ HO HP1 HL1 HS1
  iintro HO HF1
  iapply (wp_start I K k 2 h c n₂ hn₂ hp hr₂ hw₂ hs₂ hd₂) $$ HO HP2 HL2 HS2
  iintro HO HF2
  iapply Hk $$ HO [HF0 HF1 HF2]
  isplitl [HF0]; · iexact HF0
  isplitl [HF1]; · iexact HF1
  iexact HF2

section Waits
variable {sp₀ sp₁ sp₂ sp₃ sp₄ sp₅ sq₀ sq₁ sq₂ sq₃ sq₄ sq₅ : Space} {a₀ a₁ a₂ a₃ a₄ a₅ b₀ b₁ b₂ b₃ b₄ b₅ : Shape}
  {e₀ e₁ e₂ e₃ e₄ e₅ f₀ f₁ f₂ f₃ f₄ f₅ : EltTy}
  {r₀ : Memref sig .tc sq₀ b₀ f₀} {w₀ : Memref sig .tc sp₀ a₀ e₀} {r₁ : Memref sig .tc sq₁ b₁ f₁} {w₁ : Memref sig .tc sp₁ a₁ e₁}
  {r₂ : Memref sig .tc sq₂ b₂ f₂} {w₂ : Memref sig .tc sp₂ a₂ e₂} {r₃ : Memref sig .tc sq₃ b₃ f₃} {w₃ : Memref sig .tc sp₃ a₃ e₃}
  {r₄ : Memref sig .tc sq₄ b₄ f₄} {w₄ : Memref sig .tc sp₄ a₄ e₄} {r₅ : Memref sig .tc sq₅ b₅ f₅} {w₅ : Memref sig .tc sp₅ a₅ e₅}
  {x₀ : r₀.view.WordExact} {x₁ : r₁.view.WordExact} {x₂ : r₂.view.WordExact} {x₃ : r₃.view.WordExact} {x₄ : r₄.view.WordExact} {x₅ : r₅.view.WordExact}
  {y₀ : w₀.view.WordExact} {y₁ : w₁.view.WordExact} {y₂ : w₂.view.WordExact} {y₃ : w₃.view.WordExact} {y₄ : w₄.view.WordExact} {y₅ : w₅.view.WordExact}
  {s₀ s₁ s₂ d₀ d₁ d₂ : DmaSem sig}

/-- The six waits of a hop, buffer by buffer: its copy read, then the one to it landed. -/
theorem wp_wait3 {Q : α → sProp 𝕄} (hs₀ : s₀ = dsem (0, k, 0, h)) (hs₁ : s₁ = dsem (0, k, 1, h)) (hs₂ : s₂ = dsem (0, k, 2, h))
    (hd₀ : d₀ = dsem (1, k, 0, h)) (hd₁ : d₁ = dsem (1, k, 1, h)) (hd₂ : d₂ = dsem (1, k, 2, h))
    (hl : ∀ x ∈ l, lvX (k, 0, h) < lvX x)
    (hN₀ : w₀.view.dmaCredit = N 0) (hN₁ : w₁.view.dmaCredit = N 0) (hN₂ : w₂.view.dmaCredit = N 1)
    (hN₃ : w₃.view.dmaCredit = N 1) (hN₄ : w₄.view.dmaCredit = N 2) (hN₅ : w₅.view.dmaCredit = N 2) :
    owesA I K c l
      ⊢ iprop(Tri (fun t => Fly k c t h)
          -∗ (owesA I K c l -∗ Tri (fun t => srcP I k c t h) -∗ Tri (fun t => dstP I k c t h) -∗ Tri (fun t => Zero k c t h)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s₀ r₀ w₀ x₀ y₀) fun _ => .op (.waitDma2 d₀ r₁ w₁ x₁ y₁) fun _ => .op (.waitDma2 s₁ r₂ w₂ x₂ y₂) fun _ =>
                .op (.waitDma2 d₁ r₃ w₃ x₃ y₃) fun _ => .op (.waitDma2 s₂ r₄ w₄ x₄ y₄) fun _ => .op (.waitDma2 d₂ r₅ w₅ x₅ y₅) kk) Q) := by
  have hl' : ∀ x ∈ l, 0 < lvX x := fun x hx => Nat.lt_of_le_of_lt (Nat.zero_le _) (hl x hx)
  unfold Tri
  iintro HO ⟨HF0, HF1, HF2⟩ Hk
  iapply (wp_waitS I K k 0 h c hs₀ hl' hN₀) $$ HO HF0
  iintro HO HM0
  iapply (wp_waitR I K k 0 h c hd₀ hl hN₁) $$ HO HM0
  iintro HO HS0 HD0 HZ0
  iapply (wp_waitS I K k 1 h c hs₁ hl' hN₂) $$ HO HF1
  iintro HO HM1
  iapply (wp_waitR I K k 1 h c hd₁ hl hN₃) $$ HO HM1
  iintro HO HS1 HD1 HZ1
  iapply (wp_waitS I K k 2 h c hs₂ hl' hN₄) $$ HO HF2
  iintro HO HM2
  iapply (wp_waitR I K k 2 h c hd₂ hl hN₅) $$ HO HM2
  iintro HO HS2 HD2 HZ2
  iapply Hk $$ HO [HS0 HS1 HS2] [HD0 HD1 HD2] [HZ0 HZ1 HZ2]
  · isplitl [HS0]; · iexact HS0
    isplitl [HS1]; · iexact HS1
    iexact HS2
  · isplitl [HD0]; · iexact HD0
    isplitl [HD1]; · iexact HD1
    iexact HD2
  · isplitl [HZ0]; · iexact HZ0
    isplitl [HZ1]; · iexact HZ1
    iexact HZ2

/-- The six waits of a hop, all three read and then all three landed. -/
theorem wp_wait33 {Q : α → sProp 𝕄} (hs₀ : s₀ = dsem (0, k, 0, h)) (hs₁ : s₁ = dsem (0, k, 1, h)) (hs₂ : s₂ = dsem (0, k, 2, h))
    (hd₀ : d₀ = dsem (1, k, 0, h)) (hd₁ : d₁ = dsem (1, k, 1, h)) (hd₂ : d₂ = dsem (1, k, 2, h))
    (hl : ∀ x ∈ l, lvX (k, 0, h) < lvX x)
    (hN₀ : w₀.view.dmaCredit = N 0) (hN₁ : w₁.view.dmaCredit = N 1) (hN₂ : w₂.view.dmaCredit = N 2)
    (hN₃ : w₃.view.dmaCredit = N 0) (hN₄ : w₄.view.dmaCredit = N 1) (hN₅ : w₅.view.dmaCredit = N 2) :
    owesA I K c l
      ⊢ iprop(Tri (fun t => Fly k c t h)
          -∗ (owesA I K c l -∗ Tri (fun t => srcP I k c t h) -∗ Tri (fun t => dstP I k c t h) -∗ Tri (fun t => Zero k c t h)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s₀ r₀ w₀ x₀ y₀) fun _ => .op (.waitDma2 s₁ r₁ w₁ x₁ y₁) fun _ => .op (.waitDma2 s₂ r₂ w₂ x₂ y₂) fun _ =>
                .op (.waitDma2 d₀ r₃ w₃ x₃ y₃) fun _ => .op (.waitDma2 d₁ r₄ w₄ x₄ y₄) fun _ => .op (.waitDma2 d₂ r₅ w₅ x₅ y₅) kk) Q) := by
  have hl' : ∀ x ∈ l, 0 < lvX x := fun x hx => Nat.lt_of_le_of_lt (Nat.zero_le _) (hl x hx)
  unfold Tri
  iintro HO ⟨HF0, HF1, HF2⟩ Hk
  iapply (wp_waitS I K k 0 h c hs₀ hl' hN₀) $$ HO HF0
  iintro HO HM0
  iapply (wp_waitS I K k 1 h c hs₁ hl' hN₁) $$ HO HF1
  iintro HO HM1
  iapply (wp_waitS I K k 2 h c hs₂ hl' hN₂) $$ HO HF2
  iintro HO HM2
  iapply (wp_waitR I K k 0 h c hd₀ hl hN₃) $$ HO HM0
  iintro HO HS0 HD0 HZ0
  iapply (wp_waitR I K k 1 h c hd₁ hl hN₄) $$ HO HM1
  iintro HO HS1 HD1 HZ1
  iapply (wp_waitR I K k 2 h c hd₂ hl hN₅) $$ HO HM2
  iintro HO HS2 HD2 HZ2
  iapply Hk $$ HO [HS0 HS1 HS2] [HD0 HD1 HD2] [HZ0 HZ1 HZ2]
  · isplitl [HS0]; · iexact HS0
    isplitl [HS1]; · iexact HS1
    iexact HS2
  · isplitl [HD0]; · iexact HD0
    isplitl [HD1]; · iexact HD1
    iexact HD2
  · isplitl [HZ0]; · iexact HZ0
    isplitl [HZ1]; · iexact HZ1
    iexact HZ2

end Waits

end Steps

end Cert.Kernel.Talk

end
-- ==== Proof.Kernel.Bufs.lean ====
/- The three scratch buffers as eight regions each (four slots, two halves): taken apart before the first signal, slot 0's
   left half of a share kept while its right half is read, and put together again for the final loads. -/
module

public import proofs.«01_k».proof.Proof.Kernel.Steps

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## Eight regions of one buffer -/

section Eight
variable {ℓ : Loc nD τ sig} (Kf : Fin 4 → Fin 2 → Finset (Idx ℓ))
  (hd : ∀ a b : Fin 4 × Fin 2, a ≠ b → Disjoint (Kf a.1 a.2) (Kf b.1 b.2)) (hu : ∀ j, ∃ i p, j ∈ Kf i p)

include hd hu in
theorem eight (f : Buf (Elt F) ℓ) :
    (ℓ ↦{fullShare} f : sProp 𝕄)
      = iprop((ℓ ↦[Kf 0 0]{fullShare} f) ∗ (ℓ ↦[Kf 0 1]{fullShare} f) ∗ (ℓ ↦[Kf 1 0]{fullShare} f) ∗ (ℓ ↦[Kf 1 1]{fullShare} f)
          ∗ (ℓ ↦[Kf 2 0]{fullShare} f) ∗ (ℓ ↦[Kf 2 1]{fullShare} f) ∗ (ℓ ↦[Kf 3 0]{fullShare} f) ∗ (ℓ ↦[Kf 3 1]{fullShare} f)) := by
  have e : (Finset.univ : Finset (Idx ℓ)) = (Finset.univ : Finset (Fin 4 × Fin 2)).biUnion fun a => Kf a.1 a.2 := by
    ext j
    simp only [Finset.mem_univ, Finset.mem_biUnion, true_and, true_iff]
    obtain ⟨i, p, h⟩ := hu j
    exact ⟨(i, p), h⟩
  rw [show (ℓ ↦{fullShare} f : sProp 𝕄) = (ℓ ↦[(Finset.univ : Finset (Fin 4 × Fin 2)).biUnion fun a => Kf a.1 a.2]{fullShare} f) from by rw [← e],
    pointsTo_biUnion Finset.univ (fun a : Fin 4 × Fin 2 => Kf a.1 a.2) (fun a _ b _ h => hd a b h),
    bigSep_univ_eq_bigSepL [(0, 0), (0, 1), (1, 0), (1, 1), (2, 0), (2, 1), (3, 0), (3, 1)] (by decide) (by decide)]
  simp only [bigSepL_cons_cons, bigSepL_singleton]
  rfl

/-- Two halves, the device's own first. -/
theorem halves (Φ : Fin 2 → sProp 𝕄) (p : Fin 2) : iprop(Φ 0 ∗ Φ 1) ⊣⊢ iprop(Φ p ∗ Φ (oth p)) := by
  match p with
  | 0 => exact ⟨BI.Entails.refl _, BI.Entails.refl _⟩
  | 1 => exact ⟨BI.sep_comm, BI.sep_comm⟩

/-- A region at some contents. -/
abbrev some (Kf : Fin 4 → Fin 2 → Finset (Idx ℓ)) (i : Fin 4) (p : Fin 2) : sProp 𝕄 :=
  iprop(∃ f : Buf (Elt F) ℓ, ℓ ↦[Kf i p]{fullShare} f)

include hd hu in
/-- Slot 0 kept, the halves of the other slots handed out. -/
theorem take (S0 : Finset (Idx ℓ)) (hS0 : S0 = Kf 0 0 ∪ Kf 0 1) (p : Fin 2) (f : Buf (Elt F) ℓ) :
    (ℓ ↦{fullShare} f : sProp 𝕄)
      ⊢ iprop((ℓ ↦[S0]{fullShare} f) ∗ (some (F := F) Kf 1 p ∗ some (F := F) Kf 2 p ∗ some (F := F) Kf 3 p)
          ∗ (some (F := F) Kf 1 (oth p) ∗ some (F := F) Kf 2 (oth p) ∗ some (F := F) Kf 3 (oth p))) := by
  subst hS0
  rw [eight Kf hd hu f]
  iintro ⟨H00, H01, H10, H11, H20, H21, H30, H31⟩
  ihave H0 := (pointsTo_union (hd (0, 0) (0, 1) (by decide))).2 $$ [H00 H01]
  · isplitl [H00]; · iexact H00
    iexact H01
  ihave H1 := (halves (fun q => (ℓ ↦[Kf 1 q]{fullShare} f : sProp 𝕄)) p).1 $$ [H10 H11]
  · isplitl [H10]; · iexact H10
    iexact H11
  ihave H2 := (halves (fun q => (ℓ ↦[Kf 2 q]{fullShare} f : sProp 𝕄)) p).1 $$ [H20 H21]
  · isplitl [H20]; · iexact H20
    iexact H21
  ihave H3 := (halves (fun q => (ℓ ↦[Kf 3 q]{fullShare} f : sProp 𝕄)) p).1 $$ [H30 H31]
  · isplitl [H30]; · iexact H30
    iexact H31
  icases H1 with ⟨H1p, H1o⟩
  icases H2 with ⟨H2p, H2o⟩
  icases H3 with ⟨H3p, H3o⟩
  isplitl [H0]; · iexact H0
  isplitl [H1p H2p H3p]
  · isplitl [H1p]; · iexists f; iexact H1p
    isplitl [H2p]; · iexists f; iexact H2p
    iexists f; iexact H3p
  · isplitl [H1o]; · iexists f; iexact H1o
    isplitl [H2o]; · iexists f; iexact H2o
    iexists f; iexact H3o

/-- A share in two. -/
theorem two (S : Finset (Idx ℓ)) (g : Buf (Elt F) ℓ) :
    (ℓ ↦[S]{fullShare} g : sProp 𝕄) ⊣⊢ iprop((ℓ ↦[S]{fullShare.left} g) ∗ (ℓ ↦[S]{fullShare.right} g)) :=
  pointsTo_share (PosShare.mem_left_op_right fullShare)

include hd in
/-- Slot 0 once written: the device's half in two shares, the other half. -/
theorem fork (S0 : Finset (Idx ℓ)) (hS0 : S0 = Kf 0 0 ∪ Kf 0 1) (p : Fin 2) (g : Buf (Elt F) ℓ) :
    (ℓ ↦[S0]{fullShare} g : sProp 𝕄)
      ⊢ iprop((ℓ ↦[Kf 0 p]{fullShare.left} g) ∗ (ℓ ↦[Kf 0 p]{fullShare.right} g) ∗ (ℓ ↦[Kf 0 (oth p)]{fullShare} g)) := by
  subst hS0
  iintro H
  ihave H' := (pointsTo_union (hd (0, 0) (0, 1) (by decide))).1 $$ H
  ihave H'' := (halves (fun q => (ℓ ↦[Kf 0 q]{fullShare} g : sProp 𝕄)) p).1 $$ H'
  icases H'' with ⟨Hp, Ho⟩
  ihave H2 := (two (Kf 0 p) g).1 $$ Hp
  icases H2 with ⟨Hl, Hr⟩
  isplitl [Hl]; · iexact Hl
  isplitl [Hr]; · iexact Hr
  iexact Ho

/-- One slot: the device's half back in two shares, the other half. -/
abbrev slot (g : Buf (Elt F) ℓ) (i : Fin 4) (p : Fin 2) : sProp 𝕄 :=
  iprop((ℓ ↦[Kf i p]{fullShare.left} g) ∗ (ℓ ↦[Kf i p]{fullShare.right} g) ∗ (ℓ ↦[Kf i (oth p)]{fullShare} g))

theorem slot_join (g : Buf (Elt F) ℓ) (i : Fin 4) (p : Fin 2) :
    slot Kf g i p ⊢ iprop((ℓ ↦[Kf i 0]{fullShare} g) ∗ (ℓ ↦[Kf i 1]{fullShare} g)) := by
  iintro ⟨Hl, Hr, Ho⟩
  ihave H := (two (Kf i p) g).2 $$ [Hl Hr]
  · isplitl [Hl]; · iexact Hl
    iexact Hr
  iapply (halves (fun q => (ℓ ↦[Kf i q]{fullShare} g : sProp 𝕄)) p).2
  isplitl [H]; · iexact H
  iexact Ho

include hd hu in
theorem join (p : Fin 2) (g : Buf (Elt F) ℓ) :
    iprop(slot Kf g 0 p ∗ slot Kf g 1 p ∗ slot Kf g 2 p ∗ slot Kf g 3 p) ⊢ (ℓ ↦{fullShare} g : sProp 𝕄) := by
  rw [eight Kf hd hu g]
  iintro ⟨H0, H1, H2, H3⟩
  ihave J0 := (slot_join Kf g 0 p) $$ H0
  icases J0 with ⟨A0, B0⟩
  ihave J1 := (slot_join Kf g 1 p) $$ H1
  icases J1 with ⟨A1, B1⟩
  ihave J2 := (slot_join Kf g 2 p) $$ H2
  icases J2 with ⟨A2, B2⟩
  ihave J3 := (slot_join Kf g 3 p) $$ H3
  icases J3 with ⟨A3, B3⟩
  isplitl [A0]; · iexact A0
  isplitl [B0]; · iexact B0
  isplitl [A1]; · iexact A1
  isplitl [B1]; · iexact B1
  isplitl [A2]; · iexact A2
  isplitl [B2]; · iexact B2
  isplitl [A3]; · iexact A3
  iexact B3

end Eight

/-! ## The regions, by their elements -/

theorem mem_rC (i : Fin 4) (p : Fin 2) (j : S4x1024x128.Idx) : j ∈ (rC i p).set ↔ j 0 = i ∧ halfC j = p := by
  have h1 : (j 1).val < 1024 := (j 1).isLt
  have h2 : (j 2).val < 128 := (j 2).isLt
  rw [Rect.mem_set_unit]
  constructor
  · intro h
    have a0 : i.val ≤ (j 0).val ∧ (j 0).val < i.val + 1 := h 0
    have a1 : 512 * p.val ≤ (j 1).val ∧ (j 1).val < 512 * p.val + 512 := h 1
    refine ⟨Fin.ext (by omega), Fin.ext ?_⟩
    show (j 1).val / 512 = p.val
    omega
  · rintro ⟨rfl, rfl⟩ a
    match a with
    | ⟨0, _⟩ => show (j 0).val ≤ (j 0).val ∧ (j 0).val < (j 0).val + 1; omega
    | ⟨1, _⟩ => show 512 * ((j 1).val / 512) ≤ (j 1).val ∧ (j 1).val < 512 * ((j 1).val / 512) + 512; omega
    | ⟨2, _⟩ => show 0 ≤ (j 2).val ∧ (j 2).val < 0 + 128; omega
theorem mem_rU (i : Fin 4) (p : Fin 2) (j : S4x128x2048.Idx) : j ∈ (rU i p).set ↔ j 0 = i ∧ halfU j = p := by
  have h1 : (j 1).val < 128 := (j 1).isLt
  have h2 : (j 2).val < 2048 := (j 2).isLt
  rw [Rect.mem_set_unit]
  constructor
  · intro h
    have a0 : i.val ≤ (j 0).val ∧ (j 0).val < i.val + 1 := h 0
    have a1 : 64 * p.val ≤ (j 1).val ∧ (j 1).val < 64 * p.val + 64 := h 1
    refine ⟨Fin.ext (by omega), Fin.ext ?_⟩
    show (j 1).val / 64 = p.val
    omega
  · rintro ⟨rfl, rfl⟩ a
    match a with
    | ⟨0, _⟩ => show (j 0).val ≤ (j 0).val ∧ (j 0).val < (j 0).val + 1; omega
    | ⟨1, _⟩ => show 64 * ((j 1).val / 64) ≤ (j 1).val ∧ (j 1).val < 64 * ((j 1).val / 64) + 64; omega
    | ⟨2, _⟩ => show 0 ≤ (j 2).val ∧ (j 2).val < 0 + 2048; omega

/-- The slot a device fills itself, whole. -/
abbrev s0C : Rect S4x1024x128 := Rect.unit (s := S4x1024x128) ![0, 0, 0] S1x1024x128.size inb_S4x1024x128_S1x1024x128_0_0_0
abbrev s0U : Rect S4x128x2048 := Rect.unit (s := S4x128x2048) ![0, 0, 0] S1x128x2048.size inb_S4x128x2048_S1x128x2048_0_0_0

abbrev KC (i : Fin 4) (p : Fin 2) : Finset S4x1024x128.Idx := (hM 0 i p).view.set
abbrev KK (i : Fin 4) (p : Fin 2) : Finset S4x128x2048.Idx := (hM 1 i p).view.set
abbrev KV (i : Fin 4) (p : Fin 2) : Finset S4x128x2048.Idx := (hM 2 i p).view.set

theorem KC_eq (i : Fin 4) (p : Fin 2) : KC i p = (rC i p).set := (View.set_reshape _ _).trans (View.set_slice_whole _ _)
theorem KK_eq (i : Fin 4) (p : Fin 2) : KK i p = (rU i p).set := (View.set_reshape _ _).trans (View.set_slice_whole _ _)
theorem KV_eq (i : Fin 4) (p : Fin 2) : KV i p = (rU i p).set := (View.set_reshape _ _).trans (View.set_slice_whole _ _)

theorem disjC (a b : Fin 4 × Fin 2) (h : a ≠ b) : Disjoint (KC a.1 a.2) (KC b.1 b.2) := by
  rw [KC_eq, KC_eq, Finset.disjoint_left]
  intro j h1 h2
  rw [mem_rC] at h1 h2
  exact h (Prod.ext (h1.1.symm.trans h2.1) (h1.2.symm.trans h2.2))
theorem disjU (a b : Fin 4 × Fin 2) (h : a ≠ b) : Disjoint (rU a.1 a.2).set (rU b.1 b.2).set := by
  rw [Finset.disjoint_left]
  intro j h1 h2
  rw [mem_rU] at h1 h2
  exact h (Prod.ext (h1.1.symm.trans h2.1) (h1.2.symm.trans h2.2))
theorem disjK (a b : Fin 4 × Fin 2) (h : a ≠ b) : Disjoint (KK a.1 a.2) (KK b.1 b.2) := by rw [KK_eq, KK_eq]; exact disjU a b h
theorem disjV (a b : Fin 4 × Fin 2) (h : a ≠ b) : Disjoint (KV a.1 a.2) (KV b.1 b.2) := by rw [KV_eq, KV_eq]; exact disjU a b h
theorem coverC (j : S4x1024x128.Idx) : ∃ i p, j ∈ KC i p := ⟨(j 0 : Fin 4), halfC j, by
  rw [show KC (j 0 : Fin 4) (halfC j) = (rC (j 0 : Fin 4) (halfC j)).set from KC_eq _ _]; exact (mem_rC _ _ _).2 ⟨rfl, rfl⟩⟩
theorem coverK (j : S4x128x2048.Idx) : ∃ i p, j ∈ KK i p := ⟨(j 0 : Fin 4), halfU j, by
  rw [show KK (j 0 : Fin 4) (halfU j) = (rU (j 0 : Fin 4) (halfU j)).set from KK_eq _ _]; exact (mem_rU _ _ _).2 ⟨rfl, rfl⟩⟩
theorem coverV (j : S4x128x2048.Idx) : ∃ i p, j ∈ KV i p := ⟨(j 0 : Fin 4), halfU j, by
  rw [show KV (j 0 : Fin 4) (halfU j) = (rU (j 0 : Fin 4) (halfU j)).set from KV_eq _ _]; exact (mem_rU _ _ _).2 ⟨rfl, rfl⟩⟩

theorem fin2 (p : Fin 2) : p = 0 ∨ p = 1 := by revert p; decide
theorem mem_s0C (j : S4x1024x128.Idx) : j ∈ s0C.set ↔ (j 0).val = 0 := by
  have h1 : (j 1).val < 1024 := (j 1).isLt
  have h2 : (j 2).val < 128 := (j 2).isLt
  rw [Rect.mem_set_unit]
  constructor
  · intro h
    have a0 : 0 ≤ (j 0).val ∧ (j 0).val < 0 + 1 := h 0
    omega
  · intro h0 a
    match a with
    | ⟨0, _⟩ => show 0 ≤ (j 0).val ∧ (j 0).val < 0 + 1; omega
    | ⟨1, _⟩ => show 0 ≤ (j 1).val ∧ (j 1).val < 0 + 1024; omega
    | ⟨2, _⟩ => show 0 ≤ (j 2).val ∧ (j 2).val < 0 + 128; omega
theorem mem_s0U (j : S4x128x2048.Idx) : j ∈ s0U.set ↔ (j 0).val = 0 := by
  have h1 : (j 1).val < 128 := (j 1).isLt
  have h2 : (j 2).val < 2048 := (j 2).isLt
  rw [Rect.mem_set_unit]
  constructor
  · intro h
    have a0 : 0 ≤ (j 0).val ∧ (j 0).val < 0 + 1 := h 0
    omega
  · intro h0 a
    match a with
    | ⟨0, _⟩ => show 0 ≤ (j 0).val ∧ (j 0).val < 0 + 1; omega
    | ⟨1, _⟩ => show 0 ≤ (j 1).val ∧ (j 1).val < 0 + 128; omega
    | ⟨2, _⟩ => show 0 ≤ (j 2).val ∧ (j 2).val < 0 + 2048; omega

theorem s0C_eq : s0C.set = KC 0 0 ∪ KC 0 1 := by
  ext j
  rw [Finset.mem_union, KC_eq, KC_eq, mem_rC, mem_rC, mem_s0C]
  exact ⟨fun h => (fin2 (halfC j)).elim (fun e => .inl ⟨Fin.ext h, e⟩) fun e => .inr ⟨Fin.ext h, e⟩,
    fun h => h.elim (fun a => congrArg Fin.val a.1) fun a => congrArg Fin.val a.1⟩
theorem s0U_eq : s0U.set = (rU 0 0).set ∪ (rU 0 1).set := by
  ext j
  rw [Finset.mem_union, mem_rU, mem_rU, mem_s0U]
  exact ⟨fun h => (fin2 (halfU j)).elim (fun e => .inl ⟨Fin.ext h, e⟩) fun e => .inr ⟨Fin.ext h, e⟩,
    fun h => h.elim (fun a => congrArg Fin.val a.1) fun a => congrArg Fin.val a.1⟩
theorem s0K_eq : s0U.set = KK 0 0 ∪ KK 0 1 := by rw [KK_eq, KK_eq]; exact s0U_eq
theorem s0V_eq : s0U.set = KV 0 0 ∪ KV 0 1 := by rw [KV_eq, KV_eq]; exact s0U_eq

/-! ## The three buffers -/

/-- Slot 0 of each, as one region. -/
def ownC (c : Dev nD) (f : Buf (Elt F) ((c : Thread nD τ).loc cc0_scratch0)) : sProp 𝕄 := ((c : Thread nD τ).loc cc0_scratch0) ↦[s0C.set]{fullShare} f
def ownK (c : Dev nD) (f : Buf (Elt F) ((c : Thread nD τ).loc cc0_scratch1)) : sProp 𝕄 := ((c : Thread nD τ).loc cc0_scratch1) ↦[s0U.set]{fullShare} f
def ownV (c : Dev nD) (f : Buf (Elt F) ((c : Thread nD τ).loc cc0_scratch2)) : sProp 𝕄 := ((c : Thread nD τ).loc cc0_scratch2) ↦[s0U.set]{fullShare} f

/-- The landing regions of buffer `t` on `c`: what the copies from `lf c` fill, and those from `pt c`. -/
def lands (k : Fin 2) (c : Dev nD) (t : Fin 3) : sProp 𝕄 :=
  iprop(ptsE c t 1 (lh k c) ∗ ptsE c t 2 (lh k c) ∗ ptsE c t 3 (lh k c))

theorem takeC (c : Dev nD) (f : Buf (Elt F) ((c : Thread nD τ).loc cc0_scratch0)) :
    (((c : Thread nD τ).loc cc0_scratch0) ↦{fullShare} f : sProp 𝕄) ⊢ iprop(ownC c f ∗ lands 0 c 0 ∗ lands 1 c 0) :=
  take (ℓ := (c : Thread nD τ).loc cc0_scratch0) KC disjC coverC s0C.set s0C_eq (par c) f
theorem takeK (c : Dev nD) (f : Buf (Elt F) ((c : Thread nD τ).loc cc0_scratch1)) :
    (((c : Thread nD τ).loc cc0_scratch1) ↦{fullShare} f : sProp 𝕄) ⊢ iprop(ownK c f ∗ lands 0 c 1 ∗ lands 1 c 1) :=
  take (ℓ := (c : Thread nD τ).loc cc0_scratch1) KK disjK coverK s0U.set s0K_eq (par c) f
theorem takeV (c : Dev nD) (f : Buf (Elt F) ((c : Thread nD τ).loc cc0_scratch2)) :
    (((c : Thread nD τ).loc cc0_scratch2) ↦{fullShare} f : sProp 𝕄) ⊢ iprop(ownV c f ∗ lands 0 c 2 ∗ lands 1 c 2) :=
  take (ℓ := (c : Thread nD τ).loc cc0_scratch2) KV disjV coverV s0U.set s0V_eq (par c) f

/-- Of slot 0, once written: what the z-copies read, what stays behind. -/
def keep (c : Dev nD) (t : Fin 3) : sProp 𝕄 := iprop(pts I c t 0 (par c) fullShare.left ∗ pts I c t 0 (oth (par c)) fullShare)

theorem forkC (c : Dev nD) : ownC c (fullC I c) ⊢ iprop(srcP I 0 c 0 0 ∗ keep I c 0) :=
  (fork (ℓ := (c : Thread nD τ).loc cc0_scratch0) KC disjC s0C.set s0C_eq (par c) (fullC I c)).trans sep_left_comm.1
theorem forkK (c : Dev nD) : ownK c (fullK I c) ⊢ iprop(srcP I 0 c 1 0 ∗ keep I c 1) :=
  (fork (ℓ := (c : Thread nD τ).loc cc0_scratch1) KK disjK s0U.set s0K_eq (par c) (fullK I c)).trans sep_left_comm.1
theorem forkV (c : Dev nD) : ownV c (fullV I c) ⊢ iprop(srcP I 0 c 2 0 ∗ keep I c 2) :=
  (fork (ℓ := (c : Thread nD τ).loc cc0_scratch2) KV disjV s0U.set s0V_eq (par c) (fullV I c)).trans sep_left_comm.1

/-- What a z-copy landed is read by the y-copy of the same hop, and by the next z-copy. -/
def nextP (c : Dev nD) (t h : Fin 3) : sProp 𝕄 := pts I c t h.succ (par c) fullShare.right
theorem nextP_0 (c : Dev nD) (t : Fin 3) : nextP I c t 0 = srcP I 0 c t 1 := rfl
theorem nextP_1 (c : Dev nD) (t : Fin 3) : nextP I c t 1 = srcP I 0 c t 2 := rfl

theorem pts_two (c : Dev nD) (t : Fin 3) (i : Fin 4) (p : Fin 2) :
    pts I c t i p fullShare ⊢ iprop(pts I c t i p fullShare.left ∗ pts I c t i p fullShare.right) := by
  unfold pts; exact (pointsTo_share (PosShare.mem_left_op_right fullShare)).1
theorem landed_two (c : Dev nD) (t h : Fin 3) : dstP I 0 c t h ⊢ iprop(srcP I 1 c t h ∗ nextP I c t h) :=
  pts_two I c t h.succ (par c)
theorem landed_two3 (c : Dev nD) (h : Fin 3) :
    Tri (fun t => dstP I 0 c t h) ⊢ iprop(Tri (fun t => srcP I 1 c t h) ∗ Tri (fun t => nextP I c t h)) := by
  unfold Tri
  iintro ⟨H0, H1, H2⟩
  ihave J0 := (landed_two I c 0 h) $$ H0
  icases J0 with ⟨A0, B0⟩
  ihave J1 := (landed_two I c 1 h) $$ H1
  icases J1 with ⟨A1, B1⟩
  ihave J2 := (landed_two I c 2 h) $$ H2
  icases J2 with ⟨A2, B2⟩
  isplitl [A0 A1 A2]
  · isplitl [A0]; · iexact A0
    isplitl [A1]; · iexact A1
    iexact A2
  · isplitl [B0]; · iexact B0
    isplitl [B1]; · iexact B1
    iexact B2

/-- Everything of buffer `t`, in the end. -/
def parts (c : Dev nD) (t : Fin 3) : sProp 𝕄 :=
  iprop((pts I c t 0 (par c) fullShare.left ∗ srcP I 0 c t 0 ∗ pts I c t 0 (oth (par c)) fullShare)
    ∗ (srcP I 1 c t 0 ∗ srcP I 0 c t 1 ∗ dstP I 1 c t 0)
    ∗ (srcP I 1 c t 1 ∗ srcP I 0 c t 2 ∗ dstP I 1 c t 1)
    ∗ (srcP I 1 c t 2 ∗ nextP I c t 2 ∗ dstP I 1 c t 2))

theorem joinC (c : Dev nD) : parts I c 0 ⊢ (((c : Thread nD τ).loc cc0_scratch0) ↦{fullShare} fullC I c : sProp 𝕄) :=
  join (ℓ := (c : Thread nD τ).loc cc0_scratch0) KC disjC coverC (par c) (fullC I c)
theorem joinK (c : Dev nD) : parts I c 1 ⊢ (((c : Thread nD τ).loc cc0_scratch1) ↦{fullShare} fullK I c : sProp 𝕄) :=
  join (ℓ := (c : Thread nD τ).loc cc0_scratch1) KK disjK coverK (par c) (fullK I c)
theorem joinV (c : Dev nD) : parts I c 2 ⊢ (((c : Thread nD τ).loc cc0_scratch2) ↦{fullShare} fullV I c : sProp 𝕄) :=
  join (ℓ := (c : Thread nD τ).loc cc0_scratch2) KV disjV coverV (par c) (fullV I c)

end Cert.Kernel.Talk

end
-- ==== Proof.Kernel.Blocks.lean ====
/- What the stores leave: blocks of columns of the results, and slot 0 of the scratch buffers. -/
module

public import proofs.«01_k».proof.Proof.Kernel.Bufs

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## Blocks of columns -/

/-- Columns `512 i …` replaced. -/
def putCol (i : Fin 4) (f : Vec F S1024x2048 .bf16) (w : Vec F S1024x512 .bf16) : Vec F S1024x2048 .bf16 := fun j =>
  if (j 1).val / 512 = i.val then w (fun a => match a with | ⟨0, _⟩ => j 0 | ⟨1, _⟩ => ⟨(j 1).val % 512, Nat.mod_lt _ (by decide)⟩) else f j
/-- Four blocks of columns side by side. -/
def colBlk (w : Fin 4 → Vec F S1024x512 .bf16) : Vec F S1024x2048 .bf16 := fun j =>
  w ⟨(j 1).val / 512, by have : (j 1).val < 2048 := (j 1).isLt; omega⟩
    (fun a => match a with | ⟨0, _⟩ => j 0 | ⟨1, _⟩ => ⟨(j 1).val % 512, Nat.mod_lt _ (by decide)⟩)
theorem putCol_all (f : Vec F S1024x2048 .bf16) (w : Fin 4 → Vec F S1024x512 .bf16) :
    putCol 3 (putCol 2 (putCol 1 (putCol 0 f (w 0)) (w 1)) (w 2)) (w 3) = colBlk w := by
  funext j
  have hj : (j 1).val < 2048 := (j 1).isLt
  unfold putCol colBlk
  have h : ∀ k : Fin 4, (⟨(j 1).val / 512, by omega⟩ : Fin 4) = k ↔ (j 1).val / 512 = k.val := fun k => ⟨fun h => congrArg Fin.val h, fun h => Fin.ext h⟩
  generalize hk : (⟨(j 1).val / 512, by omega⟩ : Fin 4) = k
  have hk' := (h k).1 hk
  rw [hk']
  match k with
  | 0 => rfl
  | 1 => rfl
  | 2 => rfl
  | 3 => rfl

abbrev colR (i : Fin 4) : Rect S1024x2048 := Rect.unit (s := S1024x2048) ![0, 512 * i.val] S1024x512.size (by revert i; decide)
theorem mem_colR (i : Fin 4) (j : S1024x2048.Idx) : j ∈ (colR i).set ↔ (j 1).val / 512 = i.val := by
  have h0 : (j 0).val < 1024 := (j 0).isLt
  rw [Rect.mem_set_unit]
  constructor
  · intro h
    have a1 : 512 * i.val ≤ (j 1).val ∧ (j 1).val < 512 * i.val + 512 := h 1
    omega
  · intro h a
    match a with
    | ⟨0, _⟩ => show 0 ≤ (j 0).val ∧ (j 0).val < 0 + 1024; omega
    | ⟨1, _⟩ => show 512 * i.val ≤ (j 1).val ∧ (j 1).val < 512 * i.val + 512; omega
theorem put_of {i : Fin 4} {f w} {g : Vec F S1024x2048 .bf16} (h₁ : ∀ x, g ((colR i).emb x) = w x) (h₂ : ∀ j, j ∉ (colR i).set → g j = f j) :
    g = putCol (F := F) i f w := by
  funext j
  unfold putCol
  split
  · rename_i h
    rw [← h₁]
    congr 1
    funext a
    match a with
    | ⟨0, _⟩ => exact Fin.ext (by show (j 0).val = 0 + 1 * (j 0).val; omega)
    | ⟨1, _⟩ => exact Fin.ext (by show (j 1).val = 512 * i.val + 1 * ((j 1).val % 512); omega)
  · rename_i h
    exact h₂ j (fun hm => h ((mem_colR i j).1 hm))
theorem put7 (i : Fin 4) (f : Vec F S1024x2048 .bf16) (w : Vec F S1024x512 .bf16) :
    ((Memref.whole cc0_stg7_0).access (colR i)).write (Elt F) f w Finset.univ = putCol i f w :=
  put_of (fun x => View.write_emb_of_mem _ _ (Finset.mem_univ x))
    fun j h => View.write_of_not_mem _ _ _ (by rw [View.setOn_univ]; exact fun hm => h ((View.set_slice_whole cc0_stg7_0 (colR i)) ▸ hm))
theorem put8 (i : Fin 4) (f : Vec F S1024x2048 .bf16) (w : Vec F S1024x512 .bf16) :
    ((Memref.whole cc0_stg8_0).access (colR i)).write (Elt F) f w Finset.univ = putCol i f w :=
  put_of (fun x => View.write_emb_of_mem _ _ (Finset.mem_univ x))
    fun j h => View.write_of_not_mem _ _ _ (by rw [View.setOn_univ]; exact fun hm => h ((View.set_slice_whole cc0_stg8_0 (colR i)) ▸ hm))
theorem put9 (i : Fin 4) (f : Vec F S1024x2048 .bf16) (w : Vec F S1024x512 .bf16) :
    ((Memref.whole cc0_stg9_0).access (colR i)).write (Elt F) f w Finset.univ = putCol i f w :=
  put_of (fun x => View.write_emb_of_mem _ _ (Finset.mem_univ x))
    fun j h => View.write_of_not_mem _ _ _ (by rw [View.setOn_univ]; exact fun hm => h ((View.set_slice_whole cc0_stg9_0 (colR i)) ▸ hm))

/-- Columns `512 i …` of the query projection. -/
def colW (i : Fin 4) (w : Vec F S2048x2048 .bf16) : Vec F S2048x512 .bf16 := fun j =>
  w (fun a => match a with | ⟨0, _⟩ => j 0 | ⟨1, _⟩ => ⟨512 * i.val + (j 1).val, by have : (j 1).val < 512 := (j 1).isLt; have := i.isLt; show _ < 2048; omega⟩)
theorem colW_read (i : Fin 4) (inb) (w : Vec F S2048x2048 .bf16) :
    (Memref.whole cc0_stg4_0).view.readAt (Elt F) (Rect.unit (s := S2048x2048) ![0, 512 * i.val] S2048x512.size inb).toLoadRect w = colW i w := by
  funext j
  show w _ = w _
  congr 1
  funext a
  match a with
  | ⟨0, _⟩ => exact Fin.ext (by show 0 + 1 * (j 0).val = (j 0).val; omega)
  | ⟨1, _⟩ => exact Fin.ext (by show 512 * i.val + 1 * (j 1).val = 512 * i.val + (j 1).val; omega)

/-! ## Slot 0 -/

theorem own_writeC (c : Dev nD) (f : Vec F S4x1024x128 .bf16) (j : S4x1024x128.Idx) (hj : j ∈ s0C.set) :
    ((Memref.whole cc0_scratch0).access s0C).write (Elt F) f (chC I c) Finset.univ j = fullC I c j := by
  obtain ⟨x, rfl⟩ : ∃ x, s0C.emb x = j := by
    obtain ⟨x, _, hx⟩ := Finset.mem_map.1 ((Rect.map_emb_univ _).symm ▸ hj)
    exact ⟨x, hx⟩
  refine (View.write_emb_of_mem (v := (Memref.whole cc0_scratch0).access s0C) _ _ (Finset.mem_univ x)).trans ?_
  have h0 : (s0C.emb x) 0 = (0 : Fin 4) := by
    have := (mem_s0C _).1 hj; exact Fin.ext this
  show chC I c x = chC I (org c ((s0C.emb x) 0) _) (inC (s0C.emb x))
  rw [h0, org_zero]
  congr 1
  funext a
  match a with
  | ⟨0, _⟩ => exact Fin.ext (by have : (x 0).val < 1 := (x 0).isLt; show (x 0).val = 0; omega)
  | ⟨1, _⟩ => exact Fin.ext (by show (x 1).val = 0 + 1 * (x 1).val; omega)
  | ⟨2, _⟩ => exact Fin.ext (by show (x 2).val = 0 + 1 * (x 2).val; omega)
theorem inU_s0U (x : S1x128x2048.Idx) : inU (s0U.emb x) = x := by
  funext a
  match a with
  | ⟨0, _⟩ => exact Fin.ext (by have : (x 0).val < 1 := (x 0).isLt; show 0 = (x 0).val; omega)
  | ⟨1, _⟩ => exact Fin.ext (by show 0 + 1 * (x 1).val = (x 1).val; omega)
  | ⟨2, _⟩ => exact Fin.ext (by show 0 + 1 * (x 2).val = (x 2).val; omega)
theorem own_writeK (c : Dev nD) (f : Vec F S4x128x2048 .bf16) (j : S4x128x2048.Idx) (hj : j ∈ s0U.set) :
    ((Memref.whole cc0_scratch1).access s0U).write (Elt F) f (chK I c) Finset.univ j = fullK I c j := by
  obtain ⟨x, rfl⟩ : ∃ x, s0U.emb x = j := by
    obtain ⟨x, _, hx⟩ := Finset.mem_map.1 ((Rect.map_emb_univ _).symm ▸ hj)
    exact ⟨x, hx⟩
  refine (View.write_emb_of_mem (v := (Memref.whole cc0_scratch1).access s0U) _ _ (Finset.mem_univ x)).trans ?_
  have h0 : (s0U.emb x) 0 = (0 : Fin 4) := Fin.ext ((mem_s0U _).1 hj)
  show chK I c x = chK I (org c ((s0U.emb x) 0) _) (inU (s0U.emb x))
  rw [h0, org_zero, inU_s0U]
theorem own_writeV (c : Dev nD) (f : Vec F S4x128x2048 .bf16) (j : S4x128x2048.Idx) (hj : j ∈ s0U.set) :
    ((Memref.whole cc0_scratch2).access s0U).write (Elt F) f (chV I c) Finset.univ j = fullV I c j := by
  obtain ⟨x, rfl⟩ : ∃ x, s0U.emb x = j := by
    obtain ⟨x, _, hx⟩ := Finset.mem_map.1 ((Rect.map_emb_univ _).symm ▸ hj)
    exact ⟨x, hx⟩
  refine (View.write_emb_of_mem (v := (Memref.whole cc0_scratch2).access s0U) _ _ (Finset.mem_univ x)).trans ?_
  have h0 : (s0U.emb x) 0 = (0 : Fin 4) := Fin.ext ((mem_s0U _).1 hj)
  show chV I c x = chV I (org c ((s0U.emb x) 0) _) (inU (s0U.emb x))
  rw [h0, org_zero, inU_s0U]

end Cert.Kernel.Talk

end
-- ==== Proof.Kernel.Access.lean ====
/- Loads and stores, at the buffers as they are held. -/
module

public import proofs.«01_k».proof.Proof.Kernel.Blocks
public import proofs.«01_k».proof.Proof.Gen.Kernel.Skeleton

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-- A buffer of device `c`, held whole. -/
abbrev at' (c : Dev nD) (b : Ref sig .tc) (f : Buf (Elt F) ((c : Thread nD τ).loc b)) : sProp 𝕄 := ((c : Thread nD τ).loc b) ↦{fullShare} f

theorem ent_of_eq {A B : sProp 𝕄} (h : A = B) : A ⊢ B := h ▸ BI.Entails.refl _

section Own
variable {α : Type} (c : Dev nD)

/-- Slot 0 of a scratch buffer, read (the value unused) and then written. -/
theorem wp_ownC {Q : α → sProp 𝕄} {hl hx hm} {w : Vec F S1x1024x128 .bf16} (hw : w = chC I c)
    {k : PUnit → Prog (TpuEff nD τ sig (Elt F) Λ₀ .tc) α} {f : Vec F S4x1024x128 .bf16} :
    ownC c f
      ⊢ iprop((ownC c (fullC I c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch0) s0C.toLoadRect hl) fun _ => .op (.store (Memref.whole cc0_scratch0) s0C w Finset.univ hx hm) k) Q) := by
  subst hw
  unfold ownC
  iintro H Hk
  iapply (wp_load 𝒱₀ (c : Thread nD τ) none Set.univ (m := Memref.whole cc0_scratch0) (S := s0C.set) ((View.set_slice (View.whole cc0_scratch0) s0C).symm.trans (View.set_slice_whole cc0_scratch0 s0C)).le) $$ H
  iintro H
  iapply (wp_store 𝒱₀ (c : Thread nD τ) none Set.univ (m := Memref.whole cc0_scratch0) (r := s0C) (Mk := Finset.univ) (S := s0C.set) (by rw [View.setOn_univ]; exact (View.set_slice_whole _ _).le)) $$ H
  iintro H
  iapply Hk
  iapply (ent_of_eq (pointsTo_congr (ℓ := (c : Thread nD τ).loc cc0_scratch0) (q := fullShare) (I := s0C.set)
    (f := ((Memref.whole cc0_scratch0).access s0C).write (Elt F) f (chC I c) Finset.univ) (g := fullC I c) (own_writeC I c f)))
  iexact H

theorem wp_ownK {Q : α → sProp 𝕄} {hl hx hm} {w : Vec F S1x128x2048 .bf16} (hw : w = chK I c)
    {k : PUnit → Prog (TpuEff nD τ sig (Elt F) Λ₀ .tc) α} {f : Vec F S4x128x2048 .bf16} :
    ownK c f
      ⊢ iprop((ownK c (fullK I c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch1) s0U.toLoadRect hl) fun _ => .op (.store (Memref.whole cc0_scratch1) s0U w Finset.univ hx hm) k) Q) := by
  subst hw
  unfold ownK
  iintro H Hk
  iapply (wp_load 𝒱₀ (c : Thread nD τ) none Set.univ (m := Memref.whole cc0_scratch1) (S := s0U.set) ((View.set_slice (View.whole cc0_scratch1) s0U).symm.trans (View.set_slice_whole cc0_scratch1 s0U)).le) $$ H
  iintro H
  iapply (wp_store 𝒱₀ (c : Thread nD τ) none Set.univ (m := Memref.whole cc0_scratch1) (r := s0U) (Mk := Finset.univ) (S := s0U.set) (by rw [View.setOn_univ]; exact (View.set_slice_whole _ _).le)) $$ H
  iintro H
  iapply Hk
  iapply (ent_of_eq (pointsTo_congr (ℓ := (c : Thread nD τ).loc cc0_scratch1) (q := fullShare) (I := s0U.set)
    (f := ((Memref.whole cc0_scratch1).access s0U).write (Elt F) f (chK I c) Finset.univ) (g := fullK I c) (own_writeK I c f)))
  iexact H

theorem wp_ownV {Q : α → sProp 𝕄} {hl hx hm} {w : Vec F S1x128x2048 .bf16} (hw : w = chV I c)
    {k : PUnit → Prog (TpuEff nD τ sig (Elt F) Λ₀ .tc) α} {f : Vec F S4x128x2048 .bf16} :
    ownV c f
      ⊢ iprop((ownV c (fullV I c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch2) s0U.toLoadRect hl) fun _ => .op (.store (Memref.whole cc0_scratch2) s0U w Finset.univ hx hm) k) Q) := by
  subst hw
  unfold ownV
  iintro H Hk
  iapply (wp_load 𝒱₀ (c : Thread nD τ) none Set.univ (m := Memref.whole cc0_scratch2) (S := s0U.set) ((View.set_slice (View.whole cc0_scratch2) s0U).symm.trans (View.set_slice_whole cc0_scratch2 s0U)).le) $$ H
  iintro H
  iapply (wp_store 𝒱₀ (c : Thread nD τ) none Set.univ (m := Memref.whole cc0_scratch2) (r := s0U) (Mk := Finset.univ) (S := s0U.set) (by rw [View.setOn_univ]; exact (View.set_slice_whole _ _).le)) $$ H
  iintro H
  iapply Hk
  iapply (ent_of_eq (pointsTo_congr (ℓ := (c : Thread nD τ).loc cc0_scratch2) (q := fullShare) (I := s0U.set)
    (f := ((Memref.whole cc0_scratch2).access s0U).write (Elt F) f (chV I c) Finset.univ) (g := fullV I c) (own_writeV I c f)))
  iexact H

/-- A block of columns of a result, read (the value unused) and then written. -/
theorem wp_col7 (i : Fin 4) {Q : α → sProp 𝕄} {inb hl hx hm} {w : Vec F S1024x512 .bf16}
    {k : PUnit → Prog (TpuEff nD τ sig (Elt F) Λ₀ .tc) α} {f : Vec F S1024x2048 .bf16} :
    at' c cc0_stg7_0 f
      ⊢ iprop((at' c cc0_stg7_0 (putCol i f w) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg7_0) (Rect.unit (s := S1024x2048) ![0, 512 * i.val] S1024x512.size inb).toLoadRect hl) fun _ =>
                .op (.store (Memref.whole cc0_stg7_0) (Rect.unit (s := S1024x2048) ![0, 512 * i.val] S1024x512.size inb) w Finset.univ hx hm) k) Q) := by
  iintro H Hk
  iapply (wp_load 𝒱₀ (c : Thread nD τ) none Set.univ (m := Memref.whole cc0_stg7_0) (Finset.subset_univ _)) $$ H
  iintro H
  iapply (wp_store 𝒱₀ (c : Thread nD τ) none Set.univ (m := Memref.whole cc0_stg7_0) (r := colR i) (Mk := Finset.univ) (Finset.subset_univ _)) $$ H
  iintro H
  iapply Hk
  rw [← put7 i f w]
  iexact H

theorem wp_col8 (i : Fin 4) {Q : α → sProp 𝕄} {inb hl hx hm} {w : Vec F S1024x512 .bf16}
    {k : PUnit → Prog (TpuEff nD τ sig (Elt F) Λ₀ .tc) α} {f : Vec F S1024x2048 .bf16} :
    at' c cc0_stg8_0 f
      ⊢ iprop((at' c cc0_stg8_0 (putCol i f w) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg8_0) (Rect.unit (s := S1024x2048) ![0, 512 * i.val] S1024x512.size inb).toLoadRect hl) fun _ =>
                .op (.store (Memref.whole cc0_stg8_0) (Rect.unit (s := S1024x2048) ![0, 512 * i.val] S1024x512.size inb) w Finset.univ hx hm) k) Q) := by
  iintro H Hk
  iapply (wp_load 𝒱₀ (c : Thread nD τ) none Set.univ (m := Memref.whole cc0_stg8_0) (Finset.subset_univ _)) $$ H
  iintro H
  iapply (wp_store 𝒱₀ (c : Thread nD τ) none Set.univ (m := Memref.whole cc0_stg8_0) (r := colR i) (Mk := Finset.univ) (Finset.subset_univ _)) $$ H
  iintro H
  iapply Hk
  rw [← put8 i f w]
  iexact H

theorem wp_col9 (i : Fin 4) {Q : α → sProp 𝕄} {inb hl hx hm} {w : Vec F S1024x512 .bf16}
    {k : PUnit → Prog (TpuEff nD τ sig (Elt F) Λ₀ .tc) α} {f : Vec F S1024x2048 .bf16} :
    at' c cc0_stg9_0 f
      ⊢ iprop((at' c cc0_stg9_0 (putCol i f w) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg9_0) (Rect.unit (s := S1024x2048) ![0, 512 * i.val] S1024x512.size inb).toLoadRect hl) fun _ =>
                .op (.store (Memref.whole cc0_stg9_0) (Rect.unit (s := S1024x2048) ![0, 512 * i.val] S1024x512.size inb) w Finset.univ hx hm) k) Q) := by
  iintro H Hk
  iapply (wp_load 𝒱₀ (c : Thread nD τ) none Set.univ (m := Memref.whole cc0_stg9_0) (Finset.subset_univ _)) $$ H
  iintro H
  iapply (wp_store 𝒱₀ (c : Thread nD τ) none Set.univ (m := Memref.whole cc0_stg9_0) (r := colR i) (Mk := Finset.univ) (Finset.subset_univ _)) $$ H
  iintro H
  iapply Hk
  rw [← put9 i f w]
  iexact H

/-- A whole result, read (the value unused) and then written. -/
theorem wp_out10 {Q : α → sProp 𝕄} {inb hl hx hm} {w : Vec F S1024x512 .bf16}
    {k : PUnit → Prog (TpuEff nD τ sig (Elt F) Λ₀ .tc) α} {f : Vec F S1024x512 .bf16} :
    at' c cc0_stg10_0 f
      ⊢ iprop((at' c cc0_stg10_0 w -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg10_0) (Rect.unit (s := S1024x512) ![0, 0] S1024x512.size inb).toLoadRect hl) fun _ =>
                .op (.store (Memref.whole cc0_stg10_0) (Rect.unit (s := S1024x512) ![0, 0] S1024x512.size inb) w Finset.univ hx hm) k) Q) := by
  iintro H Hk
  iapply (wp_load 𝒱₀ (c : Thread nD τ) none Set.univ (m := Memref.whole cc0_stg10_0) (Finset.subset_univ _)) $$ H
  iintro H
  iapply (wp_store 𝒱₀ (c : Thread nD τ) none Set.univ (m := Memref.whole cc0_stg10_0) (r := Rect.unit (s := S1024x512) ![0, 0] S1024x512.size inb) (Mk := Finset.univ) (Finset.subset_univ _)) $$ H
  iintro H
  iapply Hk
  rw [show ((Memref.whole cc0_stg10_0).access (Rect.unit (s := S1024x512) ![0, 0] S1024x512.size inb)).write (Elt F) f w Finset.univ = w from
    Memref.write_access_unit_zero_univ (Elt F) cc0_stg10_0 (by decide) inb f w]
  iexact H

theorem wp_out11 {Q : α → sProp 𝕄} {inb hl hx hm} {w : Vec F S1024x32 .bf16}
    {k : PUnit → Prog (TpuEff nD τ sig (Elt F) Λ₀ .tc) α} {f : Vec F S1024x32 .bf16} :
    at' c cc0_stg11_0 f
      ⊢ iprop((at' c cc0_stg11_0 w -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg11_0) (Rect.unit (s := S1024x32) ![0, 0] S1024x32.size inb).toLoadRect hl) fun _ =>
                .op (.store (Memref.whole cc0_stg11_0) (Rect.unit (s := S1024x32) ![0, 0] S1024x32.size inb) w Finset.univ hx hm) k) Q) := by
  iintro H Hk
  iapply (wp_load 𝒱₀ (c : Thread nD τ) none Set.univ (m := Memref.whole cc0_stg11_0) (Finset.subset_univ _)) $$ H
  iintro H
  iapply (wp_store 𝒱₀ (c : Thread nD τ) none Set.univ (m := Memref.whole cc0_stg11_0) (r := Rect.unit (s := S1024x32) ![0, 0] S1024x32.size inb) (Mk := Finset.univ) (Finset.subset_univ _)) $$ H
  iintro H
  iapply Hk
  rw [show ((Memref.whole cc0_stg11_0).access (Rect.unit (s := S1024x32) ![0, 0] S1024x32.size inb)).write (Elt F) f w Finset.univ = w from
    Memref.write_access_unit_zero_univ (Elt F) cc0_stg11_0 (by decide) inb f w]
  iexact H

/-- A whole argument, read. -/
theorem wp_in0 {Q : α → sProp 𝕄} {inb hl} {k : Vec F S1024x2048 .bf16 → Prog (TpuEff nD τ sig (Elt F) Λ₀ .tc) α} {f : Vec F S1024x2048 .bf16} :
    at' c cc0_stg0_0 f
      ⊢ iprop((at' c cc0_stg0_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg0_0) (Rect.unit (s := S1024x2048) ![0, 0] S1024x2048.size inb).toLoadRect hl) k) Q) := by
  iintro H Hk
  iapply (wp_load 𝒱₀ (c : Thread nD τ) none Set.univ (m := Memref.whole cc0_stg0_0) (Finset.subset_univ _)) $$ H
  iintro H
  rw [show (Memref.whole cc0_stg0_0).view.readAt (Elt F) (Rect.unit (s := S1024x2048) ![0, 0] S1024x2048.size inb).toLoadRect f = f from
    Memref.readAt_unit_zero (Elt F) cc0_stg0_0 (by decide) inb f]
  iapply Hk $$ H

theorem wp_in1 {Q : α → sProp 𝕄} {inb hl} {k : Vec F S2048x128 .bf16 → Prog (TpuEff nD τ sig (Elt F) Λ₀ .tc) α} {f : Vec F S2048x128 .bf16} :
    at' c cc0_stg1_0 f
      ⊢ iprop((at' c cc0_stg1_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg1_0) (Rect.unit (s := S2048x128) ![0, 0] S2048x128.size inb).toLoadRect hl) k) Q) := by
  iintro H Hk
  iapply (wp_load 𝒱₀ (c : Thread nD τ) none Set.univ (m := Memref.whole cc0_stg1_0) (Finset.subset_univ _)) $$ H
  iintro H
  rw [show (Memref.whole cc0_stg1_0).view.readAt (Elt F) (Rect.unit (s := S2048x128) ![0, 0] S2048x128.size inb).toLoadRect f = f from
    Memref.readAt_unit_zero (Elt F) cc0_stg1_0 (by decide) inb f]
  iapply Hk $$ H

theorem wp_in2 {Q : α → sProp 𝕄} {inb hl} {k : Vec F S128x2048 .bf16 → Prog (TpuEff nD τ sig (Elt F) Λ₀ .tc) α} {f : Vec F S128x2048 .bf16} :
    at' c cc0_stg2_0 f
      ⊢ iprop((at' c cc0_stg2_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg2_0) (Rect.unit (s := S128x2048) ![0, 0] S128x2048.size inb).toLoadRect hl) k) Q) := by
  iintro H Hk
  iapply (wp_load 𝒱₀ (c : Thread nD τ) none Set.univ (m := Memref.whole cc0_stg2_0) (Finset.subset_univ _)) $$ H
  iintro H
  rw [show (Memref.whole cc0_stg2_0).view.readAt (Elt F) (Rect.unit (s := S128x2048) ![0, 0] S128x2048.size inb).toLoadRect f = f from
    Memref.readAt_unit_zero (Elt F) cc0_stg2_0 (by decide) inb f]
  iapply Hk $$ H

theorem wp_in3 {Q : α → sProp 𝕄} {inb hl} {k : Vec F S128x2048 .bf16 → Prog (TpuEff nD τ sig (Elt F) Λ₀ .tc) α} {f : Vec F S128x2048 .bf16} :
    at' c cc0_stg3_0 f
      ⊢ iprop((at' c cc0_stg3_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg3_0) (Rect.unit (s := S128x2048) ![0, 0] S128x2048.size inb).toLoadRect hl) k) Q) := by
  iintro H Hk
  iapply (wp_load 𝒱₀ (c : Thread nD τ) none Set.univ (m := Memref.whole cc0_stg3_0) (Finset.subset_univ _)) $$ H
  iintro H
  rw [show (Memref.whole cc0_stg3_0).view.readAt (Elt F) (Rect.unit (s := S128x2048) ![0, 0] S128x2048.size inb).toLoadRect f = f from
    Memref.readAt_unit_zero (Elt F) cc0_stg3_0 (by decide) inb f]
  iapply Hk $$ H

theorem wp_in5 {Q : α → sProp 𝕄} {inb hl} {k : Vec F S2048x512 .bf16 → Prog (TpuEff nD τ sig (Elt F) Λ₀ .tc) α} {f : Vec F S2048x512 .bf16} :
    at' c cc0_stg5_0 f
      ⊢ iprop((at' c cc0_stg5_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg5_0) (Rect.unit (s := S2048x512) ![0, 0] S2048x512.size inb).toLoadRect hl) k) Q) := by
  iintro H Hk
  iapply (wp_load 𝒱₀ (c : Thread nD τ) none Set.univ (m := Memref.whole cc0_stg5_0) (Finset.subset_univ _)) $$ H
  iintro H
  rw [show (Memref.whole cc0_stg5_0).view.readAt (Elt F) (Rect.unit (s := S2048x512) ![0, 0] S2048x512.size inb).toLoadRect f = f from
    Memref.readAt_unit_zero (Elt F) cc0_stg5_0 (by decide) inb f]
  iapply Hk $$ H

theorem wp_in6 {Q : α → sProp 𝕄} {inb hl} {k : Vec F S2048x32 .bf16 → Prog (TpuEff nD τ sig (Elt F) Λ₀ .tc) α} {f : Vec F S2048x32 .bf16} :
    at' c cc0_stg6_0 f
      ⊢ iprop((at' c cc0_stg6_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg6_0) (Rect.unit (s := S2048x32) ![0, 0] S2048x32.size inb).toLoadRect hl) k) Q) := by
  iintro H Hk
  iapply (wp_load 𝒱₀ (c : Thread nD τ) none Set.univ (m := Memref.whole cc0_stg6_0) (Finset.subset_univ _)) $$ H
  iintro H
  rw [show (Memref.whole cc0_stg6_0).view.readAt (Elt F) (Rect.unit (s := S2048x32) ![0, 0] S2048x32.size inb).toLoadRect f = f from
    Memref.readAt_unit_zero (Elt F) cc0_stg6_0 (by decide) inb f]
  iapply Hk $$ H

/-- A block of columns of the query projection, read. -/
theorem wp_in4 (i : Fin 4) {Q : α → sProp 𝕄} {inb hl} {k : Vec F S2048x512 .bf16 → Prog (TpuEff nD τ sig (Elt F) Λ₀ .tc) α} {f : Vec F S2048x2048 .bf16} :
    at' c cc0_stg4_0 f
      ⊢ iprop((at' c cc0_stg4_0 f -∗ wp frame (wpE (defs₀ (F := F)) 𝒱₀ (c : Thread nD τ) none) Set.univ (k (colW i f)) Q)
          -∗ wp frame (wpE (defs₀ (F := F)) 𝒱₀ (c : Thread nD τ) none) Set.univ
              (.op (.load (Memref.whole cc0_stg4_0) (Rect.unit (s := S2048x2048) ![0, 512 * i.val] S2048x512.size inb).toLoadRect hl) k) Q) := by
  iintro H Hk
  iapply (wp_load 𝒱₀ (c : Thread nD τ) none Set.univ (m := Memref.whole cc0_stg4_0) (Finset.subset_univ _)) $$ H
  iintro H
  rw [colW_read]
  iapply Hk $$ H
end Own

end Cert.Kernel.Talk

end
-- ==== Proof.Kernel.Part39.lean ====
/- The device's own chunks, and the first hop. -/
module

public import proofs.«01_k».proof.Proof.Kernel.Access

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## Which branch a device takes, and where its copies go -/

theorem conds (c : Dev nD) (p : Fin 2) (hp : par c = p) :
    (k0_cond1 c = 1#1) = (p = 0)
    ∧ (k0_cond2 c = 1#1) = (p = 1)
    ∧ (k0_cond3 c = 1#1) = (p = 0)
    ∧ (k0_cond4 c = 1#1) = (p = 1)
    ∧ (k0_cond5 c = 1#1) = (p = 0)
    ∧ (k0_cond6 c = 1#1) = (p = 1)
    ∧ (k0_cond7 c = 1#1) = (p = 0)
    ∧ (k0_cond8 c = 1#1) = (p = 1)
    ∧ (k0_cond9 c = 1#1) = (p = 0)
    ∧ (k0_cond10 c = 1#1) = (p = 1)
    ∧ (k0_cond11 c = 1#1) = (p = 0)
    ∧ (k0_cond12 c = 1#1) = (p = 1) := by
  subst hp; revert c; decide +kernel
/-- Three devices, all `d`. -/
def Are (d : Dev nD) (a b e : ℕ) : Prop := a = d.val ∧ b = d.val ∧ e = d.val
instance (d : Dev nD) (a b e : ℕ) : Decidable (Are d a b e) := by unfold Are; infer_instance
theorem Are.get {d : Dev nD} {a b e : ℕ} (h : Are d a b e) :
    (∀ h, (⟨a, h⟩ : Dev nD) = d) ∧ (∀ h, (⟨b, h⟩ : Dev nD) = d) ∧ ∀ h, (⟨e, h⟩ : Dev nD) = d :=
  ⟨fun _ => Fin.ext h.1, fun _ => Fin.ext h.2.1, fun _ => Fin.ext h.2.2⟩
theorem are4 (c : Dev nD) : Are (peer 0 c) (k0_dev4 c) (k0_dev5 c) (k0_dev6 c) := by revert c; decide +kernel
theorem are7 (c : Dev nD) : Are (peer 0 c) (k0_dev7 c) (k0_dev8 c) (k0_dev9 c) := by revert c; decide +kernel
theorem are10 (c : Dev nD) : Are (peer 1 c) (k0_dev10 c) (k0_dev11 c) (k0_dev12 c) := by revert c; decide +kernel
theorem are13 (c : Dev nD) : Are (peer 1 c) (k0_dev13 c) (k0_dev14 c) (k0_dev15 c) := by revert c; decide +kernel
theorem are16 (c : Dev nD) : Are (peer 0 c) (k0_dev16 c) (k0_dev17 c) (k0_dev18 c) := by revert c; decide +kernel
theorem are19 (c : Dev nD) : Are (peer 0 c) (k0_dev19 c) (k0_dev20 c) (k0_dev21 c) := by revert c; decide +kernel
theorem are22 (c : Dev nD) : Are (peer 1 c) (k0_dev22 c) (k0_dev23 c) (k0_dev24 c) := by revert c; decide +kernel
theorem are25 (c : Dev nD) : Are (peer 1 c) (k0_dev25 c) (k0_dev26 c) (k0_dev27 c) := by revert c; decide +kernel
theorem are28 (c : Dev nD) : Are (peer 0 c) (k0_dev28 c) (k0_dev29 c) (k0_dev30 c) := by revert c; decide +kernel
theorem are31 (c : Dev nD) : Are (peer 0 c) (k0_dev31 c) (k0_dev32 c) (k0_dev33 c) := by revert c; decide +kernel
theorem are34 (c : Dev nD) : Are (peer 1 c) (k0_dev34 c) (k0_dev35 c) (k0_dev36 c) := by revert c; decide +kernel
theorem are37 (c : Dev nD) : Are (peer 1 c) (k0_dev37 c) (k0_dev38 c) (k0_dev39 c) := by revert c; decide +kernel

section Part
variable (K : KN) (c : Dev nD) {l : List CP}

/-- The device's own chunks go to slot 0, the first hop starts, and one block of the queries is computed. -/
theorem wp_part39 {α : Type} {Q : α → sProp 𝕄} {kk : (Σ' (v94 : BitVec 32), BitVec 32) → Prog (TpuEff nD τ sig (Elt F) Λ₀ .tc) α}
    (f0 : Vec F S4x1024x128 .bf16) (f1 f2 : Vec F S4x128x2048 .bf16) (f9 : Vec F S1024x2048 .bf16) (v2 v5 v30 v40 : BitVec 32) :
    owesA I K c ((0, 0, 0) :: (0, 1, 0) :: (0, 2, 0) :: l)
      ⊢ iprop(Tri (fun t => Pre 0 c t 0) -∗ Land3 0 c 0 -∗ ownC c f0 -∗ ownK c f1 -∗ ownV c f2
          -∗ at' c cc0_stg2_0 (I.wk c) -∗ at' c cc0_stg3_0 (I.wv c) -∗ at' c cc0_stg4_0 (I.wq c) -∗ at' c cc0_stg9_0 f9
          -∗ (∀ r, owesA I K c l -∗ Tri (fun t => Fly 0 c t 0) -∗ Tri (fun t => keep I c t)
              -∗ at' c cc0_stg2_0 (I.wk c) -∗ at' c cc0_stg3_0 (I.wv c) -∗ at' c cc0_stg4_0 (I.wq c)
              -∗ at' c cc0_stg9_0 (putCol 0 f9 (k0_pay6 (k0_pay2 (I.x c)) (colW 0 (I.wq c))))
              -∗ wp frame (wpE (defs₀ (F := F)) 𝒱₀ (c : Thread nD τ) none) Set.univ (kk r) Q)
          -∗ wp frame (wpE (defs₀ (F := F)) 𝒱₀ (c : Thread nD τ) none) Set.univ
              (k0_part39 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 c v2 v5 v30 v40 (k0_pay2 (I.x c)) (I.wd c) >>= kk) Q) := by
  rw [k0_part39_eq_skeleton]; unfold k0_part39_skel
  iintro HO HP HL H0 H1 H2 G2 G3 G4 G9 Hk
  have hc := conds c (par c) rfl
  rcases fin2 (par c) with hp | hp <;> rw [hp] at hc
  case' inl =>
    have h1 : k0_cond1 c = 1#1 := by rw [hc.1]
    have h2 : ¬ k0_cond2 c = 1#1 := by rw [hc.2.1]; decide
    have e := (are4 c).get
    simp only [dif_pos h1, dif_neg h2, k0_part1_eq_skeleton]; unfold k0_part1_skel
    simp only [Prog.lift, Prog.bind_op, Prog.bind_ret, Prog.pure_eq_ret]
  case' inr =>
    have h1 : ¬ k0_cond1 c = 1#1 := by rw [hc.1]; decide
    have h2 : k0_cond2 c = 1#1 := by rw [hc.2.1]
    have e := (are7 c).get
    simp only [dif_neg h1, dif_pos h2, k0_part2_eq_skeleton]; unfold k0_part2_skel
    simp only [Prog.lift, Prog.bind_op, Prog.bind_ret, Prog.pure_eq_ret]
  all_goals
    iapply (wp_ownC I c rfl) $$ H0
    iintro H0
    iapply (wp_in2 c) $$ G2
    iintro G2
    iapply (wp_ownK I c rfl) $$ H1
    iintro H1
    iapply (wp_in3 c) $$ G3
    iintro G3
    iapply (wp_ownV I c rfl) $$ H2
    iintro H2
    ihave J0 := (forkC I c) $$ H0
    icases J0 with ⟨S0, K0⟩
    ihave J1 := (forkK I c) $$ H1
    icases J1 with ⟨S1, K1⟩
    ihave J2 := (forkV I c) $$ H2
    icases J2 with ⟨S2, K2⟩
    iapply (wp_start3 I K 0 0 c (e.1 _) (e.2.1 _) (e.2.2 _) hp
      rfl rfl rfl rfl rfl rfl rfl rfl rfl rfl rfl rfl) $$ HO HP HL [S0 S1 S2]
    · unfold Tri
      isplitl [S0]; · iexact S0
      isplitl [S1]; · iexact S1
      iexact S2
    iintro HO HF
    iapply (wp_in4 c 0) $$ G4
    iintro G4
    iapply (wp_col9 c 0) $$ G9
    iintro G9
    iapply Hk $$ HO HF [K0 K1 K2] G2 G3 G4 G9
    unfold Tri
    isplitl [K0]; · iexact K0
    isplitl [K1]; · iexact K1
    iexact K2

end Part

end Cert.Kernel.Talk

end
-- ==== Proof.Kernel.Part40.lean ====
/- The first two hops. -/
module

public import proofs.«01_k».proof.Proof.Kernel.Part39

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-- The copies still to be started after the first 15, 12, … of them. -/
abbrev l3 : List CP := [(1, 0, 2), (1, 1, 2), (1, 2, 2)]
abbrev l6 : List CP := (0, 0, 2) :: (0, 1, 2) :: (0, 2, 2) :: l3
abbrev l9 : List CP := (1, 0, 1) :: (1, 1, 1) :: (1, 2, 1) :: l6
abbrev l12 : List CP := (0, 0, 1) :: (0, 1, 1) :: (0, 2, 1) :: l9
abbrev l15 : List CP := (1, 0, 0) :: (1, 1, 0) :: (1, 2, 0) :: l12

section Part
variable (K : KN) (c : Dev nD)

/-- The last hop around the ring, not started yet. -/
def Hold : sProp 𝕄 :=
  iprop(owesA I K c l6 ∗ Tri (fun t => Pre 0 c t 2) ∗ Land3 0 c 2 ∗ Tri (fun t => srcP I 0 c t 2))
/-- The last hop, started. -/
def Gone : sProp 𝕄 := iprop(owesA I K c l3 ∗ Tri (fun t => Fly 0 c t 2))
/-- Devices of even `y` start the last hop a stage before the others do. -/
def Last (p : Fin 2) : sProp 𝕄 := match p with
  | 0 => Gone I K c
  | 1 => Hold I K c

set_option maxHeartbeats 1000000 in
/-- The first hop is waited for and passed on to the partner, then the second; the last one starts on half the devices. -/
theorem wp_part40 {α : Type} {Q : α → sProp 𝕄} {kk : PUnit → Prog (TpuEff nD τ sig (Elt F) Λ₀ .tc) α}
    (f9 : Vec F S1024x2048 .bf16) (v2 v5 v8 v30 v40 v43 v94 v0 : BitVec 32) :
    owesA I K c l15
      ⊢ iprop(Tri (fun t => Fly 0 c t 0) -∗ Tri (fun t => Pre 1 c t 0) -∗ Land3 1 c 0 -∗ Tri (fun t => Pre 0 c t 1) -∗ Land3 0 c 1
          -∗ Tri (fun t => Pre 1 c t 1) -∗ Land3 1 c 1 -∗ Tri (fun t => Pre 0 c t 2) -∗ Land3 0 c 2
          -∗ at' c cc0_stg4_0 (I.wq c) -∗ at' c cc0_stg9_0 f9
          -∗ (Last I K c (par c) -∗ Tri (fun t => Fly 1 c t 0) -∗ Tri (fun t => Fly 1 c t 1)
              -∗ Tri (fun t => srcP I 0 c t 0) -∗ Tri (fun t => srcP I 0 c t 1) -∗ Tri (fun t => Zero (F := F) 0 c t 0) -∗ Tri (fun t => Zero (F := F) 0 c t 1)
              -∗ at' c cc0_stg4_0 (I.wq c)
              -∗ at' c cc0_stg9_0 (putCol 2 (putCol 1 f9 (k0_pay7 (k0_pay2 (I.x c)) (colW 1 (I.wq c)))) (k0_pay8 (k0_pay2 (I.x c)) (colW 2 (I.wq c))))
              -∗ wp frame (wpE (defs₀ (F := F)) 𝒱₀ (c : Thread nD τ) none) Set.univ (kk ⟨⟩) Q)
          -∗ wp frame (wpE (defs₀ (F := F)) 𝒱₀ (c : Thread nD τ) none) Set.univ
              (k0_part40 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 c v2 v5 v8 v30 v40 v43 (k0_pay2 (I.x c)) v94 v0 >>= kk) Q) := by
  rw [k0_part40_eq_skeleton]; unfold k0_part40_skel
  iintro HO HF HP1 HL1 HP2 HL2 HP3 HL3 HP4 HL4 G4 G9 Hk
  have hc := conds c (par c) rfl
  rcases fin2 (par c) with hp | hp <;> rw [hp] at hc ⊢ <;> obtain ⟨-, -, h3, h4, h5, h6, h7, h8, h9, -, -, -⟩ := hc
  case' inl =>
    have h3 : k0_cond3 c = 1#1 := by rw [h3]
    have h4 : ¬ k0_cond4 c = 1#1 := by rw [h4]; decide
    have h5 : k0_cond5 c = 1#1 := by rw [h5]
    have h6 : ¬ k0_cond6 c = 1#1 := by rw [h6]; decide
    have h7 : k0_cond7 c = 1#1 := by rw [h7]
    have h8 : ¬ k0_cond8 c = 1#1 := by rw [h8]; decide
    have h9 : k0_cond9 c = 1#1 := by rw [h9]
    have e1 := (are10 c).get
    have e2 := (are16 c).get
    have e3 := (are22 c).get
    have e4 := (are28 c).get
    simp only [dif_pos h3, dif_neg h4, dif_pos h5, dif_neg h6, dif_pos h7, dif_neg h8, dif_pos h9, k0_part3_eq_skeleton, k0_part4_eq_skeleton,
      k0_part5_eq_skeleton, k0_part9_eq_skeleton, k0_part11_eq_skeleton, k0_part12_eq_skeleton, k0_part13_eq_skeleton, k0_part17_eq_skeleton]
    unfold k0_part3_skel k0_part4_skel k0_part5_skel k0_part9_skel k0_part11_skel k0_part12_skel k0_part13_skel k0_part17_skel
    simp only [Prog.lift, Prog.bind_op, Prog.bind_ret, Prog.pure_eq_ret]
  case' inr =>
    have h3 : ¬ k0_cond3 c = 1#1 := by rw [h3]; decide
    have h4 : k0_cond4 c = 1#1 := by rw [h4]
    have h5 : ¬ k0_cond5 c = 1#1 := by rw [h5]; decide
    have h6 : k0_cond6 c = 1#1 := by rw [h6]
    have h7 : ¬ k0_cond7 c = 1#1 := by rw [h7]; decide
    have h8 : k0_cond8 c = 1#1 := by rw [h8]
    have h9 : ¬ k0_cond9 c = 1#1 := by rw [h9]; decide
    have e1 := (are13 c).get
    have e2 := (are19 c).get
    have e3 := (are25 c).get
    simp only [dif_neg h3, dif_pos h4, dif_neg h5, dif_pos h6, dif_neg h7, dif_pos h8, dif_neg h9, k0_part6_eq_skeleton, k0_part7_eq_skeleton,
      k0_part8_eq_skeleton, k0_part10_eq_skeleton, k0_part14_eq_skeleton, k0_part15_eq_skeleton, k0_part16_eq_skeleton]
    unfold k0_part6_skel k0_part7_skel k0_part8_skel k0_part10_skel k0_part14_skel k0_part15_skel k0_part16_skel
    simp only [Prog.lift, Prog.bind_op, Prog.bind_ret, Prog.pure_eq_ret]
  all_goals
    iapply (wp_wait3 I K 0 0 c rfl rfl rfl rfl rfl rfl (by decide) (by rfl) (by rfl) (by rfl) (by rfl) (by rfl) (by rfl)) $$ HO HF
    iintro HO R0 D0 Z0
    ihave J := (landed_two3 I c 0) $$ D0
    icases J with ⟨S1, S2⟩
    ihave S2 := (show Tri (fun t => nextP I c t 0) ⊢ Tri (fun t => srcP I 0 c t 1) from BI.Entails.refl _) $$ S2
    iapply (wp_start3 I K 1 0 c (e1.1 _) (e1.2.1 _) (e1.2.2 _) hp rfl rfl rfl rfl rfl rfl rfl rfl rfl rfl rfl rfl) $$ HO HP1 HL1 S1
    iintro HO HF1
    iapply (wp_start3 I K 0 1 c (e2.1 _) (e2.2.1 _) (e2.2.2 _) hp rfl rfl rfl rfl rfl rfl rfl rfl rfl rfl rfl rfl) $$ HO HP2 HL2 S2
    iintro HO HF2
    iapply (wp_in4 c 1) $$ G4
    iintro G4
    iapply (wp_col9 c 1) $$ G9
    iintro G9
    iapply (wp_in4 c 2) $$ G4
    iintro G4
    iapply (wp_col9 c 2) $$ G9
    iintro G9
    iapply (wp_wait3 I K 0 1 c rfl rfl rfl rfl rfl rfl (by decide) (by rfl) (by rfl) (by rfl) (by rfl) (by rfl) (by rfl)) $$ HO HF2
    iintro HO R1 D1 Z1
    ihave J := (landed_two3 I c 1) $$ D1
    icases J with ⟨S3, S4⟩
    ihave S4 := (show Tri (fun t => nextP I c t 1) ⊢ Tri (fun t => srcP I 0 c t 2) from BI.Entails.refl _) $$ S4
    iapply (wp_start3 I K 1 1 c (e3.1 _) (e3.2.1 _) (e3.2.2 _) hp rfl rfl rfl rfl rfl rfl rfl rfl rfl rfl rfl rfl) $$ HO HP3 HL3 S3
    iintro HO HF3
  · iapply Hk $$ [HO HP4 HL4 S4] HF1 HF3 R0 R1 Z0 Z1 G4 G9
    simp only [Last, Hold]
    isplitl [HO]; · iexact HO
    isplitl [HP4]; · iexact HP4
    isplitl [HL4]; · iexact HL4
    iexact S4
  · iapply (wp_start3 I K 0 2 c (e4.1 _) (e4.2.1 _) (e4.2.2 _) hp rfl rfl rfl rfl rfl rfl rfl rfl rfl rfl rfl rfl) $$ HO HP4 HL4 S4
    iintro HO HF4
    iapply Hk $$ [HO HF4] HF1 HF3 R0 R1 Z0 Z1 G4 G9
    simp only [Last, Gone]
    isplitl [HO]; · iexact HO
    iexact HF4

end Part

end Cert.Kernel.Talk

end
-- ==== Proof.Kernel.Part41.lean ====
/- The last hop. -/
module

public import proofs.«01_k».proof.Proof.Kernel.Part40

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-- The device's parity, as the program computes it. -/
def word (p : Fin 2) : BitVec 32 := match p with
  | 0 => 0#32
  | 1 => 1#32

section Part
variable (K : KN) (c : Dev nD)

/-- All copies started, those between partners still under way. -/
def Away : sProp 𝕄 :=
  iprop(owesA I K c [] ∗ Tri (fun t => Fly 1 c t 0) ∗ Tri (fun t => Fly 1 c t 1) ∗ Tri (fun t => Fly 1 c t 2))
/-- Those as well have been read and have landed. -/
def Home : sProp 𝕄 :=
  iprop(owesA I K c [] ∗ (Tri (fun t => srcP I 1 c t 0) ∗ Tri (fun t => dstP I 1 c t 0) ∗ Tri (fun t => Zero (F := F) 1 c t 0))
    ∗ (Tri (fun t => srcP I 1 c t 1) ∗ Tri (fun t => dstP I 1 c t 1) ∗ Tri (fun t => Zero (F := F) 1 c t 1))
    ∗ (Tri (fun t => srcP I 1 c t 2) ∗ Tri (fun t => dstP I 1 c t 2) ∗ Tri (fun t => Zero (F := F) 1 c t 2)))
def Swap (p : Fin 2) : sProp 𝕄 := match p with
  | 0 => Home I K c
  | 1 => Away I K c

set_option maxHeartbeats 1000000 in
/-- The last hop, and on devices of even `y` the last waits. -/
theorem wp_part41 {α : Type} {Q : α → sProp 𝕄} {kk : BitVec 32 → Prog (TpuEff nD τ sig (Elt F) Λ₀ .tc) α}
    (f9 : Vec F S1024x2048 .bf16) (f10 : Vec F S1024x512 .bf16) (f11 : Vec F S1024x32 .bf16) (v2 v5 v8 v30 v43 : BitVec 32) :
    Last I K c (par c)
      ⊢ iprop(Tri (fun t => Fly 1 c t 0) -∗ Tri (fun t => Fly 1 c t 1) -∗ Tri (fun t => Pre 1 c t 2) -∗ Land3 1 c 2
          -∗ at' c cc0_stg4_0 (I.wq c) -∗ at' c cc0_stg5_0 (I.wqr c) -∗ at' c cc0_stg6_0 (I.wkr c)
          -∗ at' c cc0_stg9_0 f9 -∗ at' c cc0_stg10_0 f10 -∗ at' c cc0_stg11_0 f11
          -∗ (Swap I K c (par c) -∗ Tri (fun t => srcP I 0 c t 2) -∗ Tri (fun t => nextP I c t 2) -∗ Tri (fun t => Zero (F := F) 0 c t 2)
              -∗ at' c cc0_stg4_0 (I.wq c) -∗ at' c cc0_stg5_0 (I.wqr c) -∗ at' c cc0_stg6_0 (I.wkr c)
              -∗ at' c cc0_stg9_0 (putCol 3 f9 (k0_pay9 (k0_pay2 (I.x c)) (colW 3 (I.wq c))))
              -∗ at' c cc0_stg10_0 (k0_pay10 (k0_pay2 (I.x c)) (I.wqr c)) -∗ at' c cc0_stg11_0 (k0_pay11 (k0_pay2 (I.x c)) (I.wkr c))
              -∗ wp frame (wpE (defs₀ (F := F)) 𝒱₀ (c : Thread nD τ) none) Set.univ (kk (Scalar.extui (Scalar.cmpi .eq (word (par c)) 1#32))) Q)
          -∗ wp frame (wpE (defs₀ (F := F)) 𝒱₀ (c : Thread nD τ) none) Set.univ
              (k0_part41 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 c v2 v5 v8 v30 (word (par c)) v43 (k0_pay2 (I.x c)) >>= kk) Q) := by
  rw [k0_part41_eq_skeleton]; unfold k0_part41_skel
  iintro HX HY0 HY1 HP HL G4 G5 G6 G9 G10 G11 Hk
  have hc := conds c (par c) rfl
  rcases fin2 (par c) with hp | hp <;> rw [hp] at hc ⊢ <;> obtain ⟨-, -, -, -, -, -, -, -, -, h10, h11, h12⟩ := hc
  · have h10 : ¬ k0_cond10 c = 1#1 := by rw [h10]; decide
    have h11 : k0_cond11 c = 1#1 := by rw [h11]
    have h12 : ¬ k0_cond12 c = 1#1 := by rw [h12]; decide
    have h13 : Scalar.cmpi .ne (Scalar.extui (Scalar.cmpi .eq (word 0) 0#32) : BitVec 32) 0#32 = 1#1 := by decide
    have e := (are34 c).get
    simp only [dif_neg h10, dif_pos h11, dif_neg h12, dif_pos h13, k0_part19_eq_skeleton, k0_part20_eq_skeleton, k0_part21_eq_skeleton, k0_part25_eq_skeleton, k0_part26_eq_skeleton, k0_part27_eq_skeleton, k0_part28_eq_skeleton, k0_part29_eq_skeleton, k0_part30_eq_skeleton]
    unfold k0_part19_skel k0_part20_skel k0_part21_skel k0_part25_skel k0_part26_skel k0_part27_skel k0_part28_skel k0_part29_skel k0_part30_skel
    simp only [Prog.lift, Prog.bind_op, Prog.bind_ret, Prog.pure_eq_ret]
    simp only [Last, Gone]
    icases HX with ⟨HO, HF⟩
    iapply (wp_in4 c 3) $$ G4
    iintro G4
    iapply (wp_col9 c 3) $$ G9
    iintro G9
    iapply (wp_in5 c) $$ G5
    iintro G5
    iapply (wp_out10 c) $$ G10
    iintro G10
    iapply (wp_in6 c) $$ G6
    iintro G6
    iapply (wp_out11 c) $$ G11
    iintro G11
    iapply (wp_wait3 I K 0 2 c rfl rfl rfl rfl rfl rfl (by decide) (by rfl) (by rfl) (by rfl) (by rfl) (by rfl) (by rfl)) $$ HO HF
    iintro HO R D Z
    ihave J := (landed_two3 I c 2) $$ D
    icases J with ⟨S, N⟩
    iapply (wp_start3 I K 1 2 c (e.1 _) (e.2.1 _) (e.2.2 _) hp rfl rfl rfl rfl rfl rfl rfl rfl rfl rfl rfl rfl) $$ HO HP HL S
    iintro HO HY2
    iapply (wp_wait33 I K 1 0 c rfl rfl rfl rfl rfl rfl (by decide) (by rfl) (by rfl) (by rfl) (by rfl) (by rfl) (by rfl)) $$ HO HY0
    iintro HO A0 B0 Z0
    iapply (wp_wait33 I K 1 1 c rfl rfl rfl rfl rfl rfl (by decide) (by rfl) (by rfl) (by rfl) (by rfl) (by rfl) (by rfl)) $$ HO HY1
    iintro HO A1 B1 Z1
    iapply (wp_wait33 I K 1 2 c rfl rfl rfl rfl rfl rfl (by decide) (by rfl) (by rfl) (by rfl) (by rfl) (by rfl) (by rfl)) $$ HO HY2
    iintro HO A2 B2 Z2
    iapply Hk $$ [HO A0 B0 Z0 A1 B1 Z1 A2 B2 Z2] R N Z G4 G5 G6 G9 G10 G11
    simp only [Swap, Home]
    isplitl [HO]; · iexact HO
    isplitl [A0 B0 Z0]
    · isplitl [A0]; · iexact A0
      isplitl [B0]; · iexact B0
      iexact Z0
    isplitl [A1 B1 Z1]
    · isplitl [A1]; · iexact A1
      isplitl [B1]; · iexact B1
      iexact Z1
    isplitl [A2]; · iexact A2
    isplitl [B2]; · iexact B2
    iexact Z2
  · have h10 : k0_cond10 c = 1#1 := by rw [h10]
    have h11 : ¬ k0_cond11 c = 1#1 := by rw [h11]; decide
    have h12 : k0_cond12 c = 1#1 := by rw [h12]
    have h13 : ¬ Scalar.cmpi .ne (Scalar.extui (Scalar.cmpi .eq (word 1) 0#32) : BitVec 32) 0#32 = 1#1 := by decide
    have e0 := (are31 c).get
    have e := (are37 c).get
    simp only [dif_pos h10, dif_neg h11, dif_pos h12, dif_neg h13, k0_part18_eq_skeleton, k0_part22_eq_skeleton, k0_part23_eq_skeleton, k0_part24_eq_skeleton]
    unfold k0_part18_skel k0_part22_skel k0_part23_skel k0_part24_skel
    simp only [Prog.lift, Prog.bind_op, Prog.bind_ret, Prog.pure_eq_ret]
    simp only [Last, Hold]
    icases HX with ⟨HO, HP0, HL0, HS0⟩
    iapply (wp_start3 I K 0 2 c (e0.1 _) (e0.2.1 _) (e0.2.2 _) hp rfl rfl rfl rfl rfl rfl rfl rfl rfl rfl rfl rfl) $$ HO HP0 HL0 HS0
    iintro HO HF
    iapply (wp_in4 c 3) $$ G4
    iintro G4
    iapply (wp_col9 c 3) $$ G9
    iintro G9
    iapply (wp_in5 c) $$ G5
    iintro G5
    iapply (wp_out10 c) $$ G10
    iintro G10
    iapply (wp_in6 c) $$ G6
    iintro G6
    iapply (wp_out11 c) $$ G11
    iintro G11
    iapply (wp_wait3 I K 0 2 c rfl rfl rfl rfl rfl rfl (by decide) (by rfl) (by rfl) (by rfl) (by rfl) (by rfl) (by rfl)) $$ HO HF
    iintro HO R D Z
    ihave J := (landed_two3 I c 2) $$ D
    icases J with ⟨S, N⟩
    iapply (wp_start3 I K 1 2 c (e.1 _) (e.2.1 _) (e.2.2 _) hp rfl rfl rfl rfl rfl rfl rfl rfl rfl rfl rfl rfl) $$ HO HP HL S
    iintro HO HY2
    iapply Hk $$ [HO HY0 HY1 HY2] R N Z G4 G5 G6 G9 G10 G11
    simp only [Swap, Away]
    isplitl [HO]; · iexact HO
    isplitl [HY0]; · iexact HY0
    isplitl [HY1]; · iexact HY1
    iexact HY2
end Part

end Cert.Kernel.Talk

end
-- ==== Proof.Kernel.Part42.lean ====
/- The gathered chunks, and the last products. -/
module

public import proofs.«01_k».proof.Proof.Kernel.Part41

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## Slots, read -/

def slC (i : Fin 4) (f : Vec F S4x1024x128 .bf16) : Vec F S1x1024x128 .bf16 := fun j =>
  f (fun a => match a with | ⟨0, _⟩ => i | ⟨1, _⟩ => j 1 | ⟨2, _⟩ => j 2)
theorem slC_read (i : Fin 4) (inb : ∀ a, (![i.val, 0, 0] : Fin 3 → ℕ) a + S1x1024x128.size a ≤ S4x1024x128.size a) (f : Vec F S4x1024x128 .bf16) :
    (fun j : S1x1024x128.Idx => f ((Rect.unit (s := S4x1024x128) ![i.val, 0, 0] S1x1024x128.size inb).emb j)) = slC i f := by
  funext j
  show f _ = f _
  congr 1
  funext a
  match a with
  | ⟨0, _⟩ => exact Fin.ext (by have : (j 0).val < 1 := (j 0).isLt; show i.val + 1 * (j 0).val = i.val; omega)
  | ⟨1, _⟩ => exact Fin.ext (by show 0 + 1 * (j 1).val = (j 1).val; omega)
  | ⟨2, _⟩ => exact Fin.ext (by show 0 + 1 * (j 2).val = (j 2).val; omega)

def slU (i : Fin 4) (f : Vec F S4x128x2048 .bf16) : Vec F S1x128x2048 .bf16 := fun j =>
  f (fun a => match a with | ⟨0, _⟩ => i | ⟨1, _⟩ => j 1 | ⟨2, _⟩ => j 2)
theorem slU_read (i : Fin 4) (inb : ∀ a, (![i.val, 0, 0] : Fin 3 → ℕ) a + S1x128x2048.size a ≤ S4x128x2048.size a) (f : Vec F S4x128x2048 .bf16) :
    (fun j : S1x128x2048.Idx => f ((Rect.unit (s := S4x128x2048) ![i.val, 0, 0] S1x128x2048.size inb).emb j)) = slU i f := by
  funext j
  show f _ = f _
  congr 1
  funext a
  match a with
  | ⟨0, _⟩ => exact Fin.ext (by have : (j 0).val < 1 := (j 0).isLt; show i.val + 1 * (j 0).val = i.val; omega)
  | ⟨1, _⟩ => exact Fin.ext (by show 0 + 1 * (j 1).val = (j 1).val; omega)
  | ⟨2, _⟩ => exact Fin.ext (by show 0 + 1 * (j 2).val = (j 2).val; omega)

section Slots
variable {α : Type} (c : Dev nD)

theorem wp_slotC (i : Fin 4) {Q : α → sProp 𝕄} {inb hl} {k : Vec F S1x1024x128 .bf16 → Prog (TpuEff nD τ sig (Elt F) Λ₀ .tc) α} {f : Vec F S4x1024x128 .bf16} :
    at' c cc0_scratch0 f
      ⊢ iprop((at' c cc0_scratch0 f -∗ wp frame (wpE (defs₀ (F := F)) 𝒱₀ (c : Thread nD τ) none) Set.univ (k (slC i f)) Q)
          -∗ wp frame (wpE (defs₀ (F := F)) 𝒱₀ (c : Thread nD τ) none) Set.univ
              (.op (.load (Memref.whole cc0_scratch0) (Rect.unit (s := S4x1024x128) ![i.val, 0, 0] S1x1024x128.size inb).toLoadRect hl) k) Q) := by
  iintro H Hk
  iapply (wp_load 𝒱₀ (c : Thread nD τ) none Set.univ (m := Memref.whole cc0_scratch0) (Finset.subset_univ _)) $$ H
  iintro H
  rw [show (Memref.whole cc0_scratch0).view.readAt (Elt F) (Rect.unit (s := S4x1024x128) ![i.val, 0, 0] S1x1024x128.size inb).toLoadRect f = slC i f from slC_read i inb f]
  iapply Hk $$ H

theorem wp_slotK (i : Fin 4) {Q : α → sProp 𝕄} {inb hl} {k : Vec F S1x128x2048 .bf16 → Prog (TpuEff nD τ sig (Elt F) Λ₀ .tc) α} {f : Vec F S4x128x2048 .bf16} :
    at' c cc0_scratch1 f
      ⊢ iprop((at' c cc0_scratch1 f -∗ wp frame (wpE (defs₀ (F := F)) 𝒱₀ (c : Thread nD τ) none) Set.univ (k (slU i f)) Q)
          -∗ wp frame (wpE (defs₀ (F := F)) 𝒱₀ (c : Thread nD τ) none) Set.univ
              (.op (.load (Memref.whole cc0_scratch1) (Rect.unit (s := S4x128x2048) ![i.val, 0, 0] S1x128x2048.size inb).toLoadRect hl) k) Q) := by
  iintro H Hk
  iapply (wp_load 𝒱₀ (c : Thread nD τ) none Set.univ (m := Memref.whole cc0_scratch1) (Finset.subset_univ _)) $$ H
  iintro H
  rw [show (Memref.whole cc0_scratch1).view.readAt (Elt F) (Rect.unit (s := S4x128x2048) ![i.val, 0, 0] S1x128x2048.size inb).toLoadRect f = slU i f from slU_read i inb f]
  iapply Hk $$ H

theorem wp_slotV (i : Fin 4) {Q : α → sProp 𝕄} {inb hl} {k : Vec F S1x128x2048 .bf16 → Prog (TpuEff nD τ sig (Elt F) Λ₀ .tc) α} {f : Vec F S4x128x2048 .bf16} :
    at' c cc0_scratch2 f
      ⊢ iprop((at' c cc0_scratch2 f -∗ wp frame (wpE (defs₀ (F := F)) 𝒱₀ (c : Thread nD τ) none) Set.univ (k (slU i f)) Q)
          -∗ wp frame (wpE (defs₀ (F := F)) 𝒱₀ (c : Thread nD τ) none) Set.univ
              (.op (.load (Memref.whole cc0_scratch2) (Rect.unit (s := S4x128x2048) ![i.val, 0, 0] S1x128x2048.size inb).toLoadRect hl) k) Q) := by
  iintro H Hk
  iapply (wp_load 𝒱₀ (c : Thread nD τ) none Set.univ (m := Memref.whole cc0_scratch2) (Finset.subset_univ _)) $$ H
  iintro H
  rw [show (Memref.whole cc0_scratch2).view.readAt (Elt F) (Rect.unit (s := S4x128x2048) ![i.val, 0, 0] S1x128x2048.size inb).toLoadRect f = slU i f from slU_read i inb f]
  iapply Hk $$ H
end Slots

section Part
variable (K : KN) (c : Dev nD)

/-- The latent, the two up-projections: four chunks each, as put together for the last products. -/
def cAll : FVec F S1024x512 .bf16 := k0_pay12 (slC 0 (fullC I c)) (slC 1 (fullC I c)) (slC 2 (fullC I c)) (slC 3 (fullC I c))
def kAll : FVec F S512x2048 .bf16 := k0_pay13 (slU 0 (fullK I c)) (slU 1 (fullK I c)) (slU 2 (fullK I c)) (slU 3 (fullK I c))
def v0 : FVec F S128x2048 .bf16 := k0_pay14 (slU 0 (fullV I c))
def v1 : FVec F S128x2048 .bf16 := k0_pay15 (slU 1 (fullV I c))
def v2 : FVec F S128x2048 .bf16 := k0_pay16 (slU 2 (fullV I c))
def v3 : Vec F S1x128x2048 .bf16 := slU 3 (fullV I c)

/-- Everything read or landed makes up the scratch buffers again. -/
theorem parted :
    iprop((Tri (fun t => keep I c t) ∗ Tri (fun t => srcP I 0 c t 0)) ∗ (Tri (fun t => srcP I 1 c t 0) ∗ Tri (fun t => srcP I 0 c t 1) ∗ Tri (fun t => dstP I 1 c t 0))
        ∗ (Tri (fun t => srcP I 1 c t 1) ∗ Tri (fun t => srcP I 0 c t 2) ∗ Tri (fun t => dstP I 1 c t 1))
        ∗ (Tri (fun t => srcP I 1 c t 2) ∗ Tri (fun t => nextP I c t 2) ∗ Tri (fun t => dstP I 1 c t 2)))
      ⊢ iprop(parts I c 0 ∗ parts I c 1 ∗ parts I c 2) := by
  unfold Tri parts keep
  iintro ⟨⟨⟨⟨A0, B0⟩, ⟨A1, B1⟩, A2, B2⟩, C0, C1, C2⟩, ⟨⟨D0, D1, D2⟩, ⟨E0, E1, E2⟩, F0, F1, F2⟩, ⟨⟨G0, G1, G2⟩, ⟨H0, H1, H2⟩, J0, J1, J2⟩, ⟨M0, M1, M2⟩, ⟨N0, N1, N2⟩, P0, P1, P2⟩
  isplitl [A0 B0 C0 D0 E0 F0 G0 H0 J0 M0 N0 P0]
  · isplitl [A0 C0 B0]
    · isplitl [A0]; · iexact A0
      isplitl [C0]; · iexact C0
      iexact B0
    isplitl [D0 E0 F0]
    · isplitl [D0]; · iexact D0
      isplitl [E0]; · iexact E0
      iexact F0
    isplitl [G0 H0 J0]
    · isplitl [G0]; · iexact G0
      isplitl [H0]; · iexact H0
      iexact J0
    isplitl [M0]; · iexact M0
    isplitl [N0]; · iexact N0
    iexact P0
  isplitl [A1 B1 C1 D1 E1 F1 G1 H1 J1 M1 N1 P1]
  · isplitl [A1 C1 B1]
    · isplitl [A1]; · iexact A1
      isplitl [C1]; · iexact C1
      iexact B1
    isplitl [D1 E1 F1]
    · isplitl [D1]; · iexact D1
      isplitl [E1]; · iexact E1
      iexact F1
    isplitl [G1 H1 J1]
    · isplitl [G1]; · iexact G1
      isplitl [H1]; · iexact H1
      iexact J1
    isplitl [M1]; · iexact M1
    isplitl [N1]; · iexact N1
    iexact P1
  · isplitl [A2 C2 B2]
    · isplitl [A2]; · iexact A2
      isplitl [C2]; · iexact C2
      iexact B2
    isplitl [D2 E2 F2]
    · isplitl [D2]; · iexact D2
      isplitl [E2]; · iexact E2
      iexact F2
    isplitl [G2 H2 J2]
    · isplitl [G2]; · iexact G2
      isplitl [H2]; · iexact H2
      iexact J2
    isplitl [M2]; · iexact M2
    isplitl [N2]; · iexact N2
    iexact P2

theorem gathered :
    iprop((Tri (fun t => keep I c t) ∗ Tri (fun t => srcP I 0 c t 0)) ∗ (Tri (fun t => srcP I 1 c t 0) ∗ Tri (fun t => srcP I 0 c t 1) ∗ Tri (fun t => dstP I 1 c t 0))
        ∗ (Tri (fun t => srcP I 1 c t 1) ∗ Tri (fun t => srcP I 0 c t 2) ∗ Tri (fun t => dstP I 1 c t 1))
        ∗ (Tri (fun t => srcP I 1 c t 2) ∗ Tri (fun t => nextP I c t 2) ∗ Tri (fun t => dstP I 1 c t 2)))
      ⊢ iprop(at' c cc0_scratch0 (fullC I c) ∗ at' c cc0_scratch1 (fullK I c) ∗ at' c cc0_scratch2 (fullV I c)) :=
  (parted I c).trans (BI.sep_mono (joinC I c) (BI.sep_mono (joinK I c) (joinV I c)))

set_option maxHeartbeats 1000000 in
/-- On devices of odd `y` the last waits; then the gathered chunks are read. -/
theorem wp_part42 {α : Type} {Q : α → sProp 𝕄} {kk : (Σ' (v162 : FVec F S1024x512 .bf16) (v171 : FVec F S512x2048 .bf16) (v173 : FVec F S128x2048 .bf16) (v175 : FVec F S128x2048 .bf16), FVec F S128x2048 .bf16) → Prog (TpuEff nD τ sig (Elt F) Λ₀ .tc) α}
    (w2 w8 w43 : BitVec 32) :
    Swap I K c (par c)
      ⊢ iprop(Tri (fun t => keep I c t) -∗ Tri (fun t => srcP I 0 c t 0) -∗ Tri (fun t => srcP I 0 c t 1) -∗ Tri (fun t => srcP I 0 c t 2) -∗ Tri (fun t => nextP I c t 2)
          -∗ (owesA I K c [] -∗ Tri (fun t => Zero (F := F) 1 c t 0) -∗ Tri (fun t => Zero (F := F) 1 c t 1) -∗ Tri (fun t => Zero (F := F) 1 c t 2)
              -∗ at' c cc0_scratch0 (fullC I c) -∗ at' c cc0_scratch1 (fullK I c) -∗ at' c cc0_scratch2 (fullV I c)
              -∗ wp frame (wpE (defs₀ (F := F)) 𝒱₀ (c : Thread nD τ) none) Set.univ (kk ⟨cAll I c, kAll I c, v0 I c, v1 I c, v2 I c⟩) Q)
          -∗ wp frame (wpE (defs₀ (F := F)) 𝒱₀ (c : Thread nD τ) none) Set.univ
              (k0_part42 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 w2 w8 w43 (Scalar.extui (Scalar.cmpi .eq (word (par c)) 1#32)) >>= kk) Q) := by
  rw [k0_part42_eq_skeleton]; unfold k0_part42_skel
  iintro HX KP R0 R1 R2 N Hk
  rcases fin2 (par c) with hp | hp <;> rw [hp]
  case' inl =>
    have h14 : ¬ Scalar.cmpi .ne (Scalar.extui (Scalar.cmpi .eq (word 0) 1#32) : BitVec 32) 0#32 = 1#1 := by decide
    simp only [dif_neg h14]
    simp only [Prog.lift, Prog.bind_op, Prog.bind_ret, Prog.pure_eq_ret]
    simp only [Swap, Home]
    icases HX with ⟨HO, ⟨A0, B0, Z0⟩, ⟨A1, B1, Z1⟩, A2, B2, Z2⟩
  case' inr =>
    have h14 : Scalar.cmpi .ne (Scalar.extui (Scalar.cmpi .eq (word 1) 1#32) : BitVec 32) 0#32 = 1#1 := by decide
    simp only [dif_pos h14, k0_part31_eq_skeleton, k0_part32_eq_skeleton, k0_part33_eq_skeleton, k0_part34_eq_skeleton, k0_part35_eq_skeleton, k0_part36_eq_skeleton]
    unfold k0_part31_skel k0_part32_skel k0_part33_skel k0_part34_skel k0_part35_skel k0_part36_skel
    simp only [Prog.lift, Prog.bind_op, Prog.bind_ret, Prog.pure_eq_ret]
    simp only [Swap, Away]
    icases HX with ⟨HO, HY0, HY1, HY2⟩
    iapply (wp_wait33 I K 1 0 c rfl rfl rfl rfl rfl rfl (by decide) (by rfl) (by rfl) (by rfl) (by rfl) (by rfl) (by rfl)) $$ HO HY0
    iintro HO A0 B0 Z0
    iapply (wp_wait33 I K 1 1 c rfl rfl rfl rfl rfl rfl (by decide) (by rfl) (by rfl) (by rfl) (by rfl) (by rfl) (by rfl)) $$ HO HY1
    iintro HO A1 B1 Z1
    iapply (wp_wait33 I K 1 2 c rfl rfl rfl rfl rfl rfl (by decide) (by rfl) (by rfl) (by rfl) (by rfl) (by rfl) (by rfl)) $$ HO HY2
    iintro HO A2 B2 Z2
  all_goals
    ihave HG := (gathered I c) $$ [KP R0 A0 R1 B0 A1 R2 B1 A2 N B2]
    · isplitl [KP R0]
      · isplitl [KP]; · iexact KP
        iexact R0
      isplitl [A0 R1 B0]
      · isplitl [A0]; · iexact A0
        isplitl [R1]; · iexact R1
        iexact B0
      isplitl [A1 R2 B1]
      · isplitl [A1]; · iexact A1
        isplitl [R2]; · iexact R2
        iexact B1
      isplitl [A2]; · iexact A2
      isplitl [N]; · iexact N
      iexact B2
    icases HG with ⟨SC, SK, SV⟩
    iapply (wp_slotC c 0) $$ SC; iintro SC
    iapply (wp_slotC c 1) $$ SC; iintro SC
    iapply (wp_slotC c 2) $$ SC; iintro SC
    iapply (wp_slotC c 3) $$ SC; iintro SC
    iapply (wp_slotK c 0) $$ SK; iintro SK
    iapply (wp_slotK c 1) $$ SK; iintro SK
    iapply (wp_slotK c 2) $$ SK; iintro SK
    iapply (wp_slotK c 3) $$ SK; iintro SK
    iapply (wp_slotV c 0) $$ SV; iintro SV
    iapply (wp_slotV c 1) $$ SV; iintro SV
    iapply (wp_slotV c 2) $$ SV; iintro SV
    iapply Hk $$ HO Z0 Z1 Z2 SC SK SV

def kW (i : Fin 4) : Vec F S1024x512 .bf16 := match i with
  | 0 => k0_pay18 (cAll I c) (kAll I c)
  | 1 => k0_pay20 (cAll I c) (kAll I c)
  | 2 => k0_pay22 (cAll I c) (kAll I c)
  | 3 => k0_pay24 (cAll I c) (kAll I c)
def vW (i : Fin 4) : Vec F S1024x512 .bf16 := match i with
  | 0 => k0_pay19 (cAll I c) (v0 I c) (v1 I c) (v2 I c) (v3 I c)
  | 1 => k0_pay21 (cAll I c) (v0 I c) (v1 I c) (v2 I c) (v3 I c)
  | 2 => k0_pay23 (cAll I c) (v0 I c) (v1 I c) (v2 I c) (v3 I c)
  | 3 => k0_pay1 (cAll I c) (k0_pay17 (v0 I c) (v1 I c) (v2 I c) (v3 I c))

/-- The last products, but for the last block of columns. -/
theorem wp_part43 {α : Type} {Q : α → sProp 𝕄} {kk : (Σ' (v180 : FVec F S512x2048 .bf16), FVec F S1024x512 .bf16) → Prog (TpuEff nD τ sig (Elt F) Λ₀ .tc) α}
    (f7 f8 : Vec F S1024x2048 .bf16) :
    at' c cc0_scratch2 (fullV I c)
      ⊢ iprop(at' c cc0_stg7_0 f7 -∗ at' c cc0_stg8_0 f8
          -∗ (at' c cc0_scratch2 (fullV I c) -∗ at' c cc0_stg7_0 (putCol 2 (putCol 1 (putCol 0 f7 (kW I c 0)) (kW I c 1)) (kW I c 2))
              -∗ at' c cc0_stg8_0 (putCol 2 (putCol 1 (putCol 0 f8 (vW I c 0)) (vW I c 1)) (vW I c 2))
              -∗ wp frame (wpE (defs₀ (F := F)) 𝒱₀ (c : Thread nD τ) none) Set.univ (kk ⟨k0_pay17 (v0 I c) (v1 I c) (v2 I c) (v3 I c), kW I c 3⟩) Q)
          -∗ wp frame (wpE (defs₀ (F := F)) 𝒱₀ (c : Thread nD τ) none) Set.univ
              (k0_part43 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 (cAll I c) (kAll I c) (v0 I c) (v1 I c) (v2 I c) >>= kk) Q) := by
  rw [k0_part43_eq_skeleton]; unfold k0_part43_skel
  simp only [Prog.lift, Prog.bind_op, Prog.bind_ret, Prog.pure_eq_ret]
  simp only [kW, vW, v3]
  iintro SV G7 G8 Hk
  iapply (wp_slotV c 3) $$ SV; iintro SV
  iapply (wp_col7 c 0) $$ G7; iintro G7
  iapply (wp_col8 c 0) $$ G8; iintro G8
  iapply (wp_col7 c 1) $$ G7; iintro G7
  iapply (wp_col8 c 1) $$ G8; iintro G8
  iapply (wp_col7 c 2) $$ G7; iintro G7
  iapply (wp_col8 c 2) $$ G8; iintro G8
  iapply Hk $$ SV G7 G8

end Part

end Cert.Kernel.Talk

end
-- ==== Proof.Kernel.Part38.lean ====
/- The barrier. -/
module

public import proofs.«01_k».proof.Proof.Kernel.Part42

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## What a device's barrier signals hand over -/

/-- That the copies' cells on `c` are open. -/
def marks (c : Dev nD) : sProp 𝕄 := bigSep Finset.univ fun x : XC => reached ER (xCell c x) 0
instance marks_persistent (c : Dev nD) : BI.Persistent (marks (F := F) c) := by unfold marks; infer_instance

theorem lands_intro (k : Fin 2) (c d : Dev nD) (hd : peer k d = c) :
    iprop(marks (F := F) c ∗ lands k c 0 ∗ lands k c 1 ∗ lands k c 2) ⊢ Lands k d := by
  subst hd
  unfold Lands Land3 Land lands dstE marks
  iintro ⟨#HM, ⟨A0, A1, A2⟩, ⟨B0, B1, B2⟩, C0, C1, C2⟩
  isplitl [A0 B0 C0]
  · isplitl [A0]
    · isplitl [A0]; · iexact A0
      iapply (elimP (Φ := fun x : XC => (reached ER (xCell (peer k d) x) 0 : sProp 𝕄)) (1, k, 0, 0)); iexact HM
    isplitl [B0]
    · isplitl [B0]; · iexact B0
      iapply (elimP (Φ := fun x : XC => (reached ER (xCell (peer k d) x) 0 : sProp 𝕄)) (1, k, 1, 0)); iexact HM
    isplitl [C0]; · iexact C0
    iapply (elimP (Φ := fun x : XC => (reached ER (xCell (peer k d) x) 0 : sProp 𝕄)) (1, k, 2, 0)); iexact HM
  isplitl [A1 B1 C1]
  · isplitl [A1]
    · isplitl [A1]; · iexact A1
      iapply (elimP (Φ := fun x : XC => (reached ER (xCell (peer k d) x) 0 : sProp 𝕄)) (1, k, 0, 1)); iexact HM
    isplitl [B1]
    · isplitl [B1]; · iexact B1
      iapply (elimP (Φ := fun x : XC => (reached ER (xCell (peer k d) x) 0 : sProp 𝕄)) (1, k, 1, 1)); iexact HM
    isplitl [C1]; · iexact C1
    iapply (elimP (Φ := fun x : XC => (reached ER (xCell (peer k d) x) 0 : sProp 𝕄)) (1, k, 2, 1)); iexact HM
  isplitl [A2]
  · isplitl [A2]; · iexact A2
    iapply (elimP (Φ := fun x : XC => (reached ER (xCell (peer k d) x) 0 : sProp 𝕄)) (1, k, 0, 2)); iexact HM
  isplitl [B2]
  · isplitl [B2]; · iexact B2
    iapply (elimP (Φ := fun x : XC => (reached ER (xCell (peer k d) x) 0 : sProp 𝕄)) (1, k, 1, 2)); iexact HM
  isplitl [C2]; · iexact C2
  iapply (elimP (Φ := fun x : XC => (reached ER (xCell (peer k d) x) 0 : sProp 𝕄)) (1, k, 2, 2)); iexact HM

theorem dev1_eq (c : Dev nD) : (⟨k0_dev1 c, k0_dev1_lt c⟩ : Dev nD) = lf c := Fin.ext (by revert c; decide +kernel)
theorem dev2_eq (c : Dev nD) : (⟨k0_dev2 c, k0_dev2_lt c⟩ : Dev nD) = rt c := Fin.ext (by revert c; decide +kernel)
theorem dev3_eq (c : Dev nD) : (⟨k0_dev3 c, k0_dev3_lt c⟩ : Dev nD) = pt c := Fin.ext (by revert c; decide +kernel)

/-- A device's parity, from its logical id. -/
theorem par_word (c : Dev nD) :
    (Scalar.select (Scalar.andi (Scalar.xori (Scalar.cmpi .slt (Scalar.remsi (Scalar.remsi (Scalar.divsi (Dev.word c) 4#32) 4#32) (Scalar.select (Scalar.cmpi .eq 2#32 0#32) 1#32 2#32)) 0#32) (Scalar.cmpi .slt (Scalar.select (Scalar.cmpi .eq 2#32 0#32) 1#32 2#32) 0#32))
        (Scalar.cmpi .ne (Scalar.remsi (Scalar.remsi (Scalar.divsi (Dev.word c) 4#32) 4#32) (Scalar.select (Scalar.cmpi .eq 2#32 0#32) 1#32 2#32)) 0#32))
      (Scalar.addi (Scalar.remsi (Scalar.remsi (Scalar.divsi (Dev.word c) 4#32) 4#32) (Scalar.select (Scalar.cmpi .eq 2#32 0#32) 1#32 2#32)) (Scalar.select (Scalar.cmpi .eq 2#32 0#32) 1#32 2#32))
      (Scalar.remsi (Scalar.remsi (Scalar.divsi (Dev.word c) 4#32) 4#32) (Scalar.select (Scalar.cmpi .eq 2#32 0#32) 1#32 2#32)) : BitVec 32) = word (par c) := by
  revert c; decide +kernel

section Part
variable (K : KN) (c : Dev nD)

/-- The barrier: the three signals hand over the landing regions, the wait brings the neighbours'. -/
theorem wp_part38 {α : Type} {Q : α → sProp 𝕄} {kk : (Σ' (v40 : BitVec 32) (v43 : BitVec 32) (v64 : FVec F S1024x2048 .bf16), Vec F S2048x128 .bf16) → Prog (TpuEff nD τ sig (Elt F) Λ₀ .tc) α}
    {v32 v33 : BitVec 32} {v34 : BitVec 1}
    (hw : Scalar.select (Scalar.andi (Scalar.xori (Scalar.cmpi .slt v33 0#32) (Scalar.cmpi .slt v32 0#32)) v34) (Scalar.addi v33 v32) v33 = word (par c))
    (v2 v5 v8 v19 v30 : BitVec 32) (W : Waits sig Unit) :
    iprop(records I K ∗ levAts L lv ∗ owes (c : Thread nD τ) (O₀ c) W ∗ marks c
        ∗ dutyTok ER (barCell (lf c)) 0 0 ∗ dutyTok ER (barCell (rt c)) 0 1 ∗ dutyTok ER (barCell (pt c)) 0 2
        ∗ atPos ER (barCell c) 0 ∅ 0 ∗ cred (tallyAt (barCell c) () 3))
      ⊢ iprop((lands 0 c 0 ∗ lands 0 c 1 ∗ lands 0 c 2) -∗ (lands 1 c 0 ∗ lands 1 c 1 ∗ lands 1 c 2)
          -∗ at' c cc0_stg0_0 (I.x c) -∗ at' c cc0_stg1_0 (I.wd c)
          -∗ (∀ v43, owesA I K c order -∗ Lands 0 c -∗ Lands 1 c -∗ semVal (barCell c) 0 -∗ at' c cc0_stg0_0 (I.x c) -∗ at' c cc0_stg1_0 (I.wd c)
              -∗ wp frame (wpE (defs₀ (F := F)) 𝒱₀ (c : Thread nD τ) none) Set.univ (kk ⟨word (par c), v43, k0_pay2 (I.x c), I.wd c⟩) Q)
          -∗ wp frame (wpE (defs₀ (F := F)) 𝒱₀ (c : Thread nD τ) none) Set.univ
              (k0_part38 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 c v2 v5 v8 v19 v30 v32 v33 v34 >>= kk) Q) := by
  rw [k0_part38_eq_skeleton]; unfold k0_part38_skel
  simp only [semSignalWord, semWaitWord, Prog.lift, Prog.bind_op, Prog.bind_ret, Prog.pure_eq_ret]
  iintro ⟨#HI, #Hlev, HO, #HM, T0, T1, T2, HaB, HcB⟩ L0 L1 G0 G1 Hk
  rw [dev1_eq c, dev2_eq c, dev3_eq c]
  unfold O₀
  iapply (Rounds.wp_signal 𝒱₀ ER (copyRd I) (c : Thread nD τ) none (dst := (lf c : Thread nD τ)) (κ := K.1 (lf c))
      (d := 0) (by rw [duties_bar]; exact Finset.mem_univ _) ((amount_bar I (lf c) 0).trans (by decide)) () (owedL c order + tallyAt (barCell (pt c)) () 1 + tallyAt (barCell (rt c)) () 1) rfl)
    $$ [HO T0 L0]
  · ihave #HB := (rec_bar I K (lf c)) $$ HI
    icases HB with ⟨#HB1, #HB2⟩
    isplitr; · iexact HB1
    isplitl [HO]; · iexact HO
    isplitl [T0]; · iexact T0
    isplitl [L0]
    · rw [payload_bar_right]
      iapply (lands_intro 0 c (lf c) (peer_from 0 c))
      isplitr; · iexact HM
      iexact L0
    iexact HB2
  iintro HO

  iapply (Rounds.wp_signal 𝒱₀ ER (copyRd I) (c : Thread nD τ) none (dst := (rt c : Thread nD τ)) (κ := K.1 (rt c))
      (d := 1) (by rw [duties_bar]; exact Finset.mem_univ _) ((amount_bar I (rt c) 1).trans (by decide)) () (owedL c order + tallyAt (barCell (pt c)) () 1) rfl)
    $$ [HO T1]
  · ihave #HB := (rec_bar I K (rt c)) $$ HI
    icases HB with ⟨#HB1, #HB2⟩
    isplitr; · iexact HB1
    isplitl [HO]; · iexact HO
    isplitl [T1]; · iexact T1
    isplitr; · rw [payload_bar_left]; iempintro
    iexact HB2
  iintro HO

  iapply (Rounds.wp_signal 𝒱₀ ER (copyRd I) (c : Thread nD τ) none (dst := (pt c : Thread nD τ)) (κ := K.1 (pt c))
      (d := 2) (by rw [duties_bar]; exact Finset.mem_univ _) ((amount_bar I (pt c) 2).trans (by decide)) () (owedL c order) rfl)
    $$ [HO T2 L1]
  · ihave #HB := (rec_bar I K (pt c)) $$ HI
    icases HB with ⟨#HB1, #HB2⟩
    isplitr; · iexact HB1
    isplitl [HO]; · iexact HO
    isplitl [T2]; · iexact T2
    isplitl [L1]
    · rw [payload_bar_partner]
      iapply (lands_intro 1 c (pt c) (peer_from 1 c))
      isplitr; · iexact HM
      iexact L1
    iexact HB2
  iintro HO

  ihave #HB := (rec_bar I K c) $$ HI
  icases HB with ⟨#HB1, #HB2⟩
  iapply (Rounds.wp_wait_rest_token 𝒱₀ ER (copyRd I) (c : Thread nD τ) none (κ := K.1 c)
      (wpE_semWait_eq 𝒱₀ (c : Thread nD τ) none Set.univ) (Set.mem_univ _) () (O := owedL c order) (W := W) (R := 0) (m := 0) (T := ∅)
      (by rw [expect_bar]; decide)) $$ [HcB HO HaB]
  · isplitr; · iexact HB1
    isplitl [HcB]; · iexact HcB
    isplitl [HO]; · iexact HO
    isplitr; · iapply (mayWait (F := F) c (.reg barS) 1 order (le_of_eq (lv_bar c)) (by decide)); iexact Hlev
    iexact HaB
  iintro ⟨HO, HaB, -, Hpay⟩
  ihave Hp := (ent_of_eq (rest_bar I c)) $$ Hpay
  icases Hp with ⟨HL0, -, HL1⟩
  imod (Rounds.cell_close ER (copyRd I) (Set.mem_univ (K.1 c)) (fun h => h) (R := 0 + 1) (duties_later I (barCell c))) $$ [HaB] with HzB
  · isplitr; · iexact HB1
    iexact HaB
  iapply (wp_in0 c) $$ G0; iintro G0
  iapply (wp_in1 c) $$ G1; iintro G1
  rw [hw]
  iapply Hk $$ [HO] HL0 HL1 HzB G0 G1
  unfold owesA
  isplitr; · iexact HI
  isplitr; · iexact Hlev
  iexists _; iexact HO

end Part

end Cert.Kernel.Talk

end
-- ==== Proof.Kernel.Body.lean ====
/- The whole body on one device. -/
module

public import proofs.«01_k».proof.Proof.Kernel.Part38

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

section Body
variable (K : KN) (c : Dev nD)

/-! ## The results -/

def qW (i : Fin 4) : Vec F S1024x512 .bf16 := match i with
  | 0 => k0_pay6 (k0_pay2 (I.x c)) (colW 0 (I.wq c))
  | 1 => k0_pay7 (k0_pay2 (I.x c)) (colW 1 (I.wq c))
  | 2 => k0_pay8 (k0_pay2 (I.x c)) (colW 2 (I.wq c))
  | 3 => k0_pay9 (k0_pay2 (I.x c)) (colW 3 (I.wq c))
/-- The keys, the values, the queries, and the parts of the queries and of the keys that are rotated. -/
def kOut : Vec F S1024x2048 .bf16 := colBlk (kW I c)
def vOut : Vec F S1024x2048 .bf16 := colBlk (vW I c)
def qOut : Vec F S1024x2048 .bf16 := colBlk (qW I c)
def qrOut : Vec F S1024x512 .bf16 := k0_pay10 (k0_pay2 (I.x c)) (I.wqr c)
def krOut : Vec F S1024x32 .bf16 := k0_pay11 (k0_pay2 (I.x c)) (I.wkr c)

theorem kOut_eq (f : Vec F S1024x2048 .bf16) : putCol 3 (putCol 2 (putCol 1 (putCol 0 f (kW I c 0)) (kW I c 1)) (kW I c 2)) (kW I c 3) = kOut I c := putCol_all f (kW I c)
theorem vOut_eq (f : Vec F S1024x2048 .bf16) :
    putCol 3 (putCol 2 (putCol 1 (putCol 0 f (vW I c 0)) (vW I c 1)) (vW I c 2)) (k0_pay1 (cAll I c) (k0_pay17 (v0 I c) (v1 I c) (v2 I c) (v3 I c))) = vOut I c := putCol_all f (vW I c)
theorem qOut_eq (f : Vec F S1024x2048 .bf16) :
    putCol 3 (putCol 2 (putCol 1 (putCol 0 f (k0_pay6 (k0_pay2 (I.x c)) (colW 0 (I.wq c)))) (k0_pay7 (k0_pay2 (I.x c)) (colW 1 (I.wq c)))) (k0_pay8 (k0_pay2 (I.x c)) (colW 2 (I.wq c))))
      (k0_pay9 (k0_pay2 (I.x c)) (colW 3 (I.wq c))) = qOut I c := putCol_all f (qW I c)

/-! ## The body -/

/-- A device's share of the handshake's tokens. -/
def ready : sProp 𝕄 :=
  iprop((marks c ∗ dutyTok ER (barCell (lf c)) 0 0 ∗ dutyTok ER (barCell (rt c)) 0 1 ∗ dutyTok ER (barCell (pt c)) 0 2
      ∗ atPos ER (barCell c) 0 ∅ 0 ∗ cred (tallyAt (barCell c) () 3))
    ∗ (Tri (fun t => Pre 0 c t 0) ∗ Tri (fun t => Pre 0 c t 1) ∗ Tri (fun t => Pre 0 c t 2))
    ∗ Tri (fun t => Pre 1 c t 0) ∗ Tri (fun t => Pre 1 c t 1) ∗ Tri (fun t => Pre 1 c t 2))
/-- All the device's semaphores at zero. -/
def done : sProp 𝕄 :=
  iprop(semVal (barCell c) 0 ∗ (Tri (fun t => Zero 0 c t 0) ∗ Tri (fun t => Zero 0 c t 1) ∗ Tri (fun t => Zero 0 c t 2))
    ∗ Tri (fun t => Zero 1 c t 0) ∗ Tri (fun t => Zero 1 c t 1) ∗ Tri (fun t => Zero 1 c t 2))
/-- The inputs' staging buffers. -/
def inputs : sProp 𝕄 :=
  iprop(at' c cc0_stg0_0 (I.x c) ∗ at' c cc0_stg1_0 (I.wd c) ∗ at' c cc0_stg2_0 (I.wk c) ∗ at' c cc0_stg3_0 (I.wv c) ∗ at' c cc0_stg4_0 (I.wq c) ∗ at' c cc0_stg5_0 (I.wqr c) ∗ at' c cc0_stg6_0 (I.wkr c))

set_option maxHeartbeats 2000000 in
theorem wp_body {Q : PUnit → sProp 𝕄} (W : Waits sig Unit) (f0 : Vec F S4x1024x128 .bf16) (f1 f2 : Vec F S4x128x2048 .bf16)
    (f7 f8 f9 : Vec F S1024x2048 .bf16) (f10 : Vec F S1024x512 .bf16) (f11 : Vec F S1024x32 .bf16) :
    iprop(records I K ∗ levAts L lv ∗ owes (c : Thread nD τ) (O₀ c) W)
      ⊢ iprop(ready c -∗ inputs I c -∗ (at' c cc0_stg7_0 f7 ∗ at' c cc0_stg8_0 f8 ∗ at' c cc0_stg9_0 f9 ∗ at' c cc0_stg10_0 f10 ∗ at' c cc0_stg11_0 f11)
          -∗ (at' c cc0_scratch0 f0 ∗ at' c cc0_scratch1 f1 ∗ at' c cc0_scratch2 f2)
          -∗ (owesA I K c [] -∗ done c -∗ inputs I c
              -∗ (at' c cc0_stg7_0 (kOut I c) ∗ at' c cc0_stg8_0 (vOut I c) ∗ at' c cc0_stg9_0 (qOut I c) ∗ at' c cc0_stg10_0 (qrOut I c) ∗ at' c cc0_stg11_0 (krOut I c))
              -∗ (at' c cc0_scratch0 (fullC I c) ∗ at' c cc0_scratch1 (fullK I c) ∗ at' c cc0_scratch2 (fullV I c)) -∗ Q ⟨⟩)
          -∗ wp frame (wpE (defs₀ (F := F)) 𝒱₀ (c : Thread nD τ) none) Set.univ
              (cc0_body (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6) Q) := by
  rw [cc0_body_eq_skeleton]; unfold cc0_body_skel
  rw [k0_part37_eq_skeleton]; unfold k0_part37_skel
  simp only [Prog.lift, Prog.bind_op, Prog.bind_ret, Prog.pure_eq_ret, wp_deviceId]
  unfold ready inputs
  iintro ⟨#HI, #Hlev, HO⟩ ⟨⟨#HM, T0, T1, T2, HaB, HcB⟩, ⟨P00, P01, P02⟩, P10, P11, P12⟩ ⟨G0, G1, G2, G3, G4, G5, G6⟩ ⟨G7, G8, G9, G10, G11⟩ ⟨S0, S1, S2⟩ Hk
  ihave X0 := (takeC c f0) $$ S0
  icases X0 with ⟨O0, A0, B0⟩
  ihave X1 := (takeK c f1) $$ S1
  icases X1 with ⟨O1, A1, B1⟩
  ihave X2 := (takeV c f2) $$ S2
  icases X2 with ⟨O2, A2, B2⟩
  iapply (wp_part38 I K c (par_word c) _ _ _ _ _ W) $$ [HO T0 T1 T2 HaB HcB] [A0 A1 A2] [B0 B1 B2] G0 G1
  · isplitr; · iexact HI
    isplitr; · iexact Hlev
    isplitl [HO]; · iexact HO
    isplitr; · iexact HM
    isplitl [T0]; · iexact T0
    isplitl [T1]; · iexact T1
    isplitl [T2]; · iexact T2
    isplitl [HaB]; · iexact HaB
    iexact HcB
  · isplitl [A0]; · iexact A0
    isplitl [A1]; · iexact A1
    iexact A2
  · isplitl [B0]; · iexact B0
    isplitl [B1]; · iexact B1
    iexact B2
  iintro %v43 HO HL0 HL1 HzB G0 G1
  unfold Lands
  icases HL0 with ⟨L00, L01, L02⟩
  icases HL1 with ⟨L10, L11, L12⟩
  rw [show order = (0, 0, 0) :: (0, 1, 0) :: (0, 2, 0) :: l15 from rfl]
  iapply (wp_part39 I K c f0 f1 f2 f9 _ _ _ _) $$ HO P00 L00 O0 O1 O2 G2 G3 G4 G9
  iintro %r HO F0 KP G2 G3 G4 G9
  iapply (wp_part40 I K c _ _ _ _ _ _ _ _ _) $$ HO F0 P10 L10 P01 L01 P11 L11 P02 L02 G4 G9
  iintro HX FY0 FY1 R0 R1 Z0 Z1 G4 G9
  iapply (wp_part41 I K c _ f10 f11 _ _ _ _ _) $$ HX FY0 FY1 P12 L12 G4 G5 G6 G9 G10 G11
  iintro HX R2 N Z2 G4 G5 G6 G9 G10 G11
  iapply (wp_part42 I K c _ _ _) $$ HX KP R0 R1 R2 N
  iintro HO Y0 Y1 Y2 S0 S1 S2
  iapply (wp_part43 I c f7 f8) $$ S2 G7 G8
  iintro S2 G7 G8
  iapply (wp_col7 c 3) $$ G7; iintro G7
  iapply (wp_col8 c 3) $$ G8; iintro G8
  rw [kOut_eq, vOut_eq, qOut_eq, wp_ret]
  imodintro
  unfold done
  iapply Hk $$ HO [HzB Z0 Z1 Z2 Y0 Y1 Y2] [G0 G1 G2 G3 G4 G5 G6] [G7 G8 G9 G10 G11] [S0 S1 S2]
  · isplitl [HzB]; · iexact HzB
    isplitl [Z0 Z1 Z2]
    · isplitl [Z0]; · iexact Z0
      isplitl [Z1]; · iexact Z1
      iexact Z2
    isplitl [Y0]; · iexact Y0
    isplitl [Y1]; · iexact Y1
    iexact Y2
  · isplitl [G0]; · iexact G0
    isplitl [G1]; · iexact G1
    isplitl [G2]; · iexact G2
    isplitl [G3]; · iexact G3
    isplitl [G4]; · iexact G4
    isplitl [G5]; · iexact G5
    iexact G6
  · isplitl [G7]; · iexact G7
    isplitl [G8]; · iexact G8
    isplitl [G9]; · iexact G9
    isplitl [G10]; · iexact G10
    iexact G11
  · isplitl [S0]; · iexact S0
    isplitl [S1]; · iexact S1
    iexact S2

end Body

end Cert.Kernel.Talk

end
-- ==== Proof.Kernel.Deal.lean ====
/- How the launch deals the handshake: the cells, the tokens and the credits each device starts with. -/
module

public import proofs.«01_k».proof.Proof.Kernel.Body

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## The copies one by one -/

theorem order_nodup : order.Nodup := by decide
theorem order_univ : order.toFinset = Finset.univ := by decide

theorem fam_split {J : Type} {s : Finset J} {Φ Ψ : J → sProp 𝕄} : bigSep s (fun i => iprop(Φ i ∗ Ψ i)) ⊢ (iprop(bigSep s Φ ∗ bigSep s Ψ) : sProp 𝕄) :=
  Entails.of_eq (bigSep_sep' _ _ _)
theorem fam_join {J : Type} {s : Finset J} {Φ Ψ : J → sProp 𝕄} : iprop(bigSep s Φ ∗ bigSep s Ψ) ⊢ (bigSep s (fun i => iprop(Φ i ∗ Ψ i)) : sProp 𝕄) :=
  Entails.of_eq (bigSep_sep' _ _ _).symm
theorem fam_union {J : Type} [DecidableEq J] {s t : Finset J} (h : Disjoint s t) {Φ : J → sProp 𝕄} :
    bigSep (s ∪ t) Φ = (iprop(bigSep s Φ ∗ bigSep t Φ) : sProp 𝕄) := bigSep_union h
theorem chain {J : Type} (i j : J) (l : List J) (Φ : J → sProp 𝕄) : bigSepL (i :: j :: l) Φ = iprop(Φ i ∗ bigSepL (j :: l) Φ) := rfl
theorem copies_eq (Φ : CP → sProp 𝕄) : bigSep Finset.univ Φ = bigSepL order Φ := bigSep_univ_eq_bigSepL order (by decide) (by decide) Φ
theorem cells_eq (Φ : XC → sProp 𝕄) :
    bigSep Finset.univ Φ = iprop((bigSep Finset.univ fun x : CP => Φ (0, x)) ∗ bigSep Finset.univ fun x : CP => Φ (1, x)) := by
  rw [bigSep_univ_prod, BI.bigSep_fin_two]; rfl

/-! ## What the launch deals a device -/

section Device
variable (c : Dev nD)

/-- The tokens a device pays with: at its three neighbours' barriers, and at both cells of each of its copies. -/
def pays : sProp 𝕄 :=
  iprop((dutyTok ER (barCell (lf c)) 0 0 ∗ dutyTok ER (barCell (rt c)) 0 1 ∗ dutyTok ER (barCell (pt c)) 0 2)
    ∗ (bigSep Finset.univ fun x : CP => dutyTok ER (SC x.1 c x.2.1 x.2.2) 0 0)
    ∗ bigSep Finset.univ fun x : CP => dutyTok ER (RC x.1 (peer x.1 c) x.2.1 x.2.2) 0 0)
/-- The credits for what is owed to it. -/
def creds : sProp 𝕄 :=
  iprop(cred (tallyAt (barCell c) () 3) ∗ bigSep Finset.univ fun x : CP => cred (tallyAt (RC x.1 c x.2.1 x.2.2) () (N x.2.1)))
/-- Its share before its copies' cells are opened. -/
def shut : sProp 𝕄 :=
  iprop(atPos ER (barCell c) 0 ∅ 0 ∗ (bigSep Finset.univ fun x : XC => openTok ER (xCell c x)) ∗ pays c)

/-- The copies' own semaphores, all zero. -/
abbrev osem (x : XC) : SemLoc sig := .dma (dsem x)

theorem open_all (K : KN) :
    iprop(records I K ∗ (bigSep Finset.univ fun x : XC => openTok ER (xCell c x)) ∗ Pipeline.ownSems0 osem c)
      ⊢ (|={Set.univ}=> iprop((bigSep Finset.univ fun x : XC => atPos ER (xCell c x) 0 ∅ 0) ∗ marks c) : sProp 𝕄) := by
  have h : iprop(records I K ∗ bigSep Finset.univ fun x : XC => iprop(openTok ER (xCell c x) ∗ semVal (xCell c x) 0))
      ⊢ (|={Set.univ}=> bigSep Finset.univ fun x : XC => iprop(atPos ER (xCell c x) 0 ∅ 0 ∗ reached ER (xCell c x) 0) : sProp 𝕄) := by
    refine (bigSep_with_persistent (R := records I K) (Ψ := fun x : XC => iprop(|={Set.univ}=> iprop(atPos ER (xCell c x) 0 ∅ 0 ∗ reached ER (xCell c x) 0))) fun x _ => ?_).trans (bigSep_fupd _ _)
    iintro ⟨#HI, Ho, Hv⟩
    iapply (Rounds.cell_open ER (copyRd I) (g := xCell c x) (Set.mem_univ (K.2 (c, x))))
    isplitr; · iapply (rec_x I K c x); iexact HI
    isplitl [Ho] <;> iassumption
  unfold Pipeline.ownSems0 marks
  iintro ⟨#HI, Ho, Hv⟩
  imod h $$ [Ho Hv] with H
  · isplitr; · iexact HI
    iapply (fam_join (s := (Finset.univ : Finset XC)))
    isplitl [Ho] <;> iassumption
  imodintro
  iapply (fam_split (s := (Finset.univ : Finset XC))) $$ H

/-- The copies' shares, before they start. -/
def pres : sProp 𝕄 := bigSep Finset.univ fun x : CP => Pre x.1 c x.2.1 x.2.2

theorem pres_intro : iprop(marks c ∗ (bigSep Finset.univ fun x : XC => atPos ER (xCell c x) 0 ∅ 0)
      ∗ (bigSep Finset.univ fun x : CP => dutyTok ER (SC x.1 c x.2.1 x.2.2) 0 0)
      ∗ (bigSep Finset.univ fun x : CP => dutyTok ER (RC x.1 (peer x.1 c) x.2.1 x.2.2) 0 0)
      ∗ bigSep Finset.univ fun x : CP => cred (tallyAt (RC x.1 c x.2.1 x.2.2) () (N x.2.1))) ⊢ (pres c : sProp 𝕄) := by
  unfold pres Pre
  rw [bigSep_sep', bigSep_sep', bigSep_sep', bigSep_sep', bigSep_sep', cells_eq]
  unfold marks
  rw [cells_eq]
  iintro ⟨⟨HM, -⟩, ⟨HA, HB⟩, HS, HR, HC⟩
  isplitl [HS]; · iexact HS
  isplitl [HM]; · iexact HM
  isplitl [HR]; · iexact HR
  isplitl [HA]; · iexact HA
  isplitl [HB]; · iexact HB
  iexact HC

theorem pres_list : (pres c : sProp 𝕄)
    ⊢ iprop((Tri (fun t => Pre 0 c t 0) ∗ Tri (fun t => Pre 0 c t 1) ∗ Tri (fun t => Pre 0 c t 2))
      ∗ Tri (fun t => Pre 1 c t 0) ∗ Tri (fun t => Pre 1 c t 1) ∗ Tri (fun t => Pre 1 c t 2)) := by
  unfold pres Tri
  rw [copies_eq]
  simp only [order, chain, bigSepL_singleton]
  iintro ⟨A0, A1, A2, B0, B1, B2, A3, A4, A5, B3, B4, B5, A6, A7, A8, B6, B7, B8⟩
  isplitl [A0 A1 A2 A3 A4 A5 A6 A7 A8]
  · isplitl [A0 A1 A2]
    · isplitl [A0]; · iexact A0
      isplitl [A1] <;> iassumption
    isplitl [A3 A4 A5]
    · isplitl [A3]; · iexact A3
      isplitl [A4] <;> iassumption
    isplitl [A6]; · iexact A6
    isplitl [A7] <;> iassumption
  isplitl [B0 B1 B2]
  · isplitl [B0]; · iexact B0
    isplitl [B1] <;> iassumption
  isplitl [B3 B4 B5]
  · isplitl [B3]; · iexact B3
    isplitl [B4] <;> iassumption
  isplitl [B6]; · iexact B6
  isplitl [B7] <;> iassumption

theorem zeros_list : iprop((Tri (fun t => Zero 0 c t 0) ∗ Tri (fun t => Zero 0 c t 1) ∗ Tri (fun t => Zero 0 c t 2))
      ∗ Tri (fun t => Zero 1 c t 0) ∗ Tri (fun t => Zero 1 c t 1) ∗ Tri (fun t => Zero 1 c t 2))
    ⊢ (bigSep Finset.univ fun x : CP => Zero x.1 c x.2.1 x.2.2 : sProp 𝕄) := by
  unfold Tri
  rw [copies_eq]
  simp only [order, chain, bigSepL_singleton]
  iintro ⟨⟨⟨A0, A1, A2⟩, ⟨A3, A4, A5⟩, A6, A7, A8⟩, ⟨B0, B1, B2⟩, ⟨B3, B4, B5⟩, B6, B7, B8⟩
  isplitl [A0]; · iexact A0
  isplitl [A1]; · iexact A1
  isplitl [A2]; · iexact A2
  isplitl [B0]; · iexact B0
  isplitl [B1]; · iexact B1
  isplitl [B2]; · iexact B2
  isplitl [A3]; · iexact A3
  isplitl [A4]; · iexact A4
  isplitl [A5]; · iexact A5
  isplitl [B3]; · iexact B3
  isplitl [B4]; · iexact B4
  isplitl [B5]; · iexact B5
  isplitl [A6]; · iexact A6
  isplitl [A7]; · iexact A7
  isplitl [A8]; · iexact A8
  isplitl [B6]; · iexact B6
  isplitl [B7] <;> iassumption

theorem done_own : (done c : sProp 𝕄) ⊢ iprop(semVal (barCell c) 0 ∗ Pipeline.ownSems0 osem c) := by
  unfold done
  iintro ⟨Hb, HZ⟩
  isplitl [Hb]; · iexact Hb
  ihave H := (zeros_list c) $$ HZ
  unfold Pipeline.ownSems0 Zero
  rw [cells_eq]
  iapply (fam_split (s := (Finset.univ : Finset CP))) $$ H

/-- Opened, the share is what the body starts with. -/
theorem open_ready (K : KN) : iprop(records I K ∗ shut c ∗ creds c ∗ Pipeline.ownSems0 osem c) ⊢ (|={Set.univ}=> ready c : sProp 𝕄) := by
  unfold shut pays creds
  iintro ⟨#HI, ⟨HaB, Ho, ⟨T0, T1, T2⟩, HtS, HtR⟩, ⟨HcB, HcR⟩, Hv⟩
  imod (open_all I c K) $$ [Ho Hv] with ⟨Hat, #HM⟩
  · isplitr; · iexact HI
    isplitl [Ho] <;> iassumption
  imodintro
  unfold ready
  isplitl [T0 T1 T2 HaB HcB]
  · isplitr; · iexact HM
    isplitl [T0]; · iexact T0
    isplitl [T1]; · iexact T1
    isplitl [T2]; · iexact T2
    isplitl [HaB]; · iexact HaB
    iexact HcB
  iapply (pres_list (F := F) c)
  iapply (pres_intro (F := F) c)
  isplitr; · iexact HM
  isplitl [Hat]; · iexact Hat
  isplitl [HtS]; · iexact HtS
  isplitl [HtR]; · iexact HtR
  iexact HcR

/-! ## The credits of what is owed at launch -/

theorem owedL_order (d : Dev nD) : owedL d order = ∑ x : CP, tallyAt (RC x.1 (peer x.1 d) x.2.1 x.2.2) () (N x.2.1) := by
  rw [← order_univ, List.sum_toFinset _ order_nodup]; rfl

theorem launch_copy (x : CP) : (Pipeline.launchCred (fun d => tallyAt (RC x.1 (peer x.1 d) x.2.1 x.2.2) () (N x.2.1)) c : sProp 𝕄)
    ⊢ cred (tallyAt (RC x.1 c x.2.1 x.2.2) () (N x.2.1)) :=
  Pipeline.launchCred_tallyAt (.dma (dsem (1, x))) (peer x.1) (from' x.1) (peer_from x.1) (from_peer x.1) () (N x.2.1) c
theorem launch_barrier (f finv : Dev nD → Dev nD) (h1 : ∀ c, f (finv c) = c) (h2 : ∀ d, finv (f d) = d) :
    (Pipeline.launchCred (fun d => tallyAt (barCell (f d)) () 1) c : sProp 𝕄) ⊢ cred (tallyAt (barCell c) () 1) :=
  Pipeline.launchCred_tallyAt (.reg barS) f finv h1 h2 () 1 c

theorem tally_three (g : GSem nD τ sig) : (tallyAt g () 1 + tallyAt g () 1 + tallyAt g () 1 : CellTallies nD τ sig Unit) = tallyAt g () 3 := by
  rw [tallyAt_add, tallyAt_add]

theorem creds_intro : (Pipeline.launchCred O₀ c : sProp 𝕄) ⊢ creds c := by
  rw [show (O₀ : Dev nD → CellTallies nD τ sig Unit) = fun d => ((((∑ x : CP, tallyAt (RC x.1 (peer x.1 d) x.2.1 x.2.2) () (N x.2.1))
    + tallyAt (barCell (pt d)) () 1) + tallyAt (barCell (rt d)) () 1) + tallyAt (barCell (lf d)) () 1) from funext fun d => by rw [← owedL_order]; rfl]
  rw [Pipeline.launchCred_add, Pipeline.launchCred_add, Pipeline.launchCred_add, Pipeline.launchCred_sum]
  unfold creds
  iintro ⟨⟨⟨HX, HP⟩, HR⟩, HL⟩
  isplitl [HP HR HL]
  · rw [← tally_three]
    iapply (cred_add _ _).2
    isplitr [HL]
    · iapply (cred_add _ _).2
      isplitl [HP]; · iapply (launch_barrier c pt pt pt_pt pt_pt) $$ HP
      iapply (launch_barrier c rt lf rt_lf lf_rt) $$ HR
    iapply (launch_barrier c lf rt lf_rt rt_lf) $$ HL
  iapply (show _ ⊢ _ from bigSep_mono fun x _ => launch_copy (F := F) c x) $$ HX

end Device

/-! ## The cells and the tokens -/

def barEmb : Dev nD ↪ GSem nD τ sig := ⟨barCell, fun _ _ h => congrArg (fun g : GSem nD τ sig => g.1.1) h⟩
def xEmb : Dev nD × XC ↪ GSem nD τ sig := ⟨fun cx => xCell cx.1 cx.2, fun a b h =>
  Prod.ext (congrArg (fun g : GSem nD τ sig => g.1.1) h) (dsem_inj (SemLoc.dma.inj (congrArg Prod.snd h)))⟩
abbrev barCells : Finset (GSem nD τ sig) := Finset.univ.map barEmb
abbrev xCells : Finset (GSem nD τ sig) := Finset.univ.map xEmb

theorem cells_disjoint : Disjoint barCells xCells := by
  rw [Finset.disjoint_left]
  rintro g h₁ h₂
  obtain ⟨c, -, rfl⟩ := Finset.mem_map.mp h₁
  obtain ⟨cx, -, h⟩ := Finset.mem_map.mp h₂
  nomatch (congrArg Prod.snd h : (_ : SemLoc sig) = _)

def barTok : Dev nD × Fin 3 ↪ GSem nD τ sig × ℕ × Fin 3 := ⟨fun a => (barCell a.1, 0, a.2), fun a b h =>
  Prod.ext (congrArg (fun t : GSem nD τ sig × ℕ × Fin 3 => t.1.1.1) h) (congrArg (fun t : GSem nD τ sig × ℕ × Fin 3 => t.2.2) h)⟩
def xTok : Dev nD × XC ↪ GSem nD τ sig × ℕ × Fin 3 := ⟨fun a => (xCell a.1 a.2, 0, 0), fun a b h =>
  xEmb.injective (congrArg (fun t : GSem nD τ sig × ℕ × Fin 3 => t.1) h)⟩
def copyToks : Finset (GSem nD τ sig × ℕ × Fin 3) := Finset.univ.map barTok ∪ Finset.univ.map xTok
theorem toks_disjoint : Disjoint (Finset.univ.map barTok) (Finset.univ.map xTok) := by
  rw [Finset.disjoint_left]
  rintro g h₁ h₂
  obtain ⟨a, -, rfl⟩ := Finset.mem_map.mp h₁
  obtain ⟨b, -, h⟩ := Finset.mem_map.mp h₂
  nomatch (congrArg (fun t : GSem nD τ sig × ℕ × Fin 3 => t.1.2) h : (_ : SemLoc sig) = _)

def right : Dev nD ≃ Dev nD := ⟨rt, lf, lf_rt, rt_lf⟩
def across : Dev nD ≃ Dev nD := ⟨pt, pt, pt_pt, pt_pt⟩
def along (k : Fin 2) : Dev nD ≃ Dev nD := ⟨peer k, from' k, from_peer k, peer_from k⟩

theorem recv_deal : (bigSep Finset.univ fun c : Dev nD => bigSep Finset.univ fun x : CP => (dutyTok ER (RC x.1 c x.2.1 x.2.2) 0 0 : sProp 𝕄))
    = bigSep Finset.univ fun c : Dev nD => bigSep Finset.univ fun x : CP => (dutyTok ER (RC x.1 (peer x.1 c) x.2.1 x.2.2) 0 0 : sProp 𝕄) := by
  rw [bigSep_univ_comm, bigSep_univ_comm (fun (c : Dev nD) (x : CP) => (dutyTok ER (RC x.1 (peer x.1 c) x.2.1 x.2.2) 0 0 : sProp 𝕄))]
  exact bigSep_congr fun x _ => bigSep_univ_equiv (along x.1) (fun c : Dev nD => (dutyTok ER (RC x.1 c x.2.1 x.2.2) 0 0 : sProp 𝕄))

/-- Each token goes to the device that pays with it. -/
theorem toks_deal : (bigSep copyToks fun x => (dutyTok ER x.1 x.2.1 x.2.2 : sProp 𝕄)) ⊢ bigSep Finset.univ fun c : Dev nD => pays c := by
  unfold copyToks pays
  rw [bigSep_union toks_disjoint, bigSep_map, bigSep_map, bigSep_univ_prod, bigSep_univ_prod]
  rw [bigSep_sep', bigSep_sep', bigSep_sep', bigSep_sep']
  refine BI.sep_mono ?_ ?_
  · rw [show (fun c : Dev nD => bigSep Finset.univ fun d : Fin 3 => (dutyTok ER (barTok (c, d)).1 (barTok (c, d)).2.1 (barTok (c, d)).2.2 : sProp 𝕄))
        = fun c => iprop(dutyTok ER (barCell c) 0 0 ∗ dutyTok ER (barCell c) 0 1 ∗ dutyTok ER (barCell c) 0 2) from funext fun c => by
      rw [bigSep_univ_eq_bigSepL [0, 1, 2] (by decide) (by decide), bigSepL_cons_cons, bigSepL_cons_cons, bigSepL_singleton]; rfl]
    rw [bigSep_sep', bigSep_sep', bigSep_univ_equiv right.symm (fun c : Dev nD => (dutyTok ER (barCell c) 0 0 : sProp 𝕄)),
      bigSep_univ_equiv right (fun c : Dev nD => (dutyTok ER (barCell c) 0 1 : sProp 𝕄)),
      bigSep_univ_equiv across (fun c : Dev nD => (dutyTok ER (barCell c) 0 2 : sProp 𝕄))]
    exact BI.Entails.refl _
  · rw [show (fun c : Dev nD => bigSep Finset.univ fun x : XC => (dutyTok ER (xTok (c, x)).1 (xTok (c, x)).2.1 (xTok (c, x)).2.2 : sProp 𝕄))
        = fun c => iprop((bigSep Finset.univ fun x : CP => dutyTok ER (SC x.1 c x.2.1 x.2.2) 0 0) ∗ bigSep Finset.univ fun x : CP => dutyTok ER (RC x.1 c x.2.1 x.2.2) 0 0)
        from funext fun c => by rw [cells_eq]; rfl]
    rw [bigSep_sep']
    rw [recv_deal]
    exact BI.Entails.refl _

/-- The names of the invariants, indexed as the body reads them. -/
def named (κ : GSem nD τ sig → ℕ) : KN := (fun c => κ (barCell c), fun cx => κ (xCell cx.1 cx.2))

/-- The invariants under them. -/
theorem records_intro (κ : GSem nD τ sig → ℕ) :
    iprop((bigSep (barCells ∪ xCells) fun g => cellInv ER (copyRd I) (κ g) g) ∗ bigSep barCells fun g => reached ER g 0)
      ⊢ records I (named κ) := by
  unfold records named
  rw [fam_union cells_disjoint, bigSep_map, bigSep_map, bigSep_map]
  iintro ⟨⟨H1, H2⟩, H3⟩
  isplitl [H1]; · iexact H1
  isplitl [H3]; · iexact H3
  iexact H2

/-- The launch element of the handshake: the barrier cells with their counters, the copies' cells dormant. -/
def uB : UB := launchOf barCells xCells copyToks

theorem unit_free : ∀ g ∈ xCells, ¬ (copyRd I).unitless g := fun g _ h => h
theorem fund : iprop((bigSep barCells fun g => semVal g 0) ∗ BI.own (ER uB))
    ⊢ (|={Set.univ}=> ∃ κ : GSem nD τ sig → ℕ, iprop((bigSep (barCells ∪ xCells) fun g => cellInv ER (copyRd I) (κ g) g)
       ∗ (bigSep barCells fun g => reached ER g 0) ∗ (bigSep barCells fun g => atPos ER g 0 ∅ 0) ∗ (bigSep xCells fun g => openTok ER g)
       ∗ (bigSep copyToks fun x => dutyTok ER x.1 x.2.1 x.2.2)) : sProp 𝕄) := by
  unfold uB
  iintro H
  imod (Rounds.fund_launch ER (copyRd I) cells_disjoint (unit_free I) copyToks ∅) $$ H with ⟨%κ, -, H⟩
  imodintro
  iexists κ
  iexact H

theorem vals_at : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
theorem pos_at : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
theorem open_at : bigSep xCells (fun g => (openTok ER g : sProp 𝕄))
      ⊢ bigSep Finset.univ (fun c : Dev nD => bigSep Finset.univ fun x : XC => (openTok ER (xCell c x) : sProp 𝕄)) :=
    Entails.of_eq ((bigSep_map (s := Finset.univ) xEmb (Φ := fun g : GSem nD τ sig => (openTok ER g : sProp 𝕄))).trans (bigSep_univ_prod _))

theorem shuts : iprop((bigSep barCells fun g => atPos ER g 0 ∅ 0) ∗ (bigSep xCells fun g => openTok ER g)
       ∗ (bigSep copyToks fun x => dutyTok ER x.1 x.2.1 x.2.2)) ⊢ (bigSep Finset.univ fun c : Dev nD => shut c : sProp 𝕄) := by
  unfold shut
  rw [bigSep_sep', bigSep_sep']
  exact BI.sep_mono (pos_at (F := F)) (BI.sep_mono (open_at (F := F)) (toks_deal (F := F)))

/-- What the funding of the cells leaves, dealt to the devices. -/
theorem spread : iprop(∃ κ : GSem nD τ sig → ℕ, (bigSep (barCells ∪ xCells) fun g => cellInv ER (copyRd I) (κ g) g)
       ∗ (bigSep barCells fun g => reached ER g 0) ∗ (bigSep barCells fun g => atPos ER g 0 ∅ 0) ∗ (bigSep xCells fun g => openTok ER g)
       ∗ (bigSep copyToks fun x => dutyTok ER x.1 x.2.1 x.2.2))
    ⊢ (∃ K : KN, iprop(records I K ∗ bigSep Finset.univ fun c : Dev nD => shut c) : sProp 𝕄) := by
  iintro ⟨%κ, Hinv, Hr, Hs⟩
  iexists (named κ)
  isplitl [Hinv Hr]
  · iapply (records_intro I κ)
    isplitl [Hinv] <;> iassumption
  iapply (shuts (F := F)) $$ Hs

theorem deal : iprop((bigSep Finset.univ fun c : Dev nD => semVal (barCell c) 0) ∗ BI.own (ER uB))
    ⊢ (|={Set.univ}=> ∃ K : KN, iprop(records I K ∗ bigSep Finset.univ fun c : Dev nD => shut c) : sProp 𝕄) :=
  (BI.sep_mono (vals_at (F := F)) (BI.Entails.refl _)).trans ((fund I).trans (fupd_mono (spread I)))

end Cert.Kernel.Talk

end
-- ==== Proof.Kernel.Region.lean ====
/- The gather call as one pipeline: its proof data over the arrays as it finds them, and its body obligation. -/
module

public import proofs.«01_k».proof.Proof.Kernel.Deal
public import proofs.«01_k».proof.Proof.Gen.Kernel.Launch
public import proofs.«01_k».proof.Proof.Gen.Kernel.Points

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

open Idealize.ShloMosaic.Pipeline (Dat BodyObligation)

variable (W : Dev nD → Valuation τ sig (Elt F))

/-- The seven inputs, read off the arrays as the call finds them. -/
def insOf : Ins F where
  x c := W c (Proc.devRef .tc main_v1)
  wd c := W c (Proc.devRef .tc main_arg1)
  wk c := W c (Proc.devRef .tc main_arg2)
  wv c := W c (Proc.devRef .tc main_arg3)
  wq c := W c (Proc.devRef .tc main_arg4)
  wqr c := W c (Proc.devRef .tc main_arg5)
  wkr c := W c (Proc.devRef .tc main_arg6)

/-! ## The call's proof data -/

/-- What the handshake leaves a device between the launch and the call, at the call's entry, and after it. -/
def held0 (c : Dev nD) : sProp 𝕄 := iprop((∃ K, records (insOf W) K ∗ shut c) ∗ creds c)
def open0 (c : Dev nD) : sProp 𝕄 := iprop(∃ K, records (insOf W) K ∗ levAts L lv ∗ ready c)
def shut0 (c : Dev nD) : sProp 𝕄 := semVal (barCell c) 0

/-- The three scratch buffers at contents not chosen. -/
def scratch (c : Dev nD) : sProp 𝕄 :=
  iprop((∃ f, at' c cc0_scratch0 f) ∗ (∃ f, at' c cc0_scratch1 f) ∗ (∃ f, at' c cc0_scratch2 f))

/-- What the body never opens: the later calls' staging buffers and the generator register. -/
def kept (c : Dev nD) : sProp 𝕄 :=
  iprop(Pipeline.scopedRestBut (Ix := Unit) (Name := ℕ) (U := UU) (Lvl := ℕ) (Val := Elt F) spec0 c [cc0_scratch0, cc0_scratch1, cc0_scratch2]
    ∗ ∃ r, prngReg c r)

def gat (c : Dev nD) : Dat τ (Elt F) Unit ℕ UU ℕ cfg0 c where
  A w := W c (Proc.devRef .tc (Pipeline.arrRef spec0 w))
  after w _ := match w with
    | ⟨0, _⟩ => (insOf W).x c
    | ⟨1, _⟩ => (insOf W).wd c
    | ⟨2, _⟩ => (insOf W).wk c
    | ⟨3, _⟩ => (insOf W).wv c
    | ⟨4, _⟩ => (insOf W).wq c
    | ⟨5, _⟩ => (insOf W).wqr c
    | ⟨6, _⟩ => (insOf W).wkr c
    | ⟨7, _⟩ => kOut (insOf W) c
    | ⟨8, _⟩ => vOut (insOf W) c
    | ⟨9, _⟩ => qOut (insOf W) c
    | ⟨10, _⟩ => qrOut (insOf W) c
    | ⟨11, _⟩ => krOut (insOf W) c
  Φ t := match t with
    | ⟨0, _⟩ => iprop(open0 W c ∗ scratch c ∗ kept c)
    | ⟨_ + 1, _⟩ => iprop((shut0 c ∗ Pipeline.ownSems0 osem c) ∗ scratch c ∗ kept c)
  q _ := fullShare
  owed t := match t with
    | ⟨0, _⟩ => O₀ c
    | ⟨_ + 1, _⟩ => 0

theorem stage_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ at' c b f) := by
  unfold owns; simp only [Memref.view_whole, View.read_whole, View.set_whole]

/-- A window over a whole buffer, at no grid: its one block is the buffer. -/
theorem rect_whole {s : Shape} {e : EltTy} {cs : CoreSpace} (arr : Memref sig .tc .hbm s e) (o y : Bool) (st : Memref sig .tc (.core cs) ⟨s.rank, s.size⟩ e)
    (sem : DmaSem sig) (ha : arr.IsWhole) (hs : st.IsWhole) (t : Fin Pipeline.Grid.none.N) (j : s.Idx) :
    ((Pipeline.Window.whole arr o y st sem ha hs).rect t).emb j = j :=
  funext fun a => Fin.ext (by
    rw [Rect.emb_apply]
    show 0 * s.size a + 1 * (j a).val = (j a).val
    omega)
theorem block_read {s : Shape} {e : EltTy} {cs : CoreSpace} (arr : Memref sig .tc .hbm s e) (o y : Bool) (st : Memref sig .tc (.core cs) ⟨s.rank, s.size⟩ e)
    (sem : DmaSem sig) (ha : arr.IsWhole) (hs : st.IsWhole) (t : Fin Pipeline.Grid.none.N) (X : arr.view.ref.ty.Contents (Elt F)) :
    ((Pipeline.Window.whole arr o y st sem ha hs).blk t).view.read (Elt F) X = arr.view.read (Elt F) X :=
  funext fun j => congrArg (arr.view.read (Elt F) X) (rect_whole arr o y st sem ha hs t j)
theorem block_set {s : Shape} {e : EltTy} {cs : CoreSpace} (arr : Memref sig .tc .hbm s e) (o y : Bool) (st : Memref sig .tc (.core cs) ⟨s.rank, s.size⟩ e)
    (sem : DmaSem sig) (ha : arr.IsWhole) (hs : st.IsWhole) (t : Fin Pipeline.Grid.none.N) (j : s.Idx) :
    arr.view.emb j ∈ ((Pipeline.Window.whole arr o y st sem ha hs).blk t).view.set := by
  have h := ((Pipeline.Window.whole arr o y st sem ha hs).blk t).view.emb_mem_set j
  rwa [show ((Pipeline.Window.whole arr o y st sem ha hs).blk t).view.emb j = arr.view.emb j from congrArg arr.view.emb (rect_whole arr o y st sem ha hs t j)] at h

theorem fetches (w : Fin 12) (h : w.val < 7) (t : Fin cfg0.N) : (cfg0.win w).fetch t = true := by
  rw [fin_N0 t]; revert w; decide

theorem owesAt_elim {c : Dev nD} (dat : Dat τ (Elt F) Unit ℕ UU ℕ cfg0 c) (t : Fin (cfg0.N + 1)) (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%Wt, -, HO⟩; iexists Wt; iexact HO
theorem owesAt_intro {c : Dev nD} (dat : Dat τ (Elt F) Unit ℕ UU ℕ cfg0 c) (t : Fin (cfg0.N + 1)) (O : CellTallies nD τ sig Unit) (h0 : dat.owed t = O)
    (hr : dat.recorded t = Set.univ) : iprop(∃ W, owes (c : Thread nD τ) O W) ⊢ (dat.owesAt () t : sProp 𝕄) := by
  unfold Dat.owesAt Pipeline.owesWithin Dat.bound; rw [h0, hr]
  iintro ⟨%Wt, HO⟩; iexists Wt; isplitr; · ipureintro; exact fun _ _ => Or.inl trivial
  iexact HO

abbrev stg (c : Dev nD) (b : Ref sig .tc) (X : b.ty.Contents (Elt F)) : sProp 𝕄 :=
  iprop(∃ f : Buf (Elt F) ((c : Thread nD τ).loc b), ⌜f = X⌝ ∗ at' c b f)

def bodyPre (c : Dev nD) : sProp 𝕄 :=
  iprop((open0 W c ∗ scratch c ∗ kept c)
    ∗ (gat W c).owesAt () t0_0.castSucc
    ∗ (∃ d, stg c cc0_stg0_0 ((gat W c).before (0 : Fin 12) t0_0 d))
    ∗ (∃ d, stg c cc0_stg1_0 ((gat W c).before (1 : Fin 12) t0_0 d))
    ∗ (∃ d, stg c cc0_stg2_0 ((gat W c).before (2 : Fin 12) t0_0 d))
    ∗ (∃ d, stg c cc0_stg3_0 ((gat W c).before (3 : Fin 12) t0_0 d))
    ∗ (∃ d, stg c cc0_stg4_0 ((gat W c).before (4 : Fin 12) t0_0 d))
    ∗ (∃ d, stg c cc0_stg5_0 ((gat W c).before (5 : Fin 12) t0_0 d))
    ∗ (∃ d, stg c cc0_stg6_0 ((gat W c).before (6 : Fin 12) t0_0 d))
    ∗ (∃ d, stg c cc0_stg7_0 ((gat W c).before (7 : Fin 12) t0_0 d))
    ∗ (∃ d, stg c cc0_stg8_0 ((gat W c).before (8 : Fin 12) t0_0 d))
    ∗ (∃ d, stg c cc0_stg9_0 ((gat W c).before (9 : Fin 12) t0_0 d))
    ∗ (∃ d, stg c cc0_stg10_0 ((gat W c).before (10 : Fin 12) t0_0 d))
    ∗ (∃ d, stg c cc0_stg11_0 ((gat W c).before (11 : Fin 12) t0_0 d)))
def bodyPost (c : Dev nD) : sProp 𝕄 :=
  iprop(((shut0 c ∗ Pipeline.ownSems0 osem c) ∗ scratch c ∗ kept c)
    ∗ (gat W c).owesAt () t0_0.succ
    ∗ stg c cc0_stg0_0 ((insOf W).x c)
    ∗ stg c cc0_stg1_0 ((insOf W).wd c)
    ∗ stg c cc0_stg2_0 ((insOf W).wk c)
    ∗ stg c cc0_stg3_0 ((insOf W).wv c)
    ∗ stg c cc0_stg4_0 ((insOf W).wq c)
    ∗ stg c cc0_stg5_0 ((insOf W).wqr c)
    ∗ stg c cc0_stg6_0 ((insOf W).wkr c)
    ∗ stg c cc0_stg7_0 (kOut (insOf W) c)
    ∗ stg c cc0_stg8_0 (vOut (insOf W) c)
    ∗ stg c cc0_stg9_0 (qOut (insOf W) c)
    ∗ stg c cc0_stg10_0 (qrOut (insOf W) c)
    ∗ stg c cc0_stg11_0 (krOut (insOf W) c))

/-- The body, from what the pipeline calls it with to what it hands back. -/
theorem body_run (c : Dev nD) (Kt : PUnit → sProp 𝕄) :
    iprop(bodyPre W c ∗ (bodyPost W c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6) Kt := by
  unfold bodyPre open0 scratch
  iintro ⟨⟨⟨⟨%K, #HI, #HL, Hr⟩, ⟨⟨%f0, H0⟩, ⟨%f1, H1⟩, ⟨%f2, H2⟩⟩, Hp⟩, HO,
    ⟨%d0, %g0, %hg0, G0⟩, ⟨%d1, %g1, %hg1, G1⟩, ⟨%d2, %g2, %hg2, G2⟩, ⟨%d3, %g3, %hg3, G3⟩, ⟨%d4, %g4, %hg4, G4⟩, ⟨%d5, %g5, %hg5, G5⟩, ⟨%d6, %g6, %hg6, G6⟩, ⟨%d7, %g7, %hg7, G7⟩, ⟨%d8, %g8, %hg8, G8⟩, ⟨%d9, %g9, %hg9, G9⟩, ⟨%d10, %g10, %hg10, G10⟩, ⟨%d11, %g11, %hg11, G11⟩⟩, Hk⟩
  obtain rfl : g0 = (insOf W).x c := by rw [hg0]; unfold Dat.before; rw [if_pos (fetches 0 (by decide) t0_0)]; exact (show (win0_0.blk t0_0).view.read (Elt F) (W c (Proc.devRef .tc main_v1)) = W c (Proc.devRef .tc main_v1) from block_read (F := F) (Memref.whole main_v1) _ _ _ _ _ _ _ _)
  obtain rfl : g1 = (insOf W).wd c := by rw [hg1]; unfold Dat.before; rw [if_pos (fetches 1 (by decide) t0_0)]; exact (show (win0_1.blk t0_0).view.read (Elt F) (W c (Proc.devRef .tc main_arg1)) = W c (Proc.devRef .tc main_arg1) from block_read (F := F) (Memref.whole main_arg1) _ _ _ _ _ _ _ _)
  obtain rfl : g2 = (insOf W).wk c := by rw [hg2]; unfold Dat.before; rw [if_pos (fetches 2 (by decide) t0_0)]; exact (show (win0_2.blk t0_0).view.read (Elt F) (W c (Proc.devRef .tc main_arg2)) = W c (Proc.devRef .tc main_arg2) from block_read (F := F) (Memref.whole main_arg2) _ _ _ _ _ _ _ _)
  obtain rfl : g3 = (insOf W).wv c := by rw [hg3]; unfold Dat.before; rw [if_pos (fetches 3 (by decide) t0_0)]; exact (show (win0_3.blk t0_0).view.read (Elt F) (W c (Proc.devRef .tc main_arg3)) = W c (Proc.devRef .tc main_arg3) from block_read (F := F) (Memref.whole main_arg3) _ _ _ _ _ _ _ _)
  obtain rfl : g4 = (insOf W).wq c := by rw [hg4]; unfold Dat.before; rw [if_pos (fetches 4 (by decide) t0_0)]; exact (show (win0_4.blk t0_0).view.read (Elt F) (W c (Proc.devRef .tc main_arg4)) = W c (Proc.devRef .tc main_arg4) from block_read (F := F) (Memref.whole main_arg4) _ _ _ _ _ _ _ _)
  obtain rfl : g5 = (insOf W).wqr c := by rw [hg5]; unfold Dat.before; rw [if_pos (fetches 5 (by decide) t0_0)]; exact (show (win0_5.blk t0_0).view.read (Elt F) (W c (Proc.devRef .tc main_arg5)) = W c (Proc.devRef .tc main_arg5) from block_read (F := F) (Memref.whole main_arg5) _ _ _ _ _ _ _ _)
  obtain rfl : g6 = (insOf W).wkr c := by rw [hg6]; unfold Dat.before; rw [if_pos (fetches 6 (by decide) t0_0)]; exact (show (win0_6.blk t0_0).view.read (Elt F) (W c (Proc.devRef .tc main_arg6)) = W c (Proc.devRef .tc main_arg6) from block_read (F := F) (Memref.whole main_arg6) _ _ _ _ _ _ _ _)
  ihave HO' := (owesAt_elim (gat W c) t0_0.castSucc (O₀ c) rfl) $$ HO
  icases HO' with ⟨%Wt, HO⟩
  iapply (wp_body (insOf W) K c Wt f0 f1 f2 g7 g8 g9 g10 g11) $$ [HO] [Hr] [G0 G1 G2 G3 G4 G5 G6] [G7 G8 G9 G10 G11] [H0 H1 H2] [Hk Hp]
  · isplitr; · iexact HI
    isplitr; · iexact HL
    iexact HO
  · iexact Hr
  · unfold inputs
    isplitl [G0]; · iexact G0
    isplitl [G1]; · iexact G1
    isplitl [G2]; · iexact G2
    isplitl [G3]; · iexact G3
    isplitl [G4]; · iexact G4
    isplitl [G5]; · iexact G5
    iexact G6
  · isplitl [G7]; · iexact G7
    isplitl [G8]; · iexact G8
    isplitl [G9]; · iexact G9
    isplitl [G10] <;> iassumption
  · isplitl [H0]; · iexact H0
    isplitl [H1] <;> iassumption
  unfold inputs owesA
  rw [show owedL c [] = (0 : CellTallies nD τ sig Unit) from rfl]
  iintro ⟨-, -, HO⟩ Hd ⟨G0, G1, G2, G3, G4, G5, G6⟩ ⟨G7, G8, G9, G10, G11⟩ ⟨H0, H1, H2⟩
  iapply Hk
  unfold bodyPost shut0 scratch
  isplitl [Hd H0 H1 H2 Hp]
  · isplitl [Hd]; · iapply (done_own (F := F) c) $$ Hd
    isplitl [H0 H1 H2]
    · isplitl [H0]; · iexists _; iexact H0
      isplitl [H1]; · iexists _; iexact H1
      iexists _; iexact H2
    iexact Hp
  isplitl [HO]; · iapply (owesAt_intro (gat W c) t0_0.succ 0 rfl rfl) $$ HO
  isplitl [G0]
  · iexists _; isplitr
    · ipureintro; rfl
    iexact G0
  isplitl [G1]
  · iexists _; isplitr
    · ipureintro; rfl
    iexact G1
  isplitl [G2]
  · iexists _; isplitr
    · ipureintro; rfl
    iexact G2
  isplitl [G3]
  · iexists _; isplitr
    · ipureintro; rfl
    iexact G3
  isplitl [G4]
  · iexists _; isplitr
    · ipureintro; rfl
    iexact G4
  isplitl [G5]
  · iexists _; isplitr
    · ipureintro; rfl
    iexact G5
  isplitl [G6]
  · iexists _; isplitr
    · ipureintro; rfl
    iexact G6
  isplitl [G7]
  · iexists _; isplitr
    · ipureintro; rfl
    iexact G7
  isplitl [G8]
  · iexists _; isplitr
    · ipureintro; rfl
    iexact G8
  isplitl [G9]
  · iexists _; isplitr
    · ipureintro; rfl
    iexact G9
  isplitl [G10]
  · iexists _; isplitr
    · ipureintro; rfl
    iexact G10
  iexists _; isplitr
  · ipureintro; rfl
  iexact G11

/-- The call's obligation. -/
theorem body_obligation (c : Dev nD) : BodyObligation (gat W c) defs₀ 𝒱₀ () Set.univ := fun t => by
  rw [fin_N0 t]
  rw [bigSep_W0, bigSep_W0]
  simp only [stage_eq]
  show bodyPre W c ⊢ wp frame _ _ (cc0_body (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6) (fun _ => bodyPost W c)
  iintro H
  iapply (body_run W c _)
  isplitl [H]; · iexact H
  iintro H; iexact H

end Cert.Kernel.Talk

end
-- ==== Proof.Kernel.Ends.lean ====
/- What the gather call leaves in its arrays, and how it is entered and left. -/
module

public import proofs.«01_k».proof.Proof.Kernel.Region

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

open Idealize.ShloMosaic.Pipeline (Dat BodyObligation)

variable (W : Dev nD → Valuation τ sig (Elt F))

/-- What a device owes at launch is owed at cells above the staging cells' level. -/
theorem O₀_pos {c : Dev nD} {g : GSem nD τ sig} {u : Unit} (h : 0 < O₀ c g u) :
    (∃ x : CP, g = RC x.1 (peer x.1 c) x.2.1 x.2.2) ∨ ∃ d, g = barCell d := by
  unfold O₀ at h
  rw [Pi.add_apply, Finsupp.add_apply, Pi.add_apply, Finsupp.add_apply, Pi.add_apply, Finsupp.add_apply, tallyAt_apply, tallyAt_apply, tallyAt_apply] at h
  by_cases h1 : g = barCell (lf c)
  · exact .inr ⟨_, h1⟩
  by_cases h2 : g = barCell (rt c)
  · exact .inr ⟨_, h2⟩
  by_cases h3 : g = barCell (pt c)
  · exact .inr ⟨_, h3⟩
  rw [if_neg fun e => h3 e.1, if_neg fun e => h2 e.1, if_neg fun e => h1 e.1] at h
  obtain ⟨x, -, rfl⟩ := owedL_pos (show 0 < owedL c order g u by simpa only [Nat.add_zero] using h)
  exact .inl ⟨x, rfl⟩

theorem owed_cut (c : Dev nD) (t : Fin (cfg0.N + 1)) (g : GSem nD τ sig) (i : Unit) (h : 0 < (gat W c).owed t g i) :
    i ∈ L g ∧ (0 : ℕ) < lv g i := by
  have hc : (gat W c).owed t = O₀ c ∨ (gat W c).owed t = 0 := by
    obtain ⟨t, ht⟩ := t
    cases t with
    | zero => exact .inl rfl
    | succ t => exact .inr rfl
  rcases hc with hc | hc
  · rw [hc] at h
    rcases O₀_pos h with ⟨⟨k, t, n⟩, rfl⟩ | ⟨d, rfl⟩
    · refine ⟨by rw [L_R]; exact Finset.mem_singleton_self _, ?_⟩
      show 0 < lv (RC k (peer k c) t n) ()
      rw [lv_R]; unfold lvX; split <;> omega
    · refine ⟨by rw [L_bar]; exact Finset.mem_singleton_self _, ?_⟩
      show 0 < lv (barCell d) ()
      rw [lv_bar]; exact Nat.one_pos
  · rw [hc] at h; exact absurd h (Nat.lt_irrefl 0)

theorem stage_sem : ∀ (w : Fin 12) (s : Fin (spec0 w).nbuf), ((spec0 w).sem s).val < 12 := by decide
theorem stage_lv (c : Dev nD) (w : Fin 12) (s : Fin (spec0 w).nbuf) : lv ((c : Thread nD τ), .dma ((spec0 w).sem s)) () ≤ 0 := by
  refine le_of_eq (if_neg fun h => ?_)
  have := stage_sem w s; omega

/-! ## What the arrays end at -/

theorem flushes (w : Fin 12) (h : 7 ≤ w.val) : (cfg0.win w).flush t0_0 = true := by revert w; decide
theorem end_in (c : Dev nD) (w : Fin 12) (h : (cfg0.win w).isOut = false) (n : ℕ) : (gat W c).arrAt w n = W c (Proc.devRef .tc (Pipeline.arrRef spec0 w)) :=
  (gat W c).arrAt_in w h n
theorem end_out (c : Dev nD) (w : Fin 12) (h : 7 ≤ w.val) :
    (gat W c).arrAt w cfg0.N = ((cfg0.win w).blk t0_0).view.write (Elt F) ((gat W c).arrAt w 0) ((gat W c).flushed w t0_0) Finset.univ := by
  have e := (gat W c).arrAt_succ w t0_0
  rw [if_pos (flushes w h)] at e
  exact (congrArg ((gat W c).arrAt w) N_0).trans e
theorem block_write {s : Shape} {e : EltTy} {cs : CoreSpace} (arr : Memref sig .tc .hbm s e) (o y : Bool) (st : Memref sig .tc (.core cs) ⟨s.rank, s.size⟩ e)
    (sem : DmaSem sig) (ha : arr.IsWhole) (hs : st.IsWhole) (t : Fin Pipeline.Grid.none.N) (X : arr.view.ref.ty.Contents (Elt F)) (v : s.Idx → Elt F e) :
    arr.view.read (Elt F) (((Pipeline.Window.whole arr o y st sem ha hs).blk t).view.write (Elt F) X v Finset.univ) = v :=
  (block_read (F := F) arr o y st sem ha hs t _).symm.trans (View.read_write_univ (v := ((Pipeline.Window.whole arr o y st sem ha hs).blk t).view) X v)

/-- The arrays after the call: the five results written, all else as before. -/
def next (c : Dev nD) : Valuation τ sig (Elt F) :=
  Function.update (Function.update (Function.update (Function.update (Function.update (W c) (Proc.devRef .tc main_v2_0) (kOut (insOf W) c)) (Proc.devRef .tc main_v2_1) (vOut (insOf W) c)) (Proc.devRef .tc main_v2_2) (qOut (insOf W) c)) (Proc.devRef .tc main_v2_3) (qrOut (insOf W) c)) (Proc.devRef .tc main_v2_4) (krOut (insOf W) c)

theorem next_7 (c : Dev nD) : next W c (Proc.devRef .tc main_v2_0) = kOut (insOf W) c := by
  unfold next
  rw [Function.update_of_ne (by decide), Function.update_of_ne (by decide), Function.update_of_ne (by decide), Function.update_of_ne (by decide), Function.update_self]
theorem end_7 (c : Dev nD) : (gat W c).arrAt (7 : Fin 12) cfg0.N = next W c (Proc.devRef .tc main_v2_0) := by
  rw [next_7]
  exact (end_out W c 7 (by decide)).trans (block_write (F := F) (Memref.whole main_v2_0) _ _ _ _ (Memref.isWhole_whole _) (Memref.isWhole_whole _) t0_0 _ _)

theorem next_8 (c : Dev nD) : next W c (Proc.devRef .tc main_v2_1) = vOut (insOf W) c := by
  unfold next
  rw [Function.update_of_ne (by decide), Function.update_of_ne (by decide), Function.update_of_ne (by decide), Function.update_self]
theorem end_8 (c : Dev nD) : (gat W c).arrAt (8 : Fin 12) cfg0.N = next W c (Proc.devRef .tc main_v2_1) := by
  rw [next_8]
  exact (end_out W c 8 (by decide)).trans (block_write (F := F) (Memref.whole main_v2_1) _ _ _ _ (Memref.isWhole_whole _) (Memref.isWhole_whole _) t0_0 _ _)

theorem next_9 (c : Dev nD) : next W c (Proc.devRef .tc main_v2_2) = qOut (insOf W) c := by
  unfold next
  rw [Function.update_of_ne (by decide), Function.update_of_ne (by decide), Function.update_self]
theorem end_9 (c : Dev nD) : (gat W c).arrAt (9 : Fin 12) cfg0.N = next W c (Proc.devRef .tc main_v2_2) := by
  rw [next_9]
  exact (end_out W c 9 (by decide)).trans (block_write (F := F) (Memref.whole main_v2_2) _ _ _ _ (Memref.isWhole_whole _) (Memref.isWhole_whole _) t0_0 _ _)

theorem next_10 (c : Dev nD) : next W c (Proc.devRef .tc main_v2_3) = qrOut (insOf W) c := by
  unfold next
  rw [Function.update_of_ne (by decide), Function.update_self]
theorem end_10 (c : Dev nD) : (gat W c).arrAt (10 : Fin 12) cfg0.N = next W c (Proc.devRef .tc main_v2_3) := by
  rw [next_10]
  exact (end_out W c 10 (by decide)).trans (block_write (F := F) (Memref.whole main_v2_3) _ _ _ _ (Memref.isWhole_whole _) (Memref.isWhole_whole _) t0_0 _ _)

theorem next_11 (c : Dev nD) : next W c (Proc.devRef .tc main_v2_4) = krOut (insOf W) c := by
  unfold next
  rw [Function.update_self]
theorem end_11 (c : Dev nD) : (gat W c).arrAt (11 : Fin 12) cfg0.N = next W c (Proc.devRef .tc main_v2_4) := by
  rw [next_11]
  exact (end_out W c 11 (by decide)).trans (block_write (F := F) (Memref.whole main_v2_4) _ _ _ _ (Memref.isWhole_whole _) (Memref.isWhole_whole _) t0_0 _ _)

theorem next_of (c : Dev nD) (b : DevRef τ sig) (h : ∀ r ∈ [main_v2_0, main_v2_1, main_v2_2, main_v2_3, main_v2_4], b ≠ Proc.devRef .tc r) : next W c b = W c b := by
  unfold next
  rw [Function.update_of_ne (h _ (by simp)), Function.update_of_ne (h _ (by simp)), Function.update_of_ne (h _ (by simp)),
    Function.update_of_ne (h _ (by simp)), Function.update_of_ne (h _ (by simp))]

theorem ends (c : Dev nD) : ∀ w : Fin 12, (gat W c).arrAt w cfg0.N = next W c (Proc.devRef .tc (Pipeline.arrRef spec0 w))
  | 0 => (end_in W c 0 (by decide) _).trans (next_of W c (Proc.devRef .tc main_v1) (by decide)).symm
  | 1 => (end_in W c 1 (by decide) _).trans (next_of W c (Proc.devRef .tc main_arg1) (by decide)).symm
  | 2 => (end_in W c 2 (by decide) _).trans (next_of W c (Proc.devRef .tc main_arg2) (by decide)).symm
  | 3 => (end_in W c 3 (by decide) _).trans (next_of W c (Proc.devRef .tc main_arg3) (by decide)).symm
  | 4 => (end_in W c 4 (by decide) _).trans (next_of W c (Proc.devRef .tc main_arg4) (by decide)).symm
  | 5 => (end_in W c 5 (by decide) _).trans (next_of W c (Proc.devRef .tc main_arg5) (by decide)).symm
  | 6 => (end_in W c 6 (by decide) _).trans (next_of W c (Proc.devRef .tc main_arg6) (by decide)).symm
  | 7 => end_7 W c
  | 8 => end_8 W c
  | 9 => end_9 W c
  | 10 => end_10 W c
  | 11 => end_11 W c

/-! ## Entering and leaving the call -/

theorem enter (c : Dev nD) : iprop(held0 W c ∗ Pipeline.ownSems0 osem c ∗ levAts L lv) ⊢ (|={Set.univ}=> open0 W c : sProp 𝕄) := by
  unfold held0 open0
  iintro ⟨⟨⟨%K, #HI, Hs⟩, Hc⟩, Ho, #HL⟩
  imod (open_ready (insOf W) c K) $$ [Hs Hc Ho] with Hr
  · isplitr; · iexact HI
    isplitl [Hs]; · iexact Hs
    isplitl [Hc]; · iexact Hc
    iexact Ho
  imodintro
  iexists K
  isplitr; · iexact HI
  isplitr; · iexact HL
  iexact Hr

/-- The scoped buffers no window of the call stages: its three scratch buffers and the rest. -/
theorem rest_eq (c : Dev nD) : (Pipeline.scopedRest (Ix := Unit) (Name := ℕ) (U := UU) (Lvl := ℕ) (Val := Elt F) spec0 c : sProp 𝕄)
    = iprop(scratch c ∗ Pipeline.scopedRestBut (Ix := Unit) (Name := ℕ) (U := UU) (Lvl := ℕ) (Val := Elt F) spec0 c [cc0_scratch0, cc0_scratch1, cc0_scratch2]) :=
  Pipeline.scopedRest_split_of_list spec0 c [cc0_scratch0, cc0_scratch1, cc0_scratch2] (by decide) (by decide)

theorem begins (c : Dev nD) (H : sProp 𝕄) :
    iprop(Pipeline.scopedRest (Ix := Unit) (Name := ℕ) (U := UU) (Lvl := ℕ) (Val := Elt F) spec0 c ∗ (∃ r, prngReg c r) ∗ H ∗ open0 W c) ⊢ ((gat W c).Φ 0 : sProp 𝕄) := by
  rw [rest_eq, show (gat W c).Φ 0 = iprop(open0 W c ∗ scratch c ∗ kept c) from rfl]
  unfold kept
  iintro ⟨⟨Hs, Hr⟩, Hp, -, HX⟩
  isplitl [HX]; · iexact HX
  isplitl [Hs]; · iexact Hs
  isplitl [Hr] <;> iassumption

theorem leaves (c : Dev nD) : ((gat W c).Φ (Fin.last cfg0.N) : sProp 𝕄)
    ⊢ iprop(Pipeline.scopedRest (Ix := Unit) (Name := ℕ) (U := UU) (Lvl := ℕ) (Val := Elt F) spec0 c ∗ (∃ r, prngReg c r) ∗ emp ∗ Pipeline.ownSems0 osem c ∗ shut0 c) := by
  rw [rest_eq, show (gat W c).Φ (Fin.last cfg0.N) = iprop((shut0 c ∗ Pipeline.ownSems0 osem c) ∗ scratch c ∗ kept c) from by
    rw [show Fin.last cfg0.N = t0_0.succ from Fin.ext N_0]; rfl]
  unfold kept
  iintro ⟨⟨Hb, Ho⟩, Hs, Hr, Hp⟩
  isplitl [Hs Hr]
  · isplitl [Hs] <;> iassumption
  isplitl [Hp]; · iexact Hp
  isplitr; · iempintro
  isplitl [Ho]; · iexact Ho
  iexact Hb

end Cert.Kernel.Talk

end
-- ==== Proof.Kernel.Attend.lean ====
/- The attention call over any arrays: what its body leaves at each grid point, and the body's obligation. -/
module

public import proofs.«01_k».proof.Proof.Kernel.Region
public import proofs.«01_k».proof.Proof.Gen.Kernel.Points
public import Idealize.ShloMosaic.Lib.Pipeline.FrameBody
public import Idealize.ShloMosaic.Lib.Pipeline.Frame

@[expose] public section

set_option maxRecDepth 16384

noncomputable section

namespace Cert.Kernel.Attend

open Cert.Kernel Cert.Kernel.Gen Cert.Kernel.Talk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

/-! ## What the body computes -/

/-- The 128 columns of the wide arrays at `o`, -/
abbrev cols (o : ℕ) (h : ∀ a, ![0, 0, o] a + S1x512x128.size a ≤ S1x512x2048.size a) : Rect S1x512x2048 := Rect.unit (s := S1x512x2048) ![0, 0, o] S1x512x128.size h
/-- and the 32 of the rotary queries. -/
abbrev rcols (o : ℕ) (h : ∀ a, ![0, 0, o] a + S1x512x32.size a ≤ S1x512x512.size a) : Rect S1x512x512 := Rect.unit (s := S1x512x512) ![0, 0, o] S1x512x32.size h
abbrev all : Rect S1x512x32 := Rect.unit (s := S1x512x32) ![0, 0, 0] S1x512x32.size inb_S1x512x32_S1x512x32_0_0_0

section Value
variable (q k v : Vec F S1x512x2048 .bf16) (qr : Vec F S1x512x512 .bf16) (kr : Vec F S1x512x32 .bf16)

/-- One head's rows of the result, at its columns. -/
abbrev piece (o o' : ℕ) (h : ∀ a, ![0, 0, o] a + S1x512x128.size a ≤ S1x512x2048.size a) (h' : ∀ a, ![0, 0, o'] a + S1x512x32.size a ≤ S1x512x512.size a) :
    View.Piece (Elt F) S1x512x2048 .bf16 :=
  ⟨cols o h, k1_pay3 (View.ld kr all) (View.ld q (cols o h)) (View.ld k (cols o h)) (View.ld qr (rcols o' h')) (View.ld v (cols o h))⟩

/-- What the body leaves in its result's buffer: the sixteen heads side by side, the last stored first. -/
def left : Vec F S1x512x2048 .bf16 :=
  View.canon [piece q k v qr kr 1920 480 (by decide) (by decide),
    piece q k v qr kr 1792 448 (by decide) (by decide),
    piece q k v qr kr 1664 416 (by decide) (by decide),
    piece q k v qr kr 1536 384 (by decide) (by decide),
    piece q k v qr kr 1408 352 (by decide) (by decide),
    piece q k v qr kr 1280 320 (by decide) (by decide),
    piece q k v qr kr 1152 288 (by decide) (by decide),
    piece q k v qr kr 1024 256 (by decide) (by decide),
    piece q k v qr kr 896 224 (by decide) (by decide),
    piece q k v qr kr 768 192 (by decide) (by decide),
    piece q k v qr kr 640 160 (by decide) (by decide),
    piece q k v qr kr 512 128 (by decide) (by decide),
    piece q k v qr kr 384 96 (by decide) (by decide),
    piece q k v qr kr 256 64 (by decide) (by decide),
    piece q k v qr kr 128 32 (by decide) (by decide),
    piece q k v qr kr 0 0 (by decide) (by decide)]
end Value

set_option maxHeartbeats 1000000 in
/-- The body at any grid point, from its inputs' buffers: they stay, and the result's buffer ends at `left`. -/
theorem body_triple (c : Dev nD) (E : Set ℕ) (i : grid1.Coords) (a1 : Memref sig .tc .vmem S1x512x2048 .bf16) (h1 : a1.IsWhole) (a2 : Memref sig .tc .vmem S1x512x2048 .bf16) (h2 : a2.IsWhole)
    (a3 : Memref sig .tc .vmem S1x512x2048 .bf16) (h3 : a3.IsWhole) (a4 : Memref sig .tc .vmem S1x512x512 .bf16) (h4 : a4.IsWhole) (a5 : Memref sig .tc .vmem S1x512x32 .bf16) (h5 : a5.IsWhole)
    (a6 : Memref sig .tc .vmem S1x512x2048 .bf16) (h6 : a6.IsWhole)
    (q k v : Vec F S1x512x2048 .bf16) (qr : Vec F S1x512x512 .bf16) (kr : Vec F S1x512x32 .bf16) (K : PUnit → sProp 𝕄) :
    iprop((owns (c : Thread nD τ) a1 fullShare q ∗ owns (c : Thread nD τ) a2 fullShare k ∗ owns (c : Thread nD τ) a3 fullShare v ∗ owns (c : Thread nD τ) a4 fullShare qr ∗ owns (c : Thread nD τ) a5 fullShare kr)
        ∗ (∃ d, owns (c : Thread nD τ) a6 fullShare d)
        ∗ (iprop((owns (c : Thread nD τ) a1 fullShare q ∗ owns (c : Thread nD τ) a2 fullShare k ∗ owns (c : Thread nD τ) a3 fullShare v ∗ owns (c : Thread nD τ) a4 fullShare qr ∗ owns (c : Thread nD τ) a5 fullShare kr)
            ∗ owns (c : Thread nD τ) a6 fullShare (left q k v qr kr)) -∗ K ⟨⟩))
      ⊢ wp frame (wpE (defs₀ (F := F)) 𝒱₀ c none) E (cc1_body i a1 h1 a2 h2 a3 h3 a4 h4 a5 h5 a6 h6) K := by
  simp only [cc1_body_eq_skeleton]; unfold cc1_body_skel
  simp only [k1_part13_eq_skeleton, k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton, k1_part11_eq_skeleton, k1_part12_eq_skeleton]
  unfold owns
  iintro ⟨⟨⟨%f1, %e1, H1⟩, ⟨%f2, %e2, H2⟩, ⟨%f3, %e3, H3⟩, ⟨%f4, %e4, H4⟩, ⟨%f5, %e5, H5⟩⟩, ⟨%d, %f6, -, H6⟩, Hk⟩
  subst e1 e2 e3 e4 e5
  sl_exec
  sl_step
  iapply Hk
  isplitl [H1 H2 H3 H4 H5]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists f5; isplitr; · ipureintro; rfl
    iexact H5
  iexists _; isplitr
  swap; · iexact H6
  ipureintro
  refine Eq.trans (View.read_writes_eq_canon _ _ _ ?_) ?_
  · intro y
    refine View.cover_of_tiled (s := S1x512x2048) _ S1x512x128.size ?_ y
    rfl
  · rfl

/-! ## The call's data -/

variable (W : Dev nD → Valuation τ sig (Elt F))

/-- The block of window `w` at point `t`, of the arrays the call finds. -/
def block (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What point `t` computes. -/
def result (c : Dev nD) (t : Fin cfg1.N) : Vec F S1x512x2048 .bf16 :=
  left (block W c 0 t) (block W c 1 t) (block W c 2 t) (block W c 3 t) (block W c 4 t)

/-- The inputs' buffers stay at their blocks and the result's takes the body's; the call owes nothing. -/
def dat (c : Dev nD) : Dat τ (Elt F) Unit ℕ UU ℕ cfg1 c where
  A w := W c (Proc.devRef .tc (Pipeline.arrRef spec1 w))
  after w t := match w with
    | ⟨0, _⟩ => block W c 0 t
    | ⟨1, _⟩ => block W c 1 t
    | ⟨2, _⟩ => block W c 2 t
    | ⟨3, _⟩ => block W c 3 t
    | ⟨4, _⟩ => block W c 4 t
    | ⟨5, _⟩ => result W c t
  Φ _ := Pipeline.ΦA spec1 c
  q _ := fullShare
  owed _ := 0

theorem entry_eq (c : Dev nD) (w : Fin cfg1.W) : (dat W c).A w = W c (Proc.devRef .tc (Pipeline.arrRef spec1 w)) := by dsimp only [dat]

/-- An input's buffer holds its block at every point. -/
theorem before_eq (c : Dev nD) (w : Fin cfg1.W) (hw : (cfg1.win w).isOut = false)
    (hclip : ∀ t t' : Fin cfg1.N, (cfg1.win w).index t = (cfg1.win w).index t' → (cfg1.win w).clip (cfg1.grid.coords t) = (cfg1.win w).clip (cfg1.grid.coords t'))
    (hkeep : ∀ t, (cfg1.win w).cut (cfg1.grid.coords t) ((dat W c).after w t) = (dat W c).blockOf w t) (t : Fin cfg1.N) (d) :
    (dat W c).before w t d = (dat W c).fetched w t d :=
  (dat W c).before_in_eq_fetched w hw (fun _ => rfl) hclip hkeep t d

theorem before0 (c : Dev nD) (t : Fin cfg1.N) (d) : (dat W c).before 0 t d = block W c 0 t :=
  (before_eq W c 0 rfl (fun _ _ _ => rfl) (fun _ => rfl) t d).trans rfl
theorem before1 (c : Dev nD) (t : Fin cfg1.N) (d) : (dat W c).before 1 t d = block W c 1 t :=
  (before_eq W c 1 rfl (fun _ _ _ => rfl) (fun _ => rfl) t d).trans rfl
theorem before2 (c : Dev nD) (t : Fin cfg1.N) (d) : (dat W c).before 2 t d = block W c 2 t :=
  (before_eq W c 2 rfl (fun _ _ _ => rfl) (fun _ => rfl) t d).trans rfl
theorem before3 (c : Dev nD) (t : Fin cfg1.N) (d) : (dat W c).before 3 t d = block W c 3 t :=
  (before_eq W c 3 rfl (fun _ _ _ => rfl) (fun _ => rfl) t d).trans rfl
theorem before4 (c : Dev nD) (t : Fin cfg1.N) (d) : (dat W c).before 4 t d = block W c 4 t :=
  (before_eq W c 4 rfl (fun _ _ _ => rfl) (fun _ => rfl) t d).trans rfl

/-- What the body leaves, window by window. -/
theorem after0 (c : Dev nD) (t : Fin cfg1.N) : (dat W c).after 0 t = block W c 0 t := by dsimp only [dat]
theorem after1 (c : Dev nD) (t : Fin cfg1.N) : (dat W c).after 1 t = block W c 1 t := by dsimp only [dat]
theorem after2 (c : Dev nD) (t : Fin cfg1.N) : (dat W c).after 2 t = block W c 2 t := by dsimp only [dat]
theorem after3 (c : Dev nD) (t : Fin cfg1.N) : (dat W c).after 3 t = block W c 3 t := by dsimp only [dat]
theorem after4 (c : Dev nD) (t : Fin cfg1.N) : (dat W c).after 4 t = block W c 4 t := by dsimp only [dat]
theorem after5 (c : Dev nD) (t : Fin cfg1.N) : (dat W c).after 5 t = result W c t := by dsimp only [dat]

/-- The body at point `t`, from what the pipeline hands it to what it must hand back. -/
theorem body_at (c : Dev nD) (t : Fin cfg1.N) :
    iprop((dat W c).Φ t.castSucc ∗ (dat W c).owesAt () t.castSucc
      ∗ (∃ d, owns (c : Thread nD τ) (st1_0 t) fullShare ((dat W c).before 0 t d)) ∗ (∃ d, owns (c : Thread nD τ) (st1_1 t) fullShare ((dat W c).before 1 t d))
      ∗ (∃ d, owns (c : Thread nD τ) (st1_2 t) fullShare ((dat W c).before 2 t d)) ∗ (∃ d, owns (c : Thread nD τ) (st1_3 t) fullShare ((dat W c).before 3 t d))
      ∗ (∃ d, owns (c : Thread nD τ) (st1_4 t) fullShare ((dat W c).before 4 t d)) ∗ (∃ d, owns (c : Thread nD τ) (st1_5 t) fullShare ((dat W c).before 5 t d)))
    ⊢ wp frame (wpE (defs₀ (F := F)) 𝒱₀ c none) Set.univ (bodyAt1 t) (fun _ =>
      iprop((dat W c).Φ t.succ ∗ (dat W c).owesAt () t.succ
        ∗ owns (c : Thread nD τ) (st1_0 t) fullShare ((dat W c).after 0 t) ∗ owns (c : Thread nD τ) (st1_1 t) fullShare ((dat W c).after 1 t)
        ∗ owns (c : Thread nD τ) (st1_2 t) fullShare ((dat W c).after 2 t) ∗ owns (c : Thread nD τ) (st1_3 t) fullShare ((dat W c).after 3 t)
        ∗ owns (c : Thread nD τ) (st1_4 t) fullShare ((dat W c).after 4 t) ∗ owns (c : Thread nD τ) (st1_5 t) fullShare ((dat W c).after 5 t))) := by
  unfold bodyAt1
  rw [show (dat W c).Φ t.succ = (dat W c).Φ t.castSucc from rfl, show (dat W c).owesAt () t.succ = (dat W c).owesAt () t.castSucc from rfl,
    after0, after1, after2, after3, after4, after5]
  simp only [before0, before1, before2, before3, before4]
  iintro ⟨HΦ, Ho, ⟨%d0, H0⟩, ⟨%d1, H1⟩, ⟨%d2, H2⟩, ⟨%d3, H3⟩, ⟨%d4, H4⟩, ⟨%d5, H5⟩⟩
  iapply (body_triple c Set.univ (grid1.coords t) _ _ _ _ _ _ _ _ _ _ _ _ (block W c 0 t) (block W c 1 t) (block W c 2 t) (block W c 3 t) (block W c 4 t) _)
  isplitl [H0 H1 H2 H3 H4]
  · isplitl [H0]; · iexact H0
    isplitl [H1]; · iexact H1
    isplitl [H2]; · iexact H2
    isplitl [H3] <;> iassumption
  isplitl [H5]; · iexists _; iexact H5
  iintro ⟨⟨H0, H1, H2, H3, H4⟩, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg1.N) : defs₀ (F := F) .tc cfg1.body (cfg1.bodyArgs t (cfg1.slots t)) = bodyAt1 t := by
  unfold defs₀; rw [Defs.onTc_tc]

/-- The call's obligation. -/
theorem obligation (c : Dev nD) : BodyObligation (dat W c) defs₀ 𝒱₀ () Set.univ := fun t => by
  rw [bigSep_W1, bigSep_W1, row_eq]
  exact triple_restated (body_at W c t) rfl .rfl fun _ => .rfl

theorem share_full (c : Dev nD) (w : Fin cfg1.W) : (dat W c).share w = fullShare := (dat W c).share_full (fun _ => rfl) w

end Cert.Kernel.Attend

end
-- ==== Proof.Kernel.Project.lean ====
/- The output product's call over any arrays: what its body leaves at each grid point, and the body's obligation. -/
module

public import proofs.«01_k».proof.Proof.Kernel.Region
public import proofs.«01_k».proof.Proof.Gen.Kernel.Points
public import Idealize.ShloMosaic.Lib.Pipeline.FrameBody
public import Idealize.ShloMosaic.Lib.Pipeline.Frame

@[expose] public section

set_option maxRecDepth 16384

noncomputable section

namespace Cert.Kernel.Project

open Cert.Kernel Cert.Kernel.Gen Cert.Kernel.Talk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

abbrev rA : Rect S1024x2048 := Rect.unit (s := S1024x2048) ![0, 0] S1024x2048.size inb_S1024x2048_S1024x2048_0_0
abbrev rB : Rect S2048x512 := Rect.unit (s := S2048x512) ![0, 0] S2048x512.size inb_S2048x512_S2048x512_0_0
abbrev rO : Rect S1024x512 := Rect.unit (s := S1024x512) ![0, 0] S1024x512.size inb_S1024x512_S1024x512_0_0

/-- What the body leaves in its result's buffer. -/
def left (A : Vec F S1024x2048 .bf16) (B : Vec F S2048x512 .bf16) : Vec F S1024x512 .f32 :=
  View.canon [⟨rO, k2_pay1 (View.ld A rA) (View.ld B rB)⟩]

set_option maxHeartbeats 1000000 in
/-- The body at any grid point: its inputs' buffers stay, and the result's ends at `left`. -/
theorem body_triple (c : Dev nD) (E : Set ℕ) (i : grid2.Coords) (a1 : Memref sig .tc .vmem S1024x2048 .bf16) (h1 : a1.IsWhole) (a2 : Memref sig .tc .vmem S2048x512 .bf16) (h2 : a2.IsWhole)
    (a3 : Memref sig .tc .vmem S1024x512 .f32) (h3 : a3.IsWhole) (A : Vec F S1024x2048 .bf16) (B : Vec F S2048x512 .bf16) (K : PUnit → sProp 𝕄) :
    iprop(owns (c : Thread nD τ) a1 fullShare A ∗ owns (c : Thread nD τ) a2 fullShare B ∗ (∃ d, owns (c : Thread nD τ) a3 fullShare d)
        ∗ (iprop(owns (c : Thread nD τ) a1 fullShare A ∗ owns (c : Thread nD τ) a2 fullShare B ∗ owns (c : Thread nD τ) a3 fullShare (left A B)) -∗ K ⟨⟩))
      ⊢ wp frame (wpE (defs₀ (F := F)) 𝒱₀ c none) E (cc2_body i a1 h1 a2 h2 a3 h3) K := by
  simp only [cc2_body_eq_skeleton]; unfold cc2_body_skel
  unfold owns
  iintro ⟨⟨%f1, %e1, H1⟩, ⟨%f2, %e2, H2⟩, ⟨%d, %f3, -, H3⟩, Hk⟩
  subst e1 e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ fun y => View.cover_of_tiled _ S1024x512.size (by rfl) y

/-! ## The call's data -/

variable (W : Dev nD → Valuation τ sig (Elt F))

/-- The block of window `w` at point `t`, of the arrays the call finds. -/
def block (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The inputs' buffers stay at their blocks and the result's takes the body's; the call owes nothing. -/
def dat (c : Dev nD) : Dat τ (Elt F) Unit ℕ UU ℕ cfg2 c where
  A w := W c (Proc.devRef .tc (Pipeline.arrRef spec2 w))
  after w t := match w with
    | ⟨0, _⟩ => block W c 0 t
    | ⟨1, _⟩ => block W c 1 t
    | ⟨2, _⟩ => left (block W c 0 t) (block W c 1 t)
  Φ _ := Pipeline.ΦA spec2 c
  q _ := fullShare
  owed _ := 0

theorem entry_eq (c : Dev nD) (w : Fin cfg2.W) : (dat W c).A w = W c (Proc.devRef .tc (Pipeline.arrRef spec2 w)) := by dsimp only [dat]

/-- An input's buffer holds its block at every point. -/
theorem before0 (c : Dev nD) (t : Fin cfg2.N) (d) : (dat W c).before 0 t d = block W c 0 t :=
  ((dat W c).before_in_eq_fetched 0 rfl (fun _ => rfl) (fun _ _ _ => rfl) (fun _ => rfl) t d).trans rfl
theorem before1 (c : Dev nD) (t : Fin cfg2.N) (d) : (dat W c).before 1 t d = block W c 1 t :=
  ((dat W c).before_in_eq_fetched 1 rfl (fun _ => rfl) (fun _ _ _ => rfl) (fun _ => rfl) t d).trans rfl

/-- What the body leaves, window by window. -/
theorem after0 (c : Dev nD) (t : Fin cfg2.N) : (dat W c).after 0 t = block W c 0 t := by dsimp only [dat]
theorem after1 (c : Dev nD) (t : Fin cfg2.N) : (dat W c).after 1 t = block W c 1 t := by dsimp only [dat]
theorem after2 (c : Dev nD) (t : Fin cfg2.N) : (dat W c).after 2 t = left (block W c 0 t) (block W c 1 t) := by dsimp only [dat]

/-- The body at point `t`, from what the pipeline hands it to what it must hand back. -/
theorem body_at (c : Dev nD) (t : Fin cfg2.N) :
    iprop((dat W c).Φ t.castSucc ∗ (dat W c).owesAt () t.castSucc
      ∗ (∃ d, owns (c : Thread nD τ) (st2_0 t) fullShare ((dat W c).before 0 t d)) ∗ (∃ d, owns (c : Thread nD τ) (st2_1 t) fullShare ((dat W c).before 1 t d))
      ∗ (∃ d, owns (c : Thread nD τ) (st2_2 t) fullShare ((dat W c).before 2 t d)))
    ⊢ wp frame (wpE (defs₀ (F := F)) 𝒱₀ c none) Set.univ (bodyAt2 t) (fun _ =>
      iprop((dat W c).Φ t.succ ∗ (dat W c).owesAt () t.succ
        ∗ owns (c : Thread nD τ) (st2_0 t) fullShare ((dat W c).after 0 t) ∗ owns (c : Thread nD τ) (st2_1 t) fullShare ((dat W c).after 1 t)
        ∗ owns (c : Thread nD τ) (st2_2 t) fullShare ((dat W c).after 2 t))) := by
  unfold bodyAt2
  rw [show (dat W c).Φ t.succ = (dat W c).Φ t.castSucc from rfl, show (dat W c).owesAt () t.succ = (dat W c).owesAt () t.castSucc from rfl,
    after0, after1, after2]
  simp only [before0, before1]
  iintro ⟨HΦ, Ho, ⟨%d0, H0⟩, ⟨%d1, H1⟩, ⟨%d2, H2⟩⟩
  iapply (body_triple c Set.univ (grid2.coords t) _ _ _ _ _ _ (block W c 0 t) (block W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1] <;> iassumption

theorem row_eq (t : Fin cfg2.N) : defs₀ (F := F) .tc cfg2.body (cfg2.bodyArgs t (cfg2.slots t)) = bodyAt2 t := by
  unfold defs₀; rw [Defs.onTc_tc]

/-- The call's obligation. -/
theorem obligation (c : Dev nD) : BodyObligation (dat W c) defs₀ 𝒱₀ () Set.univ := fun t => by
  rw [bigSep_W2, bigSep_W2, row_eq]
  exact triple_restated (body_at W c t) rfl .rfl fun _ => .rfl

theorem share_full (c : Dev nD) (w : Fin cfg2.W) : (dat W c).share w = fullShare := (dat W c).share_full (fun _ => rfl) w

end Cert.Kernel.Project

end
-- ==== Proof.Kernel.Run.lean ====
/- The program run on all devices: the launch, the three calls and the reshapes between them, and what memory and the
   counters end at. -/
module

public import proofs.«01_k».proof.Proof.Kernel.Ends
public import proofs.«01_k».proof.Proof.Kernel.Attend
public import proofs.«01_k».proof.Proof.Kernel.Project
public import proofs.«01_k».proof.Proof.Gen.Kernel.Regions
public import Idealize.ShloMosaic.Lib.Pipeline.RegionTalk
public import Idealize.ShloMosaic.Lib.Pipeline.RegionArraysS

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

open Idealize.ShloMosaic.Pipeline (Dat HostSeg RegionSeg Seg)

variable (m : (ℓ : Loc nD τ sig) → Buf (Elt F) ℓ) (ρ : Dev nD → PrngReg)

/-! ## The contents between the parts -/

/-- The arrays at launch, after x is reshaped, after the gather call, after its results are reshaped, after the attention
    call, after its result is reshaped, after the output projection, and at the end. -/
def U0 (c : Dev nD) : Valuation τ sig (Elt F) := fun b => m (c, b)
def U1 (c : Dev nD) : Valuation τ sig (Elt F) := StableHlo.after hostOps0 (U0 m c)
def U2 (c : Dev nD) : Valuation τ sig (Elt F) := next (U1 m) c
def U3 (c : Dev nD) : Valuation τ sig (Elt F) := StableHlo.after hostOps1 (U2 m c)
def U4 (c : Dev nD) : Valuation τ sig (Elt F) := Pipeline.afterRegion (Attend.dat (U3 m) c) (U3 m c)
def U5 (c : Dev nD) : Valuation τ sig (Elt F) := StableHlo.after hostOps2 (U4 m c)
def U6 (c : Dev nD) : Valuation τ sig (Elt F) := Pipeline.afterRegion (Project.dat (U5 m) c) (U5 m c)
def U7 (c : Dev nD) : Valuation τ sig (Elt F) := StableHlo.after hostOps3 (U6 m c)

/-- A buffer that no reshape and no call writes ends as it was at launch. -/
theorem U7_kept (c : Dev nD) (r : Ref sig .tc) (h0 : r ∉ hostOps0_W) (h : ∀ r' ∈ [main_v2_0, main_v2_1, main_v2_2, main_v2_3, main_v2_4], (Proc.devRef .tc r : DevRef τ sig) ≠ Proc.devRef .tc r')
    (h1 : r ∉ hostOps1_W) (k1 : ∀ w : Fin 6, Pipeline.arrRef spec1 w = r → (cfg1.win w).isOut = false) (h2 : r ∉ hostOps2_W)
    (k2 : ∀ w : Fin 3, Pipeline.arrRef spec2 w = r → (cfg2.win w).isOut = false) (h3 : r ∉ hostOps3_W) :
    U7 m c (Proc.devRef .tc r) = m ((c : Thread nD τ).loc r) :=
  ((StableHlo.after_of_writes_sub hostOps3 (U6 m c) hostOps3_writes h3).trans
    (Pipeline.afterRegion_keeps (Project.dat (U5 m) c) (U5 m c) winFacts2.arr_inj (Project.entry_eq (U5 m) c) r k2)).trans
  (((StableHlo.after_of_writes_sub hostOps2 (U4 m c) hostOps2_writes h2).trans
    (Pipeline.afterRegion_keeps (Attend.dat (U3 m) c) (U3 m c) winFacts1.arr_inj (Attend.entry_eq (U3 m) c) r k1)).trans
  (((StableHlo.after_of_writes_sub hostOps1 (U2 m c) hostOps1_writes h1).trans (next_of (U1 m) c _ h)).trans
    (StableHlo.after_of_writes_sub hostOps0 (U0 m c) hostOps0_writes h0)))

theorem U7_arg0 (c : Dev nD) : U7 m c (Proc.devRef .tc main_arg0) = m ((c : Thread nD τ).loc main_arg0) :=
  U7_kept m c main_arg0 (by decide) (by decide) (by decide) (by decide) (by decide) (by decide) (by decide)
theorem U7_arg1 (c : Dev nD) : U7 m c (Proc.devRef .tc main_arg1) = m ((c : Thread nD τ).loc main_arg1) :=
  U7_kept m c main_arg1 (by decide) (by decide) (by decide) (by decide) (by decide) (by decide) (by decide)
theorem U7_arg2 (c : Dev nD) : U7 m c (Proc.devRef .tc main_arg2) = m ((c : Thread nD τ).loc main_arg2) :=
  U7_kept m c main_arg2 (by decide) (by decide) (by decide) (by decide) (by decide) (by decide) (by decide)
theorem U7_arg3 (c : Dev nD) : U7 m c (Proc.devRef .tc main_arg3) = m ((c : Thread nD τ).loc main_arg3) :=
  U7_kept m c main_arg3 (by decide) (by decide) (by decide) (by decide) (by decide) (by decide) (by decide)
theorem U7_arg4 (c : Dev nD) : U7 m c (Proc.devRef .tc main_arg4) = m ((c : Thread nD τ).loc main_arg4) :=
  U7_kept m c main_arg4 (by decide) (by decide) (by decide) (by decide) (by decide) (by decide) (by decide)
theorem U7_arg5 (c : Dev nD) : U7 m c (Proc.devRef .tc main_arg5) = m ((c : Thread nD τ).loc main_arg5) :=
  U7_kept m c main_arg5 (by decide) (by decide) (by decide) (by decide) (by decide) (by decide) (by decide)
theorem U7_arg6 (c : Dev nD) : U7 m c (Proc.devRef .tc main_arg6) = m ((c : Thread nD τ).loc main_arg6) :=
  U7_kept m c main_arg6 (by decide) (by decide) (by decide) (by decide) (by decide) (by decide) (by decide)
theorem U7_arg7 (c : Dev nD) : U7 m c (Proc.devRef .tc main_arg7) = m ((c : Thread nD τ).loc main_arg7) :=
  U7_kept m c main_arg7 (by decide) (by decide) (by decide) (by decide) (by decide) (by decide) (by decide)

/-! ## The run's parts -/

def pdats : (p : Fin 3) → (c : Dev nD) → Dat τ (Elt F) Unit ℕ UU ℕ (Pipeline.pin (pcfgs (F := F)) adm p) c
  | ⟨0, _⟩ => fun c => gat (U1 m) c
  | ⟨1, _⟩ => fun c => Attend.dat (U3 m) c
  | ⟨2, _⟩ => fun c => Project.dat (U5 m) c
  | ⟨_ + 3, h⟩ => absurd h (Nat.not_lt.2 (Nat.le_add_left _ _))

local notation "ℝ𝕊" => Pipeline.RegionSeg (pcfgs (F := F)) adm (pdats m) () defs₀ 𝒱₀ L lv

theorem cells_inj : Function.Injective (Pipeline.cellOf (nD := nD) (τ := τ) (Pipeline.pin (pcfgs (F := F)) adm)) := cellOf_inj

theorem kit0 : Pipeline.PLaunchFacts (nD := nD) (τ := τ) (pcfgs (F := F)) 0 where
  cellOf_inj a := by rw [Subsingleton.elim a adm]; exact cells_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cells_inj
  win := winFacts1
  pre := Pipeline.PreFacts.none _
  block_pos := block_pos1
  arr_whole := arr_whole1
  stage_whole := stage_whole1
theorem kit2 : Pipeline.PLaunchFacts (nD := nD) (τ := τ) (pcfgs (F := F)) 2 where
  cellOf_inj a := by rw [Subsingleton.elim a adm]; exact cells_inj
  win := winFacts2
  pre := Pipeline.PreFacts.none _
  block_pos := block_pos2
  arr_whole := arr_whole2
  stage_whole := stage_whole2

theorem share_full (W : Dev nD → Valuation τ sig (Elt F)) (c : Dev nD) (w : Fin 12) : (gat W c).share w = fullShare := by
  unfold Dat.share; split <;> rfl

/-- The unscoped buffers, and those no window of the gather call stages. -/
abbrev bufs : Finset (DevRef τ sig) := Pipeline.ucRefs τ sig
abbrev others : Finset (DevRef τ sig) := bufs \ Pipeline.arrRefs (τ := τ) (pcfgs (F := F) 0).spec

theorem arrs0 : Pipeline.arrRefs (τ := τ) (pcfgs (F := F) 0).spec ⊆ bufs := by
  show Pipeline.arrRefs (τ := τ) spec0 ⊆ bufs
  decide
theorem arrs1 : Pipeline.arrRefs (τ := τ) (pcfgs (F := F) 1).spec ⊆ bufs := by
  show Pipeline.arrRefs (τ := τ) spec1 ⊆ bufs
  decide
theorem arrs2 : Pipeline.arrRefs (τ := τ) (pcfgs (F := F) 2).spec ⊆ bufs := by
  show Pipeline.arrRefs (τ := τ) spec2 ⊆ bufs
  decide

/-- The gather call leaves the buffers it does not stage as they were. -/
theorem next_others (c : Dev nD) (b : DevRef τ sig) (hb : b ∈ others (F := F)) : next (U1 m) c b = U1 m c b := by
  refine next_of (U1 m) c b fun r hr e => (Finset.mem_sdiff.mp hb).2 ?_
  show b ∈ Pipeline.arrRefs (τ := τ) spec0
  have hs : ∀ r ∈ [main_v2_0, main_v2_1, main_v2_2, main_v2_3, main_v2_4], (Proc.devRef .tc r : DevRef τ sig) ∈ Pipeline.arrRefs (τ := τ) spec0 := by decide
  rw [e]; exact hs r hr

set_option backward.isDefEq.respectTransparency.types false in
/-- The gather call as a segment of the run: it takes what the launch kept for it and leaves the barrier's counter at zero. -/
def reg0 : ℝ𝕊 0 :=
  Pipeline.RegionSeg.ofTalk (pcfgs (F := F)) adm (pdats m) () defs₀ 𝒱₀ L lv 0 osem (by decide : Pipeline.OwnSemFacts spec0 osem)
    ∅ (others (F := F)) (Finset.empty_subset _) kit0 rfl (fun c => (body_obligation (U1 m) c).loose)
    (fun _ => 0) O₀ (fun c => (zero_add (O₀ c)).symm) (fun _ => rfl) (fun _ => rfl) (fun c w => share_full (U1 m) c w)
    (U1 m) (U2 m) (fun c b hb => next_others m c b (Finset.mem_sdiff.mp hb).1)
    (held0 (U1 m)) shut0 (open0 (U1 m)) shut0 (enter (U1 m)) (fun c => begins (U1 m) c _)
    (fun c => (leaves (U1 m) c).trans (by
      unfold StableHlo.held
      rw [BI.bigSep_empty]
      exact BI.Entails.refl _))
    (fun c => by iintro H; imodintro; iexact H)
    (fun _ => 0)
    ⟨fun c w s => by rw [L_tc]; exact Finset.mem_singleton_self _, fun c w s => stage_lv c w s, fun c t g i h => owed_cut (U1 m) c t g i h⟩
    (fun _ => iprop(emp))
    (fun _ _ => rfl) (fun c w => ends (U1 m) c w)

theorem stage_sem1 : ∀ (w : Fin 6) (s : Fin (spec1 w).nbuf), 48 ≤ ((spec1 w).sem s).val := by decide
theorem stage_lv1 (c : Dev nD) (w : Fin 6) (s : Fin (spec1 w).nbuf) : lv ((c : Thread nD τ), .dma ((spec1 w).sem s)) () ≤ 0 := by
  refine le_of_eq (if_neg fun h => ?_)
  have := stage_sem1 w s; omega
theorem stage_sem2 : ∀ (w : Fin 3) (s : Fin (spec2 w).nbuf), 48 ≤ ((spec2 w).sem s).val := by decide
theorem stage_lv2 (c : Dev nD) (w : Fin 3) (s : Fin (spec2 w).nbuf) : lv ((c : Thread nD τ), .dma ((spec2 w).sem s)) () ≤ 0 := by
  refine le_of_eq (if_neg fun h => ?_)
  have := stage_sem2 w s; omega

/-- What rides beside the arrays once the gather call is over: nothing owed, the register, and the barrier's counter at zero. -/
def calm (c : Dev nD) : sProp 𝕄 :=
  iprop((∃ Wd, owes (c : Thread nD τ) (0 : CellTallies nD τ sig Unit) Wd) ∗ (∃ r, prngReg c r) ∗ shut0 c)

set_option backward.isDefEq.respectTransparency.types false in
/-- The attention call as a segment. -/
def reg1 : ℝ𝕊 1 :=
  Pipeline.RegionSeg.ofHeldIn (pcfgs (F := F)) adm (pdats m) () defs₀ 𝒱₀ L lv 1 (fun _ => 0) bufs
    (fun c => iprop(∃ r, prngReg c r)) (fun c => iprop(∃ r, prngReg c r)) kit1 rfl (fun c => (Attend.obligation (U3 m) c).loose)
    (fun _ _ => rfl) (fun _ => rfl) (fun c w => Attend.share_full (U3 m) c w)
    (fun c => BI.Entails.refl _) (fun c => BI.Entails.refl _) (fun _ => 0)
    ⟨fun c w s => by rw [L_tc]; exact Finset.mem_singleton_self _, fun c w s => stage_lv1 c w s, fun c g i h => absurd h (Nat.lt_irrefl 0)⟩
    shut0 (U3 m) (fun _ _ => rfl)

set_option backward.isDefEq.respectTransparency.types false in
/-- The output projection as a segment. -/
def reg2 : ℝ𝕊 2 :=
  Pipeline.RegionSeg.ofHeldIn (pcfgs (F := F)) adm (pdats m) () defs₀ 𝒱₀ L lv 2 (fun _ => 0) bufs
    (fun c => iprop(∃ r, prngReg c r)) (fun c => iprop(∃ r, prngReg c r)) kit2 rfl (fun c => (Project.obligation (U5 m) c).loose)
    (fun _ _ => rfl) (fun _ => rfl) (fun c w => Project.share_full (U5 m) c w)
    (fun c => BI.Entails.refl _) (fun c => BI.Entails.refl _) (fun _ => 0)
    ⟨fun c w s => by rw [L_tc]; exact Finset.mem_singleton_self _, fun c w s => stage_lv2 c w s, fun c g i h => absurd h (Nat.lt_irrefl 0)⟩
    shut0 (U5 m) (fun _ _ => rfl)

/-- What the launch keeps for the gather call, beside the arrays. -/
def wait0 (c : Dev nD) : sProp 𝕄 := iprop(held0 (U1 m) c ∗ (∃ r, prngReg c r) ∗ ∃ W, owes (c : Thread nD τ) (O₀ c) W)

local notation "ℍ𝕊" => HostSeg (Ix := Unit) (Name := ℕ) (U := UU) (Lvl := ℕ) (pcfgs (F := F)) defs₀ 𝒱₀ L lv

/-- The reshapes as segments. -/
def host0 : ℍ𝕊 :=
  HostSeg.ofOps _ _ _ _ _ bufs hostOps0 (fun op h => Pipeline.sub_ucRefs op ((List.forall_iff_forall_mem.mp hostOps0_sub) op h))
    (fun op h => (List.forall_iff_forall_mem.mp hostOps0_fresh) op h) (U0 m) (wait0 m)
def host1 : ℍ𝕊 :=
  HostSeg.ofOps _ _ _ _ _ bufs hostOps1 (fun op h => Pipeline.sub_ucRefs op ((List.forall_iff_forall_mem.mp hostOps1_sub) op h))
    (fun op h => (List.forall_iff_forall_mem.mp hostOps1_fresh) op h) (U2 m) calm
def host2 : ℍ𝕊 :=
  HostSeg.ofOps _ _ _ _ _ bufs hostOps2 (fun op h => Pipeline.sub_ucRefs op ((List.forall_iff_forall_mem.mp hostOps2_sub) op h))
    (fun op h => (List.forall_iff_forall_mem.mp hostOps2_fresh) op h) (U4 m) calm
def host3 : ℍ𝕊 :=
  HostSeg.ofOps _ _ _ _ _ bufs hostOps3 (fun op h => Pipeline.sub_ucRefs op ((List.forall_iff_forall_mem.mp hostOps3_sub) op h))
    (fun op h => (List.forall_iff_forall_mem.mp hostOps3_fresh) op h) (U6 m) calm

def segs : List (Pipeline.Seg (pcfgs (F := F)) adm (pdats m) () defs₀ 𝒱₀ L lv) :=
  [.host (host0 m), .region (reg0 m), .host (host1 m), .region (reg1 m), .host (host2 m), .region (reg2 m), .host (host3 m)]

theorem main_run (c : Dev nD) : main (F := F) c = Pipeline.Seg.run (segs m) :=
  main_segs adm (pdats m) () 𝒱₀ L lv (host0 m) (host1 m) (host2 m) (host3 m) (reg0 m) (reg1 m) (reg2 m) rfl rfl rfl rfl c

/-! ## The launch -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The handshake's share of the ghost state, given whole to device 0. -/
def onDev (c₀ : Dev nD) (X : sProp 𝕄) (c : Dev nD) : sProp 𝕄 := if c = c₀ then X else BI.emp
theorem onDev_all (c₀ : Dev nD) (X : sProp 𝕄) : (bigSep Finset.univ (onDev c₀ X) : sProp 𝕄) = X := by
  rw [bigSep_univ_at _ c₀, bigSep_congr (s := Finset.univ.erase c₀) (Ψ := fun _ => (BI.emp : sProp 𝕄)) fun c hc => by
    unfold onDev; rw [if_neg (Finset.ne_of_mem_erase hc)], BI.bigSep_emp_const]
  unfold onDev; rw [if_pos rfl]
  exact BI.equiv_iff.mp sep_emp
def G : Dev nD → sProp 𝕄 := onDev 0 (BI.own (ER uB))
def u₀ : UU := (initOf (Pipeline.cells (Pipeline.pin (pcfgs (F := F)) adm) cells_inj) (Pipeline.launchToks (Pipeline.pin (pcfgs (F := F)) adm) cells_inj), uB)

/-- What each device starts with. -/
def rest (c : Dev nD) : sProp 𝕄 := iprop(StableHlo.held (c : Thread nD τ) bufs (U0 m c) ∗ creds c ∗ owes (c : Thread nD τ) (O₀ c) ∅ ∗ ∃ r, prngReg c r)
def T₀ (c : Dev nD) : sProp 𝕄 := iprop(StableHlo.held (c : Thread nD τ) bufs (U0 m c) ∗ wait0 m c)
def Tₙ (c : Dev nD) : sProp 𝕄 := iprop(StableHlo.held (c : Thread nD τ) bufs (U7 m c) ∗ semVal (barCell c) 0)

theorem start_at (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ G c)) : sProp 𝕄) := by
  rw [show (unscopedBufs c (fun b => m ((c : Thread nD τ).loc b)) : sProp 𝕄) = StableHlo.held (c : Thread nD τ) bufs (U0 m c) from Pipeline.unscopedBufs_held c (U0 m c),
    unscopedSems0_eq]
  unfold rest
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem T₀_intro (K : KN) (c : Dev nD) : iprop(records (insOf (U1 m)) K ∗ (shut c ∗ rest m c)) ⊢ (T₀ m c : sProp 𝕄) := by
  unfold T₀ wait0 rest held0
  iintro ⟨#HR, Hs, Hh, Hc, HO, Hp⟩
  isplitl [Hh]; · iexact Hh
  isplitl [Hs Hc]
  · isplitl [Hs]
    · iexists K; isplitr; · iexact HR
      iexact Hs
    iexact Hc
  isplitl [Hp]; · iexact Hp
  iexists _; iexact HO

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ (T₀ m) : sProp 𝕄) := by
  iintro ⟨H, -⟩
  ihave H' := (show _ ⊢ (bigSep Finset.univ fun c : Dev nD => iprop(rest m c ∗ (semVal (barCell c) 0 ∗ G c)) : sProp 𝕄) from bigSep_mono fun c _ => start_at m ρ c) $$ H
  ihave H2 := fam_split $$ H'; icases H2 with ⟨HB, H3⟩
  ihave H4 := fam_split $$ H3; icases H4 with ⟨Hv, HG⟩
  ihave Hu := (show bigSep Finset.univ (G (F := F)) ⊢ BI.own (ER uB) from Entails.of_eq (onDev_all (F := F) 0 (BI.own (ER uB)))) $$ HG
  imod (deal (insOf (U1 m))) $$ [Hv Hu] with ⟨%K, #HR, Hs⟩
  · isplitl [Hv]; · iexact Hv
    iexact Hu
  imodintro
  iapply (bigSep_with_persistent (R := records (insOf (U1 m)) K) (Φ := fun c => iprop(shut c ∗ rest m c)) fun c _ => T₀_intro m K c)
  isplitr; · iexact HR
  iapply fam_join
  isplitl [Hs] <;> iassumption

/-- The links between the parts. -/
theorem reg0_pre (c : Dev nD) : iprop(StableHlo.held (c : Thread nD τ) bufs (U1 m c) ∗ wait0 m c) ⊢ (reg0 m).pre c := by
  show _ ⊢ iprop(StableHlo.held (c.tc : Thread nD τ) (Pipeline.arrRefs (τ := τ) (pcfgs (F := F) 0).spec) (U1 m c) ∗ (∃ r, prngReg c r)
    ∗ (StableHlo.held (c.tc : Thread nD τ) (others (F := F)) (U1 m c) ∗ emp) ∗ held0 (U1 m) c ∗ ∃ Wd, owes (c : Thread nD τ) (0 + O₀ c) Wd)
  rw [StableHlo.held_sub_split (c.tc : Thread nD τ) (arrs0 (F := F)) (U1 m c), zero_add]
  unfold wait0
  iintro ⟨⟨Ha, Hu⟩, HK, Hp, HO⟩
  isplitl [Ha]; · iexact Ha
  isplitl [Hp]; · iexact Hp
  isplitl [Hu]
  · isplitl [Hu]; · iexact Hu
    iempintro
  isplitl [HK] <;> iassumption

theorem reg0_post (c : Dev nD) : (reg0 m).post c ⊢ (iprop(StableHlo.held (c : Thread nD τ) bufs (U2 m c) ∗ calm c) : sProp 𝕄) := by
  show iprop(StableHlo.held (c.tc : Thread nD τ) (Pipeline.arrRefs (τ := τ) (pcfgs (F := F) 0).spec) (U2 m c) ∗ (∃ r, prngReg c r)
    ∗ (StableHlo.held (c.tc : Thread nD τ) (others (F := F)) (U2 m c) ∗ emp) ∗ shut0 c ∗ ∃ Wd, owes (c : Thread nD τ) (0 : CellTallies nD τ sig Unit) Wd) ⊢ _
  rw [StableHlo.held_sub_split (c.tc : Thread nD τ) (arrs0 (F := F)) (U2 m c)]
  unfold calm
  iintro ⟨Ha, Hp, ⟨Hu, -⟩, Hb, HO⟩
  isplitl [Ha Hu]
  · isplitl [Ha] <;> iassumption
  isplitl [HO]; · iexact HO
  isplitl [Hp] <;> iassumption

theorem reg1_pre (c : Dev nD) : (iprop(StableHlo.held (c : Thread nD τ) bufs (U3 m c) ∗ calm c) : sProp 𝕄) ⊢ (reg1 m).pre c := by
  show _ ⊢ iprop(StableHlo.held (c.tc : Thread nD τ) (Pipeline.arrRefs (τ := τ) (pcfgs (F := F) 1).spec) (U3 m c) ∗ (∃ r, prngReg c r)
    ∗ (StableHlo.held (c.tc : Thread nD τ) (bufs \ Pipeline.arrRefs (τ := τ) (pcfgs (F := F) 1).spec) (U3 m c) ∗ shut0 c) ∗ ∃ Wd, owes (c : Thread nD τ) (0 : CellTallies nD τ sig Unit) Wd)
  rw [StableHlo.held_sub_split (c.tc : Thread nD τ) (arrs1 (F := F)) (U3 m c)]
  unfold calm
  iintro ⟨⟨Ha, Hu⟩, HO, Hp, Hb⟩
  isplitl [Ha]; · iexact Ha
  isplitl [Hp]; · iexact Hp
  isplitl [Hu Hb]
  · isplitl [Hu] <;> iassumption
  iexact HO
theorem reg1_post (c : Dev nD) : (reg1 m).post c ⊢ (iprop(StableHlo.held (c : Thread nD τ) bufs (U4 m c) ∗ calm c) : sProp 𝕄) := by
  unfold reg1 calm U4
  exact Pipeline.RegionSeg.ofHeldIn_post (arrs1 (F := F)) c
theorem reg2_pre (c : Dev nD) : (iprop(StableHlo.held (c : Thread nD τ) bufs (U5 m c) ∗ calm c) : sProp 𝕄) ⊢ (reg2 m).pre c := by
  show _ ⊢ iprop(StableHlo.held (c.tc : Thread nD τ) (Pipeline.arrRefs (τ := τ) (pcfgs (F := F) 2).spec) (U5 m c) ∗ (∃ r, prngReg c r)
    ∗ (StableHlo.held (c.tc : Thread nD τ) (bufs \ Pipeline.arrRefs (τ := τ) (pcfgs (F := F) 2).spec) (U5 m c) ∗ shut0 c) ∗ ∃ Wd, owes (c : Thread nD τ) (0 : CellTallies nD τ sig Unit) Wd)
  rw [StableHlo.held_sub_split (c.tc : Thread nD τ) (arrs2 (F := F)) (U5 m c)]
  unfold calm
  iintro ⟨⟨Ha, Hu⟩, HO, Hp, Hb⟩
  isplitl [Ha]; · iexact Ha
  isplitl [Hp]; · iexact Hp
  isplitl [Hu Hb]
  · isplitl [Hu] <;> iassumption
  iexact HO
theorem reg2_post (c : Dev nD) : (reg2 m).post c ⊢ (iprop(StableHlo.held (c : Thread nD τ) bufs (U6 m c) ∗ calm c) : sProp 𝕄) := by
  unfold reg2 calm U6
  exact Pipeline.RegionSeg.ofHeldIn_post (arrs2 (F := F)) c

theorem last (c : Dev nD) : (iprop(StableHlo.held (c : Thread nD τ) bufs (U7 m c) ∗ calm c) : sProp 𝕄)
    ⊢ iprop(Tₙ m c ∗ ∃ W, owes (c : Thread nD τ) (0 : CellTallies nD τ sig Unit) W) := by
  unfold Tₙ calm shut0
  iintro ⟨Hh, HO, -, Hb⟩
  isplitl [Hh Hb]
  · isplitl [Hh] <;> iassumption
  iexact HO

theorem unscoped_eq : ∀ sm : SemLoc sig, sm.isScoped .tc = false → sm = .reg barS := by decide

set_option backward.isDefEq.respectTransparency.types false in
/-- From any memory with zero counters the program runs on all devices to its end: the arrays end as the last contents
    above, and every semaphore counter is at zero. -/
theorem run_main : θ_run defs (onTc (τ := τ) (main (F := F))) ⟨m, fun _ => 0, ρ⟩
    (fun r => (∀ (c : Dev nD), ∀ b ∈ bufs, r.2.mem ((c : Thread nD τ).1, b) = U7 m c b) ∧ r.2.sem = fun _ => 0) :=
  Pipeline.θ_run_regions_kit_sems (pcfgs (F := F)) adm (pdats m) () cells_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onDev_all]; iexact HX)
    (T₀ := T₀ m) (Tₙ := Tₙ m)
    (hch := ⟨fun c => BI.Entails.refl _, fun c => reg0_pre m c, fun c => reg0_post m c, fun c => reg1_pre m c, fun c => reg1_post m c, fun c => reg2_pre m c, fun c => reg2_post m c, fun c => last m c⟩)
    (hinit := init m ρ)
    (QY := fun c s => (∀ b ∈ bufs, s.mem ((c : Thread nD τ).1, b) = U7 m c b) ∧ s.sem (barCell c) = 0)
    (hfin := fun c s' => by
      dsimp only [Tₙ]
      unfold StableHlo.held
      iintro ⟨⟨Hh, Hb0⟩, HSI⟩
      icombine HSI Hb0 gives %hb
      ihave Hr := (pointsTo_read_all bufs (fun b => ((c : Thread nD τ).1, b)) (U7 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_eq sm hsm
      exact (h c).2⟩)

/-- An unscoped buffer is among those read back. -/
theorem mem_bufs (r : Ref sig .tc) (h : r.isScoped = false) : (Proc.devRef .tc r : DevRef τ sig) ∈ bufs :=
  Finset.mem_filter.mpr ⟨StableHlo.devRef_mem_tcRefs r, fun h' => Bool.false_ne_true (h.symm.trans h')⟩

end Cert.Kernel.Talk

end
-- ==== Proof.Kernel.Value.lean ====
/- What the call computes over the extended reals. -/
module

public import proofs.«01_k».proof.Proof.Product
public import proofs.«01_k».proof.Proof.Kernel.Run

@[expose] public section

set_option maxRecDepth 16384

noncomputable section

namespace Cert.Kernel.Talk

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

open Cert.Product ValueIdx

/-! ## Pieces laid side by side -/

/-- Where in its piece an index of the joined columns lies. -/
def blk (k : Fin 512) : Fin 4 := ⟨k.val / 128, by omega⟩
def inBlk (k : Fin 512) : Fin 128 := ⟨k.val % 128, Nat.mod_lt _ (by decide)⟩

theorem cat_cols (f : Fin 4 → Vec F S1x1024x128 .bf16) (r : Fin 1024) (k : Fin 512) :
    k0_pay12 (f 0) (f 1) (f 2) (f 3) (ix2 r k) = f (blk k) (fun a => match a with | ⟨0, _⟩ => ⟨0, Nat.one_pos⟩ | ⟨1, _⟩ => r | ⟨2, _⟩ => inBlk k) := by
  refine (concatenate_ofFn_apply (t := S1024x512) (s₁ := S1024x128) 1 (fun n => shapeCast S1024x128 (f n) shapeCasts_S1x1024x128_S1024x128)
    concatenates_S1024x128_S1024x128_S1024x128_S1024x128_S1024x512_d1 rfl 128 rfl (ix2 r k) (blk k) rfl (ix2 r (inBlk k)) rfl ?_).trans ?_
  · intro b hb
    match b, hb with
    | ⟨0, _⟩, _ => rfl
    | ⟨1, _⟩, hb => exact absurd rfl hb
  · refine (shapeCast_dropUnit_apply ![1024, 128] (f (blk k)) _ (ix2 r (inBlk k))).trans (congrArg (f (blk k)) ?_)
    funext a
    match a with | ⟨0, _⟩ => rfl | ⟨1, _⟩ => rfl | ⟨2, _⟩ => rfl

theorem cat_rows (f : Fin 4 → Vec F S1x128x2048 .bf16) (k : Fin 512) (s : Fin 2048) :
    k0_pay13 (f 0) (f 1) (f 2) (f 3) (ix2 k s) = f (blk k) (fun a => match a with | ⟨0, _⟩ => ⟨0, Nat.one_pos⟩ | ⟨1, _⟩ => inBlk k | ⟨2, _⟩ => s) := by
  refine (concatenate_ofFn_apply (t := S512x2048) (s₁ := S128x2048) 0 (fun n => shapeCast S128x2048 (f n) shapeCasts_S1x128x2048_S128x2048)
    concatenates_S128x2048_S128x2048_S128x2048_S128x2048_S512x2048_d0 rfl 128 rfl (ix2 k s) (blk k) rfl (ix2 (inBlk k) s) rfl ?_).trans ?_
  · intro b hb
    match b, hb with
    | ⟨0, _⟩, hb => exact absurd rfl hb
    | ⟨1, _⟩, _ => rfl
  · refine (shapeCast_dropUnit_apply ![128, 2048] (f (blk k)) _ (ix2 (inBlk k) s)).trans (congrArg (f (blk k)) ?_)
    funext a
    match a with | ⟨0, _⟩ => rfl | ⟨1, _⟩ => rfl | ⟨2, _⟩ => rfl

/-- The values are laid together as the keys are. -/
theorem vAll_eq (c : Dev nD) : k0_pay17 (v0 I c) (v1 I c) (v2 I c) (v3 I c) = k0_pay13 (slU 0 (fullV I c)) (slU 1 (fullV I c)) (slU 2 (fullV I c)) (slU 3 (fullV I c)) := rfl

/-! ## Which device a slot is from -/

theorem org_z_val (c : Dev nD) (i : Fin 4) (p : Fin 2) : (org c i p).val % 4 = (c.val % 4 + 4 - i.val) % 4 := by
  revert c i p; decide

/-- The order in which a device holds the four parts of the inner axis. -/
def turn (c : Dev nD) (k : Fin 512) : Fin 512 := ⟨128 * ((c.val % 4 + 4 - k.val / 128) % 4) + k.val % 128, by omega⟩
theorem turn_turn (c : Dev nD) : Function.Involutive (turn c) := fun k => Fin.ext (by
  show 128 * ((c.val % 4 + 4 - (128 * ((c.val % 4 + 4 - k.val / 128) % 4) + k.val % 128) / 128) % 4) + (128 * ((c.val % 4 + 4 - k.val / 128) % 4) + k.val % 128) % 128 = k.val
  have := k.isLt
  omega)

/-! ## The results, given the blocks the devices hold -/

section Ideal
variable (I : Ins Ideal) (X : Mat 1024 2048) (Wd : Mat 2048 512) (Wk Wv : Mat 512 2048)

/-- Which block of each cut array a device holds: the one at its last coordinate. -/
structure Held : Prop where
  x : ∀ c, I.x c = X
  wd : ∀ c j, I.wd c j = Wd (ix2 (j 0) ⟨128 * (c.val % 4) + (j 1).val, by have : (j 1).val < 128 := (j 1).isLt; omega⟩)
  wk : ∀ c j, I.wk c j = Wk (ix2 ⟨128 * (c.val % 4) + (j 0).val, by have : (j 0).val < 128 := (j 0).isLt; omega⟩ (j 1))
  wv : ∀ c j, I.wv c j = Wv (ix2 ⟨128 * (c.val % 4) + (j 0).val, by have : (j 0).val < 128 := (j 0).isLt; omega⟩ (j 1))

variable {I X Wd Wk Wv} (h : Held I X Wd Wk Wv)
include h

theorem chC_apply (c : Dev nD) (j : S1x1024x128.Idx) :
    chC I c j = prod X Wd (ix2 (j 1) ⟨128 * (c.val % 4) + (j 2).val, by have : (j 2).val < 128 := (j 2).isLt; omega⟩) := by
  refine (shapeCast_addUnit_apply ![1024, 128] _ shapeCasts_S1024x128_S1x1024x128 j).trans
    ((congrFun (dot_cast (M := 1024) (K := 2048) (N := 128) dot_S1024x2048_S2048x128_S1024x128_1_0_0_1_n_n rfl (I.x c) (I.wd c) bitsLt_bf16_f32 _ _) (fun a => j a.succ)).trans ?_)
  refine Finset.sum_congr rfl fun k _ => congrArg₂ (· * ·) ?_ ?_
  · exact congrFun (h.x c) _
  · exact h.wd c _

theorem chK_apply (c : Dev nD) (j : S1x128x2048.Idx) :
    chK I c j = Wk (ix2 ⟨128 * (c.val % 4) + (j 1).val, by have : (j 1).val < 128 := (j 1).isLt; omega⟩ (j 2)) := by
  show shapeCast S1x128x2048 (shapeCast S128x2048 (I.wk c) _) _ j = _
  rw [shapeCast_self]
  exact (shapeCast_addUnit_apply ![128, 2048] (I.wk c) shapeCasts_S128x2048_S1x128x2048 j).trans (h.wk c _)

theorem chV_apply (c : Dev nD) (j : S1x128x2048.Idx) :
    chV I c j = Wv (ix2 ⟨128 * (c.val % 4) + (j 1).val, by have : (j 1).val < 128 := (j 1).isLt; omega⟩ (j 2)) := by
  show shapeCast S1x128x2048 (shapeCast S128x2048 (I.wv c) _) _ j = _
  rw [shapeCast_self]
  exact (shapeCast_addUnit_apply ![128, 2048] (I.wv c) shapeCasts_S128x2048_S1x128x2048 j).trans (h.wv c _)

theorem cAll_apply (c : Dev nD) (r : Fin 1024) (k : Fin 512) : cAll I c (ix2 r k) = prod X Wd (ix2 r (turn c k)) := by
  refine (cat_cols (fun i => slC i (fullC I c)) r k).trans ((chC_apply h _ _).trans (congrArg (fun s => prod X Wd (ix2 r s)) (Fin.ext ?_)))
  exact congrArg (fun z => 128 * z + k.val % 128) (org_z_val c (blk k) _)

theorem kAll_apply (c : Dev nD) (k : Fin 512) (s : Fin 2048) : kAll I c (ix2 k s) = Wk (ix2 (turn c k) s) := by
  refine (cat_rows (fun i => slU i (fullK I c)) k s).trans ((chK_apply h _ _).trans (congrArg (fun k => Wk (ix2 k s)) (Fin.ext ?_)))
  exact congrArg (fun z => 128 * z + k.val % 128) (org_z_val c (blk k) _)

theorem vAll_apply (c : Dev nD) (k : Fin 512) (s : Fin 2048) : k0_pay17 (v0 I c) (v1 I c) (v2 I c) (v3 I c) (ix2 k s) = Wv (ix2 (turn c k) s) := by
  rw [vAll_eq]
  refine (cat_rows (fun i => slU i (fullV I c)) k s).trans ((chV_apply h _ _).trans (congrArg (fun k => Wv (ix2 k s)) (Fin.ext ?_)))
  exact congrArg (fun z => 128 * z + k.val % 128) (org_z_val c (blk k) _)

omit h in
/-- Four blocks of columns make up the whole. -/
theorem colBlk_of (P : Mat 1024 2048) (w : Fin 4 → Vec Ideal S1024x512 .bf16)
    (hw : ∀ i r s, w i (ix2 r s) = P (ix2 r ⟨512 * i.val + s.val, by omega⟩)) : colBlk w = P := by
  funext j
  have hj : (j 1).val < 2048 := (j 1).isLt
  refine ((congrArg (w _) (eq_ix2 _)).trans (hw _ _ _)).trans (congrArg P ((congrArg (ix2 (j 0)) (Fin.ext ?_)).trans (eq_ix2 j).symm))
  exact Nat.div_add_mod _ _

omit h in
/-- Some columns of a matrix cut out, then multiplied by. -/
theorem cut_prod (A : FVec Ideal S1024x512 .bf16) (B : FVec Ideal S512x2048 .bf16) (i : Fin 4) (hs : S512x2048.Slices ![0, 512 * i.val] S512x512)
    (r : Fin 1024) (s : Fin 512) :
    truncf .bf16 (matmul dot_S1024x512_S512x512_S1024x512_1_0_0_1_n_n none A (extractStridedSlice S512x512 ![0, 512 * i.val] B hs) (constant S1024x512 .f32 0x00000000#32)) bitsLt_bf16_f32 (ix2 r s)
      = prod (M := 1024) (K := 512) (N := 2048) A B (ix2 r ⟨512 * i.val + s.val, by omega⟩) := by
  rw [dot (M := 1024) (K := 512) (N := 512) dot_S1024x512_S512x512_S1024x512_1_0_0_1_n_n rfl]
  refine Finset.sum_congr rfl fun k _ => congrArg (A (ix2 r k) * ·) ?_
  refine extractStridedSlice_apply _ _ _ _ _ fun a => ?_
  match a with | ⟨0, _⟩ => exact (Nat.zero_add _).symm | ⟨1, _⟩ => rfl

theorem kOut_val (c : Dev nD) : kOut I c = prod (prod X Wd) Wk := by
  rw [← prod_perm (turn_turn c).toPerm (prod X Wd) (cAll I c) Wk (kAll I c) (cAll_apply h c) (kAll_apply h c)]
  refine colBlk_of _ _ fun i r s => ?_
  match i with
  | 0 => exact cut_prod (cAll I c) (kAll I c) 0 slices_S512x2048_o0_0_S512x512 r s
  | 1 => exact cut_prod (cAll I c) (kAll I c) 1 slices_S512x2048_o0_512_S512x512 r s
  | 2 => exact cut_prod (cAll I c) (kAll I c) 2 slices_S512x2048_o0_1024_S512x512 r s
  | 3 => exact cut_prod (cAll I c) (kAll I c) 3 slices_S512x2048_o0_1536_S512x512 r s

theorem vOut_val (c : Dev nD) : vOut I c = prod (prod X Wd) Wv := by
  rw [← prod_perm (turn_turn c).toPerm (prod X Wd) (cAll I c) Wv (k0_pay17 (v0 I c) (v1 I c) (v2 I c) (v3 I c)) (cAll_apply h c) (vAll_apply h c)]
  refine colBlk_of _ _ fun i r s => ?_
  match i with
  | 0 => exact cut_prod (cAll I c) (k0_pay17 (v0 I c) (v1 I c) (v2 I c) (v3 I c)) 0 slices_S512x2048_o0_0_S512x512 r s
  | 1 => exact cut_prod (cAll I c) (k0_pay17 (v0 I c) (v1 I c) (v2 I c) (v3 I c)) 1 slices_S512x2048_o0_512_S512x512 r s
  | 2 => exact cut_prod (cAll I c) (k0_pay17 (v0 I c) (v1 I c) (v2 I c) (v3 I c)) 2 slices_S512x2048_o0_1024_S512x512 r s
  | 3 => exact cut_prod (cAll I c) (k0_pay17 (v0 I c) (v1 I c) (v2 I c) (v3 I c)) 3 slices_S512x2048_o0_1536_S512x512 r s

omit h in
/-- A block of columns read, then multiplied by. -/
theorem read_prod (A : FVec Ideal S1024x2048 .bf16) (B : FVec Ideal S2048x2048 .bf16) (i : Fin 4) (r : Fin 1024) (s : Fin 512) :
    prod (M := 1024) (K := 2048) (N := 512) A (colW (F := Ideal) i B) (ix2 r s)
      = prod (M := 1024) (K := 2048) (N := 2048) A B (ix2 r ⟨512 * i.val + s.val, by omega⟩) := by
  refine Finset.sum_congr rfl fun k _ => congrArg (fun j => A (ix2 r k) * B j) ?_
  funext a
  match a with | ⟨0, _⟩ => rfl | ⟨1, _⟩ => rfl

theorem qOut_val (c : Dev nD) : qOut I c = prod (M := 1024) (K := 2048) (N := 2048) X (I.wq c) := by
  rw [← h.x c]
  refine colBlk_of _ _ fun i r s => ?_
  match i with
  | 0 => exact (congrFun (dot_cast (M := 1024) (K := 2048) (N := 512) dot_S1024x2048_S2048x512_S1024x512_1_0_0_1_n_n rfl (I.x c) (colW 0 (I.wq c)) bitsLt_bf16_f32 _ _) _).trans (read_prod (I.x c) (I.wq c) 0 r s)
  | 1 => exact (congrFun (dot_cast (M := 1024) (K := 2048) (N := 512) dot_S1024x2048_S2048x512_S1024x512_1_0_0_1_n_n rfl (I.x c) (colW 1 (I.wq c)) bitsLt_bf16_f32 _ _) _).trans (read_prod (I.x c) (I.wq c) 1 r s)
  | 2 => exact (congrFun (dot_cast (M := 1024) (K := 2048) (N := 512) dot_S1024x2048_S2048x512_S1024x512_1_0_0_1_n_n rfl (I.x c) (colW 2 (I.wq c)) bitsLt_bf16_f32 _ _) _).trans (read_prod (I.x c) (I.wq c) 2 r s)
  | 3 => exact (congrFun (dot_cast (M := 1024) (K := 2048) (N := 512) dot_S1024x2048_S2048x512_S1024x512_1_0_0_1_n_n rfl (I.x c) (colW 3 (I.wq c)) bitsLt_bf16_f32 _ _) _).trans (read_prod (I.x c) (I.wq c) 3 r s)

theorem qrOut_val (c : Dev nD) : qrOut I c = prod (M := 1024) (K := 2048) (N := 512) X (I.wqr c) := by
  rw [← h.x c]
  exact dot_cast (M := 1024) (K := 2048) (N := 512) dot_S1024x2048_S2048x512_S1024x512_1_0_0_1_n_n rfl (I.x c) (I.wqr c) bitsLt_bf16_f32 _ _

theorem krOut_val (c : Dev nD) : krOut I c = prod (M := 1024) (K := 2048) (N := 32) X (I.wkr c) := by
  rw [← h.x c]
  exact dot_cast (M := 1024) (K := 2048) (N := 32) dot_S1024x2048_S2048x32_S1024x32_1_0_0_1_n_n rfl (I.x c) (I.wkr c) bitsLt_bf16_f32 _ _

end Ideal

end Cert.Kernel.Talk

end
-- ==== Proof.Kernel.Payload.lean ====
/- What the attention call stores for one head, read at an index. -/
module

public import proofs.«01_k».proof.Proof.Softmax
public import proofs.«01_k».proof.Proof.Kernel.Attend
public import Idealize.ShloMosaic.Lib.MatmulPlain
public import Idealize.ShloMosaic.Lib.IdealHost
public import Idealize.ShloMosaic.Lib.Pipeline.Value

@[expose] public section

noncomputable section

namespace Cert.Kernel.Payload

open Cert.Kernel Cert.Kernel.Gen
open Idealize.ShloMosaic Idealize.ShloMosaic.TcCoe Idealize.ShloMosaic.ValueIdx Idealize.SL.Sem

abbrev Block (D : ℕ) : Type := FVec Ideal ⟨3, ![1, 512, D]⟩ .bf16

/-- The scores of one head: the two products' sum, scaled. -/
def scores (Q K : Block 128) (Qr Kr : Block 32) (s t : Fin 512) : EReal :=
  ((∑ d : Fin 128, Q (ix3 0 s d) * K (ix3 0 t d)) + ∑ d : Fin 32, Qr (ix3 0 s d) * Kr (ix3 0 t d)) * Ideal.ofBits .f32 0x3DA1E89B#32

/-- A block without its unit axis, read at an index. -/
theorem drop_apply {D : ℕ} (X : Block D) (h) (a : Fin 512) (b : Fin D) :
    (shapeCast ⟨2, ![512, D]⟩ X h : FVec Ideal _ .bf16) (ix2 a b) = X (ix3 0 a b) := by
  rw [shapeCast_dropUnit_apply]
  exact congrArg X (funext fun x => match x with | ⟨0, _⟩ => rfl | ⟨1, _⟩ => rfl | ⟨2, _⟩ => rfl)

theorem product_apply {D : ℕ} (X Y : Block D) (h h') (s t : Fin 512) :
    matmul (DotDims.transposedRhs 512 D 512) none (shapeCast ⟨2, ![512, D]⟩ X h : FVec Ideal _ .bf16) (shapeCast ⟨2, ![512, D]⟩ Y h' : FVec Ideal _ .bf16)
        (constant ⟨2, ![512, 512]⟩ .f32 0x00000000#32) (ix2 s t)
      = ∑ d : Fin D, X (ix3 0 s d) * Y (ix3 0 t d) := by
  refine (Ideal.matmul_transposedRhs_apply none _ _ _ s t).trans ?_
  rw [show (constant ⟨2, ![512, 512]⟩ .f32 0x00000000#32 : FVec Ideal _ .f32) (ix2 s t) = 0 from Ideal.ofBits_zero_f32, zero_add]
  exact Finset.sum_congr rfl fun d _ => by rw [drop_apply, drop_apply]

/-- The exponentials of a row, and each over their sum. -/
theorem weights_apply (E : FVec Ideal S512x512 .f32) (f : Fin 512 → Fin 512 → EReal) (hE : ∀ s t, E (ix2 s t) = Ideal.exp (f s t)) (s t : Fin 512) :
    mulf E (broadcastTo S512x512 (divf (broadcast S512x1 (Scalar.ofBits .f32 0x3F800000#32 : Ideal .f32))
        (shapeCast S512x1 (multiReduction .add [1] S512 E 0x00000000#32 reduces_S512x512_S512 (.inl rfl) rfl) shapeCasts_S512_S512x1 : FVec Ideal S512x1 .f32))
        broadcasts_S512x1_S512x512) (ix2 s t) = Softmax.weight (f s) t := by
  show E (ix2 s t) * _ = _
  rw [broadcastTo_apply _ _ _ (ix2 s 0 : S512x1.Idx) (fun a => match a with | ⟨0, _⟩ => rfl | ⟨1, _⟩ => rfl), hE]
  refine congrArg (Ideal.exp (f s t) * ·) ?_
  refine congrArg₂ Ideal.div Ideal.ofBits_one_f32 ?_
  rw [shapeCast_apply _ _ _ (ix1 s : S512.Idx) (by rfl)]
  refine (Ideal.multiReduction_add_single E _ _ _ _ _).trans (Finset.sum_congr rfl fun u _ => ?_)
  refine (congrArg E (?_ : _ = ix2 s u)).trans (hE s u)
  funext a; match a with | ⟨0, _⟩ => rfl | ⟨1, _⟩ => rfl

/-- One head's stored rows. -/
theorem head_apply (Kr : Block 32) (Q K : Block 128) (Qr : Block 32) (W : Block 128) (s : Fin 512) (d : Fin 128) :
    k1_pay3 (F := Ideal) Kr Q K Qr W (ix3 0 s d) = ∑ t : Fin 512, Softmax.weight (scores Q K Qr Kr s) t * W (ix3 0 t d) := by
  unfold k1_pay3
  refine (shapeCast_addUnit_apply _ _ _ _).trans ?_
  refine (congrArg _ (?_ : _ = (ix2 s d : S512x128.Idx))).trans ?_
  · funext a; match a with | ⟨0, _⟩ => rfl | ⟨1, _⟩ => rfl
  refine (Ideal.matmul_plain_apply none _ _ _ s d).trans ?_
  rw [show (constant ⟨2, ![512, 128]⟩ .f32 0x00000000#32 : FVec Ideal _ .f32) (ix2 s d) = 0 from Ideal.ofBits_zero_f32, zero_add]
  refine Finset.sum_congr rfl fun t _ => ?_
  refine congrArg₂ (fun x y : EReal => x * y) (weights_apply _ (scores Q K Qr Kr) (fun s t => ?_) s t) (drop_apply W _ t d)
  refine congrArg Ideal.exp (congrArg (· * Ideal.ofBits .f32 0x3DA1E89B#32) ?_)
  exact congrArg₂ (fun x y : EReal => x + y) (product_apply Q K _ _ s t) (product_apply Qr Kr _ _ s t)

end Cert.Kernel.Payload

end
-- ==== Proof.Kernel.AttendValue.lean ====
/- The attention call's result as one function of its operands: each grid point computes one batch, head by head. -/
module

public import proofs.«01_k».proof.Proof.Attention
public import proofs.«01_k».proof.Proof.Kernel.Payload

@[expose] public section

noncomputable section

namespace Cert.Kernel.Batches

open Cert.Kernel Cert.Kernel.Gen Cert.Kernel.Attend Cert.Kernel.Payload
open Cert.Attention (col rcol head out entry score Arr)
open Idealize.ShloMosaic Idealize.ShloMosaic.TcCoe Idealize.ShloMosaic.ValueIdx Idealize.SL.Sem

theorem zeros : (![0, 0, 0] : Fin 3 → Nat) = fun _ => 0 := funext fun a => by fin_cases a <;> rfl

/-- The 128 columns at `o`, at an index. -/
theorem emb_cols (h : Fin 16) (o : ℕ) (ho : o = h.val * 128) (inb) (s : Fin 512) (d : Fin 128) :
    (Rect.unit (s := S1x512x2048) ![0, 0, o] S1x512x128.size inb).emb (ix3 0 s d) = ix3 0 s (col h d) := by
  subst ho
  funext a; apply Fin.ext
  match a with
  | ⟨0, _⟩ => rfl
  | ⟨1, _⟩ => show 0 + 1 * s.val = s.val; omega
  | ⟨2, _⟩ => show h.val * 128 + 1 * d.val = h.val * 128 + d.val; omega

/-- The 32 rotary columns at `o`, at an index. -/
theorem emb_rcols (h : Fin 16) (o : ℕ) (ho : o = h.val * 32) (inb) (s : Fin 512) (d : Fin 32) :
    (Rect.unit (s := S1x512x512) ![0, 0, o] S1x512x32.size inb).emb (ix3 0 s d) = ix3 0 s (rcol h d) := by
  subst ho
  funext a; apply Fin.ext
  match a with
  | ⟨0, _⟩ => rfl
  | ⟨1, _⟩ => show 0 + 1 * s.val = s.val; omega
  | ⟨2, _⟩ => show h.val * 32 + 1 * d.val = h.val * 32 + d.val; omega

variable (q k v : Vec Ideal S1x512x2048 .bf16) (qr : Vec Ideal S1x512x512 .bf16) (kr : Vec Ideal S1x512x32 .bf16)

/-- What the body stores for head `h` is that head's columns of the result. -/
theorem piece (h : Fin 16) (o o' : ℕ) (ho : o = h.val * 128) (ho' : o' = h.val * 32) (inb inb') (x : S1x512x128.Idx) :
    k1_pay3 (F := Ideal) (View.ld kr all) (View.ld q (Rect.unit (s := S1x512x2048) ![0, 0, o] S1x512x128.size inb))
        (View.ld k (Rect.unit (s := S1x512x2048) ![0, 0, o] S1x512x128.size inb))
        (View.ld qr (Rect.unit (s := S1x512x512) ![0, 0, o'] S1x512x32.size inb'))
        (View.ld v (Rect.unit (s := S1x512x2048) ![0, 0, o] S1x512x128.size inb)) x
      = out q k v qr kr ((Rect.unit (s := S1x512x2048) ![0, 0, o] S1x512x128.size inb).emb x) := by
  obtain ⟨s, d, rfl⟩ : ∃ (s : Fin 512) (d : Fin 128), x = ix3 0 s d :=
    ⟨x 1, x 2, (eq_ix3 x).trans (congrArg (fun z => ix3 z (x 1) (x 2)) (Subsingleton.elim (α := Fin 1) (x 0) 0))⟩
  rw [emb_cols h o ho, head_apply, View.ld_unit_zero zeros]
  show _ = entry q k v qr kr 0 s (col h d)
  refine Finset.sum_congr rfl fun t _ => ?_
  refine congrArg₂ (fun x y : EReal => x * y) (congrArg (fun f => Softmax.weight f t) (funext fun u => ?_)) (congrArg v (emb_cols h o ho inb t d))
  show _ = score q k qr kr 0 (head (col h d)) s u
  rw [Cert.Attention.head_col]
  refine congrArg (fun y : EReal => y * Ideal.ofBits .f32 0x3DA1E89B#32) (congrArg₂ (fun x y : EReal => x + y) ?_ ?_)
  · exact Finset.sum_congr rfl fun e _ => congrArg₂ (fun x y : EReal => x * y) (congrArg q (emb_cols h o ho inb s e)) (congrArg k (emb_cols h o ho inb u e))
  · exact Finset.sum_congr rfl fun e _ => congrArg (fun x : EReal => x * kr (ix3 0 u e)) (congrArg qr (emb_rcols h o' ho' inb' s e))

/-- The body's result for one batch. -/
theorem out_eq : left q k v qr kr = out q k v qr kr := by
  funext y
  unfold left
  refine View.canon_apply_of_pieces (Val := Elt Ideal) (e := .bf16) (out q k v qr kr) _ ?_ y (View.cover_of_tiled (s := S1x512x2048) _ S1x512x128.size rfl y)
  refine List.forall_mem_cons.2 ⟨fun x => piece q k v qr kr 15 _ _ rfl rfl _ _ x, ?_⟩
  refine List.forall_mem_cons.2 ⟨fun x => piece q k v qr kr 14 _ _ rfl rfl _ _ x, ?_⟩
  refine List.forall_mem_cons.2 ⟨fun x => piece q k v qr kr 13 _ _ rfl rfl _ _ x, ?_⟩
  refine List.forall_mem_cons.2 ⟨fun x => piece q k v qr kr 12 _ _ rfl rfl _ _ x, ?_⟩
  refine List.forall_mem_cons.2 ⟨fun x => piece q k v qr kr 11 _ _ rfl rfl _ _ x, ?_⟩
  refine List.forall_mem_cons.2 ⟨fun x => piece q k v qr kr 10 _ _ rfl rfl _ _ x, ?_⟩
  refine List.forall_mem_cons.2 ⟨fun x => piece q k v qr kr 9 _ _ rfl rfl _ _ x, ?_⟩
  refine List.forall_mem_cons.2 ⟨fun x => piece q k v qr kr 8 _ _ rfl rfl _ _ x, ?_⟩
  refine List.forall_mem_cons.2 ⟨fun x => piece q k v qr kr 7 _ _ rfl rfl _ _ x, ?_⟩
  refine List.forall_mem_cons.2 ⟨fun x => piece q k v qr kr 6 _ _ rfl rfl _ _ x, ?_⟩
  refine List.forall_mem_cons.2 ⟨fun x => piece q k v qr kr 5 _ _ rfl rfl _ _ x, ?_⟩
  refine List.forall_mem_cons.2 ⟨fun x => piece q k v qr kr 4 _ _ rfl rfl _ _ x, ?_⟩
  refine List.forall_mem_cons.2 ⟨fun x => piece q k v qr kr 3 _ _ rfl rfl _ _ x, ?_⟩
  refine List.forall_mem_cons.2 ⟨fun x => piece q k v qr kr 2 _ _ rfl rfl _ _ x, ?_⟩
  refine List.forall_mem_cons.2 ⟨fun x => piece q k v qr kr 1 _ _ rfl rfl _ _ x, ?_⟩
  refine List.forall_mem_cons.2 ⟨fun x => piece q k v qr kr 0 _ _ rfl rfl _ _ x, ?_⟩
  intro p hp
  exact absurd hp List.not_mem_nil

variable (W : Dev nD → Valuation τ sig (Elt Ideal))

/-- Every window's block at point `t` is batch `t`, whole. -/
theorem idx0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx2 : ∀ t : Fin cfg1.N, win1_2.index t (0 : Fin 3) = t.val ∧ win1_2.index t (1 : Fin 3) = 0 ∧ win1_2.index t (2 : Fin 3) = 0 :=
  (by decide +kernel : ∀ t : Fin grid1.N, _)
theorem idx3 : ∀ t : Fin cfg1.N, win1_3.index t (0 : Fin 3) = t.val ∧ win1_3.index t (1 : Fin 3) = 0 ∧ win1_3.index t (2 : Fin 3) = 0 :=
  (by decide +kernel : ∀ t : Fin grid1.N, _)
theorem idx4 : ∀ t : Fin cfg1.N, win1_4.index t (0 : Fin 3) = t.val ∧ win1_4.index t (1 : Fin 3) = 0 ∧ win1_4.index t (2 : Fin 3) = 0 :=
  (by decide +kernel : ∀ t : Fin grid1.N, _)
theorem idx5 : ∀ t : Fin cfg1.N, win1_5.index t (0 : Fin 3) = t.val ∧ win1_5.index t (1 : Fin 3) = 0 ∧ win1_5.index t (2 : Fin 3) = 0 :=
  (by decide +kernel : ∀ t : Fin grid1.N, _)

theorem points : cfg1.N = 2 := by decide +kernel

/-- The batch of a grid point. -/
def batch (t : Fin cfg1.N) : Fin 2 := ⟨t.val, points ▸ t.isLt⟩

/-- Index `j` of a block of batch `b`, in the whole array. -/
theorem whole {D : ℕ} (w : Fin 3 → ℕ) (b : Fin 2) (hw : w 0 = b.val ∧ w 1 = 0 ∧ w 2 = 0)
    (e : (⟨3, ![2, 512, D]⟩ : Shape).Idx) (s : Fin 512) (d : Fin D)
    (he : (e 0).val = w 0 * 1 + 1 * 0 ∧ (e 1).val = w 1 * 512 + 1 * s.val ∧ (e 2).val = w 2 * D + 1 * d.val) : e = ix3 b s d := by
  obtain ⟨w0, w1, w2⟩ := hw
  obtain ⟨e0, e1, e2⟩ := he
  rw [w0] at e0; rw [w1] at e1; rw [w2] at e2
  funext a; apply Fin.ext
  match a with
  | ⟨0, _⟩ => exact e0.trans (by show b.val * 1 + 1 * 0 = b.val; omega)
  | ⟨1, _⟩ => exact e1.trans (by show 0 * 512 + 1 * s.val = s.val; omega)
  | ⟨2, _⟩ => exact e2.trans (by show 0 * D + 1 * d.val = d.val; omega)

theorem read0 (c : Dev nD) (t : Fin cfg1.N) (s : Fin 512) (d : Fin 2048) : block W c 0 t (ix3 0 s d) = W c (Proc.devRef .tc main_v3) (ix3 (batch t) s d) :=
  congrArg (W c (Proc.devRef .tc main_v3)) (whole (win1_0.index t) (batch t) (idx0 t) _ s d ⟨rfl, rfl, rfl⟩)
theorem read1 (c : Dev nD) (t : Fin cfg1.N) (s : Fin 512) (d : Fin 2048) : block W c 1 t (ix3 0 s d) = W c (Proc.devRef .tc main_v4) (ix3 (batch t) s d) :=
  congrArg (W c (Proc.devRef .tc main_v4)) (whole (win1_1.index t) (batch t) (idx1 t) _ s d ⟨rfl, rfl, rfl⟩)
theorem read2 (c : Dev nD) (t : Fin cfg1.N) (s : Fin 512) (d : Fin 2048) : block W c 2 t (ix3 0 s d) = W c (Proc.devRef .tc main_v5) (ix3 (batch t) s d) :=
  congrArg (W c (Proc.devRef .tc main_v5)) (whole (win1_2.index t) (batch t) (idx2 t) _ s d ⟨rfl, rfl, rfl⟩)
theorem read3 (c : Dev nD) (t : Fin cfg1.N) (s : Fin 512) (d : Fin 512) : block W c 3 t (ix3 0 s d) = W c (Proc.devRef .tc main_v6) (ix3 (batch t) s d) :=
  congrArg (W c (Proc.devRef .tc main_v6)) (whole (win1_3.index t) (batch t) (idx3 t) _ s d ⟨rfl, rfl, rfl⟩)
theorem read4 (c : Dev nD) (t : Fin cfg1.N) (s : Fin 512) (d : Fin 32) : block W c 4 t (ix3 0 s d) = W c (Proc.devRef .tc main_v7) (ix3 (batch t) s d) :=
  congrArg (W c (Proc.devRef .tc main_v7)) (whole (win1_4.index t) (batch t) (idx4 t) _ s d ⟨rfl, rfl, rfl⟩)
theorem emb5 (t : Fin cfg1.N) (s : Fin 512) (d : Fin 2048) : ((cfg1.win 5).blk t).view.emb (ix3 0 s d : S1x512x2048.Idx) = ix3 (batch t) s d :=
  whole (win1_5.index t) (batch t) (idx5 t) _ s d ⟨rfl, rfl, rfl⟩

/-- What point `t` writes back is its batch of the result. -/
theorem flushed_eq (c : Dev nD) (t : Fin cfg1.N) :
    (dat W c).flushed 5 t = ((cfg1.win 5).blk t).view.read (Elt Ideal)
      (out (W c (Proc.devRef .tc main_v3)) (W c (Proc.devRef .tc main_v4)) (W c (Proc.devRef .tc main_v5)) (W c (Proc.devRef .tc main_v6)) (W c (Proc.devRef .tc main_v7))) := by
  rw [show (dat W c).flushed 5 t = left (block W c 0 t) (block W c 1 t) (block W c 2 t) (block W c 3 t) (block W c 4 t) from (after5 W c t), out_eq]
  funext j
  obtain ⟨s, d, rfl⟩ : ∃ (s : Fin 512) (d : Fin 2048), j = ix3 0 s d :=
    ⟨j 1, j 2, (eq_ix3 j).trans (congrArg (fun z => ix3 z (j 1) (j 2)) (Subsingleton.elim (α := Fin 1) (j 0) 0))⟩
  show entry (block W c 0 t) (block W c 1 t) (block W c 2 t) (block W c 3 t) (block W c 4 t) 0 s d
    = out (W c (Proc.devRef .tc main_v3)) (W c (Proc.devRef .tc main_v4)) (W c (Proc.devRef .tc main_v5)) (W c (Proc.devRef .tc main_v6)) (W c (Proc.devRef .tc main_v7)) (((cfg1.win 5).blk t).view.emb (ix3 0 s d : S1x512x2048.Idx))
  rw [emb5]
  show _ = entry (W c (Proc.devRef .tc main_v3)) (W c (Proc.devRef .tc main_v4)) (W c (Proc.devRef .tc main_v5)) (W c (Proc.devRef .tc main_v6)) (W c (Proc.devRef .tc main_v7)) (batch t) s d
  unfold entry score
  simp only [read0 W, read1 W, read2 W, read3 W, read4 W]

/-- Every index of the result is in its batch's block. -/
theorem covered (i : S2x512x2048.Idx) :
    ∃ t : Fin cfg1.N, (cfg1.win 5).flush t = true ∧ i ∈ ((cfg1.win 5).blk t).view.set := by
  obtain ⟨t, ht⟩ : ∃ t : Fin cfg1.N, batch t = i 0 := ⟨⟨(i 0).val, by rw [points]; exact (i 0).isLt⟩, rfl⟩
  have e : ((cfg1.win 5).blk t).view.emb (ix3 0 (i 1) (i 2) : S1x512x2048.Idx) = i :=
    (emb5 t (i 1) (i 2)).trans ((congrArg (fun b => (ix3 b (i 1) (i 2) : S2x512x2048.Idx)) ht).trans (eq_ix3 i).symm)
  exact ⟨t, flush1_5 t, e ▸ ((cfg1.win 5).blk t).view.emb_mem_set (ix3 0 (i 1) (i 2) : S1x512x2048.Idx)⟩

/-- The result after the run. -/
theorem final (c : Dev nD) : (dat W c).arrAt 5 cfg1.N
    = out (W c (Proc.devRef .tc main_v3)) (W c (Proc.devRef .tc main_v4)) (W c (Proc.devRef .tc main_v5)) (W c (Proc.devRef .tc main_v6)) (W c (Proc.devRef .tc main_v7)) :=
  (dat W c).arrAt_eq_of_cover 5 _ (fun t _ => flushed_eq W c t) covered

end Cert.Kernel.Batches

end
-- ==== Proof.Kernel.ProjectValue.lean ====
/- The output product's result as one function of its operands, over the extended reals: grid point `t` writes columns
   `512 t` to `512 t + 511` of the product. -/
module

public import proofs.«01_k».proof.Proof.Product
public import proofs.«01_k».proof.Proof.Kernel.Project

@[expose] public section

noncomputable section

namespace Cert.Kernel.Columns

open Cert.Kernel Cert.Kernel.Gen Cert.Kernel.Project
open Idealize.ShloMosaic Idealize.ShloMosaic.TcCoe Idealize.ShloMosaic.ValueIdx Idealize.SL.Sem

theorem zeros : (![0, 0] : Fin 2 → Nat) = fun _ => 0 := funext fun a => by fin_cases a <;> rfl

/-- The body's result: the product of the rows and the block of columns. -/
theorem out_eq (A : Vec Ideal S1024x2048 .bf16) (B : Vec Ideal S2048x512 .bf16) :
    left A B = Cert.Product.prod A B := by
  unfold left
  rw [View.canon_unit_zero zeros, View.ld_unit_zero zeros, View.ld_unit_zero zeros]
  exact Cert.Product.dot_cast _ rfl A B (by decide) _ _

variable (W : Dev nD → Valuation τ sig (Elt Ideal))

theorem idx0 : ∀ t : Fin cfg2.N, win2_0.index t (0 : Fin 2) = 0 ∧ win2_0.index t (1 : Fin 2) = 0 :=
  (by decide +kernel : ∀ t : Fin grid2.N, _)
theorem idx1 : ∀ t : Fin cfg2.N, win2_1.index t (0 : Fin 2) = 0 ∧ win2_1.index t (1 : Fin 2) = t.val :=
  (by decide +kernel : ∀ t : Fin grid2.N, _)
theorem idx2 : ∀ t : Fin cfg2.N, win2_2.index t (0 : Fin 2) = 0 ∧ win2_2.index t (1 : Fin 2) = t.val :=
  (by decide +kernel : ∀ t : Fin grid2.N, _)

/-- Column `j` of block `t`. -/
def col (t : Fin cfg2.N) (j : Fin 512) : Fin 2048 :=
  ⟨t.val * 512 + j.val, by have ht : t.val < 4 := t.isLt; have := j.isLt; omega⟩

theorem emb0 (t : Fin cfg2.N) (j : S1024x2048.Idx) : ((cfg2.win 0).blk t).view.emb j = j := by
  obtain ⟨e0, e1⟩ := idx0 t
  funext a; apply Fin.ext
  match a with
  | ⟨0, _⟩ => show win2_0.index t (0 : Fin 2) * 1024 + 1 * (j 0).val = (j 0).val; omega
  | ⟨1, _⟩ => show win2_0.index t (1 : Fin 2) * 2048 + 1 * (j 1).val = (j 1).val; omega

theorem emb1 (t : Fin cfg2.N) (j : S2048x512.Idx) : ((cfg2.win 1).blk t).view.emb j = ix2 (j 0) (col t (j 1)) := by
  obtain ⟨e0, e1⟩ := idx1 t
  funext a; apply Fin.ext
  match a with
  | ⟨0, _⟩ => show win2_1.index t (0 : Fin 2) * 2048 + 1 * (j 0).val = (j 0).val; omega
  | ⟨1, _⟩ => show win2_1.index t (1 : Fin 2) * 512 + 1 * (j 1).val = t.val * 512 + (j 1).val; omega

theorem emb2 (t : Fin cfg2.N) (j : S1024x512.Idx) : ((cfg2.win 2).blk t).view.emb j = ix2 (j 0) (col t (j 1)) := by
  obtain ⟨e0, e1⟩ := idx2 t
  funext a; apply Fin.ext
  match a with
  | ⟨0, _⟩ => show win2_2.index t (0 : Fin 2) * 1024 + 1 * (j 0).val = (j 0).val; omega
  | ⟨1, _⟩ => show win2_2.index t (1 : Fin 2) * 512 + 1 * (j 1).val = t.val * 512 + (j 1).val; omega

/-- What point `t` writes back is its columns of the product. -/
theorem flushed_eq (c : Dev nD) (t : Fin cfg2.N) :
    (dat W c).flushed 2 t
      = ((cfg2.win 2).blk t).view.read (Elt Ideal) (Cert.Product.prod (W c (Proc.devRef .tc main_v9)) (W c (Proc.devRef .tc main_arg7))) := by
  rw [show (dat W c).flushed 2 t = left (block W c 0 t) (block W c 1 t) from (after2 W c t), out_eq]
  funext j
  show Cert.Product.prod (block W c 0 t) (block W c 1 t) j
    = Cert.Product.prod (W c (Proc.devRef .tc main_v9)) (W c (Proc.devRef .tc main_arg7)) (((cfg2.win 2).blk t).view.emb j)
  rw [emb2]
  refine Finset.sum_congr rfl fun k _ => ?_
  exact congrArg₂ (fun x y : EReal => x * y) (congrArg (W c (Proc.devRef .tc main_v9)) (emb0 t _)) (congrArg (W c (Proc.devRef .tc main_arg7)) (emb1 t _))

/-- Every index of the result is in the block of its column. -/
theorem covered (i : S1024x2048.Idx) :
    ∃ t : Fin cfg2.N, (cfg2.win 2).flush t = true ∧ i ∈ ((cfg2.win 2).blk t).view.set := by
  have h1 : (i 1).val < 2048 := (i 1).isLt
  have hN : cfg2.N = 4 := by decide +kernel
  obtain ⟨t, ht⟩ : ∃ t : Fin cfg2.N, t.val = (i 1).val / 512 := ⟨⟨(i 1).val / 512, by omega⟩, rfl⟩
  have h := ((cfg2.win 2).blk t).view.emb_mem_set (ix2 (i 0) ⟨(i 1).val % 512, Nat.mod_lt _ (by omega)⟩ : S1024x512.Idx)
  rw [emb2] at h
  have e : (ix2 (i 0) (col t ⟨(i 1).val % 512, Nat.mod_lt _ (by omega)⟩) : S1024x2048.Idx) = i := by
    funext a; apply Fin.ext
    match a with
    | ⟨0, _⟩ => rfl
    | ⟨1, _⟩ => show t.val * 512 + (i 1).val % 512 = (i 1).val; omega
  exact ⟨t, flush2_2 t, e ▸ h⟩

/-- The result after the run: the product of the two arguments. -/
theorem final (c : Dev nD) : (dat W c).arrAt 2 cfg2.N = Cert.Product.prod (W c (Proc.devRef .tc main_v9)) (W c (Proc.devRef .tc main_arg7)) :=
  (dat W c).arrAt_eq_of_cover 2 _ (fun t _ => flushed_eq W c t) covered

end Cert.Kernel.Columns

end
-- ==== Proof.Kernel.Result.lean ====
/- The kernel's result over the extended reals, as one function of its arguments. -/
module

public import proofs.«01_k».proof.Proof.Rows
public import proofs.«01_k».proof.Proof.Kernel.Value
public import proofs.«01_k».proof.Proof.Kernel.AttendValue
public import proofs.«01_k».proof.Proof.Kernel.ProjectValue

@[expose] public section

set_option maxRecDepth 16384

noncomputable section

namespace Cert.Kernel.Talk

open Cert.Kernel Cert.Kernel.Gen
open Cert.Product Cert.Rows
open Idealize.ShloMosaic Idealize.ShloMosaic.TcCoe Idealize.ShloMosaic.ValueIdx Idealize.SL.Sem

variable (m : (ℓ : Loc nD τ sig) → Buf (Elt Ideal) ℓ)

/-! ## The reshapes -/

theorem U1_v1 (c : Dev nD) : U1 m c (Proc.devRef .tc main_v1) = Rows.join (m ((c : Thread nD τ).loc main_arg0)) :=
  Eq.trans (by unfold U1; after_results_simp <;> rfl) (join_cast (t := .bf16) (m ((c : Thread nD τ).loc main_arg0)) shapeCasts_S2x512x2048_S1024x2048)
theorem U3_v3 (c : Dev nD) : U3 m c (Proc.devRef .tc main_v3) = split (U2 m c (Proc.devRef .tc main_v2_2)) :=
  Eq.trans (by unfold U3; after_results_simp <;> rfl) (split_cast (t := .bf16) (U2 m c (Proc.devRef .tc main_v2_2)) shapeCasts_S1024x2048_S2x512x2048)
theorem U3_v4 (c : Dev nD) : U3 m c (Proc.devRef .tc main_v4) = split (U2 m c (Proc.devRef .tc main_v2_0)) :=
  Eq.trans (by unfold U3; after_results_simp <;> rfl) (split_cast (t := .bf16) (U2 m c (Proc.devRef .tc main_v2_0)) shapeCasts_S1024x2048_S2x512x2048)
theorem U3_v5 (c : Dev nD) : U3 m c (Proc.devRef .tc main_v5) = split (U2 m c (Proc.devRef .tc main_v2_1)) :=
  Eq.trans (by unfold U3; after_results_simp <;> rfl) (split_cast (t := .bf16) (U2 m c (Proc.devRef .tc main_v2_1)) shapeCasts_S1024x2048_S2x512x2048)
theorem U3_v6 (c : Dev nD) : U3 m c (Proc.devRef .tc main_v6) = split (U2 m c (Proc.devRef .tc main_v2_3)) :=
  Eq.trans (by unfold U3; after_results_simp <;> rfl) (split_cast (t := .bf16) (U2 m c (Proc.devRef .tc main_v2_3)) shapeCasts_S1024x512_S2x512x512)
theorem U3_v7 (c : Dev nD) : U3 m c (Proc.devRef .tc main_v7) = split (U2 m c (Proc.devRef .tc main_v2_4)) :=
  Eq.trans (by unfold U3; after_results_simp <;> rfl) (split_cast (t := .bf16) (U2 m c (Proc.devRef .tc main_v2_4)) shapeCasts_S1024x32_S2x512x32)
theorem U5_v9 (c : Dev nD) : U5 m c (Proc.devRef .tc main_v9) = Rows.join (U4 m c (Proc.devRef .tc main_v8)) :=
  Eq.trans (by unfold U5; after_results_simp <;> rfl) (join_cast (t := .bf16) (U4 m c (Proc.devRef .tc main_v8)) shapeCasts_S2x512x2048_S1024x2048)
theorem U7_v11 (c : Dev nD) : U7 m c (Proc.devRef .tc main_v11) = split (U6 m c (Proc.devRef .tc main_v10)) :=
  Eq.trans (by unfold U7; after_results_simp <;> rfl) (split_cast (t := .f32) (U6 m c (Proc.devRef .tc main_v10)) shapeCasts_S1024x2048_S2x512x2048)

/-! ## The calls -/

theorem U4_v8 (c : Dev nD) : U4 m c (Proc.devRef .tc main_v8) = Attention.out (U3 m c (Proc.devRef .tc main_v3)) (U3 m c (Proc.devRef .tc main_v4))
    (U3 m c (Proc.devRef .tc main_v5)) (U3 m c (Proc.devRef .tc main_v6)) (U3 m c (Proc.devRef .tc main_v7)) :=
  (Pipeline.afterRegion_arr (Attend.dat (U3 m) c) (U3 m c) winFacts1.arr_inj 5).trans (Batches.final (U3 m) c)

theorem U6_v10 (c : Dev nD) : U6 m c (Proc.devRef .tc main_v10) = prod (U5 m c (Proc.devRef .tc main_v9)) (U5 m c (Proc.devRef .tc main_arg7)) :=
  (Pipeline.afterRegion_arr (Project.dat (U5 m) c) (U5 m c) winFacts2.arr_inj 2).trans (Columns.final (U5 m) c)

/-! ## The arguments, where they are read -/

/-- A buffer that the first reshape does not write. -/
theorem U1_kept (c : Dev nD) (r : Ref sig .tc) (h : r ∉ hostOps0_W) : U1 m c (Proc.devRef .tc r) = m ((c : Thread nD τ).loc r) :=
  StableHlo.after_of_writes_sub hostOps0 (U0 m c) hostOps0_writes h

/-- The output product's weights are untouched before it. -/
theorem U5_arg7 (c : Dev nD) : U5 m c (Proc.devRef .tc main_arg7) = m ((c : Thread nD τ).loc main_arg7) :=
  ((StableHlo.after_of_writes_sub hostOps2 (U4 m c) hostOps2_writes (by decide : main_arg7 ∉ hostOps2_W)).trans
    (Pipeline.afterRegion_keeps (Attend.dat (U3 m) c) (U3 m c) winFacts1.arr_inj (Attend.entry_eq (U3 m) c) main_arg7 (by decide))).trans
  (((StableHlo.after_of_writes_sub hostOps1 (U2 m c) hostOps1_writes (by decide : main_arg7 ∉ hostOps1_W)).trans
    (next_of (U1 m) c (Proc.devRef .tc main_arg7) (by decide))).trans (U1_kept m c main_arg7 (by decide)))

section Whole
variable (x : Attention.Arr 2 2048) (Wd : Mat 2048 512) (Wk Wv : Mat 512 2048) (Wq : Mat 2048 2048) (Wqr : Mat 2048 512) (Wkr : Mat 2048 32) (Wo : Mat 2048 2048)

/-- The devices' arguments are copies or blocks of whole arrays. -/
structure Cut : Prop where
  x : ∀ c : Dev nD, m ((c : Thread nD τ).loc main_arg0) = x
  wd : ∀ (c : Dev nD) (j : S2048x128.Idx), m ((c : Thread nD τ).loc main_arg1) j = Wd (ix2 (j 0) ⟨128 * (c.val % 4) + (j 1).val, by have : (j 1).val < 128 := (j 1).isLt; omega⟩)
  wk : ∀ (c : Dev nD) (j : S128x2048.Idx), m ((c : Thread nD τ).loc main_arg2) j = Wk (ix2 ⟨128 * (c.val % 4) + (j 0).val, by have : (j 0).val < 128 := (j 0).isLt; omega⟩ (j 1))
  wv : ∀ (c : Dev nD) (j : S128x2048.Idx), m ((c : Thread nD τ).loc main_arg3) j = Wv (ix2 ⟨128 * (c.val % 4) + (j 0).val, by have : (j 0).val < 128 := (j 0).isLt; omega⟩ (j 1))
  wq : ∀ c : Dev nD, m ((c : Thread nD τ).loc main_arg4) = Wq
  wqr : ∀ c : Dev nD, m ((c : Thread nD τ).loc main_arg5) = Wqr
  wkr : ∀ c : Dev nD, m ((c : Thread nD τ).loc main_arg6) = Wkr
  wo : ∀ c : Dev nD, m ((c : Thread nD τ).loc main_arg7) = Wo

variable {m x Wd Wk Wv Wq Wqr Wkr Wo} (h : Cut m x Wd Wk Wv Wq Wqr Wkr Wo)
include h

theorem held : Held (insOf (U1 m)) (Rows.join x) Wd Wk Wv where
  x c := (U1_v1 m c).trans (congrArg Rows.join (h.x c))
  wd c j := (congrFun (U1_kept m c main_arg1 (by decide)) j).trans (h.wd c j)
  wk c j := (congrFun (U1_kept m c main_arg2 (by decide)) j).trans (h.wk c j)
  wv c j := (congrFun (U1_kept m c main_arg3 (by decide)) j).trans (h.wv c j)

/-- The result is the layer of the whole arrays. -/
theorem U7_result (c : Dev nD) : U7 m c (Proc.devRef .tc main_v11) = layer x Wd Wk Wv Wq Wqr Wkr Wo := by
  have k : U2 m c (Proc.devRef .tc main_v2_0) = prod (prod (Rows.join x) Wd) Wk := (next_7 (U1 m) c).trans (kOut_val (held h) c)
  have v : U2 m c (Proc.devRef .tc main_v2_1) = prod (prod (Rows.join x) Wd) Wv := (next_8 (U1 m) c).trans (vOut_val (held h) c)
  have q : U2 m c (Proc.devRef .tc main_v2_2) = prod (Rows.join x) Wq :=
    (next_9 (U1 m) c).trans ((qOut_val (held h) c).trans (congrArg (prod (Rows.join x)) ((U1_kept m c main_arg4 (by decide)).trans (h.wq c))))
  have qr : U2 m c (Proc.devRef .tc main_v2_3) = prod (Rows.join x) Wqr :=
    (next_10 (U1 m) c).trans ((qrOut_val (held h) c).trans (congrArg (prod (Rows.join x)) ((U1_kept m c main_arg5 (by decide)).trans (h.wqr c))))
  have kr : U2 m c (Proc.devRef .tc main_v2_4) = prod (Rows.join x) Wkr :=
    (next_11 (U1 m) c).trans ((krOut_val (held h) c).trans (congrArg (prod (Rows.join x)) ((U1_kept m c main_arg6 (by decide)).trans (h.wkr c))))
  rw [U7_v11, U6_v10, U5_arg7, U5_v9, U4_v8, U3_v3, U3_v4, U3_v5, U3_v6, U3_v7, k, v, q, qr, kr, h.wo]
  rfl
end Whole

end Cert.Kernel.Talk

end
-- ==== Proof.ReferenceIdeal.Value.lean ====
/- The reference's result as one function of its arguments, where the queries and keys are real. -/
module

public import proofs.«01_k».proof.Proof.Rows
public import proofs.«01_k».proof.Proof.Gen.ReferenceIdeal.Run
public import Idealize.ShloMosaic.Lib.IdealHost
public import Idealize.ShloMosaic.Lib.KernelVsHost
public import Idealize.ShloMosaic.Lib.Pipeline.Value

@[expose] public section

noncomputable section

namespace Cert.ReferenceIdeal.Heads

open Cert.ReferenceIdeal Cert.ReferenceIdeal.Gen Cert.ReferenceIdeal.Value
open Cert.Attention (col rcol head out entry score Arr)
open Cert.Softmax (IsReal)
open Idealize.ShloMosaic Idealize.ShloMosaic.TcCoe Idealize.ShloMosaic.ValueIdx Idealize.SL.Sem

/-! ## The operands, cut into heads -/

theorem heads_apply (X : FVec Ideal S2x512x2048 .bf16) (h) (b : Fin 2) (s : Fin 512) (n : Fin 16) (d : Fin 128) :
    (shapeCast S2x512x16x128 X h : FVec Ideal _ .bf16) (ix4 b s n d) = X (ix3 b s (col n d)) := by
  refine shapeCast_apply _ _ _ (ix3 b s (col n d) : S2x512x2048.Idx) ?_
  rw [Shape.rowMajor_val_three, Shape.rowMajor_val_four]
  show (b.val * 512 + s.val) * 2048 + (n.val * 128 + d.val) = ((b.val * 512 + s.val) * 16 + n.val) * 128 + d.val
  omega

theorem rheads_apply (X : FVec Ideal S2x512x512 .bf16) (h) (b : Fin 2) (s : Fin 512) (n : Fin 16) (d : Fin 32) :
    (shapeCast S2x512x16x32 X h : FVec Ideal _ .bf16) (ix4 b s n d) = X (ix3 b s (rcol n d)) := by
  refine shapeCast_apply _ _ _ (ix3 b s (rcol n d) : S2x512x512.Idx) ?_
  rw [Shape.rowMajor_val_three, Shape.rowMajor_val_four]
  show (b.val * 512 + s.val) * 512 + (n.val * 32 + d.val) = ((b.val * 512 + s.val) * 16 + n.val) * 32 + d.val
  omega

/-- The one rotary key of a position, under every head. -/
theorem shared_apply (X : FVec Ideal S2x512x32 .bf16) (h) (b : Fin 2) (s : Fin 512) (n : Fin 16) (d : Fin 32) :
    broadcastInDim S2x512x16x32 ![0, 1, 2, 3] bcast_S2x512x1x32_S2x512x16x32_0_1_2_3 (shapeCast S2x512x1x32 X h : FVec Ideal _ .bf16) (ix4 b s n d)
      = X (ix3 b s d) := by
  rw [broadcastInDim_apply _ _ _ _ (ix4 b s 0 d : S2x512x1x32.Idx) (fun a => match a with | ⟨0, _⟩ => rfl | ⟨1, _⟩ => rfl | ⟨2, _⟩ => rfl | ⟨3, _⟩ => rfl)]
  refine shapeCast_apply _ _ _ (ix3 b s d : S2x512x32.Idx) ?_
  rw [Shape.rowMajor_val_three, Shape.rowMajor_val_four]
  show (b.val * 512 + s.val) * 32 + d.val = ((b.val * 512 + s.val) * 1 + 0) * 32 + d.val
  omega

/-- The heads side by side again. -/
theorem joined_apply (Y : FVec Ideal S2x512x16x128 .bf16) (h) (b : Fin 2) (s : Fin 512) (c : Fin 2048) :
    (shapeCast S2x512x2048 Y h : FVec Ideal _ .bf16) (ix3 b s c) = Y (ix4 b s (head c) ⟨c.val % 128, Nat.mod_lt _ (by omega)⟩) := by
  refine shapeCast_apply _ _ _ (ix4 b s (head c) ⟨c.val % 128, Nat.mod_lt _ (by omega)⟩ : S2x512x16x128.Idx) ?_
  rw [Shape.rowMajor_val_three, Shape.rowMajor_val_four]
  show ((b.val * 512 + s.val) * 16 + c.val / 128) * 128 + c.val % 128 = (b.val * 512 + s.val) * 2048 + c.val
  omega

/-- The axes in the result's order. -/
theorem back_apply (Y : FVec Ideal S2x16x128x512 .f32) (h) (b : Fin 2) (s : Fin 512) (n : Fin 16) (d : Fin 128) :
    (truncf .bf16 (transpose S2x512x16x128 [0, 3, 1, 2] Y transposes_S2x16x128x512_S2x512x16x128_0_3_1_2) h : FVec Ideal _ .bf16) (ix4 b s n d)
      = Y (ix4 b n d s) :=
  transpose_apply (s := S2x16x128x512) (t := S2x512x16x128) [0, 3, 1, 2] Y transposes_S2x16x128x512_S2x512x16x128_0_3_1_2
    (ix4 b s n d) (ix4 b n d s) (fun a => match a with | ⟨0, _⟩ => rfl | ⟨1, _⟩ => rfl | ⟨2, _⟩ => rfl | ⟨3, _⟩ => rfl)

/-! ## The products, head by head -/

/-- Rows against rows, in each batch and head. -/
theorem rows_apply {D : ℕ} (d : DotDims ⟨4, ![2, 512, 16, D]⟩ ⟨4, ![2, 512, 16, D]⟩ ⟨4, ![2, 16, 512, 512]⟩)
    (w) (hd : d = ⟨[3], [3], [1], [1], [0, 2], [0, 2], w⟩) (A B : FVec Ideal ⟨4, ![2, 512, 16, D]⟩ .bf16)
    (b : Fin 2) (n : Fin 16) (s t : Fin 512) :
    Host.dotGeneral d none A B (ix4 b n s t) = ∑ e : Fin D, A (ix4 b s n e) * B (ix4 b t n e) := by
  subst hd
  show FloatOps.dotGeneral _ none _ A B (ix4 b n s t) = _
  rw [Ideal.dotGeneral_apply, ← Equiv.sum_comp (contrEquiv1 _ D rfl rfl).symm]
  refine Finset.sum_congr rfl fun e _ => ?_
  have he := contrEquiv1_symm_val (⟨[3], [3], [1], [1], [0, 2], [0, 2], w⟩ : DotDims ⟨4, ![2, 512, 16, D]⟩ ⟨4, ![2, 512, 16, D]⟩ ⟨4, ![2, 16, 512, 512]⟩) D rfl rfl e
  refine congrArg₂ (fun x y : EReal => x * y) (congrArg A ?_) (congrArg B ?_)
  · funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact he
  · funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact he

/-- The values against the weights, in each batch and head. -/
theorem values_apply (A : FVec Ideal S2x512x16x128 .bf16) (B : FVec Ideal S2x16x512x512 .bf16)
    (b : Fin 2) (n : Fin 16) (d : Fin 128) (s : Fin 512) :
    Host.dotGeneral dot_S2x512x16x128_S2x16x512x512_S2x16x128x512_1_3_3_2_02_01 none A B (ix4 b n d s)
      = ∑ t : Fin 512, A (ix4 b t n d) * B (ix4 b n s t) := by
  show FloatOps.dotGeneral _ none _ A B (ix4 b n d s) = _
  rw [Ideal.dotGeneral_apply, ← Equiv.sum_comp (contrEquiv1 _ 512 rfl rfl).symm]
  refine Finset.sum_congr rfl fun e _ => ?_
  have he := contrEquiv1_symm_val dot_S2x512x16x128_S2x16x512x512_S2x16x128x512_1_3_3_2_02_01 512 rfl rfl e
  refine congrArg₂ (fun x y : EReal => x * y) (congrArg A ?_) (congrArg B ?_)
  · funext ax; apply Fin.ext
    match ax with
    | ⟨0, _⟩ => simp [DotDims.lhsIdx, dot_S2x512x16x128_S2x16x512x512_S2x16x128x512_1_3_3_2_02_01]; rfl
    | ⟨1, _⟩ => simp [DotDims.lhsIdx, dot_S2x512x16x128_S2x16x512x512_S2x16x128x512_1_3_3_2_02_01]; exact he
    | ⟨2, _⟩ => simp [DotDims.lhsIdx, dot_S2x512x16x128_S2x16x512x512_S2x16x128x512_1_3_3_2_02_01]; rfl
    | ⟨3, _⟩ => simp [DotDims.lhsIdx, dot_S2x512x16x128_S2x16x512x512_S2x16x128x512_1_3_3_2_02_01]; rfl
  · funext ax; apply Fin.ext
    match ax with
    | ⟨0, _⟩ => simp [DotDims.rhsIdx, dot_S2x512x16x128_S2x16x512x512_S2x16x128x512_1_3_3_2_02_01]; rfl
    | ⟨1, _⟩ => simp [DotDims.rhsIdx, dot_S2x512x16x128_S2x16x512x512_S2x16x128x512_1_3_3_2_02_01]; rfl
    | ⟨2, _⟩ => simp [DotDims.rhsIdx, dot_S2x512x16x128_S2x16x512x512_S2x16x128x512_1_3_3_2_02_01]; rfl
    | ⟨3, _⟩ => simp [DotDims.rhsIdx, dot_S2x512x16x128_S2x16x512x512_S2x16x128x512_1_3_3_2_02_01]; exact he

/-! ## The scores -/

/-- The reference's scores. -/
def logits (q k : FVec Ideal S2x512x2048 .bf16) (qr : FVec Ideal S2x512x512 .bf16) (kr : FVec Ideal S2x512x32 .bf16) : FVec Ideal S2x16x512x512 .bf16 :=
  truncf .bf16 (mulf (extf .f32 (addf
    (truncf .bf16 (Host.dotGeneral dot_S2x512x16x128_S2x512x16x128_S2x16x512x512_3_3_1_1_02_02 none
      (shapeCast S2x512x16x128 q shapeCasts_S2x512x2048_S2x512x16x128 : FVec Ideal _ .bf16) (shapeCast S2x512x16x128 k shapeCasts_S2x512x2048_S2x512x16x128 : FVec Ideal _ .bf16)) bitsLt_bf16_f32)
    (truncf .bf16 (Host.dotGeneral dot_S2x512x16x32_S2x512x16x32_S2x16x512x512_3_3_1_1_02_02 none
      (shapeCast S2x512x16x32 qr shapeCasts_S2x512x512_S2x512x16x32 : FVec Ideal _ .bf16)
      (broadcastInDim S2x512x16x32 ![0, 1, 2, 3] bcast_S2x512x1x32_S2x512x16x32_0_1_2_3 (shapeCast S2x512x1x32 kr shapeCasts_S2x512x32_S2x512x1x32 : FVec Ideal _ .bf16))) bitsLt_bf16_f32)) bitsLt_bf16_f32)
    (broadcastInDim S2x16x512x512 ![] bcast_S_S2x16x512x512 (constant S_ .f32 0x3DA1E89B#32))) bitsLt_bf16_f32

theorem logits_apply (q k : FVec Ideal S2x512x2048 .bf16) (qr : FVec Ideal S2x512x512 .bf16) (kr : FVec Ideal S2x512x32 .bf16)
    (b : Fin 2) (n : Fin 16) (s t : Fin 512) : logits q k qr kr (ix4 b n s t) = score q k qr kr b n s t := by
  unfold logits score
  refine congrArg₂ (fun x y : EReal => x * y) (congrArg₂ (fun x y : EReal => x + y) ?_ ?_) ?_
  · refine (rows_apply (D := 128) _ _ rfl _ _ b n s t).trans (Finset.sum_congr rfl fun e _ => ?_)
    rw [heads_apply, heads_apply]
  · refine (rows_apply (D := 32) _ _ rfl _ _ b n s t).trans (Finset.sum_congr rfl fun e _ => ?_)
    rw [rheads_apply, shared_apply]
  · exact broadcastInDim_scalar_apply _ _ _

/-! ## The weights -/

/-- A row's one value, along the row. -/
theorem along_apply (X : S2x16x512.Idx → EReal) (b : Fin 2) (n : Fin 16) (s t : Fin 512) :
    broadcastInDim S2x16x512x512 ![0, 1, 2, 3] bcast_S2x16x512x1_S2x16x512x512_0_1_2_3
        (broadcastInDim S2x16x512x1 ![0, 1, 2] bcast_S2x16x512_S2x16x512x1_0_1_2 X) (ix4 b n s t) = X (ix3 b n s) := by
  rw [broadcastInDim_apply _ _ _ _ (ix4 b n s 0 : S2x16x512x1.Idx) (fun a => match a with | ⟨0, _⟩ => rfl | ⟨1, _⟩ => rfl | ⟨2, _⟩ => rfl | ⟨3, _⟩ => rfl),
    broadcastInDim_apply _ _ _ _ (ix3 b n s : S2x16x512.Idx) (fun a => match a with | ⟨0, _⟩ => rfl | ⟨1, _⟩ => rfl | ⟨2, _⟩ => rfl)]

/-- The rows' maxima. -/
def top (Z : FVec Ideal S2x16x512x512 .bf16) : FVec Ideal S2x16x512 .bf16 :=
  Host.reduce FloatOps.maximumf Z (constant S_ .bf16 0xFF80#16) reducesTo_S2x16x512x512_S2x16x512_d3 h_S_

theorem last : S2x16x512x512.Reduces [3] S2x16x512 := by decide

theorem bottom : (constant S_ .bf16 0xFF80#16 : FVec Ideal S_ .bf16) (Shape.Idx.first h_S_) = (⊥ : EReal) := by
  show Ideal.ofBits .bf16 0xFF80#16 = ⊥
  simp [Ideal.ofBits, Ideal.ieee]

theorem top_real (Z : FVec Ideal S2x16x512x512 .bf16) (hZ : ∀ i, IsReal (Z i)) (j : S2x16x512.Idx) : IsReal (top Z j) := by
  have e := Host.reduce_eq_fold_single (α := EReal) max Z (constant S_ .bf16 0xFF80#16 : FVec Ideal S_ .bf16) reducesTo_S2x16x512x512_S2x16x512_d3 last h_S_ j
  rw [bottom] at e
  show IsReal (Host.reduce (α := EReal) max Z (constant S_ .bf16 0xFF80#16 : FVec Ideal S_ .bf16) reducesTo_S2x16x512x512_S2x16x512_d3 h_S_ j)
  rw [e]
  exact IsReal.fold_max ⟨(0 : Fin 512), Finset.mem_univ _⟩ fun _ => hZ _

/-- The exponentials of the scores less their row's maximum. -/
def expo (Z : FVec Ideal S2x16x512x512 .bf16) : FVec Ideal S2x16x512x512 .bf16 :=
  Host.exp (subf Z (broadcastInDim S2x16x512x512 ![0, 1, 2, 3] bcast_S2x16x512x1_S2x16x512x512_0_1_2_3
    (broadcastInDim S2x16x512x1 ![0, 1, 2] bcast_S2x16x512_S2x16x512x1_0_1_2 (top Z))))

theorem expo_apply (Z : FVec Ideal S2x16x512x512 .bf16) (b : Fin 2) (n : Fin 16) (s t : Fin 512) :
    expo Z (ix4 b n s t) = Ideal.exp (Z (ix4 b n s t) - top Z (ix3 b n s)) :=
  congrArg (fun M : EReal => Ideal.exp (Z (ix4 b n s t) - M)) (along_apply (top Z) b n s t)

/-- The reference's weights. -/
def probs (Z : FVec Ideal S2x16x512x512 .bf16) : FVec Ideal S2x16x512x512 .bf16 :=
  Host.divf (expo Z) (broadcastInDim S2x16x512x512 ![0, 1, 2, 3] bcast_S2x16x512x1_S2x16x512x512_0_1_2_3
    (truncf .bf16 (broadcastInDim S2x16x512x1 ![0, 1, 2] bcast_S2x16x512_S2x16x512x1_0_1_2
      (Host.reduceAdd (extf .f32 (expo Z) bitsLt_bf16_f32) (constant S_ .f32 0x00000000#32) reducesTo_S2x16x512x512_S2x16x512_d3 h_S_)) bitsLt_bf16_f32))

theorem probs_apply (Z : FVec Ideal S2x16x512x512 .bf16) (hZ : ∀ i, IsReal (Z i)) (b : Fin 2) (n : Fin 16) (s t : Fin 512) :
    probs Z (ix4 b n s t) = Softmax.weight (fun u => Z (ix4 b n s u)) t := by
  rw [Softmax.weight_shift (fun u => hZ _) (top_real Z hZ (ix3 b n s)) t]
  refine congrArg₂ Ideal.div (expo_apply Z b n s t) ((along_apply (Host.reduceAdd (extf .f32 (expo Z) bitsLt_bf16_f32) (constant S_ .f32 0x00000000#32) reducesTo_S2x16x512x512_S2x16x512_d3 h_S_) b n s t).trans ?_)
  refine (Ideal.hostReduceAdd_single reducesTo_S2x16x512x512_S2x16x512_d3 last (expo Z) _ (ix3 b n s)).trans ?_
  rw [show (constant S_ .f32 0x00000000#32 : FVec Ideal S_ .f32) (Shape.Idx.first h_S_) = 0 from Ideal.ofBits_zero_f32, zero_add]
  refine Finset.sum_congr rfl fun u _ => (congrArg (expo Z) ?_).trans (expo_apply Z b n s u)
  funext a; match a with | ⟨0, _⟩ => rfl | ⟨1, _⟩ => rfl | ⟨2, _⟩ => rfl | ⟨3, _⟩ => rfl

/-! ## The attention -/

theorem kappa_real : IsReal (Ideal.ofBits .f32 0x3DA1E89B#32) :=
  Softmax.isReal_of_ne (by simp [Ideal.ofBits, Ideal.ieee, -EReal.coe_mul]) (by simp [Ideal.ofBits, Ideal.ieee, -EReal.coe_mul])

theorem score_real (q k : FVec Ideal S2x512x2048 .bf16) (qr : FVec Ideal S2x512x512 .bf16) (kr : FVec Ideal S2x512x32 .bf16)
    (hq : ∀ i, IsReal (q i)) (hk : ∀ i, IsReal (k i)) (hqr : ∀ i, IsReal (qr i)) (hkr : ∀ i, IsReal (kr i))
    (b : Fin 2) (n : Fin 16) (s t : Fin 512) : IsReal (score q k qr kr b n s t) :=
  ((IsReal.sum fun _ => (hq _).mul (hk _)).add (IsReal.sum fun _ => (hqr _).mul (hkr _))).mul kappa_real

theorem result (q k v : FVec Ideal S2x512x2048 .bf16) (qr : FVec Ideal S2x512x512 .bf16) (kr : FVec Ideal S2x512x32 .bf16)
    (hq : ∀ i, IsReal (q i)) (hk : ∀ i, IsReal (k i)) (hqr : ∀ i, IsReal (qr i)) (hkr : ∀ i, IsReal (kr i)) :
    (shapeCast S2x512x2048 (truncf .bf16 (transpose S2x512x16x128 [0, 3, 1, 2]
        (Host.dotGeneral dot_S2x512x16x128_S2x16x512x512_S2x16x128x512_1_3_3_2_02_01 none
          (shapeCast S2x512x16x128 v shapeCasts_S2x512x2048_S2x512x16x128 : FVec Ideal _ .bf16) (probs (logits q k qr kr)))
        transposes_S2x16x128x512_S2x512x16x128_0_3_1_2) bitsLt_bf16_f32) shapeCasts_S2x512x16x128_S2x512x2048 : FVec Ideal S2x512x2048 .bf16)
      = out q k v qr kr := by
  funext j
  obtain ⟨b, s, c, rfl⟩ : ∃ (b : Fin 2) (s : Fin 512) (c : Fin 2048), j = ix3 b s c := ⟨j 0, j 1, j 2, eq_ix3 j⟩
  rw [joined_apply]
  rw [back_apply]
  refine (values_apply _ _ b (head c) _ s).trans ?_
  show _ = entry q k v qr kr b s c
  refine Finset.sum_congr rfl fun t _ => ?_
  have hZ : ∀ i, IsReal (logits q k qr kr i) := fun i => by
    rw [eq_ix4 i]; exact (logits_apply q k qr kr _ _ _ _).symm ▸ score_real q k qr kr hq hk hqr hkr _ _ _ _
  rw [heads_apply, probs_apply _ hZ, mul_comm]
  have hc : col (head c) ⟨c.val % 128, Nat.mod_lt _ (by omega)⟩ = c := Fin.ext (by show c.val / 128 * 128 + c.val % 128 = c.val; omega)
  rw [hc]
  simp only [logits_apply]

/-! ## The result -/

section Whole
open Cert.Rows Cert.Product
variable (x : FVec Ideal S2x512x2048 .bf16) (Wd : FVec Ideal S2048x512 .bf16) (Wk Wv : FVec Ideal S512x2048 .bf16) (Wq : FVec Ideal S2048x2048 .bf16)
  (Wqr : FVec Ideal S2048x512 .bf16) (Wkr : FVec Ideal S2048x32 .bf16) (Wo : FVec Ideal S2048x2048 .bf16)

/-- The compressed rows, the queries, the keys, the values and the rotary parts, as the reference has them. -/
def rC : FVec Ideal S2x512x512 .bf16 := truncf .bf16 (Host.dotGeneral dot_S2x512x2048_S2048x512_S2x512x512_2_0_01_1_n_n none x Wd) bitsLt_bf16_f32
def rK (W : FVec Ideal S512x2048 .bf16) : FVec Ideal S2x512x2048 .bf16 :=
  truncf .bf16 (Host.dotGeneral dot_S2x512x512_S512x2048_S2x512x2048_2_0_01_1_n_n none (rC x Wd) W) bitsLt_bf16_f32
def rQ : FVec Ideal S2x512x2048 .bf16 := truncf .bf16 (Host.dotGeneral dot_S2x512x2048_S2048x2048_S2x512x2048_2_0_01_1_n_n none x Wq) bitsLt_bf16_f32
def rQr : FVec Ideal S2x512x512 .bf16 := truncf .bf16 (Host.dotGeneral dot_S2x512x2048_S2048x512_S2x512x512_2_0_01_1_n_n none x Wqr) bitsLt_bf16_f32
def rKr : FVec Ideal S2x512x32 .bf16 := truncf .bf16 (Host.dotGeneral dot_S2x512x2048_S2048x32_S2x512x32_2_0_01_1_n_n none x Wkr) bitsLt_bf16_f32

theorem rC_eq : rC x Wd = split (prod (join x) Wd) := host _ _ rfl x Wd _
theorem rK_eq (W) : rK x Wd W = split (prod (prod (join x) Wd) W) :=
  (host _ _ rfl (rC x Wd) W _).trans (by rw [rC_eq, join_split])
theorem rQ_eq : rQ x Wq = split (prod (join x) Wq) := host _ _ rfl x Wq _
theorem rQr_eq : rQr x Wqr = split (prod (join x) Wqr) := host _ _ rfl x Wqr _
theorem rKr_eq : rKr x Wkr = split (prod (join x) Wkr) := host _ _ rfl x Wkr _

/-- The attention of these, as the reference has it. -/
def rO : FVec Ideal S2x512x2048 .bf16 :=
  shapeCast S2x512x2048 (truncf .bf16 (transpose S2x512x16x128 [0, 3, 1, 2]
    (Host.dotGeneral dot_S2x512x16x128_S2x16x512x512_S2x16x128x512_1_3_3_2_02_01 none
      (shapeCast S2x512x16x128 (rK x Wd Wv) shapeCasts_S2x512x2048_S2x512x16x128 : FVec Ideal _ .bf16) (probs (logits (rQ x Wq) (rK x Wd Wk) (rQr x Wqr) (rKr x Wkr))))
    transposes_S2x16x128x512_S2x512x16x128_0_3_1_2) bitsLt_bf16_f32) shapeCasts_S2x512x16x128_S2x512x2048

theorem whole (hx : ∀ i, IsReal (x i)) (hd : ∀ i, IsReal (Wd i)) (hk : ∀ i, IsReal (Wk i)) (hq : ∀ i, IsReal (Wq i)) (hqr : ∀ i, IsReal (Wqr i)) (hkr : ∀ i, IsReal (Wkr i)) :
    (truncf .bf16 (Host.dotGeneral dot_S2x512x2048_S2048x2048_S2x512x2048_2_0_01_1_n_n none (rO x Wd Wk Wv Wq Wqr Wkr) Wo) bitsLt_bf16_f32 : FVec Ideal _ .bf16)
      = layer x Wd Wk Wv Wq Wqr Wkr Wo := by
  refine (host _ _ rfl (rO x Wd Wk Wv Wq Wqr Wkr) Wo _).trans ?_
  unfold layer
  refine congrArg (fun y => split (prod (join y) Wo)) ?_
  have jx : ∀ i, IsReal (join x i) := join_real hx
  refine (result (rQ x Wq) (rK x Wd Wk) (rK x Wd Wv) (rQr x Wqr) (rKr x Wkr) ?_ ?_ ?_ ?_).trans ?_
  · rw [rQ_eq]; exact split_real (prod_real jx hq)
  · rw [rK_eq]; exact split_real (prod_real (prod_real jx hd) hk)
  · rw [rQr_eq]; exact split_real (prod_real jx hqr)
  · rw [rKr_eq]; exact split_real (prod_real jx hkr)
  · rw [rQ_eq, rK_eq, rK_eq, rQr_eq, rKr_eq]
end Whole

/-- The reference's result, read back. -/
theorem res_eq (m : (ℓ : Loc nD τ sig) → Buf (Elt Ideal) ℓ) (c : Dev nD)
    (hx : ∀ i, IsReal (m ((c.tc : Thread nD τ).loc main_arg0) i)) (hd : ∀ i, IsReal (m ((c.tc : Thread nD τ).loc main_arg1) i))
    (hk : ∀ i, IsReal (m ((c.tc : Thread nD τ).loc main_arg2) i)) (hq : ∀ i, IsReal (m ((c.tc : Thread nD τ).loc main_arg4) i))
    (hqr : ∀ i, IsReal (m ((c.tc : Thread nD τ).loc main_arg5) i)) (hkr : ∀ i, IsReal (m ((c.tc : Thread nD τ).loc main_arg6) i)) :
    res_main_v44 m c = Cert.Rows.layer (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) :=
  Eq.trans (by unfold res_main_v44; rfl) (whole _ _ _ _ _ _ _ _ hx hd hk hq hqr hkr)

end Cert.ReferenceIdeal.Heads

end
-- ==== Proof.Cuts.lean ====
/- The whole arrays from the devices' blocks: which entries a device's block has, and that the whole is real where every
   block is. -/
module

public import proofs.«01_k».proof.Proof.Product
public import proofs.«01_k».proof.Proof.Softmax
public import proofs.«01_k».proof.Proof.Gen.Kernel
public import Idealize.ShloMosaic.Lib.Layout

@[expose] public section

noncomputable section

namespace Cert.Cuts

open Cert.Kernel Cert.Kernel.Gen Cert.Product
open Cert.Softmax (IsReal)
open Idealize.ShloMosaic Idealize.ShloMosaic.ValueIdx

/-- A device's block of an array cut along its columns by the last axis of the mesh, -/
theorem cut_cols (c : Dev nD) (v : Mat 2048 512) (j : S2048x128.Idx) : Layout.blockN ⟨2, ![2048, 128]⟩ ⟨2, ![2048, 512]⟩ (Layout.meshBlock [2, 4, 4] ![[], [2]] c) v (by decide) j
    = v (ix2 (j 0) ⟨128 * (c.val % 4) + (j 1).val, by have : (j 1).val < 128 := (j 1).isLt; omega⟩) := by
  rw [Layout.blockN_apply]
  refine congrArg v ((eq_ix2 _).trans (congrArg₂ ix2 (Fin.ext ?_) (Fin.ext ?_)))
  · show 0 * 2048 + (j 0).val = (j 0).val
    omega
  · show (c.val / 1 % 4 * 1 + 0) * 128 + (j 1).val = 128 * (c.val % 4) + (j 1).val
    omega
/-- and along its rows. -/
theorem cut_rows (c : Dev nD) (v : Mat 512 2048) (j : S128x2048.Idx) : Layout.blockN ⟨2, ![128, 2048]⟩ ⟨2, ![512, 2048]⟩ (Layout.meshBlock [2, 4, 4] ![[2], []] c) v (by decide) j
    = v (ix2 ⟨128 * (c.val % 4) + (j 0).val, by have : (j 0).val < 128 := (j 0).isLt; omega⟩ (j 1)) := by
  rw [Layout.blockN_apply]
  refine congrArg v ((eq_ix2 _).trans (congrArg₂ ix2 (Fin.ext ?_) (Fin.ext ?_)))
  · show (c.val / 1 % 4 * 1 + 0) * 128 + (j 0).val = 128 * (c.val % 4) + (j 0).val
    omega
  · show 0 * 2048 + (j 1).val = (j 1).val
    omega

/-- The device that holds part `k` of a cut axis. -/
def holder (k : Fin 512) : Dev nD := ⟨k.val / 128, by show k.val / 128 < 32; omega⟩

theorem holder_val (k : Fin 512) : 128 * ((holder k).val % 4) + k.val % 128 = k.val := by
  show 128 * (k.val / 128 % 4) + k.val % 128 = k.val
  omega

/-- An array cut along its columns is real where every device's block is, -/
theorem whole_cols (Wd : Mat 2048 512) (B : Dev nD → Mat 2048 128)
    (hB : ∀ c (j : S2048x128.Idx), B c j = Wd (ix2 (j 0) ⟨128 * (c.val % 4) + (j 1).val, by have : (j 1).val < 128 := (j 1).isLt; omega⟩))
    (hr : ∀ c j, IsReal (B c j)) (i) : IsReal (Wd i) := by
  have e := hB (holder (i 1)) (ix2 (i 0) ⟨(i 1).val % 128, Nat.mod_lt _ (by decide)⟩)
  refine (show Wd i = _ from (congrArg Wd ((eq_ix2 i).trans (congrArg (ix2 (i 0)) (Fin.ext (holder_val (i 1)).symm)))).trans e.symm) ▸ hr _ _
/-- and so is one cut along its rows. -/
theorem whole_rows (Wk : Mat 512 2048) (B : Dev nD → Mat 128 2048)
    (hB : ∀ c (j : S128x2048.Idx), B c j = Wk (ix2 ⟨128 * (c.val % 4) + (j 0).val, by have : (j 0).val < 128 := (j 0).isLt; omega⟩ (j 1)))
    (hr : ∀ c j, IsReal (B c j)) (i) : IsReal (Wk i) := by
  have e := hB (holder (i 0)) (ix2 ⟨(i 0).val % 128, Nat.mod_lt _ (by decide)⟩ (i 1))
  refine (show Wk i = _ from (congrArg Wk ((eq_ix2 i).trans (congrArg (fun k : Fin 512 => (ix2 k (i 1) : S512x2048.Idx)) (Fin.ext (holder_val (i 0)).symm)))).trans e.symm) ▸ hr _ _

end Cert.Cuts

end
-- ==== Proof.Kernel.Same.lean ====
/- Kernel read over the extended reals is printed as a program of its own. It is the same program: the
   same main function, the same body for every label. A run of the one is therefore a run of the other. -/
module

public import proofs.«01_k».proof.Proof.Gen.Kernel
public import proofs.«01_k».proof.Proof.Gen.KernelIdeal
public import Idealize.ShloMosaic.PureOps.Ideal

@[expose] public section

set_option maxRecDepth 65536
set_option maxHeartbeats 4000000

noncomputable section

namespace Cert.Kernel.Same

open Cert.Kernel
open Idealize.ShloMosaic Idealize.SL.Sem

theorem main_eq : Cert.KernelIdeal.main (F := Ideal) = main (F := Ideal) := rfl

theorem bodies_eq : Cert.KernelIdeal.defs₀ (F := Ideal) = defs₀ (F := Ideal) := by
  funext k ℓ a
  cases k
  case tc =>
    match ℓ, a with
    | 0, (t, s) => rfl
    | 1, (t, s) => rfl
    | 2, (t, s) => rfl
    | ⟨n + 3, h⟩, _ => exact absurd h (by omega)
  all_goals rfl

theorem defs_eq : Cert.KernelIdeal.defs (F := Ideal) = defs (F := Ideal) := by
  funext k ℓ a
  match k, ℓ, a with
  | .tc, .inl ℓ, a => exact congrArg _ (congrFun (congrFun (congrFun bodies_eq .tc) ℓ) a)
  | .tc, .inr (.entry p), _ => fin_cases p <;> rfl
  | .tc, .inr (.pipe p), (a, t) => fin_cases p <;> rfl
  | .scScalar _, .inl _, _ => rfl
  | .scVector _ _, .inl _, _ => rfl
  | .scScalar _, .inr (.entry _), _ => rfl
  | .scScalar _, .inr (.pipe _), _ => rfl
  | .scVector _ _, .inr (.entry _), _ => rfl
  | .scVector _ _, .inr (.pipe _), _ => rfl

theorem run_eq (s : MemSt nD τ sig (Elt Ideal)) : θ_run (Cert.KernelIdeal.defs (F := Ideal)) (onTc (τ := τ) (Cert.KernelIdeal.main (F := Ideal))) s
    = θ_run (defs (F := Ideal)) (onTc (τ := τ) (main (F := Ideal))) s :=
  (congrArg (fun d => θ_run d (onTc (τ := τ) (Cert.KernelIdeal.main (F := Ideal))) s) defs_eq).trans
    (congrArg (fun p => θ_run (defs (F := Ideal)) (onTc (τ := τ) p) s) main_eq)

theorem moved (s : MemSt nD τ sig (Elt Ideal)) {Q : PUnit × MemSt nD τ sig (Elt Ideal) → Prop}
    (h : θ_run (defs (F := Ideal)) (onTc (τ := τ) (main (F := Ideal))) s Q) :
    θ_run (Cert.KernelIdeal.defs (F := Ideal)) (onTc (τ := τ) (Cert.KernelIdeal.main (F := Ideal))) s Q := by
  rw [run_eq s]
  exact h

end Cert.Kernel.Same

end
-- ==== Proof.Finite.lean ====
/- What the precondition says of each argument: its entries are real. -/
module

public import proofs.«01_k».proof.Proof.Softmax
public import proofs.«01_k».proof.Proof.Gen.Pre_finite_KernelIdeal
public import Idealize.ShloMosaic.Lib.IdealHost
public import Idealize.ShloMosaic.Lib.ReduceAll
public import Idealize.ShloMosaic.Lib.ValueIdxCore

@[expose] public section

noncomputable section

namespace Cert.Finite

open Idealize.ShloMosaic Idealize.ShloMosaic.ValueIdx
open Cert.Softmax (IsReal)

theorem infinity {s : Shape} (h : (⟨0, ![]⟩ : Shape).BroadcastsInDim s ![]) (i : s.Idx) :
    (broadcastInDim s ![] h (constant ⟨0, ![]⟩ .bf16 0x7F80#16 : FVec Ideal _ .bf16) i : EReal) = ⊤ := by
  rw [broadcastInDim_scalar_apply]
  show Ideal.ofBits .bf16 0x7F80#16 = ⊤
  simp [Ideal.ofBits, Ideal.ieee]

/-- An array whose entries are all smaller than infinity in absolute value is real. -/
theorem real_of_all {s : Shape} {axes : List (Fin s.rank)} (X : FVec Ideal s .bf16) (h : (⟨0, ![]⟩ : Shape).BroadcastsInDim s ![])
    (hr : s.ReducesTo axes ⟨0, ![]⟩) (hu : 0 < (⟨0, ![]⟩ : Shape).numel)
    (e : Host.reduce IntOp.andi (cmpf .olt (Host.absf X) (broadcastInDim s ![] h (constant ⟨0, ![]⟩ .bf16 0x7F80#16))) (constantI ⟨0, ![]⟩ 1 1#1) hr hu ix0 = 1#1)
    (i : s.Idx) : IsReal (X i) := by
  have : Subsingleton (⟨0, ![]⟩ : Shape).Idx := ⟨fun a b => funext fun x => x.elim0⟩
  have hi : Ideal.cmp .olt (max (X i : EReal) (-(X i : EReal)))
      (broadcastInDim s ![] h (constant ⟨0, ![]⟩ .bf16 0x7F80#16 : FVec Ideal _ .bf16) i : EReal) = 1#1 := Host.reduce_andi_all _ _ hr hu ix0 e i
  rw [infinity] at hi
  unfold Ideal.cmp at hi
  have hlt : max (X i : EReal) (-(X i : EReal)) < ⊤ := by
    by_contra hn
    simp [hn] at hi
  rw [max_lt_iff] at hlt
  refine Softmax.isReal_of_ne hlt.1.ne fun hb => ?_
  rw [hb] at hlt
  simp at hlt

theorem reads (x : FVec Ideal ⟨3, ![2, 512, 2048]⟩ .bf16) (Wd : FVec Ideal ⟨2, ![2048, 128]⟩ .bf16) (Wk Wv : FVec Ideal ⟨2, ![128, 2048]⟩ .bf16)
    (Wq : FVec Ideal ⟨2, ![2048, 2048]⟩ .bf16) (Wqr : FVec Ideal ⟨2, ![2048, 512]⟩ .bf16) (Wkr : FVec Ideal ⟨2, ![2048, 32]⟩ .bf16) (Wo : FVec Ideal ⟨2, ![2048, 2048]⟩ .bf16)
    (h : Cert.Pre_finite_KernelIdeal.fn (F := Ideal) x Wd Wk Wv Wq Wqr Wkr Wo ix0 = 1#1) :
    (∀ i, IsReal (x i)) ∧ (∀ i, IsReal (Wd i)) ∧ (∀ i, IsReal (Wk i)) ∧ (∀ i, IsReal (Wq i)) ∧ (∀ i, IsReal (Wqr i)) ∧ ∀ i, IsReal (Wkr i) := by
  obtain ⟨h, hkr⟩ := IntOp.andi_eq_one.1 h
  obtain ⟨h, hqr⟩ := IntOp.andi_eq_one.1 h
  obtain ⟨h, hq⟩ := IntOp.andi_eq_one.1 h
  obtain ⟨h, hk⟩ := IntOp.andi_eq_one.1 h
  obtain ⟨hx, hd⟩ := IntOp.andi_eq_one.1 h
  exact ⟨real_of_all x _ _ _ hx, real_of_all Wd _ _ _ hd, real_of_all Wk _ _ _ hk, real_of_all Wq _ _ _ hq, real_of_all Wqr _ _ _ hqr, real_of_all Wkr _ _ _ hkr⟩

end Cert.Finite

end
-- ==== Proof.Kernel.Claims.lean ====
/- The whole kernel: it runs and leaves its arguments on every device, for bits and over the extended reals; the
   reference runs; and over the extended reals the kernel's result is the reference's on every device.
   The program read over the extended reals is the same text, so the run below serves both. -/
module

public import proofs.«01_k».proof.Defs
public import proofs.«01_k».proof.Proof.Gen.KernelIdeal
public import proofs.«01_k».proof.Proof.Gen.ReferenceIdeal.Run
public import proofs.«01_k».proof.Proof.Kernel.Result
public import proofs.«01_k».proof.Proof.ReferenceIdeal.Value
public import proofs.«01_k».proof.Proof.Cuts
public import proofs.«01_k».proof.Proof.Kernel.Same
public import proofs.«01_k».proof.Proof.Gen.Pre_finite_ReferenceIdeal
public import proofs.«01_k».proof.Proof.Finite
public import Idealize.ShloMosaic.Adequacy
public import Idealize.ShloMosaic.Init

@[expose] public section

set_option maxRecDepth 65536

noncomputable section

namespace Cert.Kernel.Whole

open Cert.Kernel Cert.Kernel.Gen Cert.Kernel.Talk Cert.Product Cert.Cuts
open Cert.Softmax (IsReal)
open Idealize.ShloMosaic Idealize.ShloMosaic.ValueIdx Idealize.SL.Sem

/-- The run, with the contents that the arrays end at. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v11) = U7 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h =>
    have k (c : Dev nD) (b : Ref sig .tc) (hb : b.isScoped = false) : r.2.mem ((c.tc : Thread nD τ).loc b) = U7 m c (Proc.devRef .tc b) := h.1 c _ (mem_bufs b hb)
    ⟨fun c => ⟨k c main_v11 rfl, (k c main_arg0 rfl).trans (U7_arg0 m c), (k c main_arg1 rfl).trans (U7_arg1 m c), (k c main_arg2 rfl).trans (U7_arg2 m c), (k c main_arg3 rfl).trans (U7_arg3 m c),
      (k c main_arg4 rfl).trans (U7_arg4 m c), (k c main_arg5 rfl).trans (U7_arg5 m c), (k c main_arg6 rfl).trans (U7_arg6 m c), (k c main_arg7 rfl).trans (U7_arg7 m c)⟩, h.2⟩)
    (run_main m ρ)

theorem kept {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => (h.1 c).2, h.2⟩) (run m ρ)

theorem value (m : (ℓ : Loc nD τ sig) → Buf (Elt Ideal) ℓ) (ρ : Dev nD → PrngReg) {x : Attention.Arr 2 2048} {Wd : Mat 2048 512} {Wk Wv : Mat 512 2048}
    {Wq : Mat 2048 2048} {Wqr : Mat 2048 512} {Wkr : Mat 2048 32} {Wo : Mat 2048 2048} (hh : Cut m x Wd Wk Wv Wq Wqr Wkr Wo) :
    θ_run (defs (F := Ideal)) (onTc (τ := τ) (main (F := Ideal))) ⟨m, fun _ => 0, ρ⟩ (fun r => ∀ c : Dev nD,
      r.2.mem ((c.tc : Thread nD τ).loc main_v11) = Rows.layer x Wd Wk Wv Wq Wqr Wkr Wo
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).1.trans (U7_result hh c), (h.1 c).2⟩) (run m ρ)

theorem frame_kernel : Cert.quiescent_Kernel := fun m ρ _ => kept (F := Bits) m ρ

theorem frame_kernelIdeal : Cert.quiescent_KernelIdeal := fun m ρ _ => Same.moved ⟨m, fun _ => 0, ρ⟩ (kept (F := Ideal) m ρ)

theorem frame_kernelIdeal_finite : Cert.quiescent_KernelIdeal_pre_finite_KernelIdeal := fun m ρ _ => frame_kernelIdeal m ρ trivial

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_finite : Cert.quiescent_ReferenceIdeal_pre_finite_ReferenceIdeal := fun m ρ _ => frame_referenceIdeal m ρ trivial

theorem algebraic : Cert.algebraic_KernelIdeal_ReferenceIdeal_pre_finite_KernelIdeal := by
  intro m g m' g' hpre hin
  let A (b) := m' (((0 : Dev Cert.ReferenceIdeal.nD).tc : Thread Cert.ReferenceIdeal.nD Cert.ReferenceIdeal.τ).loc b)
  let x : Attention.Arr 2 2048 := A Cert.ReferenceIdeal.main_arg0
  let Wd : Mat 2048 512 := A Cert.ReferenceIdeal.main_arg1
  let Wk : Mat 512 2048 := A Cert.ReferenceIdeal.main_arg2
  let Wv : Mat 512 2048 := A Cert.ReferenceIdeal.main_arg3
  let Wq : Mat 2048 2048 := A Cert.ReferenceIdeal.main_arg4
  let Wqr : Mat 2048 512 := A Cert.ReferenceIdeal.main_arg5
  let Wkr : Mat 2048 32 := A Cert.ReferenceIdeal.main_arg6
  let Wo : Mat 2048 2048 := A Cert.ReferenceIdeal.main_arg7
  have hh : Cut m x Wd Wk Wv Wq Wqr Wkr Wo :=
    { x := fun c => (hin c).1
      wd := fun c j => (congrFun (hin c).2.1 j).trans (cut_cols c Wd j)
      wk := fun c j => (congrFun (hin c).2.2.1 j).trans (cut_rows c Wk j)
      wv := fun c j => (congrFun (hin c).2.2.2.1 j).trans (cut_rows c Wv j)
      wq := fun c => (hin c).2.2.2.2.1
      wqr := fun c => (hin c).2.2.2.2.2.1
      wkr := fun c => (hin c).2.2.2.2.2.2.1
      wo := fun c => (hin c).2.2.2.2.2.2.2 }
  have fin (c : Dev nD) := Finite.reads _ _ _ _ _ _ _ _ (congrFun (hpre c) ix0)
  have rx (i) : IsReal (x i) := hh.x 0 ▸ (fin 0).1 i
  have rd : ∀ i, IsReal (Wd i) := whole_cols Wd (fun c => m ((c.tc : Thread nD τ).loc main_arg1)) hh.wd fun c => (fin c).2.1
  have rk : ∀ i, IsReal (Wk i) := whole_rows Wk (fun c => m ((c.tc : Thread nD τ).loc main_arg2)) hh.wk fun c => (fin c).2.2.1
  have rq (i) : IsReal (Wq i) := hh.wq 0 ▸ (fin 0).2.2.2.1 i
  have rqr (i) : IsReal (Wqr i) := hh.wqr 0 ▸ (fin 0).2.2.2.2.1 i
  have rkr (i) : IsReal (Wkr i) := hh.wkr 0 ▸ (fin 0).2.2.2.2.2 i
  refine ⟨Rows.layer x Wd Wk Wv Wq Wqr Wkr Wo, ?_, ?_⟩
  · exact Same.moved ⟨m, fun _ => 0, g⟩ (value m g hh)
  · refine (θ_run Cert.ReferenceIdeal.defs _ _).mono (fun _ h => ⟨(h 0).1.trans ?_, (h 0).2⟩) (Cert.ReferenceIdeal.Value.run (F := Ideal) m' g')
    exact Cert.ReferenceIdeal.Heads.res_eq m' 0 rx rd rk rq rqr rkr

end Cert.Kernel.Whole

end
-- ==== Proof.Gather.Cells.lean ====
/- The gather call's devices, semaphore cells, scratch regions and what each region holds in the end.

   Two kinds of remote copies: kind 0 goes to the right neighbour along z, kind 1 to the partner along y. Three
   hops `h` and three buffers `t` (the latent chunk, the key up-projection, the value up-projection) each. A copy
   moves one half (of the rows) of one slot of a buffer. -/
module

public import proofs.«01_k».proof.Proof.Gen.Gather.Skeleton
public import proofs.«01_k».proof.Proof.Gen.Gather.Launch
public import Idealize.ShloMosaic.Lib.Rounds
public import Idealize.ShloMosaic.Lib.Tactic

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh: device `16 x + 4 y + z` -/

/-- The neighbour one up along z, the one before, the partner along y. -/
def rt (c : Dev nD) : Dev nD := ⟨4 * (c.val / 4) + (c.val % 4 + 1) % 4, by have := c.isLt; show _ < 32; have : c.val < 32 := this; omega⟩
def lf (c : Dev nD) : Dev nD := ⟨4 * (c.val / 4) + (c.val % 4 + 3) % 4, by have := c.isLt; show _ < 32; have : c.val < 32 := this; omega⟩
def pt (c : Dev nD) : Dev nD :=
  ⟨8 * (c.val / 8) + (c.val % 8 + 4) % 8, by have := c.isLt; show _ < 32; have : c.val < 32 := this; omega⟩
/-- Which half of the rows a device moves itself: its y coordinate's parity. -/
def par (c : Dev nD) : Fin 2 := ⟨c.val / 4 % 2, Nat.mod_lt _ (by decide)⟩
def oth (p : Fin 2) : Fin 2 := if p = 0 then 1 else 0

theorem lf_rt (c : Dev nD) : lf (rt c) = c := by revert c; decide
theorem rt_lf (c : Dev nD) : rt (lf c) = c := by revert c; decide
theorem pt_pt (c : Dev nD) : pt (pt c) = c := by revert c; decide
theorem par_rt (c : Dev nD) : par (rt c) = par c := by revert c; decide
theorem par_lf (c : Dev nD) : par (lf c) = par c := by revert c; decide
theorem par_pt (c : Dev nD) : par (pt c) = oth (par c) := by revert c; decide
theorem oth_oth (p : Fin 2) : oth (oth p) = p := by revert p; decide
theorem oth_ne (p : Fin 2) : oth p ≠ p := by revert p; decide

/-- The device whose chunk lies in half `p` of slot `i` on `c`. -/
def org (c : Dev nD) (i : Fin 4) (p : Fin 2) : Dev nD :=
  if i = 0 then c else if p = par c then lf^[i.val] c else lf^[i.val] (pt c)

theorem org_z (c : Dev nD) (h : Fin 3) : org (rt c) h.succ (par c) = org c h.castSucc (par c) := by revert c h; decide
theorem org_y (c : Dev nD) (h : Fin 3) : org (pt c) h.succ (par c) = org c h.succ (par c) := by revert c h; decide
theorem org_zero (c : Dev nD) (p : Fin 2) : org c 0 p = c := if_pos rfl

/-! ## The regions -/

/-- The shape of half a slot of buffer `t`. -/
abbrev hS : Fin 3 → Shape := fun | 0 => S512x128 | 1 => S64x2048 | 2 => S64x2048

theorem inbC (i : Fin 4) (p : Fin 2) : ∀ a, (![i.val, 512 * p.val, 0] : Fin 3 → Nat) a + S1x512x128.size a ≤ S4x1024x128.size a := by
  revert i p; decide
theorem inbU (i : Fin 4) (p : Fin 2) : ∀ a, (![i.val, 64 * p.val, 0] : Fin 3 → Nat) a + S1x64x2048.size a ≤ S4x128x2048.size a := by
  revert i p; decide

/-- Half `p` of slot `i` of buffer `t`. -/
def hM (t : Fin 3) (i : Fin 4) (p : Fin 2) : Memref sig .tc .vmem (hS t) .bf16 := match t with
  | 0 => ((Memref.whole cc0_scratch0).slice (Rect.unit (s := S4x1024x128) ![i.val, 512 * p.val, 0] S1x512x128.size (inbC i p)) (fun _ => rfl)).squeeze S512x128 squeezes_S1x512x128_S512x128
  | 1 => ((Memref.whole cc0_scratch1).slice (Rect.unit (s := S4x128x2048) ![i.val, 64 * p.val, 0] S1x64x2048.size (inbU i p)) (fun _ => rfl)).squeeze S64x2048 squeezes_S1x64x2048_S64x2048
  | 2 => ((Memref.whole cc0_scratch2).slice (Rect.unit (s := S4x128x2048) ![i.val, 64 * p.val, 0] S1x64x2048.size (inbU i p)) (fun _ => rfl)).squeeze S64x2048 squeezes_S1x64x2048_S64x2048

/-- The credit of one half's copy. -/
def N (t : Fin 3) : ℕ := (hM t 0 0).view.dmaCredit
theorem N_pos (t : Fin 3) : 0 < N t := View.dmaCredit_pos _ (by revert t; decide)
theorem N_eq (t : Fin 3) (i : Fin 4) (p : Fin 2) : (hM t i p).view.dmaCredit = N t := by
  match t with
  | 0 => rfl
  | 1 => rfl
  | 2 => rfl

/-! ## What the call reads, and the chunks it makes of it -/

/-- The call's seven inputs, a block of each per device. -/
structure Ins (F : FTy → Type) where
  x : Dev nD → Vec F S1024x2048 .bf16
  wd : Dev nD → Vec F S2048x128 .bf16
  wk : Dev nD → Vec F S128x2048 .bf16
  wv : Dev nD → Vec F S128x2048 .bf16
  wq : Dev nD → Vec F S2048x2048 .bf16
  wqr : Dev nD → Vec F S2048x512 .bf16
  wkr : Dev nD → Vec F S2048x32 .bf16

variable (I : Ins F)

/-- The chunk of the latent, and of the two up-projections, that device `c` contributes. -/
def chC (c : Dev nD) : S1x1024x128.Idx → Elt F .bf16 := k0_pay3 (k0_pay2 (I.x c)) (I.wd c)
def chK (c : Dev nD) : S1x128x2048.Idx → Elt F .bf16 := k0_pay4 (I.wk c)
def chV (c : Dev nD) : S1x128x2048.Idx → Elt F .bf16 := k0_pay5 (I.wv c)

/-- The half of the rows an index lies in, and the index within its slot. -/
def halfC (j : S4x1024x128.Idx) : Fin 2 := ⟨(j 1).val / 512, by have : (j 1).val < 1024 := (j 1).isLt; omega⟩
def halfU (j : S4x128x2048.Idx) : Fin 2 := ⟨(j 1).val / 64, by have : (j 1).val < 128 := (j 1).isLt; omega⟩
def inC (j : S4x1024x128.Idx) : S1x1024x128.Idx := fun a => match a with
  | ⟨0, _⟩ => ⟨0, Nat.one_pos⟩ | ⟨1, _⟩ => j 1 | ⟨2, _⟩ => j 2
def inU (j : S4x128x2048.Idx) : S1x128x2048.Idx := fun a => match a with
  | ⟨0, _⟩ => ⟨0, Nat.one_pos⟩ | ⟨1, _⟩ => j 1 | ⟨2, _⟩ => j 2

/-- What the three scratch buffers hold in the end. -/
def fullC (c : Dev nD) : S4x1024x128.Idx → Elt F .bf16 := fun j => chC I (org c (j 0) (halfC j)) (inC j)
def fullK (c : Dev nD) : S4x128x2048.Idx → Elt F .bf16 := fun j => chK I (org c (j 0) (halfU j)) (inU j)
def fullV (c : Dev nD) : S4x128x2048.Idx → Elt F .bf16 := fun j => chV I (org c (j 0) (halfU j)) (inU j)

def full (t : Fin 3) (i : Fin 4) (p : Fin 2) (c : Dev nD) : Buf (Elt F) ((hM t i p).view.loc (c : Thread nD τ)) := match t with
  | 0 => fullC I c
  | 1 => fullK I c
  | 2 => fullV I c

/-! ## The cells -/

/-- The runtime's barrier semaphore; the copies' own semaphores: `b` 0 the sender's, 1 the receiver's. -/
abbrev barS : Sem sig := (SemArray.scalar (sig.barrier 0 rfl) : Sems sig S_).sem
abbrev XC : Type := Fin 2 × Fin 2 × Fin 3 × Fin 3
def dsem (x : XC) : DmaSem sig :=
  ⟨12 + 9 * (2 * x.2.1.val + x.1.val) + 3 * x.2.2.1.val + x.2.2.2.val, by
    obtain ⟨b, k, t, h⟩ := x; show _ < 48; have := b.isLt; have := k.isLt; have := t.isLt; have := h.isLt; dsimp only; omega⟩
/-- Back from a semaphore to the copy it belongs to. -/
def dec (q : DmaSem sig) : XC :=
  (⟨(q.val - 12) / 9 % 2, Nat.mod_lt _ (by decide)⟩, ⟨(q.val - 12) / 18 % 2, Nat.mod_lt _ (by decide)⟩,
    ⟨(q.val - 12) % 9 / 3 % 3, Nat.mod_lt _ (by decide)⟩, ⟨(q.val - 12) % 3, Nat.mod_lt _ (by decide)⟩)
theorem dec_dsem (x : XC) : dec (dsem x) = x := by revert x; decide
theorem dsem_ge (x : XC) : 12 ≤ (dsem x).val := by revert x; decide
theorem dsem_inj : Function.Injective dsem := fun x y h => by rw [← dec_dsem x, h, dec_dsem]

abbrev barCell (c : Dev nD) : GSem nD τ sig := ((c : Thread nD τ), .reg barS)
abbrev xCell (c : Dev nD) (x : XC) : GSem nD τ sig := ((c : Thread nD τ), .dma (dsem x))
abbrev SC (k : Fin 2) (c : Dev nD) (t h : Fin 3) : GSem nD τ sig := xCell c (0, k, t, h)
abbrev RC (k : Fin 2) (c : Dev nD) (t h : Fin 3) : GSem nD τ sig := xCell c (1, k, t, h)

/-- Where a copy of kind `k` goes to, and where it comes from. -/
def peer (k : Fin 2) (c : Dev nD) : Dev nD := if k = 0 then rt c else pt c
def from' (k : Fin 2) (c : Dev nD) : Dev nD := if k = 0 then lf c else pt c
theorem from_peer (k : Fin 2) (c : Dev nD) : from' k (peer k c) = c := by revert k c; decide
theorem peer_from (k : Fin 2) (c : Dev nD) : peer k (from' k c) = c := by revert k c; decide

/-- The half of the landing slot a copy of kind `k` fills on device `c`; the slot it is read from; the share read. -/
def lh (k : Fin 2) (c : Dev nD) : Fin 2 := if k = 0 then par c else oth (par c)
def sl (k : Fin 2) (h : Fin 3) : Fin 4 := if k = 0 then h.castSucc else h.succ
def shr (k : Fin 2) : PosShare TreeShare := if k = 0 then fullShare.right else fullShare.left
theorem lh_peer (k : Fin 2) (c : Dev nD) : lh k (peer k c) = par c := by revert k c; decide

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Half `p` of slot `i` of buffer `t` on `c`, at its final contents; at some contents. -/
def pts (c : Dev nD) (t : Fin 3) (i : Fin 4) (p : Fin 2) (q : PosShare TreeShare) : sProp 𝕄 :=
  (hM t i p).view.loc (c : Thread nD τ) ↦[(hM t i p).view.set]{q} full I t i p c
def ptsE (c : Dev nD) (t : Fin 3) (i : Fin 4) (p : Fin 2) : sProp 𝕄 :=
  iprop(∃ f : Buf (Elt F) ((hM t i p).view.loc (c : Thread nD τ)), (hM t i p).view.loc (c : Thread nD τ) ↦[(hM t i p).view.set]{fullShare} f)

instance pts_storable (c : Dev nD) (t i p q) : BI.Storable (upEmb : UEmb _ 𝕄) (pts I c t i p q) := by unfold pts; infer_instance
instance ptsE_storable (c : Dev nD) (t i p) : BI.Storable (upEmb : UEmb _ 𝕄) (ptsE (F := F) c t i p) := by unfold ptsE; infer_instance

/-- The region a copy reads, and the one it fills. -/
def srcP (k : Fin 2) (c : Dev nD) (t h : Fin 3) : sProp 𝕄 := pts I c t (sl k h) (par c) (shr k)
def dstP (k : Fin 2) (c : Dev nD) (t h : Fin 3) : sProp 𝕄 := pts I c t h.succ (lh k c) fullShare
def dstE (k : Fin 2) (c : Dev nD) (t h : Fin 3) : sProp 𝕄 := ptsE c t h.succ (lh k c)

instance srcP_storable (k c t h) : BI.Storable (upEmb : UEmb _ 𝕄) (srcP I k c t h) := by unfold srcP; infer_instance
instance dstP_storable (k c t h) : BI.Storable (upEmb : UEmb _ 𝕄) (dstP I k c t h) := by unfold dstP; infer_instance
instance dstE_storable (k c t h) : BI.Storable (upEmb : UEmb _ 𝕄) (dstE (F := F) k c t h) := by unfold dstE; infer_instance

/-! ## A landed copy holds what the landing region holds in the end -/

omit [FloatOps F] in
theorem write_read_view {s : Shape} {e : EltTy} {sp : Space} (vs vd : View sig .tc sp s e)
    (fd : vd.ty.Contents (Elt F)) (fs : vs.ty.Contents (Elt F)) (g : vd.ty.Contents (Elt F))
    (h : ∀ y, vd.read (Elt F) g y = vs.read (Elt F) fs y) : ∀ j ∈ vd.set, vd.write (Elt F) fd (vs.read (Elt F) fs) Finset.univ j = g j := by
  have hw : vd.write (Elt F) fd (vs.read (Elt F) fs) Finset.univ = vd.write (Elt F) fd (vd.read (Elt F) g) Finset.univ := by
    rw [show vs.read (Elt F) fs = vd.read (Elt F) g from funext fun y => (h y).symm]
  intro j hj
  rw [hw]
  obtain ⟨y, -, rfl⟩ := Finset.mem_map.mp hj
  rw [View.write_emb_of_mem _ _ (Finset.mem_univ y), View.read_apply, cast_cast, cast_eq]

/-- Half `p` of slot `i`, as a rectangle of the latent's buffer and of the up-projections'. -/
abbrev rC (i : Fin 4) (p : Fin 2) : Rect S4x1024x128 := Rect.unit (s := S4x1024x128) ![i.val, 512 * p.val, 0] S1x512x128.size (inbC i p)
abbrev rU (i : Fin 4) (p : Fin 2) : Rect S4x128x2048 := Rect.unit (s := S4x128x2048) ![i.val, 64 * p.val, 0] S1x64x2048.size (inbU i p)

theorem slotC (i : Fin 4) (p : Fin 2) (z : S1x512x128.Idx) : ((rC i p).emb z) 0 = i := Fin.ext (by
  show i.val + 1 * (z 0).val = i.val
  have : (z 0).val < 1 := (z 0).isLt
  omega)
theorem slotU (i : Fin 4) (p : Fin 2) (z : S1x64x2048.Idx) : ((rU i p).emb z) 0 = i := Fin.ext (by
  show i.val + 1 * (z 0).val = i.val
  have : (z 0).val < 1 := (z 0).isLt
  omega)
theorem halfC_emb (i : Fin 4) (p : Fin 2) (z : S1x512x128.Idx) : halfC ((rC i p).emb z) = p := Fin.ext (by
  show (512 * p.val + 1 * (z 1).val) / 512 = p.val
  have : (z 1).val < 512 := (z 1).isLt
  omega)
theorem halfU_emb (i : Fin 4) (p : Fin 2) (z : S1x64x2048.Idx) : halfU ((rU i p).emb z) = p := Fin.ext (by
  show (64 * p.val + 1 * (z 1).val) / 64 = p.val
  have : (z 1).val < 64 := (z 1).isLt
  omega)
theorem inC_emb (i i' : Fin 4) (p : Fin 2) (z : S1x512x128.Idx) : inC ((rC i p).emb z) = inC ((rC i' p).emb z) := by
  funext a
  match a with
  | ⟨0, _⟩ => rfl
  | ⟨1, _⟩ => rfl
  | ⟨2, _⟩ => rfl
theorem inU_emb (i i' : Fin 4) (p : Fin 2) (z : S1x64x2048.Idx) : inU ((rU i p).emb z) = inU ((rU i' p).emb z) := by
  funext a
  match a with
  | ⟨0, _⟩ => rfl
  | ⟨1, _⟩ => rfl
  | ⟨2, _⟩ => rfl

theorem fullC_move (c n : Dev nD) (i i' : Fin 4) (p : Fin 2) (h : org n i' p = org c i p) (z : S1x512x128.Idx) :
    fullC I n ((rC i' p).emb z) = fullC I c ((rC i p).emb z) := by
  unfold fullC; rw [slotC, slotC, halfC_emb, halfC_emb, h, inC_emb i' i]
theorem fullK_move (c n : Dev nD) (i i' : Fin 4) (p : Fin 2) (h : org n i' p = org c i p) (z : S1x64x2048.Idx) :
    fullK I n ((rU i' p).emb z) = fullK I c ((rU i p).emb z) := by
  unfold fullK; rw [slotU, slotU, halfU_emb, halfU_emb, h, inU_emb i' i]
theorem fullV_move (c n : Dev nD) (i i' : Fin 4) (p : Fin 2) (h : org n i' p = org c i p) (z : S1x64x2048.Idx) :
    fullV I n ((rU i' p).emb z) = fullV I c ((rU i p).emb z) := by
  unfold fullV; rw [slotU, slotU, halfU_emb, halfU_emb, h, inU_emb i' i]

theorem full_move (t : Fin 3) (c n : Dev nD) (i i' : Fin 4) (p : Fin 2) (h : org n i' p = org c i p) (y : (hS t).Idx) :
    (hM t i' p).view.read (Elt F) (full I t i' p n) y = (hM t i p).view.read (Elt F) (full I t i p c) y := by
  match t, y with
  | 0, y => exact fullC_move I c n i i' p h _
  | 1, y => exact fullK_move I c n i i' p h _
  | 2, y => exact fullV_move I c n i i' p h _

/-- A copy from half `p` of slot `i` on `c` into half `p` of slot `i'` on `n`, where both hold the same chunk in the end. -/
theorem landed (t : Fin 3) (c n : Dev nD) (i i' : Fin 4) (p : Fin 2) (h : org n i' p = org c i p)
    (fd : Buf (Elt F) ((hM t i' p).view.loc (n : Thread nD τ))) :
    ((hM t i' p).view.loc (n : Thread nD τ) ↦[(hM t i' p).view.set]{fullShare}
        ((hM t i' p).view.write (Elt F) fd ((hM t i p).view.read (Elt F) (full I t i p c)) Finset.univ) : sProp 𝕄)
      = pts I n t i' p fullShare := by
  unfold pts
  exact pointsTo_congr (write_read_view _ _ _ _ _ (full_move I t c n i i' p h))

theorem org_copy (k : Fin 2) (c : Dev nD) (h : Fin 3) : org (peer k c) h.succ (par c) = org c (sl k h) (par c) := by
  revert k c h; decide

end Cert.Gather.Talk

end
-- ==== Proof.Gather.Sched.lean ====
/- The gather call's handshake: what each semaphore cell is raised by and hands over, what a device owes, in which
   order of levels it waits, and the three steps of a copy (start it, wait for it to be read, wait for one to land). -/
module

public import proofs.«01_k».proof.Proof.Gather.Cells

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## The schedule -/

/-- The landing region of one copy from `c`, and that its cell there is open. -/
def Land (k : Fin 2) (c : Dev nD) (t h : Fin 3) : sProp 𝕄 :=
  iprop(dstE k (peer k c) t h ∗ reached ER (RC k (peer k c) t h) 0)
def Land3 (k : Fin 2) (c : Dev nD) (h : Fin 3) : sProp 𝕄 := iprop(Land k c 0 h ∗ Land k c 1 h ∗ Land k c 2 h)
/-- All of them: what a neighbour's barrier signal hands over. -/
def Lands (k : Fin 2) (c : Dev nD) : sProp 𝕄 := iprop(Land3 k c 0 ∗ Land3 k c 1 ∗ Land3 k c 2)

instance Lands_storable (k : Fin 2) (c : Dev nD) : BI.Storable (upEmb : UEmb _ 𝕄) (Lands (F := F) k c) := by
  unfold Lands Land3 Land; infer_instance

/-- One round. A device's barrier cell is raised once each by its right neighbour (duty 0, handing over its landing
    regions), its left neighbour (1, nothing) and its partner (2, its landing regions); a copy's cells once, by the credit. -/
def copyRd : Rounds.Schedule (GSem nD τ sig) (Fin 3) 𝕄 where
  duties g r := if r = 0 ∧ g.1.2 = .tc then (match g.2 with
    | .reg s => if s = barS then (Finset.univ : Finset (Fin 3)) else ∅
    | .dma q => if 12 ≤ q.val ∧ q.val < 48 then ({0} : Finset (Fin 3)) else ∅) else ∅
  unitless _ := False
  amount g _ _ := match g.2 with
    | .reg _ => 1
    | .dma q => N (dec q).2.2.1
  payload g _ d := match g.2 with
    | .reg _ => if d = 0 then Lands 0 g.1.1 else if d = 1 then iprop(emp) else Lands 1 g.1.1
    | .dma q => if (dec q).1 = 0 then srcP I (dec q).2.1 g.1.1 (dec q).2.2.1 (dec q).2.2.2
        else dstP I (dec q).2.1 g.1.1 (dec q).2.2.1 (dec q).2.2.2
  amount_pos g _ _ _ := by
    match g with
    | (_, .reg _) => exact Nat.one_pos
    | (_, .dma q) => exact N_pos _

instance copyRd_payload_storable (g : GSem nD τ sig) (r : ℕ) (d : Fin 3) :
    BI.Storable (upEmb : UEmb _ 𝕄) ((copyRd I).payload g r d) := by
  match g with
  | (c, .reg _) =>
    show BI.Storable upEmb (if d = 0 then Lands 0 c.1 else if d = 1 then iprop(emp) else Lands 1 c.1)
    (repeat' split) <;> infer_instance
  | (c, .dma q) =>
    show BI.Storable upEmb (if (dec q).1 = 0 then srcP I (dec q).2.1 c.1 (dec q).2.2.1 (dec q).2.2.2
        else dstP I (dec q).2.1 c.1 (dec q).2.2.1 (dec q).2.2.2)
    split <;> infer_instance

section Tables
variable (c : Dev nD) (x : XC) (k : Fin 2) (t h : Fin 3)

theorem duties_bar : (copyRd I).duties (barCell c) 0 = Finset.univ := by
  show (if (0 : ℕ) = 0 ∧ (c : Thread nD τ).2 = .tc then (if barS = barS then (Finset.univ : Finset (Fin 3)) else ∅) else ∅) = _
  rw [if_pos ⟨rfl, rfl⟩, if_pos rfl]
theorem dsem_range : 12 ≤ (dsem x).val ∧ (dsem x).val < 48 := ⟨dsem_ge x, (dsem x).isLt⟩
theorem duties_x : (copyRd I).duties (xCell c x) 0 = {0} := by
  show (if (0 : ℕ) = 0 ∧ (c : Thread nD τ).2 = .tc then (if 12 ≤ (dsem x).val ∧ (dsem x).val < 48 then ({0} : Finset (Fin 3)) else ∅) else ∅) = _
  rw [if_pos ⟨rfl, rfl⟩, if_pos (dsem_range x)]
theorem duties_later (g : GSem nD τ sig) (r : ℕ) (hr : 1 ≤ r) : (copyRd I).duties g r = ∅ := by
  dsimp only [copyRd]; rw [if_neg fun h => by omega]
theorem amount_bar (d : Fin 3) : (copyRd I).amount (barCell c) 0 d = 1 := rfl
theorem amount_x (d : Fin 3) : (copyRd I).amount (xCell c x) 0 d = N x.2.2.1 := by
  show N (dec (dsem x)).2.2.1 = _; rw [dec_dsem]
theorem expect_bar : (copyRd I).expect (barCell c) 0 = 3 := by
  unfold Schedule.expect Schedule.amountOf
  rw [duties_bar, Finset.sum_congr rfl fun d _ => amount_bar I c d, Finset.sum_const, Finset.card_univ, Fintype.card_fin, smul_eq_mul]
theorem expect_x : (copyRd I).expect (xCell c x) 0 = N x.2.2.1 := by
  unfold Schedule.expect Schedule.amountOf; rw [duties_x, Finset.sum_singleton, amount_x]
theorem payload_bar_right : (copyRd I).payload (barCell c) 0 0 = Lands 0 c := by
  dsimp only [copyRd, barCell]; exact if_pos rfl
theorem payload_bar_left : (copyRd I).payload (barCell c) 0 1 = iprop(emp) := by
  dsimp only [copyRd, barCell]; rw [if_neg (by decide), if_pos rfl]
theorem payload_bar_partner : (copyRd I).payload (barCell c) 0 2 = Lands 1 c := by
  dsimp only [copyRd, barCell]; rw [if_neg (by decide), if_neg (by decide)]
theorem payload_S (d : Fin 3) : (copyRd I).payload (SC k c t h) 0 d = srcP I k c t h := by
  show (if (dec (dsem (0, k, t, h))).1 = 0 then _ else _) = _
  rw [dec_dsem]; exact if_pos rfl
theorem payload_R (d : Fin 3) : (copyRd I).payload (RC k c t h) 0 d = dstP I k c t h := by
  show (if (dec (dsem (1, k, t, h))).1 = 0 then _ else _) = _
  rw [dec_dsem]; exact if_neg (by show ¬(1 : Fin 2) = 0; decide)
theorem rest_bar : bigSep ((copyRd I).duties (barCell c) 0 \ ∅) (fun d => (copyRd I).payload (barCell c) 0 d)
    = iprop(Lands 0 c ∗ emp ∗ Lands 1 c) := by
  rw [Finset.sdiff_empty, duties_bar, bigSep_univ_eq_bigSepL [0, 1, 2] (by decide) (by decide), bigSepL_cons_cons, bigSepL_cons_cons,
    bigSepL_singleton, payload_bar_right, payload_bar_left, payload_bar_partner]
  rfl
theorem rest_S : bigSep ((copyRd I).duties (SC k c t h) 0 \ ∅) (fun d => (copyRd I).payload (SC k c t h) 0 d) = srcP I k c t h := by
  rw [Finset.sdiff_empty, duties_x, bigSep_singleton, payload_S]
theorem rest_R : bigSep ((copyRd I).duties (RC k c t h) 0 \ ∅) (fun d => (copyRd I).payload (RC k c t h) 0 d) = dstP I k c t h := by
  rw [Finset.sdiff_empty, duties_x, bigSep_singleton, payload_R]

end Tables

/-! ## What a device owes; the levels -/

/-- One copy: its kind, its buffer, its hop. -/
abbrev CP : Type := Fin 2 × Fin 3 × Fin 3
/-- The copies in the order a device starts them. -/
def order : List CP :=
  [(0, 0, 0), (0, 1, 0), (0, 2, 0), (1, 0, 0), (1, 1, 0), (1, 2, 0),
   (0, 0, 1), (0, 1, 1), (0, 2, 1), (1, 0, 1), (1, 1, 1), (1, 2, 1),
   (0, 0, 2), (0, 1, 2), (0, 2, 2), (1, 0, 2), (1, 1, 2), (1, 2, 2)]

/-- The credits owed for the copies still to be started. -/
def owedL (c : Dev nD) (l : List CP) : CellTallies nD τ sig Unit :=
  (l.map fun x => tallyAt (RC x.1 (peer x.1 c) x.2.1 x.2.2) () (N x.2.1)).sum
theorem owedL_cons (c : Dev nD) (x : CP) (l : List CP) :
    owedL c (x :: l) = owedL c l + tallyAt (RC x.1 (peer x.1 c) x.2.1 x.2.2) () (N x.2.1) := by
  unfold owedL; rw [List.map_cons, List.sum_cons, add_comm]
theorem owedL_nil (c : Dev nD) : owedL c [] = 0 := rfl

/-- At launch, besides, the three barrier signals (the first to be given last in the sum). -/
def O₀ (c : Dev nD) : CellTallies nD τ sig Unit :=
  owedL c order + tallyAt (barCell (pt c)) () 1 + tallyAt (barCell (rt c)) () 1 + tallyAt (barCell (lf c)) () 1

def L (g : GSem nD τ sig) : Finset Unit := if g.1.2 = .tc then {()} else ∅
/-- Barrier cells at 1; the cells on which hop `h`'s z-copy lands at `2 + h`; those on which y-copies land at 10; others at 0. -/
def lvX (x : CP) : ℕ := if x.1 = 0 then 2 + x.2.2.val else 10
def lv (g : GSem nD τ sig) (_ : Unit) : ℕ := match g.2 with
  | .reg s => if s = barS then 1 else 0
  | .dma q => if 12 ≤ q.val ∧ q.val < 48 ∧ (dec q).1 = 1 then lvX (dec q).2 else 0

theorem L_of_ne (g : GSem nD τ sig) (h : g.1.2 ≠ .tc) : L g = ∅ := if_neg h
theorem L_tc (c : Dev nD) (sm : SemLoc sig) : L ((c : Thread nD τ), sm) = {()} := if_pos rfl
theorem L_bar (c : Dev nD) : L (barCell c) = {()} := if_pos rfl
theorem L_R (c : Dev nD) (k : Fin 2) (t h : Fin 3) : L (RC k c t h) = {()} := if_pos rfl
theorem lv_bar (c : Dev nD) : lv (barCell c) () = 1 := by show (if barS = barS then 1 else 0) = 1; exact if_pos rfl
theorem lv_S (c : Dev nD) (k : Fin 2) (t h : Fin 3) : lv (SC k c t h) () = 0 := by
  refine if_neg fun hh => ?_
  have := hh.2.2; rw [dec_dsem] at this; exact absurd (show (0 : Fin 2) = 1 from this) (by decide)
theorem lv_R (c : Dev nD) (k : Fin 2) (t h : Fin 3) : lv (RC k c t h) () = lvX (k, t, h) := by
  refine (if_pos ⟨dsem_ge _, (dsem _).isLt, by rw [dec_dsem]⟩).trans ?_
  rw [dec_dsem]

theorem owedL_pos {c : Dev nD} {l : List CP} {g : GSem nD τ sig} {u : Unit} (h : 0 < owedL c l g u) :
    ∃ x ∈ l, g = RC x.1 (peer x.1 c) x.2.1 x.2.2 := by
  induction l with
  | nil => exact absurd h (Nat.lt_irrefl 0)
  | cons x l ih =>
    rw [owedL_cons, Pi.add_apply, Finsupp.add_apply, tallyAt_apply] at h
    by_cases hx : g = RC x.1 (peer x.1 c) x.2.1 x.2.2
    · exact ⟨x, List.mem_cons_self, hx⟩
    · rw [if_neg (fun h' => hx h'.1), Nat.add_zero] at h
      obtain ⟨y, hy, e⟩ := ih h
      exact ⟨y, List.mem_cons_of_mem _ hy, e⟩

/-- A device may wait on a cell below every landing it still owes. -/
theorem mayWait (c : Dev nD) (sm : SemLoc sig) (n : ℕ) (l : List CP) (hs : lv ((c : Thread nD τ), sm) () ≤ n) (hl : ∀ x ∈ l, n < lvX x) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨x, -, rfl⟩ := owedL_pos hg; rw [L_R]; exact Finset.mem_singleton_self _)
    (fun p hp => by rw [Finset.mem_singleton.mp hp]; exact hs)
    (fun g u hg => by
      obtain ⟨x, hx, rfl⟩ := owedL_pos hg
      obtain ⟨k, t, h⟩ := x
      rw [lv_R]; exact hl _ hx)

/-- So it may wait on its staging cells, whatever it owes. -/
theorem mayWait_stage (c : Dev nD) (q : DmaSem sig) (hq : ¬ (12 ≤ q.val ∧ q.val < 48)) (O : CellTallies nD τ sig Unit) (hO : O = O₀ c ∨ O = 0) :
    (levAts L lv : sProp 𝕄) ⊢ MayWait (c : Thread nD τ) (.dma q) () O := by
  rcases hO with rfl | rfl
  · have hcase : ∀ (g : GSem nD τ sig) (u : Unit), 0 < O₀ c g u →
        (∃ x : CP, g = RC x.1 (peer x.1 c) x.2.1 x.2.2) ∨ g = barCell (pt c) ∨ g = barCell (rt c) ∨ g = barCell (lf c) := by
      intro g u hg
      unfold O₀ at hg
      rw [Pi.add_apply, Finsupp.add_apply, Pi.add_apply, Finsupp.add_apply, Pi.add_apply, Finsupp.add_apply,
        tallyAt_apply, tallyAt_apply, tallyAt_apply] at hg
      by_contra hn
      rw [not_or, not_or, not_or] at hn
      rw [if_neg (fun h' => hn.2.1 h'.1), if_neg (fun h' => hn.2.2.1 h'.1), if_neg (fun h' => hn.2.2.2 h'.1)] at hg
      simp only [Nat.add_zero] at hg
      exact hn.1 ((owedL_pos hg).imp fun x h => h.2)
    refine MayOwe.of_cut (L := L) (lev := lv) 0 (fun p hp => by rw [Finset.mem_singleton.mp hp, L_tc]; exact Finset.mem_singleton_self _)
      (fun g u hg => by rcases hcase g u hg with ⟨x, rfl⟩ | rfl | rfl | rfl <;> first | rw [L_R]; exact Finset.mem_singleton_self _ | rw [L_bar]; exact Finset.mem_singleton_self _)
      (fun p hp => by
        rw [Finset.mem_singleton.mp hp]; exact le_of_eq (if_neg fun h' => hq ⟨h'.1, h'.2.1⟩))
      (fun g u hg => by
        rcases hcase g u hg with ⟨⟨k, t, h⟩, rfl⟩ | rfl | rfl | rfl
        · rw [lv_R]; unfold lvX; split <;> omega
        all_goals rw [lv_bar]; decide)
  · rw [MayWait_zero]; iintro -; iempintro

/-! ## The state of a copy -/

abbrev KN : Type := (Dev nD → ℕ) × (Dev nD × XC → ℕ)
/-- The invariants of all the cells, under the names the launch allocated them at. -/
def records (K : KN) : sProp 𝕄 :=
  iprop((bigSep Finset.univ fun c : Dev nD => cellInv ER (copyRd I) (K.1 c) (barCell c))
    ∗ (bigSep Finset.univ fun c : Dev nD => reached ER (barCell c) 0)
    ∗ bigSep Finset.univ fun cx : Dev nD × XC => cellInv ER (copyRd I) (K.2 cx) (xCell cx.1 cx.2))
instance records_persistent (K : KN) : BI.Persistent (records I K) := by unfold records; infer_instance

theorem elimP {ι : Type} [Fintype ι] [DecidableEq ι] (Φ : ι → sProp 𝕄) (i : ι) : iprop(bigSep Finset.univ fun j => Φ j) ⊢ Φ i :=
  bigSep_elim (Finset.mem_univ i)
theorem rec_bar (K : KN) (c : Dev nD) : records I K ⊢ iprop(cellInv ER (copyRd I) (K.1 c) (barCell c) ∗ reached ER (barCell c) 0) := by
  unfold records
  iintro ⟨#H1, #H2, -⟩
  isplitr
  · iapply (elimP (Φ := fun c : Dev nD => cellInv ER (copyRd I) (K.1 c) (barCell c)) c); iexact H1
  · iapply (elimP (Φ := fun c : Dev nD => (reached ER (barCell c) 0 : sProp 𝕄)) c); iexact H2
theorem rec_x (K : KN) (c : Dev nD) (x : XC) : records I K ⊢ cellInv ER (copyRd I) (K.2 (c, x)) (xCell c x) := by
  unfold records
  iintro ⟨-, -, #H⟩
  iapply (elimP (Φ := fun cx : Dev nD × XC => cellInv ER (copyRd I) (K.2 cx) (xCell cx.1 cx.2)) (c, x)); iexact H

/-- What device `c` still owes, with the records and the level facts it needs throughout. -/
def owesA (K : KN) (c : Dev nD) (l : List CP) : sProp 𝕄 :=
  iprop(records I K ∗ levAts L lv ∗ ∃ W, owes (c : Thread nD τ) (owedL c l) W)

/-- Before a copy starts; while it is under way; once it has been read; once one has landed here as well. -/
def Pre (k : Fin 2) (c : Dev nD) (t h : Fin 3) : sProp 𝕄 :=
  iprop(dutyTok ER (SC k c t h) 0 0 ∗ reached ER (SC k c t h) 0 ∗ dutyTok ER (RC k (peer k c) t h) 0 0
    ∗ atPos ER (SC k c t h) 0 ∅ 0 ∗ atPos ER (RC k c t h) 0 ∅ 0 ∗ cred (tallyAt (RC k c t h) () (N t)))
def Fly (k : Fin 2) (c : Dev nD) (t h : Fin 3) : sProp 𝕄 :=
  iprop(cred (tallyAt (SC k c t h) () (N t)) ∗ atPos ER (SC k c t h) 0 ∅ 0 ∗ atPos ER (RC k c t h) 0 ∅ 0 ∗ cred (tallyAt (RC k c t h) () (N t)))
def Mid (k : Fin 2) (c : Dev nD) (t h : Fin 3) : sProp 𝕄 :=
  iprop(srcP I k c t h ∗ semVal (SC k c t h) 0 ∗ atPos ER (RC k c t h) 0 ∅ 0 ∗ cred (tallyAt (RC k c t h) () (N t)))
/-- The two cells of a copy, at zero and closed. -/
def Zero (k : Fin 2) (c : Dev nD) (t h : Fin 3) : sProp 𝕄 := iprop(semVal (SC k c t h) 0 ∗ semVal (RC k c t h) 0)

abbrev 𝒱₀ : Variants := Variants.none

section Steps
variable (K : KN) (k : Fin 2) (t h : Fin 3) (c : Dev nD) {l : List CP}
  {α : Type} {kk : PUnit → Prog (TpuEff nD τ sig (Elt F) Λ₀ .tc) α}

theorem wp_start {Q : α → sProp 𝕄} (n : Dev nD) (hn : n = peer k c) {p : Fin 2} (hp : par c = p)
    {src dst : Memref sig .tc .vmem (hS t) .bf16} (hs : src = hM t (sl k h) p) (hd : dst = hM t h.succ p)
    {s₁ s₂ : DmaSem sig} (h₁ : s₁ = dsem (0, k, t, h)) (h₂ : s₂ = dsem (1, k, t, h))
    {hsc : (dst : Memref sig (Dev.tc n : Thread nD τ).2.kind .vmem (hS t) .bf16).view.ref.isScScratch = false}
    {hsrc : src.view.WordExact} {hdst : dst.view.WordExact}
    {hsem : DmaTarget.Typed .vmem (.dma s₂) (.remote (Dev.tc n : Thread nD τ) (dst : Memref sig .tc .vmem (hS t) .bf16) (.dma s₁) hsc)} :
    owesA I K c ((k, t, h) :: l)
      ⊢ iprop(Pre k c t h -∗ Land k c t h -∗ srcP I k c t h
          -∗ (owesA I K c l -∗ Fly k c t h -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma s₁) hsc) (.dma s₂) hsrc hdst hsem) kk) Q) := by
  subst hn hp hs hd h₁ h₂
  unfold owesA Pre Land dstE ptsE srcP
  rw [lh_peer]
  iintro ⟨#HI, #Hlev, ⟨%W, HO⟩⟩ ⟨HtS, #HrS, HtR, HaS, HaR, HcR⟩ ⟨⟨%fd, Hd⟩, #HrR⟩ Hs Hk
  unfold pts
  iapply (Rounds.wp_send_pointsTo 𝒱₀ ER (copyRd I) (c : Thread nD τ) none (sS := .dma (dsem (0, k, t, h))) (sem := .dma (dsem (1, k, t, h))) (κ₁ := K.2 (c, (0, k, t, h))) (κ₂ := K.2 (peer k c, (1, k, t, h)))
    (r₁ := 0) (r₂ := 0) (d₁ := 0) (d₂ := 0) (fd := fd)
    (by rw [duties_x]; exact Finset.mem_singleton_self _) (by rw [duties_x]; exact Finset.mem_singleton_self _)
    () () (N t) (show (hM t h.succ (par c)).view.dmaCredit = N t from N_eq t _ _) (amount_x I c _ 0) (amount_x I (peer k c) _ 0) (owedL c l) (owedL_cons c (k, t, h) l) (W := W)
    (by rw [payload_S]; exact BI.Entails.refl _)
    (by rw [payload_R]; unfold dstP; rw [lh_peer, landed I t c (peer k c) (sl k h) h.succ (par c) (org_copy k c h)])) $$ [Hs Hd HO HtS HtR]
  · isplitr; · iapply (rec_x I K c (0, k, t, h)); iexact HI
    isplitr; · iapply (rec_x I K (peer k c) (1, k, t, h)); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk $$ [HO] [HcS HaS HaR HcR]
  · isplitr; · iexact HI
    isplitr; · iexact Hlev
    iexists W; iexact HO
  · unfold Fly
    isplitl [HcS]; · iexact HcS
    isplitl [HaS]; · iexact HaS
    isplitl [HaR]; · iexact HaR
    iexact HcR

theorem wp_waitS {Q : α → sProp 𝕄} {s : DmaSem sig} (hs : s = dsem (0, k, t, h)) (hl : ∀ x ∈ l, 0 < lvX x)
    {sp sp' : Space} {s1 s2 : Shape} {e1 e2 : EltTy} {src : Memref sig .tc sp' s2 e2} {dst : Memref sig .tc sp s1 e1}
    {hsrc : src.view.WordExact} {hdst : dst.view.WordExact} (hN : dst.view.dmaCredit = N t) :
    owesA I K c l
      ⊢ iprop(Fly k c t h
          -∗ (owesA I K c l -∗ Mid I k c t h -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  unfold owesA Fly
  iintro ⟨#HI, #Hlev, ⟨%W, HO⟩⟩ ⟨HcS, HaS, HaR, HcR⟩ Hk
  rw [← hN]
  ihave #HIs := (rec_x I K c (0, k, t, h)) $$ HI
  iapply (Rounds.wp_wait_rest_token 𝒱₀ ER (copyRd I) (c : Thread nD τ) none (κ := K.2 (c, (0, k, t, h)))
      (wpE_waitDma2_eq 𝒱₀ (c : Thread nD τ) none Set.univ) (Set.mem_univ _) () (O := owedL c l) (W := W) (R := 0) (m := 0) (T := ∅)
      (by rw [Nat.zero_add, expect_x, hN])) $$ [HcS HO HaS]
  · isplitr; · iexact HIs
    isplitl [HcS]; · iexact HcS
    isplitl [HO]; · iexact HO
    isplitr; · iapply (mayWait (F := F) c (.dma (dsem (0, k, t, h))) 0 l (le_of_eq (lv_S c k t h)) hl); iexact Hlev
    iexact HaS
  iintro ⟨HO, HaS, -, Hpay⟩
  ihave Hs := (Entails.of_eq (rest_S I c k t h)) $$ Hpay
  imod (Rounds.cell_close ER (copyRd I) (Set.mem_univ (K.2 (c, (0, k, t, h)))) (fun h => h) (R := 0 + 1) (duties_later I (SC k c t h))) $$ [HaS] with Hz
  · isplitr; · iexact HIs
    iexact HaS
  iapply Hk $$ [HO] [Hs Hz HaR HcR]
  · isplitr; · iexact HI
    isplitr; · iexact Hlev
    iexists _; iexact HO
  · unfold Mid
    isplitl [Hs]; · iexact Hs
    isplitl [Hz]; · iexact Hz
    isplitl [HaR]; · iexact HaR
    rw [hN]; iexact HcR

theorem wp_waitR {Q : α → sProp 𝕄} {s : DmaSem sig} (hs : s = dsem (1, k, t, h)) (hl : ∀ x ∈ l, lvX (k, t, h) < lvX x)
    {sp sp' : Space} {s1 s2 : Shape} {e1 e2 : EltTy} {src : Memref sig .tc sp' s2 e2} {dst : Memref sig .tc sp s1 e1}
    {hsrc : src.view.WordExact} {hdst : dst.view.WordExact} (hN : dst.view.dmaCredit = N t) :
    owesA I K c l
      ⊢ iprop(Mid I k c t h
          -∗ (owesA I K c l -∗ srcP I k c t h -∗ dstP I k c t h -∗ Zero k c t h
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  unfold owesA Mid
  iintro ⟨#HI, #Hlev, ⟨%W, HO⟩⟩ ⟨Hs, HzS, HaR, HcR⟩ Hk
  rw [← hN]
  ihave #HIr := (rec_x I K c (1, k, t, h)) $$ HI
  iapply (Rounds.wp_wait_rest_token 𝒱₀ ER (copyRd I) (c : Thread nD τ) none (κ := K.2 (c, (1, k, t, h)))
      (wpE_waitDma2_eq 𝒱₀ (c : Thread nD τ) none Set.univ) (Set.mem_univ _) () (O := owedL c l) (W := W) (R := 0) (m := 0) (T := ∅)
      (by rw [Nat.zero_add, expect_x, hN])) $$ [HcR HO HaR]
  · isplitr; · iexact HIr
    isplitl [HcR]; · iexact HcR
    isplitl [HO]; · iexact HO
    isplitr; · iapply (mayWait (F := F) c (.dma (dsem (1, k, t, h))) _ l (le_of_eq (lv_R c k t h)) hl); iexact Hlev
    iexact HaR
  iintro ⟨HO, HaR, -, Hpay⟩
  ihave Hd := (Entails.of_eq (rest_R I c k t h)) $$ Hpay
  imod (Rounds.cell_close ER (copyRd I) (Set.mem_univ (K.2 (c, (1, k, t, h)))) (fun h => h) (R := 0 + 1) (duties_later I (RC k c t h))) $$ [HaR] with Hz
  · isplitr; · iexact HIr
    iexact HaR
  iapply Hk $$ [HO] Hs Hd [HzS Hz]
  · isplitr; · iexact HI
    isplitr; · iexact Hlev
    iexists _; iexact HO
  · unfold Zero
    isplitl [HzS]; · iexact HzS
    iexact Hz

end Steps

end Cert.Gather.Talk

end
-- ==== Proof.Gather.Steps.lean ====
/- The copies of one hop come in threes, one for each buffer: started together, and waited for together. -/
module

public import proofs.«01_k».proof.Proof.Gather.Sched

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-- One assertion for each of the three buffers. -/
def Tri (Φ : Fin 3 → sProp 𝕄) : sProp 𝕄 := iprop(Φ 0 ∗ Φ 1 ∗ Φ 2)

section Steps
variable (K : KN) (k : Fin 2) (h : Fin 3) (c : Dev nD) {l : List CP}
  {α : Type} {kk : PUnit → Prog (TpuEff nD τ sig (Elt F) Λ₀ .tc) α}

/-- The three copies of a hop, started one after the other. -/
theorem wp_start3 {Q : α → sProp 𝕄} {n₀ n₁ n₂ : Dev nD} (hn₀ : n₀ = peer k c) (hn₁ : n₁ = peer k c) (hn₂ : n₂ = peer k c)
    {p : Fin 2} (hp : par c = p)
    {r₀ w₀ : Memref sig .tc .vmem (hS 0) .bf16} {r₁ w₁ : Memref sig .tc .vmem (hS 1) .bf16} {r₂ w₂ : Memref sig .tc .vmem (hS 2) .bf16}
    (hr₀ : r₀ = hM 0 (sl k h) p) (hr₁ : r₁ = hM 1 (sl k h) p) (hr₂ : r₂ = hM 2 (sl k h) p)
    (hw₀ : w₀ = hM 0 h.succ p) (hw₁ : w₁ = hM 1 h.succ p) (hw₂ : w₂ = hM 2 h.succ p)
    {s₀ s₁ s₂ d₀ d₁ d₂ : DmaSem sig} (hs₀ : s₀ = dsem (0, k, 0, h)) (hs₁ : s₁ = dsem (0, k, 1, h)) (hs₂ : s₂ = dsem (0, k, 2, h))
    (hd₀ : d₀ = dsem (1, k, 0, h)) (hd₁ : d₁ = dsem (1, k, 1, h)) (hd₂ : d₂ = dsem (1, k, 2, h))
    {e₀ : (w₀ : Memref sig (Dev.tc n₀ : Thread nD τ).2.kind .vmem (hS 0) .bf16).view.ref.isScScratch = false}
    {e₁ : (w₁ : Memref sig (Dev.tc n₁ : Thread nD τ).2.kind .vmem (hS 1) .bf16).view.ref.isScScratch = false}
    {e₂ : (w₂ : Memref sig (Dev.tc n₂ : Thread nD τ).2.kind .vmem (hS 2) .bf16).view.ref.isScScratch = false}
    {x₀ : r₀.view.WordExact} {x₁ : r₁.view.WordExact} {x₂ : r₂.view.WordExact}
    {y₀ : w₀.view.WordExact} {y₁ : w₁.view.WordExact} {y₂ : w₂.view.WordExact}
    {z₀ : DmaTarget.Typed .vmem (.dma d₀) (.remote (Dev.tc n₀ : Thread nD τ) (w₀ : Memref sig .tc .vmem (hS 0) .bf16) (.dma s₀) e₀)}
    {z₁ : DmaTarget.Typed .vmem (.dma d₁) (.remote (Dev.tc n₁ : Thread nD τ) (w₁ : Memref sig .tc .vmem (hS 1) .bf16) (.dma s₁) e₁)}
    {z₂ : DmaTarget.Typed .vmem (.dma d₂) (.remote (Dev.tc n₂ : Thread nD τ) (w₂ : Memref sig .tc .vmem (hS 2) .bf16) (.dma s₂) e₂)} :
    owesA I K c ((k, 0, h) :: (k, 1, h) :: (k, 2, h) :: l)
      ⊢ iprop(Tri (fun t => Pre k c t h) -∗ Land3 k c h -∗ Tri (fun t => srcP I k c t h)
          -∗ (owesA I K c l -∗ Tri (fun t => Fly k c t h) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma r₀ (.remote (Dev.tc n₀ : Thread nD τ) w₀ (.dma s₀) e₀) (.dma d₀) x₀ y₀ z₀) fun _ =>
                .op (.enqueueDma r₁ (.remote (Dev.tc n₁ : Thread nD τ) w₁ (.dma s₁) e₁) (.dma d₁) x₁ y₁ z₁) fun _ =>
                .op (.enqueueDma r₂ (.remote (Dev.tc n₂ : Thread nD τ) w₂ (.dma s₂) e₂) (.dma d₂) x₂ y₂ z₂) kk) Q) := by
  unfold Tri Land3
  iintro HO ⟨HP0, HP1, HP2⟩ ⟨HL0, HL1, HL2⟩ ⟨HS0, HS1, HS2⟩ Hk
  iapply (wp_start I K k 0 h c n₀ hn₀ hp hr₀ hw₀ hs₀ hd₀) $$ HO HP0 HL0 HS0
  iintro HO HF0
  iapply (wp_start I K k 1 h c n₁ hn₁ hp hr₁ hw₁ hs₁ hd₁) $$ HO HP1 HL1 HS1
  iintro HO HF1
  iapply (wp_start I K k 2 h c n₂ hn₂ hp hr₂ hw₂ hs₂ hd₂) $$ HO HP2 HL2 HS2
  iintro HO HF2
  iapply Hk $$ HO [HF0 HF1 HF2]
  isplitl [HF0]; · iexact HF0
  isplitl [HF1]; · iexact HF1
  iexact HF2

section Waits
variable {sp₀ sp₁ sp₂ sp₃ sp₄ sp₅ sq₀ sq₁ sq₂ sq₃ sq₄ sq₅ : Space} {a₀ a₁ a₂ a₃ a₄ a₅ b₀ b₁ b₂ b₃ b₄ b₅ : Shape}
  {e₀ e₁ e₂ e₃ e₄ e₅ f₀ f₁ f₂ f₃ f₄ f₅ : EltTy}
  {r₀ : Memref sig .tc sq₀ b₀ f₀} {w₀ : Memref sig .tc sp₀ a₀ e₀} {r₁ : Memref sig .tc sq₁ b₁ f₁} {w₁ : Memref sig .tc sp₁ a₁ e₁}
  {r₂ : Memref sig .tc sq₂ b₂ f₂} {w₂ : Memref sig .tc sp₂ a₂ e₂} {r₃ : Memref sig .tc sq₃ b₃ f₃} {w₃ : Memref sig .tc sp₃ a₃ e₃}
  {r₄ : Memref sig .tc sq₄ b₄ f₄} {w₄ : Memref sig .tc sp₄ a₄ e₄} {r₅ : Memref sig .tc sq₅ b₅ f₅} {w₅ : Memref sig .tc sp₅ a₅ e₅}
  {x₀ : r₀.view.WordExact} {x₁ : r₁.view.WordExact} {x₂ : r₂.view.WordExact} {x₃ : r₃.view.WordExact} {x₄ : r₄.view.WordExact} {x₅ : r₅.view.WordExact}
  {y₀ : w₀.view.WordExact} {y₁ : w₁.view.WordExact} {y₂ : w₂.view.WordExact} {y₃ : w₃.view.WordExact} {y₄ : w₄.view.WordExact} {y₅ : w₅.view.WordExact}
  {s₀ s₁ s₂ d₀ d₁ d₂ : DmaSem sig}

/-- The six waits of a hop, buffer by buffer: its copy read, then the one to it landed. -/
theorem wp_wait3 {Q : α → sProp 𝕄} (hs₀ : s₀ = dsem (0, k, 0, h)) (hs₁ : s₁ = dsem (0, k, 1, h)) (hs₂ : s₂ = dsem (0, k, 2, h))
    (hd₀ : d₀ = dsem (1, k, 0, h)) (hd₁ : d₁ = dsem (1, k, 1, h)) (hd₂ : d₂ = dsem (1, k, 2, h))
    (hl : ∀ x ∈ l, lvX (k, 0, h) < lvX x)
    (hN₀ : w₀.view.dmaCredit = N 0) (hN₁ : w₁.view.dmaCredit = N 0) (hN₂ : w₂.view.dmaCredit = N 1)
    (hN₃ : w₃.view.dmaCredit = N 1) (hN₄ : w₄.view.dmaCredit = N 2) (hN₅ : w₅.view.dmaCredit = N 2) :
    owesA I K c l
      ⊢ iprop(Tri (fun t => Fly k c t h)
          -∗ (owesA I K c l -∗ Tri (fun t => srcP I k c t h) -∗ Tri (fun t => dstP I k c t h) -∗ Tri (fun t => Zero k c t h)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s₀ r₀ w₀ x₀ y₀) fun _ => .op (.waitDma2 d₀ r₁ w₁ x₁ y₁) fun _ => .op (.waitDma2 s₁ r₂ w₂ x₂ y₂) fun _ =>
                .op (.waitDma2 d₁ r₃ w₃ x₃ y₃) fun _ => .op (.waitDma2 s₂ r₄ w₄ x₄ y₄) fun _ => .op (.waitDma2 d₂ r₅ w₅ x₅ y₅) kk) Q) := by
  have hl' : ∀ x ∈ l, 0 < lvX x := fun x hx => Nat.lt_of_le_of_lt (Nat.zero_le _) (hl x hx)
  unfold Tri
  iintro HO ⟨HF0, HF1, HF2⟩ Hk
  iapply (wp_waitS I K k 0 h c hs₀ hl' hN₀) $$ HO HF0
  iintro HO HM0
  iapply (wp_waitR I K k 0 h c hd₀ hl hN₁) $$ HO HM0
  iintro HO HS0 HD0 HZ0
  iapply (wp_waitS I K k 1 h c hs₁ hl' hN₂) $$ HO HF1
  iintro HO HM1
  iapply (wp_waitR I K k 1 h c hd₁ hl hN₃) $$ HO HM1
  iintro HO HS1 HD1 HZ1
  iapply (wp_waitS I K k 2 h c hs₂ hl' hN₄) $$ HO HF2
  iintro HO HM2
  iapply (wp_waitR I K k 2 h c hd₂ hl hN₅) $$ HO HM2
  iintro HO HS2 HD2 HZ2
  iapply Hk $$ HO [HS0 HS1 HS2] [HD0 HD1 HD2] [HZ0 HZ1 HZ2]
  · isplitl [HS0]; · iexact HS0
    isplitl [HS1]; · iexact HS1
    iexact HS2
  · isplitl [HD0]; · iexact HD0
    isplitl [HD1]; · iexact HD1
    iexact HD2
  · isplitl [HZ0]; · iexact HZ0
    isplitl [HZ1]; · iexact HZ1
    iexact HZ2

/-- The six waits of a hop, all three read and then all three landed. -/
theorem wp_wait33 {Q : α → sProp 𝕄} (hs₀ : s₀ = dsem (0, k, 0, h)) (hs₁ : s₁ = dsem (0, k, 1, h)) (hs₂ : s₂ = dsem (0, k, 2, h))
    (hd₀ : d₀ = dsem (1, k, 0, h)) (hd₁ : d₁ = dsem (1, k, 1, h)) (hd₂ : d₂ = dsem (1, k, 2, h))
    (hl : ∀ x ∈ l, lvX (k, 0, h) < lvX x)
    (hN₀ : w₀.view.dmaCredit = N 0) (hN₁ : w₁.view.dmaCredit = N 1) (hN₂ : w₂.view.dmaCredit = N 2)
    (hN₃ : w₃.view.dmaCredit = N 0) (hN₄ : w₄.view.dmaCredit = N 1) (hN₅ : w₅.view.dmaCredit = N 2) :
    owesA I K c l
      ⊢ iprop(Tri (fun t => Fly k c t h)
          -∗ (owesA I K c l -∗ Tri (fun t => srcP I k c t h) -∗ Tri (fun t => dstP I k c t h) -∗ Tri (fun t => Zero k c t h)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s₀ r₀ w₀ x₀ y₀) fun _ => .op (.waitDma2 s₁ r₁ w₁ x₁ y₁) fun _ => .op (.waitDma2 s₂ r₂ w₂ x₂ y₂) fun _ =>
                .op (.waitDma2 d₀ r₃ w₃ x₃ y₃) fun _ => .op (.waitDma2 d₁ r₄ w₄ x₄ y₄) fun _ => .op (.waitDma2 d₂ r₅ w₅ x₅ y₅) kk) Q) := by
  have hl' : ∀ x ∈ l, 0 < lvX x := fun x hx => Nat.lt_of_le_of_lt (Nat.zero_le _) (hl x hx)
  unfold Tri
  iintro HO ⟨HF0, HF1, HF2⟩ Hk
  iapply (wp_waitS I K k 0 h c hs₀ hl' hN₀) $$ HO HF0
  iintro HO HM0
  iapply (wp_waitS I K k 1 h c hs₁ hl' hN₁) $$ HO HF1
  iintro HO HM1
  iapply (wp_waitS I K k 2 h c hs₂ hl' hN₂) $$ HO HF2
  iintro HO HM2
  iapply (wp_waitR I K k 0 h c hd₀ hl hN₃) $$ HO HM0
  iintro HO HS0 HD0 HZ0
  iapply (wp_waitR I K k 1 h c hd₁ hl hN₄) $$ HO HM1
  iintro HO HS1 HD1 HZ1
  iapply (wp_waitR I K k 2 h c hd₂ hl hN₅) $$ HO HM2
  iintro HO HS2 HD2 HZ2
  iapply Hk $$ HO [HS0 HS1 HS2] [HD0 HD1 HD2] [HZ0 HZ1 HZ2]
  · isplitl [HS0]; · iexact HS0
    isplitl [HS1]; · iexact HS1
    iexact HS2
  · isplitl [HD0]; · iexact HD0
    isplitl [HD1]; · iexact HD1
    iexact HD2
  · isplitl [HZ0]; · iexact HZ0
    isplitl [HZ1]; · iexact HZ1
    iexact HZ2

end Waits

end Steps

end Cert.Gather.Talk

end
-- ==== Proof.Gather.Bufs.lean ====
/- The three scratch buffers as eight regions each (four slots, two halves): taken apart before the first signal, slot 0's
   left half of a share kept while its right half is read, and put together again for the final loads. -/
module

public import proofs.«01_k».proof.Proof.Gather.Steps

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## Eight regions of one buffer -/

section Eight
variable {ℓ : Loc nD τ sig} (Kf : Fin 4 → Fin 2 → Finset (Idx ℓ))
  (hd : ∀ a b : Fin 4 × Fin 2, a ≠ b → Disjoint (Kf a.1 a.2) (Kf b.1 b.2)) (hu : ∀ j, ∃ i p, j ∈ Kf i p)

include hd hu in
theorem eight (f : Buf (Elt F) ℓ) :
    (ℓ ↦{fullShare} f : sProp 𝕄)
      = iprop((ℓ ↦[Kf 0 0]{fullShare} f) ∗ (ℓ ↦[Kf 0 1]{fullShare} f) ∗ (ℓ ↦[Kf 1 0]{fullShare} f) ∗ (ℓ ↦[Kf 1 1]{fullShare} f)
          ∗ (ℓ ↦[Kf 2 0]{fullShare} f) ∗ (ℓ ↦[Kf 2 1]{fullShare} f) ∗ (ℓ ↦[Kf 3 0]{fullShare} f) ∗ (ℓ ↦[Kf 3 1]{fullShare} f)) := by
  have e : (Finset.univ : Finset (Idx ℓ)) = (Finset.univ : Finset (Fin 4 × Fin 2)).biUnion fun a => Kf a.1 a.2 := by
    ext j
    simp only [Finset.mem_univ, Finset.mem_biUnion, true_and, true_iff]
    obtain ⟨i, p, h⟩ := hu j
    exact ⟨(i, p), h⟩
  rw [show (ℓ ↦{fullShare} f : sProp 𝕄) = (ℓ ↦[(Finset.univ : Finset (Fin 4 × Fin 2)).biUnion fun a => Kf a.1 a.2]{fullShare} f) from by rw [← e],
    pointsTo_biUnion Finset.univ (fun a : Fin 4 × Fin 2 => Kf a.1 a.2) (fun a _ b _ h => hd a b h),
    bigSep_univ_eq_bigSepL [(0, 0), (0, 1), (1, 0), (1, 1), (2, 0), (2, 1), (3, 0), (3, 1)] (by decide) (by decide)]
  simp only [bigSepL_cons_cons, bigSepL_singleton]
  rfl

/-- Two halves, the device's own first. -/
theorem halves (Φ : Fin 2 → sProp 𝕄) (p : Fin 2) : iprop(Φ 0 ∗ Φ 1) ⊣⊢ iprop(Φ p ∗ Φ (oth p)) := by
  match p with
  | 0 => exact ⟨BI.Entails.refl _, BI.Entails.refl _⟩
  | 1 => exact ⟨BI.sep_comm, BI.sep_comm⟩

/-- A region at some contents. -/
abbrev some (Kf : Fin 4 → Fin 2 → Finset (Idx ℓ)) (i : Fin 4) (p : Fin 2) : sProp 𝕄 :=
  iprop(∃ f : Buf (Elt F) ℓ, ℓ ↦[Kf i p]{fullShare} f)

include hd hu in
/-- Slot 0 kept, the halves of the other slots handed out. -/
theorem take (S0 : Finset (Idx ℓ)) (hS0 : S0 = Kf 0 0 ∪ Kf 0 1) (p : Fin 2) (f : Buf (Elt F) ℓ) :
    (ℓ ↦{fullShare} f : sProp 𝕄)
      ⊢ iprop((ℓ ↦[S0]{fullShare} f) ∗ (some (F := F) Kf 1 p ∗ some (F := F) Kf 2 p ∗ some (F := F) Kf 3 p)
          ∗ (some (F := F) Kf 1 (oth p) ∗ some (F := F) Kf 2 (oth p) ∗ some (F := F) Kf 3 (oth p))) := by
  subst hS0
  rw [eight Kf hd hu f]
  iintro ⟨H00, H01, H10, H11, H20, H21, H30, H31⟩
  ihave H0 := (pointsTo_union (hd (0, 0) (0, 1) (by decide))).2 $$ [H00 H01]
  · isplitl [H00]; · iexact H00
    iexact H01
  ihave H1 := (halves (fun q => (ℓ ↦[Kf 1 q]{fullShare} f : sProp 𝕄)) p).1 $$ [H10 H11]
  · isplitl [H10]; · iexact H10
    iexact H11
  ihave H2 := (halves (fun q => (ℓ ↦[Kf 2 q]{fullShare} f : sProp 𝕄)) p).1 $$ [H20 H21]
  · isplitl [H20]; · iexact H20
    iexact H21
  ihave H3 := (halves (fun q => (ℓ ↦[Kf 3 q]{fullShare} f : sProp 𝕄)) p).1 $$ [H30 H31]
  · isplitl [H30]; · iexact H30
    iexact H31
  icases H1 with ⟨H1p, H1o⟩
  icases H2 with ⟨H2p, H2o⟩
  icases H3 with ⟨H3p, H3o⟩
  isplitl [H0]; · iexact H0
  isplitl [H1p H2p H3p]
  · isplitl [H1p]; · iexists f; iexact H1p
    isplitl [H2p]; · iexists f; iexact H2p
    iexists f; iexact H3p
  · isplitl [H1o]; · iexists f; iexact H1o
    isplitl [H2o]; · iexists f; iexact H2o
    iexists f; iexact H3o

/-- A share in two. -/
theorem two (S : Finset (Idx ℓ)) (g : Buf (Elt F) ℓ) :
    (ℓ ↦[S]{fullShare} g : sProp 𝕄) ⊣⊢ iprop((ℓ ↦[S]{fullShare.left} g) ∗ (ℓ ↦[S]{fullShare.right} g)) :=
  pointsTo_share (PosShare.mem_left_op_right fullShare)

include hd in
/-- Slot 0 once written: the device's half in two shares, the other half. -/
theorem fork (S0 : Finset (Idx ℓ)) (hS0 : S0 = Kf 0 0 ∪ Kf 0 1) (p : Fin 2) (g : Buf (Elt F) ℓ) :
    (ℓ ↦[S0]{fullShare} g : sProp 𝕄)
      ⊢ iprop((ℓ ↦[Kf 0 p]{fullShare.left} g) ∗ (ℓ ↦[Kf 0 p]{fullShare.right} g) ∗ (ℓ ↦[Kf 0 (oth p)]{fullShare} g)) := by
  subst hS0
  iintro H
  ihave H' := (pointsTo_union (hd (0, 0) (0, 1) (by decide))).1 $$ H
  ihave H'' := (halves (fun q => (ℓ ↦[Kf 0 q]{fullShare} g : sProp 𝕄)) p).1 $$ H'
  icases H'' with ⟨Hp, Ho⟩
  ihave H2 := (two (Kf 0 p) g).1 $$ Hp
  icases H2 with ⟨Hl, Hr⟩
  isplitl [Hl]; · iexact Hl
  isplitl [Hr]; · iexact Hr
  iexact Ho

/-- One slot: the device's half back in two shares, the other half. -/
abbrev slot (g : Buf (Elt F) ℓ) (i : Fin 4) (p : Fin 2) : sProp 𝕄 :=
  iprop((ℓ ↦[Kf i p]{fullShare.left} g) ∗ (ℓ ↦[Kf i p]{fullShare.right} g) ∗ (ℓ ↦[Kf i (oth p)]{fullShare} g))

theorem slot_join (g : Buf (Elt F) ℓ) (i : Fin 4) (p : Fin 2) :
    slot Kf g i p ⊢ iprop((ℓ ↦[Kf i 0]{fullShare} g) ∗ (ℓ ↦[Kf i 1]{fullShare} g)) := by
  iintro ⟨Hl, Hr, Ho⟩
  ihave H := (two (Kf i p) g).2 $$ [Hl Hr]
  · isplitl [Hl]; · iexact Hl
    iexact Hr
  iapply (halves (fun q => (ℓ ↦[Kf i q]{fullShare} g : sProp 𝕄)) p).2
  isplitl [H]; · iexact H
  iexact Ho

include hd hu in
theorem join (p : Fin 2) (g : Buf (Elt F) ℓ) :
    iprop(slot Kf g 0 p ∗ slot Kf g 1 p ∗ slot Kf g 2 p ∗ slot Kf g 3 p) ⊢ (ℓ ↦{fullShare} g : sProp 𝕄) := by
  rw [eight Kf hd hu g]
  iintro ⟨H0, H1, H2, H3⟩
  ihave J0 := (slot_join Kf g 0 p) $$ H0
  icases J0 with ⟨A0, B0⟩
  ihave J1 := (slot_join Kf g 1 p) $$ H1
  icases J1 with ⟨A1, B1⟩
  ihave J2 := (slot_join Kf g 2 p) $$ H2
  icases J2 with ⟨A2, B2⟩
  ihave J3 := (slot_join Kf g 3 p) $$ H3
  icases J3 with ⟨A3, B3⟩
  isplitl [A0]; · iexact A0
  isplitl [B0]; · iexact B0
  isplitl [A1]; · iexact A1
  isplitl [B1]; · iexact B1
  isplitl [A2]; · iexact A2
  isplitl [B2]; · iexact B2
  isplitl [A3]; · iexact A3
  iexact B3

end Eight

/-! ## The regions, by their elements -/

theorem mem_rC (i : Fin 4) (p : Fin 2) (j : S4x1024x128.Idx) : j ∈ (rC i p).set ↔ j 0 = i ∧ halfC j = p := by
  have h1 : (j 1).val < 1024 := (j 1).isLt
  have h2 : (j 2).val < 128 := (j 2).isLt
  rw [Rect.mem_set_unit]
  constructor
  · intro h
    have a0 : i.val ≤ (j 0).val ∧ (j 0).val < i.val + 1 := h 0
    have a1 : 512 * p.val ≤ (j 1).val ∧ (j 1).val < 512 * p.val + 512 := h 1
    refine ⟨Fin.ext (by omega), Fin.ext ?_⟩
    show (j 1).val / 512 = p.val
    omega
  · rintro ⟨rfl, rfl⟩ a
    match a with
    | ⟨0, _⟩ => show (j 0).val ≤ (j 0).val ∧ (j 0).val < (j 0).val + 1; omega
    | ⟨1, _⟩ => show 512 * ((j 1).val / 512) ≤ (j 1).val ∧ (j 1).val < 512 * ((j 1).val / 512) + 512; omega
    | ⟨2, _⟩ => show 0 ≤ (j 2).val ∧ (j 2).val < 0 + 128; omega
theorem mem_rU (i : Fin 4) (p : Fin 2) (j : S4x128x2048.Idx) : j ∈ (rU i p).set ↔ j 0 = i ∧ halfU j = p := by
  have h1 : (j 1).val < 128 := (j 1).isLt
  have h2 : (j 2).val < 2048 := (j 2).isLt
  rw [Rect.mem_set_unit]
  constructor
  · intro h
    have a0 : i.val ≤ (j 0).val ∧ (j 0).val < i.val + 1 := h 0
    have a1 : 64 * p.val ≤ (j 1).val ∧ (j 1).val < 64 * p.val + 64 := h 1
    refine ⟨Fin.ext (by omega), Fin.ext ?_⟩
    show (j 1).val / 64 = p.val
    omega
  · rintro ⟨rfl, rfl⟩ a
    match a with
    | ⟨0, _⟩ => show (j 0).val ≤ (j 0).val ∧ (j 0).val < (j 0).val + 1; omega
    | ⟨1, _⟩ => show 64 * ((j 1).val / 64) ≤ (j 1).val ∧ (j 1).val < 64 * ((j 1).val / 64) + 64; omega
    | ⟨2, _⟩ => show 0 ≤ (j 2).val ∧ (j 2).val < 0 + 2048; omega

/-- The slot a device fills itself, whole. -/
abbrev s0C : Rect S4x1024x128 := Rect.unit (s := S4x1024x128) ![0, 0, 0] S1x1024x128.size inb_S4x1024x128_S1x1024x128_0_0_0
abbrev s0U : Rect S4x128x2048 := Rect.unit (s := S4x128x2048) ![0, 0, 0] S1x128x2048.size inb_S4x128x2048_S1x128x2048_0_0_0

abbrev KC (i : Fin 4) (p : Fin 2) : Finset S4x1024x128.Idx := (hM 0 i p).view.set
abbrev KK (i : Fin 4) (p : Fin 2) : Finset S4x128x2048.Idx := (hM 1 i p).view.set
abbrev KV (i : Fin 4) (p : Fin 2) : Finset S4x128x2048.Idx := (hM 2 i p).view.set

theorem KC_eq (i : Fin 4) (p : Fin 2) : KC i p = (rC i p).set := (View.set_reshape _ _).trans (View.set_slice_whole _ _)
theorem KK_eq (i : Fin 4) (p : Fin 2) : KK i p = (rU i p).set := (View.set_reshape _ _).trans (View.set_slice_whole _ _)
theorem KV_eq (i : Fin 4) (p : Fin 2) : KV i p = (rU i p).set := (View.set_reshape _ _).trans (View.set_slice_whole _ _)

theorem disjC (a b : Fin 4 × Fin 2) (h : a ≠ b) : Disjoint (KC a.1 a.2) (KC b.1 b.2) := by
  rw [KC_eq, KC_eq, Finset.disjoint_left]
  intro j h1 h2
  rw [mem_rC] at h1 h2
  exact h (Prod.ext (h1.1.symm.trans h2.1) (h1.2.symm.trans h2.2))
theorem disjU (a b : Fin 4 × Fin 2) (h : a ≠ b) : Disjoint (rU a.1 a.2).set (rU b.1 b.2).set := by
  rw [Finset.disjoint_left]
  intro j h1 h2
  rw [mem_rU] at h1 h2
  exact h (Prod.ext (h1.1.symm.trans h2.1) (h1.2.symm.trans h2.2))
theorem disjK (a b : Fin 4 × Fin 2) (h : a ≠ b) : Disjoint (KK a.1 a.2) (KK b.1 b.2) := by rw [KK_eq, KK_eq]; exact disjU a b h
theorem disjV (a b : Fin 4 × Fin 2) (h : a ≠ b) : Disjoint (KV a.1 a.2) (KV b.1 b.2) := by rw [KV_eq, KV_eq]; exact disjU a b h
theorem coverC (j : S4x1024x128.Idx) : ∃ i p, j ∈ KC i p := ⟨(j 0 : Fin 4), halfC j, by
  rw [show KC (j 0 : Fin 4) (halfC j) = (rC (j 0 : Fin 4) (halfC j)).set from KC_eq _ _]; exact (mem_rC _ _ _).2 ⟨rfl, rfl⟩⟩
theorem coverK (j : S4x128x2048.Idx) : ∃ i p, j ∈ KK i p := ⟨(j 0 : Fin 4), halfU j, by
  rw [show KK (j 0 : Fin 4) (halfU j) = (rU (j 0 : Fin 4) (halfU j)).set from KK_eq _ _]; exact (mem_rU _ _ _).2 ⟨rfl, rfl⟩⟩
theorem coverV (j : S4x128x2048.Idx) : ∃ i p, j ∈ KV i p := ⟨(j 0 : Fin 4), halfU j, by
  rw [show KV (j 0 : Fin 4) (halfU j) = (rU (j 0 : Fin 4) (halfU j)).set from KV_eq _ _]; exact (mem_rU _ _ _).2 ⟨rfl, rfl⟩⟩

theorem fin2 (p : Fin 2) : p = 0 ∨ p = 1 := by revert p; decide
theorem mem_s0C (j : S4x1024x128.Idx) : j ∈ s0C.set ↔ (j 0).val = 0 := by
  have h1 : (j 1).val < 1024 := (j 1).isLt
  have h2 : (j 2).val < 128 := (j 2).isLt
  rw [Rect.mem_set_unit]
  constructor
  · intro h
    have a0 : 0 ≤ (j 0).val ∧ (j 0).val < 0 + 1 := h 0
    omega
  · intro h0 a
    match a with
    | ⟨0, _⟩ => show 0 ≤ (j 0).val ∧ (j 0).val < 0 + 1; omega
    | ⟨1, _⟩ => show 0 ≤ (j 1).val ∧ (j 1).val < 0 + 1024; omega
    | ⟨2, _⟩ => show 0 ≤ (j 2).val ∧ (j 2).val < 0 + 128; omega
theorem mem_s0U (j : S4x128x2048.Idx) : j ∈ s0U.set ↔ (j 0).val = 0 := by
  have h1 : (j 1).val < 128 := (j 1).isLt
  have h2 : (j 2).val < 2048 := (j 2).isLt
  rw [Rect.mem_set_unit]
  constructor
  · intro h
    have a0 : 0 ≤ (j 0).val ∧ (j 0).val < 0 + 1 := h 0
    omega
  · intro h0 a
    match a with
    | ⟨0, _⟩ => show 0 ≤ (j 0).val ∧ (j 0).val < 0 + 1; omega
    | ⟨1, _⟩ => show 0 ≤ (j 1).val ∧ (j 1).val < 0 + 128; omega
    | ⟨2, _⟩ => show 0 ≤ (j 2).val ∧ (j 2).val < 0 + 2048; omega

theorem s0C_eq : s0C.set = KC 0 0 ∪ KC 0 1 := by
  ext j
  rw [Finset.mem_union, KC_eq, KC_eq, mem_rC, mem_rC, mem_s0C]
  exact ⟨fun h => (fin2 (halfC j)).elim (fun e => .inl ⟨Fin.ext h, e⟩) fun e => .inr ⟨Fin.ext h, e⟩,
    fun h => h.elim (fun a => congrArg Fin.val a.1) fun a => congrArg Fin.val a.1⟩
theorem s0U_eq : s0U.set = (rU 0 0).set ∪ (rU 0 1).set := by
  ext j
  rw [Finset.mem_union, mem_rU, mem_rU, mem_s0U]
  exact ⟨fun h => (fin2 (halfU j)).elim (fun e => .inl ⟨Fin.ext h, e⟩) fun e => .inr ⟨Fin.ext h, e⟩,
    fun h => h.elim (fun a => congrArg Fin.val a.1) fun a => congrArg Fin.val a.1⟩
theorem s0K_eq : s0U.set = KK 0 0 ∪ KK 0 1 := by rw [KK_eq, KK_eq]; exact s0U_eq
theorem s0V_eq : s0U.set = KV 0 0 ∪ KV 0 1 := by rw [KV_eq, KV_eq]; exact s0U_eq

/-! ## The three buffers -/

/-- Slot 0 of each, as one region. -/
def ownC (c : Dev nD) (f : Buf (Elt F) ((c : Thread nD τ).loc cc0_scratch0)) : sProp 𝕄 := ((c : Thread nD τ).loc cc0_scratch0) ↦[s0C.set]{fullShare} f
def ownK (c : Dev nD) (f : Buf (Elt F) ((c : Thread nD τ).loc cc0_scratch1)) : sProp 𝕄 := ((c : Thread nD τ).loc cc0_scratch1) ↦[s0U.set]{fullShare} f
def ownV (c : Dev nD) (f : Buf (Elt F) ((c : Thread nD τ).loc cc0_scratch2)) : sProp 𝕄 := ((c : Thread nD τ).loc cc0_scratch2) ↦[s0U.set]{fullShare} f

/-- The landing regions of buffer `t` on `c`: what the copies from `lf c` fill, and those from `pt c`. -/
def lands (k : Fin 2) (c : Dev nD) (t : Fin 3) : sProp 𝕄 :=
  iprop(ptsE c t 1 (lh k c) ∗ ptsE c t 2 (lh k c) ∗ ptsE c t 3 (lh k c))

theorem takeC (c : Dev nD) (f : Buf (Elt F) ((c : Thread nD τ).loc cc0_scratch0)) :
    (((c : Thread nD τ).loc cc0_scratch0) ↦{fullShare} f : sProp 𝕄) ⊢ iprop(ownC c f ∗ lands 0 c 0 ∗ lands 1 c 0) :=
  take (ℓ := (c : Thread nD τ).loc cc0_scratch0) KC disjC coverC s0C.set s0C_eq (par c) f
theorem takeK (c : Dev nD) (f : Buf (Elt F) ((c : Thread nD τ).loc cc0_scratch1)) :
    (((c : Thread nD τ).loc cc0_scratch1) ↦{fullShare} f : sProp 𝕄) ⊢ iprop(ownK c f ∗ lands 0 c 1 ∗ lands 1 c 1) :=
  take (ℓ := (c : Thread nD τ).loc cc0_scratch1) KK disjK coverK s0U.set s0K_eq (par c) f
theorem takeV (c : Dev nD) (f : Buf (Elt F) ((c : Thread nD τ).loc cc0_scratch2)) :
    (((c : Thread nD τ).loc cc0_scratch2) ↦{fullShare} f : sProp 𝕄) ⊢ iprop(ownV c f ∗ lands 0 c 2 ∗ lands 1 c 2) :=
  take (ℓ := (c : Thread nD τ).loc cc0_scratch2) KV disjV coverV s0U.set s0V_eq (par c) f

/-- Of slot 0, once written: what the z-copies read, what stays behind. -/
def keep (c : Dev nD) (t : Fin 3) : sProp 𝕄 := iprop(pts I c t 0 (par c) fullShare.left ∗ pts I c t 0 (oth (par c)) fullShare)

theorem forkC (c : Dev nD) : ownC c (fullC I c) ⊢ iprop(srcP I 0 c 0 0 ∗ keep I c 0) :=
  (fork (ℓ := (c : Thread nD τ).loc cc0_scratch0) KC disjC s0C.set s0C_eq (par c) (fullC I c)).trans sep_left_comm.1
theorem forkK (c : Dev nD) : ownK c (fullK I c) ⊢ iprop(srcP I 0 c 1 0 ∗ keep I c 1) :=
  (fork (ℓ := (c : Thread nD τ).loc cc0_scratch1) KK disjK s0U.set s0K_eq (par c) (fullK I c)).trans sep_left_comm.1
theorem forkV (c : Dev nD) : ownV c (fullV I c) ⊢ iprop(srcP I 0 c 2 0 ∗ keep I c 2) :=
  (fork (ℓ := (c : Thread nD τ).loc cc0_scratch2) KV disjV s0U.set s0V_eq (par c) (fullV I c)).trans sep_left_comm.1

/-- What a z-copy landed is read by the y-copy of the same hop, and by the next z-copy. -/
def nextP (c : Dev nD) (t h : Fin 3) : sProp 𝕄 := pts I c t h.succ (par c) fullShare.right
theorem nextP_0 (c : Dev nD) (t : Fin 3) : nextP I c t 0 = srcP I 0 c t 1 := rfl
theorem nextP_1 (c : Dev nD) (t : Fin 3) : nextP I c t 1 = srcP I 0 c t 2 := rfl

theorem pts_two (c : Dev nD) (t : Fin 3) (i : Fin 4) (p : Fin 2) :
    pts I c t i p fullShare ⊢ iprop(pts I c t i p fullShare.left ∗ pts I c t i p fullShare.right) := by
  unfold pts; exact (pointsTo_share (PosShare.mem_left_op_right fullShare)).1
theorem landed_two (c : Dev nD) (t h : Fin 3) : dstP I 0 c t h ⊢ iprop(srcP I 1 c t h ∗ nextP I c t h) :=
  pts_two I c t h.succ (par c)
theorem landed_two3 (c : Dev nD) (h : Fin 3) :
    Tri (fun t => dstP I 0 c t h) ⊢ iprop(Tri (fun t => srcP I 1 c t h) ∗ Tri (fun t => nextP I c t h)) := by
  unfold Tri
  iintro ⟨H0, H1, H2⟩
  ihave J0 := (landed_two I c 0 h) $$ H0
  icases J0 with ⟨A0, B0⟩
  ihave J1 := (landed_two I c 1 h) $$ H1
  icases J1 with ⟨A1, B1⟩
  ihave J2 := (landed_two I c 2 h) $$ H2
  icases J2 with ⟨A2, B2⟩
  isplitl [A0 A1 A2]
  · isplitl [A0]; · iexact A0
    isplitl [A1]; · iexact A1
    iexact A2
  · isplitl [B0]; · iexact B0
    isplitl [B1]; · iexact B1
    iexact B2

/-- Everything of buffer `t`, in the end. -/
def parts (c : Dev nD) (t : Fin 3) : sProp 𝕄 :=
  iprop((pts I c t 0 (par c) fullShare.left ∗ srcP I 0 c t 0 ∗ pts I c t 0 (oth (par c)) fullShare)
    ∗ (srcP I 1 c t 0 ∗ srcP I 0 c t 1 ∗ dstP I 1 c t 0)
    ∗ (srcP I 1 c t 1 ∗ srcP I 0 c t 2 ∗ dstP I 1 c t 1)
    ∗ (srcP I 1 c t 2 ∗ nextP I c t 2 ∗ dstP I 1 c t 2))

theorem joinC (c : Dev nD) : parts I c 0 ⊢ (((c : Thread nD τ).loc cc0_scratch0) ↦{fullShare} fullC I c : sProp 𝕄) :=
  join (ℓ := (c : Thread nD τ).loc cc0_scratch0) KC disjC coverC (par c) (fullC I c)
theorem joinK (c : Dev nD) : parts I c 1 ⊢ (((c : Thread nD τ).loc cc0_scratch1) ↦{fullShare} fullK I c : sProp 𝕄) :=
  join (ℓ := (c : Thread nD τ).loc cc0_scratch1) KK disjK coverK (par c) (fullK I c)
theorem joinV (c : Dev nD) : parts I c 2 ⊢ (((c : Thread nD τ).loc cc0_scratch2) ↦{fullShare} fullV I c : sProp 𝕄) :=
  join (ℓ := (c : Thread nD τ).loc cc0_scratch2) KV disjV coverV (par c) (fullV I c)

end Cert.Gather.Talk

end
-- ==== Proof.Gather.Blocks.lean ====
/- What the stores leave: blocks of columns of the results, and slot 0 of the scratch buffers. -/
module

public import proofs.«01_k».proof.Proof.Gather.Bufs

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## Blocks of columns -/

/-- Columns `512 i …` replaced. -/
def putCol (i : Fin 4) (f : Vec F S1024x2048 .bf16) (w : Vec F S1024x512 .bf16) : Vec F S1024x2048 .bf16 := fun j =>
  if (j 1).val / 512 = i.val then w (fun a => match a with | ⟨0, _⟩ => j 0 | ⟨1, _⟩ => ⟨(j 1).val % 512, Nat.mod_lt _ (by decide)⟩) else f j
/-- Four blocks of columns side by side. -/
def colBlk (w : Fin 4 → Vec F S1024x512 .bf16) : Vec F S1024x2048 .bf16 := fun j =>
  w ⟨(j 1).val / 512, by have : (j 1).val < 2048 := (j 1).isLt; omega⟩
    (fun a => match a with | ⟨0, _⟩ => j 0 | ⟨1, _⟩ => ⟨(j 1).val % 512, Nat.mod_lt _ (by decide)⟩)
theorem putCol_all (f : Vec F S1024x2048 .bf16) (w : Fin 4 → Vec F S1024x512 .bf16) :
    putCol 3 (putCol 2 (putCol 1 (putCol 0 f (w 0)) (w 1)) (w 2)) (w 3) = colBlk w := by
  funext j
  have hj : (j 1).val < 2048 := (j 1).isLt
  unfold putCol colBlk
  have h : ∀ k : Fin 4, (⟨(j 1).val / 512, by omega⟩ : Fin 4) = k ↔ (j 1).val / 512 = k.val := fun k => ⟨fun h => congrArg Fin.val h, fun h => Fin.ext h⟩
  generalize hk : (⟨(j 1).val / 512, by omega⟩ : Fin 4) = k
  have hk' := (h k).1 hk
  rw [hk']
  match k with
  | 0 => rfl
  | 1 => rfl
  | 2 => rfl
  | 3 => rfl

abbrev colR (i : Fin 4) : Rect S1024x2048 := Rect.unit (s := S1024x2048) ![0, 512 * i.val] S1024x512.size (by revert i; decide)
theorem mem_colR (i : Fin 4) (j : S1024x2048.Idx) : j ∈ (colR i).set ↔ (j 1).val / 512 = i.val := by
  have h0 : (j 0).val < 1024 := (j 0).isLt
  rw [Rect.mem_set_unit]
  constructor
  · intro h
    have a1 : 512 * i.val ≤ (j 1).val ∧ (j 1).val < 512 * i.val + 512 := h 1
    omega
  · intro h a
    match a with
    | ⟨0, _⟩ => show 0 ≤ (j 0).val ∧ (j 0).val < 0 + 1024; omega
    | ⟨1, _⟩ => show 512 * i.val ≤ (j 1).val ∧ (j 1).val < 512 * i.val + 512; omega
theorem put_of {i : Fin 4} {f w} {g : Vec F S1024x2048 .bf16} (h₁ : ∀ x, g ((colR i).emb x) = w x) (h₂ : ∀ j, j ∉ (colR i).set → g j = f j) :
    g = putCol (F := F) i f w := by
  funext j
  unfold putCol
  split
  · rename_i h
    rw [← h₁]
    congr 1
    funext a
    match a with
    | ⟨0, _⟩ => exact Fin.ext (by show (j 0).val = 0 + 1 * (j 0).val; omega)
    | ⟨1, _⟩ => exact Fin.ext (by show (j 1).val = 512 * i.val + 1 * ((j 1).val % 512); omega)
  · rename_i h
    exact h₂ j (fun hm => h ((mem_colR i j).1 hm))
theorem put7 (i : Fin 4) (f : Vec F S1024x2048 .bf16) (w : Vec F S1024x512 .bf16) :
    ((Memref.whole cc0_stg7_0).access (colR i)).write (Elt F) f w Finset.univ = putCol i f w :=
  put_of (fun x => View.write_emb_of_mem _ _ (Finset.mem_univ x))
    fun j h => View.write_of_not_mem _ _ _ (by rw [View.setOn_univ]; exact fun hm => h ((View.set_slice_whole cc0_stg7_0 (colR i)) ▸ hm))
theorem put8 (i : Fin 4) (f : Vec F S1024x2048 .bf16) (w : Vec F S1024x512 .bf16) :
    ((Memref.whole cc0_stg8_0).access (colR i)).write (Elt F) f w Finset.univ = putCol i f w :=
  put_of (fun x => View.write_emb_of_mem _ _ (Finset.mem_univ x))
    fun j h => View.write_of_not_mem _ _ _ (by rw [View.setOn_univ]; exact fun hm => h ((View.set_slice_whole cc0_stg8_0 (colR i)) ▸ hm))
theorem put9 (i : Fin 4) (f : Vec F S1024x2048 .bf16) (w : Vec F S1024x512 .bf16) :
    ((Memref.whole cc0_stg9_0).access (colR i)).write (Elt F) f w Finset.univ = putCol i f w :=
  put_of (fun x => View.write_emb_of_mem _ _ (Finset.mem_univ x))
    fun j h => View.write_of_not_mem _ _ _ (by rw [View.setOn_univ]; exact fun hm => h ((View.set_slice_whole cc0_stg9_0 (colR i)) ▸ hm))

/-- Columns `512 i …` of the query projection. -/
def colW (i : Fin 4) (w : Vec F S2048x2048 .bf16) : Vec F S2048x512 .bf16 := fun j =>
  w (fun a => match a with | ⟨0, _⟩ => j 0 | ⟨1, _⟩ => ⟨512 * i.val + (j 1).val, by have : (j 1).val < 512 := (j 1).isLt; have := i.isLt; show _ < 2048; omega⟩)
theorem colW_read (i : Fin 4) (inb) (w : Vec F S2048x2048 .bf16) :
    (Memref.whole cc0_stg4_0).view.readAt (Elt F) (Rect.unit (s := S2048x2048) ![0, 512 * i.val] S2048x512.size inb).toLoadRect w = colW i w := by
  funext j
  show w _ = w _
  congr 1
  funext a
  match a with
  | ⟨0, _⟩ => exact Fin.ext (by show 0 + 1 * (j 0).val = (j 0).val; omega)
  | ⟨1, _⟩ => exact Fin.ext (by show 512 * i.val + 1 * (j 1).val = 512 * i.val + (j 1).val; omega)

/-! ## Slot 0 -/

theorem own_writeC (c : Dev nD) (f : Vec F S4x1024x128 .bf16) (j : S4x1024x128.Idx) (hj : j ∈ s0C.set) :
    ((Memref.whole cc0_scratch0).access s0C).write (Elt F) f (chC I c) Finset.univ j = fullC I c j := by
  obtain ⟨x, rfl⟩ : ∃ x, s0C.emb x = j := by
    obtain ⟨x, _, hx⟩ := Finset.mem_map.1 ((Rect.map_emb_univ _).symm ▸ hj)
    exact ⟨x, hx⟩
  refine (View.write_emb_of_mem (v := (Memref.whole cc0_scratch0).access s0C) _ _ (Finset.mem_univ x)).trans ?_
  have h0 : (s0C.emb x) 0 = (0 : Fin 4) := by
    have := (mem_s0C _).1 hj; exact Fin.ext this
  show chC I c x = chC I (org c ((s0C.emb x) 0) _) (inC (s0C.emb x))
  rw [h0, org_zero]
  congr 1
  funext a
  match a with
  | ⟨0, _⟩ => exact Fin.ext (by have : (x 0).val < 1 := (x 0).isLt; show (x 0).val = 0; omega)
  | ⟨1, _⟩ => exact Fin.ext (by show (x 1).val = 0 + 1 * (x 1).val; omega)
  | ⟨2, _⟩ => exact Fin.ext (by show (x 2).val = 0 + 1 * (x 2).val; omega)
theorem inU_s0U (x : S1x128x2048.Idx) : inU (s0U.emb x) = x := by
  funext a
  match a with
  | ⟨0, _⟩ => exact Fin.ext (by have : (x 0).val < 1 := (x 0).isLt; show 0 = (x 0).val; omega)
  | ⟨1, _⟩ => exact Fin.ext (by show 0 + 1 * (x 1).val = (x 1).val; omega)
  | ⟨2, _⟩ => exact Fin.ext (by show 0 + 1 * (x 2).val = (x 2).val; omega)
theorem own_writeK (c : Dev nD) (f : Vec F S4x128x2048 .bf16) (j : S4x128x2048.Idx) (hj : j ∈ s0U.set) :
    ((Memref.whole cc0_scratch1).access s0U).write (Elt F) f (chK I c) Finset.univ j = fullK I c j := by
  obtain ⟨x, rfl⟩ : ∃ x, s0U.emb x = j := by
    obtain ⟨x, _, hx⟩ := Finset.mem_map.1 ((Rect.map_emb_univ _).symm ▸ hj)
    exact ⟨x, hx⟩
  refine (View.write_emb_of_mem (v := (Memref.whole cc0_scratch1).access s0U) _ _ (Finset.mem_univ x)).trans ?_
  have h0 : (s0U.emb x) 0 = (0 : Fin 4) := Fin.ext ((mem_s0U _).1 hj)
  show chK I c x = chK I (org c ((s0U.emb x) 0) _) (inU (s0U.emb x))
  rw [h0, org_zero, inU_s0U]
theorem own_writeV (c : Dev nD) (f : Vec F S4x128x2048 .bf16) (j : S4x128x2048.Idx) (hj : j ∈ s0U.set) :
    ((Memref.whole cc0_scratch2).access s0U).write (Elt F) f (chV I c) Finset.univ j = fullV I c j := by
  obtain ⟨x, rfl⟩ : ∃ x, s0U.emb x = j := by
    obtain ⟨x, _, hx⟩ := Finset.mem_map.1 ((Rect.map_emb_univ _).symm ▸ hj)
    exact ⟨x, hx⟩
  refine (View.write_emb_of_mem (v := (Memref.whole cc0_scratch2).access s0U) _ _ (Finset.mem_univ x)).trans ?_
  have h0 : (s0U.emb x) 0 = (0 : Fin 4) := Fin.ext ((mem_s0U _).1 hj)
  show chV I c x = chV I (org c ((s0U.emb x) 0) _) (inU (s0U.emb x))
  rw [h0, org_zero, inU_s0U]

end Cert.Gather.Talk

end
-- ==== Proof.Gather.Access.lean ====
/- Loads and stores, at the buffers as they are held. -/
module

public import proofs.«01_k».proof.Proof.Gather.Blocks
public import proofs.«01_k».proof.Proof.Gen.Gather.Skeleton

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-- A buffer of device `c`, held whole. -/
abbrev at' (c : Dev nD) (b : Ref sig .tc) (f : Buf (Elt F) ((c : Thread nD τ).loc b)) : sProp 𝕄 := ((c : Thread nD τ).loc b) ↦{fullShare} f

theorem ent_of_eq {A B : sProp 𝕄} (h : A = B) : A ⊢ B := h ▸ BI.Entails.refl _

section Own
variable {α : Type} (c : Dev nD)

/-- Slot 0 of a scratch buffer, read (the value unused) and then written. -/
theorem wp_ownC {Q : α → sProp 𝕄} {hl hx hm} {w : Vec F S1x1024x128 .bf16} (hw : w = chC I c)
    {k : PUnit → Prog (TpuEff nD τ sig (Elt F) Λ₀ .tc) α} {f : Vec F S4x1024x128 .bf16} :
    ownC c f
      ⊢ iprop((ownC c (fullC I c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch0) s0C.toLoadRect hl) fun _ => .op (.store (Memref.whole cc0_scratch0) s0C w Finset.univ hx hm) k) Q) := by
  subst hw
  unfold ownC
  iintro H Hk
  iapply (wp_load 𝒱₀ (c : Thread nD τ) none Set.univ (m := Memref.whole cc0_scratch0) (S := s0C.set) ((View.set_slice (View.whole cc0_scratch0) s0C).symm.trans (View.set_slice_whole cc0_scratch0 s0C)).le) $$ H
  iintro H
  iapply (wp_store 𝒱₀ (c : Thread nD τ) none Set.univ (m := Memref.whole cc0_scratch0) (r := s0C) (Mk := Finset.univ) (S := s0C.set) (by rw [View.setOn_univ]; exact (View.set_slice_whole _ _).le)) $$ H
  iintro H
  iapply Hk
  iapply (ent_of_eq (pointsTo_congr (ℓ := (c : Thread nD τ).loc cc0_scratch0) (q := fullShare) (I := s0C.set)
    (f := ((Memref.whole cc0_scratch0).access s0C).write (Elt F) f (chC I c) Finset.univ) (g := fullC I c) (own_writeC I c f)))
  iexact H

theorem wp_ownK {Q : α → sProp 𝕄} {hl hx hm} {w : Vec F S1x128x2048 .bf16} (hw : w = chK I c)
    {k : PUnit → Prog (TpuEff nD τ sig (Elt F) Λ₀ .tc) α} {f : Vec F S4x128x2048 .bf16} :
    ownK c f
      ⊢ iprop((ownK c (fullK I c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch1) s0U.toLoadRect hl) fun _ => .op (.store (Memref.whole cc0_scratch1) s0U w Finset.univ hx hm) k) Q) := by
  subst hw
  unfold ownK
  iintro H Hk
  iapply (wp_load 𝒱₀ (c : Thread nD τ) none Set.univ (m := Memref.whole cc0_scratch1) (S := s0U.set) ((View.set_slice (View.whole cc0_scratch1) s0U).symm.trans (View.set_slice_whole cc0_scratch1 s0U)).le) $$ H
  iintro H
  iapply (wp_store 𝒱₀ (c : Thread nD τ) none Set.univ (m := Memref.whole cc0_scratch1) (r := s0U) (Mk := Finset.univ) (S := s0U.set) (by rw [View.setOn_univ]; exact (View.set_slice_whole _ _).le)) $$ H
  iintro H
  iapply Hk
  iapply (ent_of_eq (pointsTo_congr (ℓ := (c : Thread nD τ).loc cc0_scratch1) (q := fullShare) (I := s0U.set)
    (f := ((Memref.whole cc0_scratch1).access s0U).write (Elt F) f (chK I c) Finset.univ) (g := fullK I c) (own_writeK I c f)))
  iexact H

theorem wp_ownV {Q : α → sProp 𝕄} {hl hx hm} {w : Vec F S1x128x2048 .bf16} (hw : w = chV I c)
    {k : PUnit → Prog (TpuEff nD τ sig (Elt F) Λ₀ .tc) α} {f : Vec F S4x128x2048 .bf16} :
    ownV c f
      ⊢ iprop((ownV c (fullV I c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch2) s0U.toLoadRect hl) fun _ => .op (.store (Memref.whole cc0_scratch2) s0U w Finset.univ hx hm) k) Q) := by
  subst hw
  unfold ownV
  iintro H Hk
  iapply (wp_load 𝒱₀ (c : Thread nD τ) none Set.univ (m := Memref.whole cc0_scratch2) (S := s0U.set) ((View.set_slice (View.whole cc0_scratch2) s0U).symm.trans (View.set_slice_whole cc0_scratch2 s0U)).le) $$ H
  iintro H
  iapply (wp_store 𝒱₀ (c : Thread nD τ) none Set.univ (m := Memref.whole cc0_scratch2) (r := s0U) (Mk := Finset.univ) (S := s0U.set) (by rw [View.setOn_univ]; exact (View.set_slice_whole _ _).le)) $$ H
  iintro H
  iapply Hk
  iapply (ent_of_eq (pointsTo_congr (ℓ := (c : Thread nD τ).loc cc0_scratch2) (q := fullShare) (I := s0U.set)
    (f := ((Memref.whole cc0_scratch2).access s0U).write (Elt F) f (chV I c) Finset.univ) (g := fullV I c) (own_writeV I c f)))
  iexact H

/-- A block of columns of a result, read (the value unused) and then written. -/
theorem wp_col7 (i : Fin 4) {Q : α → sProp 𝕄} {inb hl hx hm} {w : Vec F S1024x512 .bf16}
    {k : PUnit → Prog (TpuEff nD τ sig (Elt F) Λ₀ .tc) α} {f : Vec F S1024x2048 .bf16} :
    at' c cc0_stg7_0 f
      ⊢ iprop((at' c cc0_stg7_0 (putCol i f w) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg7_0) (Rect.unit (s := S1024x2048) ![0, 512 * i.val] S1024x512.size inb).toLoadRect hl) fun _ =>
                .op (.store (Memref.whole cc0_stg7_0) (Rect.unit (s := S1024x2048) ![0, 512 * i.val] S1024x512.size inb) w Finset.univ hx hm) k) Q) := by
  iintro H Hk
  iapply (wp_load 𝒱₀ (c : Thread nD τ) none Set.univ (m := Memref.whole cc0_stg7_0) (Finset.subset_univ _)) $$ H
  iintro H
  iapply (wp_store 𝒱₀ (c : Thread nD τ) none Set.univ (m := Memref.whole cc0_stg7_0) (r := colR i) (Mk := Finset.univ) (Finset.subset_univ _)) $$ H
  iintro H
  iapply Hk
  rw [← put7 i f w]
  iexact H

theorem wp_col8 (i : Fin 4) {Q : α → sProp 𝕄} {inb hl hx hm} {w : Vec F S1024x512 .bf16}
    {k : PUnit → Prog (TpuEff nD τ sig (Elt F) Λ₀ .tc) α} {f : Vec F S1024x2048 .bf16} :
    at' c cc0_stg8_0 f
      ⊢ iprop((at' c cc0_stg8_0 (putCol i f w) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg8_0) (Rect.unit (s := S1024x2048) ![0, 512 * i.val] S1024x512.size inb).toLoadRect hl) fun _ =>
                .op (.store (Memref.whole cc0_stg8_0) (Rect.unit (s := S1024x2048) ![0, 512 * i.val] S1024x512.size inb) w Finset.univ hx hm) k) Q) := by
  iintro H Hk
  iapply (wp_load 𝒱₀ (c : Thread nD τ) none Set.univ (m := Memref.whole cc0_stg8_0) (Finset.subset_univ _)) $$ H
  iintro H
  iapply (wp_store 𝒱₀ (c : Thread nD τ) none Set.univ (m := Memref.whole cc0_stg8_0) (r := colR i) (Mk := Finset.univ) (Finset.subset_univ _)) $$ H
  iintro H
  iapply Hk
  rw [← put8 i f w]
  iexact H

theorem wp_col9 (i : Fin 4) {Q : α → sProp 𝕄} {inb hl hx hm} {w : Vec F S1024x512 .bf16}
    {k : PUnit → Prog (TpuEff nD τ sig (Elt F) Λ₀ .tc) α} {f : Vec F S1024x2048 .bf16} :
    at' c cc0_stg9_0 f
      ⊢ iprop((at' c cc0_stg9_0 (putCol i f w) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg9_0) (Rect.unit (s := S1024x2048) ![0, 512 * i.val] S1024x512.size inb).toLoadRect hl) fun _ =>
                .op (.store (Memref.whole cc0_stg9_0) (Rect.unit (s := S1024x2048) ![0, 512 * i.val] S1024x512.size inb) w Finset.univ hx hm) k) Q) := by
  iintro H Hk
  iapply (wp_load 𝒱₀ (c : Thread nD τ) none Set.univ (m := Memref.whole cc0_stg9_0) (Finset.subset_univ _)) $$ H
  iintro H
  iapply (wp_store 𝒱₀ (c : Thread nD τ) none Set.univ (m := Memref.whole cc0_stg9_0) (r := colR i) (Mk := Finset.univ) (Finset.subset_univ _)) $$ H
  iintro H
  iapply Hk
  rw [← put9 i f w]
  iexact H

/-- A whole result, read (the value unused) and then written. -/
theorem wp_out10 {Q : α → sProp 𝕄} {inb hl hx hm} {w : Vec F S1024x512 .bf16}
    {k : PUnit → Prog (TpuEff nD τ sig (Elt F) Λ₀ .tc) α} {f : Vec F S1024x512 .bf16} :
    at' c cc0_stg10_0 f
      ⊢ iprop((at' c cc0_stg10_0 w -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg10_0) (Rect.unit (s := S1024x512) ![0, 0] S1024x512.size inb).toLoadRect hl) fun _ =>
                .op (.store (Memref.whole cc0_stg10_0) (Rect.unit (s := S1024x512) ![0, 0] S1024x512.size inb) w Finset.univ hx hm) k) Q) := by
  iintro H Hk
  iapply (wp_load 𝒱₀ (c : Thread nD τ) none Set.univ (m := Memref.whole cc0_stg10_0) (Finset.subset_univ _)) $$ H
  iintro H
  iapply (wp_store 𝒱₀ (c : Thread nD τ) none Set.univ (m := Memref.whole cc0_stg10_0) (r := Rect.unit (s := S1024x512) ![0, 0] S1024x512.size inb) (Mk := Finset.univ) (Finset.subset_univ _)) $$ H
  iintro H
  iapply Hk
  rw [show ((Memref.whole cc0_stg10_0).access (Rect.unit (s := S1024x512) ![0, 0] S1024x512.size inb)).write (Elt F) f w Finset.univ = w from
    Memref.write_access_unit_zero_univ (Elt F) cc0_stg10_0 (by decide) inb f w]
  iexact H

theorem wp_out11 {Q : α → sProp 𝕄} {inb hl hx hm} {w : Vec F S1024x32 .bf16}
    {k : PUnit → Prog (TpuEff nD τ sig (Elt F) Λ₀ .tc) α} {f : Vec F S1024x32 .bf16} :
    at' c cc0_stg11_0 f
      ⊢ iprop((at' c cc0_stg11_0 w -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_stg11_0) (Rect.unit (s := S1024x32) ![0, 0] S1024x32.size inb).toLoadRect hl) fun _ =>
                .op (.store (Memref.whole cc0_stg11_0) (Rect.unit (s := S1024x32) ![0, 0] S1024x32.size inb) w Finset.univ hx hm) k) Q) := by
  iintro H Hk
  iapply (wp_load 𝒱₀ (c : Thread nD τ) none Set.univ (m := Memref.whole cc0_stg11_0) (Finset.subset_univ _)) $$ H
  iintro H
  iapply (wp_store 𝒱₀ (c : Thread nD τ) none Set.univ (m := Memref.whole cc0_stg11_0) (r := Rect.unit (s := S1024x32) ![0, 0] S1024x32.size inb) (Mk := Finset.univ) (Finset.subset_univ _)) $$ H
  iintro H
  iapply Hk
  rw [show ((Memref.whole cc0_stg11_0).access (Rect.unit (s := S1024x32) ![0, 0] S1024x32.size inb)).write (Elt F) f w Finset.univ = w from
    Memref.write_access_unit_zero_univ (Elt F) cc0_stg11_0 (by decide) inb f w]
  iexact H

/-- A whole argument, read. -/
theorem wp_in0 {Q : α → sProp 𝕄} {inb hl} {k : Vec F S1024x2048 .bf16 → Prog (TpuEff nD τ sig (Elt F) Λ₀ .tc) α} {f : Vec F S1024x2048 .bf16} :
    at' c cc0_stg0_0 f
      ⊢ iprop((at' c cc0_stg0_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg0_0) (Rect.unit (s := S1024x2048) ![0, 0] S1024x2048.size inb).toLoadRect hl) k) Q) := by
  iintro H Hk
  iapply (wp_load 𝒱₀ (c : Thread nD τ) none Set.univ (m := Memref.whole cc0_stg0_0) (Finset.subset_univ _)) $$ H
  iintro H
  rw [show (Memref.whole cc0_stg0_0).view.readAt (Elt F) (Rect.unit (s := S1024x2048) ![0, 0] S1024x2048.size inb).toLoadRect f = f from
    Memref.readAt_unit_zero (Elt F) cc0_stg0_0 (by decide) inb f]
  iapply Hk $$ H

theorem wp_in1 {Q : α → sProp 𝕄} {inb hl} {k : Vec F S2048x128 .bf16 → Prog (TpuEff nD τ sig (Elt F) Λ₀ .tc) α} {f : Vec F S2048x128 .bf16} :
    at' c cc0_stg1_0 f
      ⊢ iprop((at' c cc0_stg1_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg1_0) (Rect.unit (s := S2048x128) ![0, 0] S2048x128.size inb).toLoadRect hl) k) Q) := by
  iintro H Hk
  iapply (wp_load 𝒱₀ (c : Thread nD τ) none Set.univ (m := Memref.whole cc0_stg1_0) (Finset.subset_univ _)) $$ H
  iintro H
  rw [show (Memref.whole cc0_stg1_0).view.readAt (Elt F) (Rect.unit (s := S2048x128) ![0, 0] S2048x128.size inb).toLoadRect f = f from
    Memref.readAt_unit_zero (Elt F) cc0_stg1_0 (by decide) inb f]
  iapply Hk $$ H

theorem wp_in2 {Q : α → sProp 𝕄} {inb hl} {k : Vec F S128x2048 .bf16 → Prog (TpuEff nD τ sig (Elt F) Λ₀ .tc) α} {f : Vec F S128x2048 .bf16} :
    at' c cc0_stg2_0 f
      ⊢ iprop((at' c cc0_stg2_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg2_0) (Rect.unit (s := S128x2048) ![0, 0] S128x2048.size inb).toLoadRect hl) k) Q) := by
  iintro H Hk
  iapply (wp_load 𝒱₀ (c : Thread nD τ) none Set.univ (m := Memref.whole cc0_stg2_0) (Finset.subset_univ _)) $$ H
  iintro H
  rw [show (Memref.whole cc0_stg2_0).view.readAt (Elt F) (Rect.unit (s := S128x2048) ![0, 0] S128x2048.size inb).toLoadRect f = f from
    Memref.readAt_unit_zero (Elt F) cc0_stg2_0 (by decide) inb f]
  iapply Hk $$ H

theorem wp_in3 {Q : α → sProp 𝕄} {inb hl} {k : Vec F S128x2048 .bf16 → Prog (TpuEff nD τ sig (Elt F) Λ₀ .tc) α} {f : Vec F S128x2048 .bf16} :
    at' c cc0_stg3_0 f
      ⊢ iprop((at' c cc0_stg3_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg3_0) (Rect.unit (s := S128x2048) ![0, 0] S128x2048.size inb).toLoadRect hl) k) Q) := by
  iintro H Hk
  iapply (wp_load 𝒱₀ (c : Thread nD τ) none Set.univ (m := Memref.whole cc0_stg3_0) (Finset.subset_univ _)) $$ H
  iintro H
  rw [show (Memref.whole cc0_stg3_0).view.readAt (Elt F) (Rect.unit (s := S128x2048) ![0, 0] S128x2048.size inb).toLoadRect f = f from
    Memref.readAt_unit_zero (Elt F) cc0_stg3_0 (by decide) inb f]
  iapply Hk $$ H

theorem wp_in5 {Q : α → sProp 𝕄} {inb hl} {k : Vec F S2048x512 .bf16 → Prog (TpuEff nD τ sig (Elt F) Λ₀ .tc) α} {f : Vec F S2048x512 .bf16} :
    at' c cc0_stg5_0 f
      ⊢ iprop((at' c cc0_stg5_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg5_0) (Rect.unit (s := S2048x512) ![0, 0] S2048x512.size inb).toLoadRect hl) k) Q) := by
  iintro H Hk
  iapply (wp_load 𝒱₀ (c : Thread nD τ) none Set.univ (m := Memref.whole cc0_stg5_0) (Finset.subset_univ _)) $$ H
  iintro H
  rw [show (Memref.whole cc0_stg5_0).view.readAt (Elt F) (Rect.unit (s := S2048x512) ![0, 0] S2048x512.size inb).toLoadRect f = f from
    Memref.readAt_unit_zero (Elt F) cc0_stg5_0 (by decide) inb f]
  iapply Hk $$ H

theorem wp_in6 {Q : α → sProp 𝕄} {inb hl} {k : Vec F S2048x32 .bf16 → Prog (TpuEff nD τ sig (Elt F) Λ₀ .tc) α} {f : Vec F S2048x32 .bf16} :
    at' c cc0_stg6_0 f
      ⊢ iprop((at' c cc0_stg6_0 f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg6_0) (Rect.unit (s := S2048x32) ![0, 0] S2048x32.size inb).toLoadRect hl) k) Q) := by
  iintro H Hk
  iapply (wp_load 𝒱₀ (c : Thread nD τ) none Set.univ (m := Memref.whole cc0_stg6_0) (Finset.subset_univ _)) $$ H
  iintro H
  rw [show (Memref.whole cc0_stg6_0).view.readAt (Elt F) (Rect.unit (s := S2048x32) ![0, 0] S2048x32.size inb).toLoadRect f = f from
    Memref.readAt_unit_zero (Elt F) cc0_stg6_0 (by decide) inb f]
  iapply Hk $$ H

/-- A block of columns of the query projection, read. -/
theorem wp_in4 (i : Fin 4) {Q : α → sProp 𝕄} {inb hl} {k : Vec F S2048x512 .bf16 → Prog (TpuEff nD τ sig (Elt F) Λ₀ .tc) α} {f : Vec F S2048x2048 .bf16} :
    at' c cc0_stg4_0 f
      ⊢ iprop((at' c cc0_stg4_0 f -∗ wp frame (wpE (defs₀ (F := F)) 𝒱₀ (c : Thread nD τ) none) Set.univ (k (colW i f)) Q)
          -∗ wp frame (wpE (defs₀ (F := F)) 𝒱₀ (c : Thread nD τ) none) Set.univ
              (.op (.load (Memref.whole cc0_stg4_0) (Rect.unit (s := S2048x2048) ![0, 512 * i.val] S2048x512.size inb).toLoadRect hl) k) Q) := by
  iintro H Hk
  iapply (wp_load 𝒱₀ (c : Thread nD τ) none Set.univ (m := Memref.whole cc0_stg4_0) (Finset.subset_univ _)) $$ H
  iintro H
  rw [colW_read]
  iapply Hk $$ H
end Own

end Cert.Gather.Talk

end
-- ==== Proof.Gather.Part39.lean ====
/- The device's own chunks, and the first hop. -/
module

public import proofs.«01_k».proof.Proof.Gather.Access

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## Which branch a device takes, and where its copies go -/

theorem conds (c : Dev nD) (p : Fin 2) (hp : par c = p) :
    (k0_cond1 c = 1#1) = (p = 0)
    ∧ (k0_cond2 c = 1#1) = (p = 1)
    ∧ (k0_cond3 c = 1#1) = (p = 0)
    ∧ (k0_cond4 c = 1#1) = (p = 1)
    ∧ (k0_cond5 c = 1#1) = (p = 0)
    ∧ (k0_cond6 c = 1#1) = (p = 1)
    ∧ (k0_cond7 c = 1#1) = (p = 0)
    ∧ (k0_cond8 c = 1#1) = (p = 1)
    ∧ (k0_cond9 c = 1#1) = (p = 0)
    ∧ (k0_cond10 c = 1#1) = (p = 1)
    ∧ (k0_cond11 c = 1#1) = (p = 0)
    ∧ (k0_cond12 c = 1#1) = (p = 1) := by
  subst hp; revert c; decide +kernel
/-- Three devices, all `d`. -/
def Are (d : Dev nD) (a b e : ℕ) : Prop := a = d.val ∧ b = d.val ∧ e = d.val
instance (d : Dev nD) (a b e : ℕ) : Decidable (Are d a b e) := by unfold Are; infer_instance
theorem Are.get {d : Dev nD} {a b e : ℕ} (h : Are d a b e) :
    (∀ h, (⟨a, h⟩ : Dev nD) = d) ∧ (∀ h, (⟨b, h⟩ : Dev nD) = d) ∧ ∀ h, (⟨e, h⟩ : Dev nD) = d :=
  ⟨fun _ => Fin.ext h.1, fun _ => Fin.ext h.2.1, fun _ => Fin.ext h.2.2⟩
theorem are4 (c : Dev nD) : Are (peer 0 c) (k0_dev4 c) (k0_dev5 c) (k0_dev6 c) := by revert c; decide +kernel
theorem are7 (c : Dev nD) : Are (peer 0 c) (k0_dev7 c) (k0_dev8 c) (k0_dev9 c) := by revert c; decide +kernel
theorem are10 (c : Dev nD) : Are (peer 1 c) (k0_dev10 c) (k0_dev11 c) (k0_dev12 c) := by revert c; decide +kernel
theorem are13 (c : Dev nD) : Are (peer 1 c) (k0_dev13 c) (k0_dev14 c) (k0_dev15 c) := by revert c; decide +kernel
theorem are16 (c : Dev nD) : Are (peer 0 c) (k0_dev16 c) (k0_dev17 c) (k0_dev18 c) := by revert c; decide +kernel
theorem are19 (c : Dev nD) : Are (peer 0 c) (k0_dev19 c) (k0_dev20 c) (k0_dev21 c) := by revert c; decide +kernel
theorem are22 (c : Dev nD) : Are (peer 1 c) (k0_dev22 c) (k0_dev23 c) (k0_dev24 c) := by revert c; decide +kernel
theorem are25 (c : Dev nD) : Are (peer 1 c) (k0_dev25 c) (k0_dev26 c) (k0_dev27 c) := by revert c; decide +kernel
theorem are28 (c : Dev nD) : Are (peer 0 c) (k0_dev28 c) (k0_dev29 c) (k0_dev30 c) := by revert c; decide +kernel
theorem are31 (c : Dev nD) : Are (peer 0 c) (k0_dev31 c) (k0_dev32 c) (k0_dev33 c) := by revert c; decide +kernel
theorem are34 (c : Dev nD) : Are (peer 1 c) (k0_dev34 c) (k0_dev35 c) (k0_dev36 c) := by revert c; decide +kernel
theorem are37 (c : Dev nD) : Are (peer 1 c) (k0_dev37 c) (k0_dev38 c) (k0_dev39 c) := by revert c; decide +kernel

section Part
variable (K : KN) (c : Dev nD) {l : List CP}

/-- The device's own chunks go to slot 0, the first hop starts, and one block of the queries is computed. -/
theorem wp_part39 {α : Type} {Q : α → sProp 𝕄} {kk : (Σ' (v94 : BitVec 32), BitVec 32) → Prog (TpuEff nD τ sig (Elt F) Λ₀ .tc) α}
    (f0 : Vec F S4x1024x128 .bf16) (f1 f2 : Vec F S4x128x2048 .bf16) (f9 : Vec F S1024x2048 .bf16) (v2 v5 v30 v40 : BitVec 32) :
    owesA I K c ((0, 0, 0) :: (0, 1, 0) :: (0, 2, 0) :: l)
      ⊢ iprop(Tri (fun t => Pre 0 c t 0) -∗ Land3 0 c 0 -∗ ownC c f0 -∗ ownK c f1 -∗ ownV c f2
          -∗ at' c cc0_stg2_0 (I.wk c) -∗ at' c cc0_stg3_0 (I.wv c) -∗ at' c cc0_stg4_0 (I.wq c) -∗ at' c cc0_stg9_0 f9
          -∗ (∀ r, owesA I K c l -∗ Tri (fun t => Fly 0 c t 0) -∗ Tri (fun t => keep I c t)
              -∗ at' c cc0_stg2_0 (I.wk c) -∗ at' c cc0_stg3_0 (I.wv c) -∗ at' c cc0_stg4_0 (I.wq c)
              -∗ at' c cc0_stg9_0 (putCol 0 f9 (k0_pay6 (k0_pay2 (I.x c)) (colW 0 (I.wq c))))
              -∗ wp frame (wpE (defs₀ (F := F)) 𝒱₀ (c : Thread nD τ) none) Set.univ (kk r) Q)
          -∗ wp frame (wpE (defs₀ (F := F)) 𝒱₀ (c : Thread nD τ) none) Set.univ
              (k0_part39 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 c v2 v5 v30 v40 (k0_pay2 (I.x c)) (I.wd c) >>= kk) Q) := by
  rw [k0_part39_eq_skeleton]; unfold k0_part39_skel
  iintro HO HP HL H0 H1 H2 G2 G3 G4 G9 Hk
  have hc := conds c (par c) rfl
  rcases fin2 (par c) with hp | hp <;> rw [hp] at hc
  case' inl =>
    have h1 : k0_cond1 c = 1#1 := by rw [hc.1]
    have h2 : ¬ k0_cond2 c = 1#1 := by rw [hc.2.1]; decide
    have e := (are4 c).get
    simp only [dif_pos h1, dif_neg h2, k0_part1_eq_skeleton]; unfold k0_part1_skel
    simp only [Prog.lift, Prog.bind_op, Prog.bind_ret, Prog.pure_eq_ret]
  case' inr =>
    have h1 : ¬ k0_cond1 c = 1#1 := by rw [hc.1]; decide
    have h2 : k0_cond2 c = 1#1 := by rw [hc.2.1]
    have e := (are7 c).get
    simp only [dif_neg h1, dif_pos h2, k0_part2_eq_skeleton]; unfold k0_part2_skel
    simp only [Prog.lift, Prog.bind_op, Prog.bind_ret, Prog.pure_eq_ret]
  all_goals
    iapply (wp_ownC I c rfl) $$ H0
    iintro H0
    iapply (wp_in2 c) $$ G2
    iintro G2
    iapply (wp_ownK I c rfl) $$ H1
    iintro H1
    iapply (wp_in3 c) $$ G3
    iintro G3
    iapply (wp_ownV I c rfl) $$ H2
    iintro H2
    ihave J0 := (forkC I c) $$ H0
    icases J0 with ⟨S0, K0⟩
    ihave J1 := (forkK I c) $$ H1
    icases J1 with ⟨S1, K1⟩
    ihave J2 := (forkV I c) $$ H2
    icases J2 with ⟨S2, K2⟩
    iapply (wp_start3 I K 0 0 c (e.1 _) (e.2.1 _) (e.2.2 _) hp
      rfl rfl rfl rfl rfl rfl rfl rfl rfl rfl rfl rfl) $$ HO HP HL [S0 S1 S2]
    · unfold Tri
      isplitl [S0]; · iexact S0
      isplitl [S1]; · iexact S1
      iexact S2
    iintro HO HF
    iapply (wp_in4 c 0) $$ G4
    iintro G4
    iapply (wp_col9 c 0) $$ G9
    iintro G9
    iapply Hk $$ HO HF [K0 K1 K2] G2 G3 G4 G9
    unfold Tri
    isplitl [K0]; · iexact K0
    isplitl [K1]; · iexact K1
    iexact K2

end Part

end Cert.Gather.Talk

end
-- ==== Proof.Gather.Part40.lean ====
/- The first two hops. -/
module

public import proofs.«01_k».proof.Proof.Gather.Part39

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-- The copies still to be started after the first 15, 12, … of them. -/
abbrev l3 : List CP := [(1, 0, 2), (1, 1, 2), (1, 2, 2)]
abbrev l6 : List CP := (0, 0, 2) :: (0, 1, 2) :: (0, 2, 2) :: l3
abbrev l9 : List CP := (1, 0, 1) :: (1, 1, 1) :: (1, 2, 1) :: l6
abbrev l12 : List CP := (0, 0, 1) :: (0, 1, 1) :: (0, 2, 1) :: l9
abbrev l15 : List CP := (1, 0, 0) :: (1, 1, 0) :: (1, 2, 0) :: l12

section Part
variable (K : KN) (c : Dev nD)

/-- The last hop around the ring, not started yet. -/
def Hold : sProp 𝕄 :=
  iprop(owesA I K c l6 ∗ Tri (fun t => Pre 0 c t 2) ∗ Land3 0 c 2 ∗ Tri (fun t => srcP I 0 c t 2))
/-- The last hop, started. -/
def Gone : sProp 𝕄 := iprop(owesA I K c l3 ∗ Tri (fun t => Fly 0 c t 2))
/-- Devices of even `y` start the last hop a stage before the others do. -/
def Last (p : Fin 2) : sProp 𝕄 := match p with
  | 0 => Gone I K c
  | 1 => Hold I K c

set_option maxHeartbeats 1000000 in
/-- The first hop is waited for and passed on to the partner, then the second; the last one starts on half the devices. -/
theorem wp_part40 {α : Type} {Q : α → sProp 𝕄} {kk : PUnit → Prog (TpuEff nD τ sig (Elt F) Λ₀ .tc) α}
    (f9 : Vec F S1024x2048 .bf16) (v2 v5 v8 v30 v40 v43 v94 v0 : BitVec 32) :
    owesA I K c l15
      ⊢ iprop(Tri (fun t => Fly 0 c t 0) -∗ Tri (fun t => Pre 1 c t 0) -∗ Land3 1 c 0 -∗ Tri (fun t => Pre 0 c t 1) -∗ Land3 0 c 1
          -∗ Tri (fun t => Pre 1 c t 1) -∗ Land3 1 c 1 -∗ Tri (fun t => Pre 0 c t 2) -∗ Land3 0 c 2
          -∗ at' c cc0_stg4_0 (I.wq c) -∗ at' c cc0_stg9_0 f9
          -∗ (Last I K c (par c) -∗ Tri (fun t => Fly 1 c t 0) -∗ Tri (fun t => Fly 1 c t 1)
              -∗ Tri (fun t => srcP I 0 c t 0) -∗ Tri (fun t => srcP I 0 c t 1) -∗ Tri (fun t => Zero (F := F) 0 c t 0) -∗ Tri (fun t => Zero (F := F) 0 c t 1)
              -∗ at' c cc0_stg4_0 (I.wq c)
              -∗ at' c cc0_stg9_0 (putCol 2 (putCol 1 f9 (k0_pay7 (k0_pay2 (I.x c)) (colW 1 (I.wq c)))) (k0_pay8 (k0_pay2 (I.x c)) (colW 2 (I.wq c))))
              -∗ wp frame (wpE (defs₀ (F := F)) 𝒱₀ (c : Thread nD τ) none) Set.univ (kk ⟨⟩) Q)
          -∗ wp frame (wpE (defs₀ (F := F)) 𝒱₀ (c : Thread nD τ) none) Set.univ
              (k0_part40 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 c v2 v5 v8 v30 v40 v43 (k0_pay2 (I.x c)) v94 v0 >>= kk) Q) := by
  rw [k0_part40_eq_skeleton]; unfold k0_part40_skel
  iintro HO HF HP1 HL1 HP2 HL2 HP3 HL3 HP4 HL4 G4 G9 Hk
  have hc := conds c (par c) rfl
  rcases fin2 (par c) with hp | hp <;> rw [hp] at hc ⊢ <;> obtain ⟨-, -, h3, h4, h5, h6, h7, h8, h9, -, -, -⟩ := hc
  case' inl =>
    have h3 : k0_cond3 c = 1#1 := by rw [h3]
    have h4 : ¬ k0_cond4 c = 1#1 := by rw [h4]; decide
    have h5 : k0_cond5 c = 1#1 := by rw [h5]
    have h6 : ¬ k0_cond6 c = 1#1 := by rw [h6]; decide
    have h7 : k0_cond7 c = 1#1 := by rw [h7]
    have h8 : ¬ k0_cond8 c = 1#1 := by rw [h8]; decide
    have h9 : k0_cond9 c = 1#1 := by rw [h9]
    have e1 := (are10 c).get
    have e2 := (are16 c).get
    have e3 := (are22 c).get
    have e4 := (are28 c).get
    simp only [dif_pos h3, dif_neg h4, dif_pos h5, dif_neg h6, dif_pos h7, dif_neg h8, dif_pos h9, k0_part3_eq_skeleton, k0_part4_eq_skeleton,
      k0_part5_eq_skeleton, k0_part9_eq_skeleton, k0_part11_eq_skeleton, k0_part12_eq_skeleton, k0_part13_eq_skeleton, k0_part17_eq_skeleton]
    unfold k0_part3_skel k0_part4_skel k0_part5_skel k0_part9_skel k0_part11_skel k0_part12_skel k0_part13_skel k0_part17_skel
    simp only [Prog.lift, Prog.bind_op, Prog.bind_ret, Prog.pure_eq_ret]
  case' inr =>
    have h3 : ¬ k0_cond3 c = 1#1 := by rw [h3]; decide
    have h4 : k0_cond4 c = 1#1 := by rw [h4]
    have h5 : ¬ k0_cond5 c = 1#1 := by rw [h5]; decide
    have h6 : k0_cond6 c = 1#1 := by rw [h6]
    have h7 : ¬ k0_cond7 c = 1#1 := by rw [h7]; decide
    have h8 : k0_cond8 c = 1#1 := by rw [h8]
    have h9 : ¬ k0_cond9 c = 1#1 := by rw [h9]; decide
    have e1 := (are13 c).get
    have e2 := (are19 c).get
    have e3 := (are25 c).get
    simp only [dif_neg h3, dif_pos h4, dif_neg h5, dif_pos h6, dif_neg h7, dif_pos h8, dif_neg h9, k0_part6_eq_skeleton, k0_part7_eq_skeleton,
      k0_part8_eq_skeleton, k0_part10_eq_skeleton, k0_part14_eq_skeleton, k0_part15_eq_skeleton, k0_part16_eq_skeleton]
    unfold k0_part6_skel k0_part7_skel k0_part8_skel k0_part10_skel k0_part14_skel k0_part15_skel k0_part16_skel
    simp only [Prog.lift, Prog.bind_op, Prog.bind_ret, Prog.pure_eq_ret]
  all_goals
    iapply (wp_wait3 I K 0 0 c rfl rfl rfl rfl rfl rfl (by decide) (by rfl) (by rfl) (by rfl) (by rfl) (by rfl) (by rfl)) $$ HO HF
    iintro HO R0 D0 Z0
    ihave J := (landed_two3 I c 0) $$ D0
    icases J with ⟨S1, S2⟩
    ihave S2 := (show Tri (fun t => nextP I c t 0) ⊢ Tri (fun t => srcP I 0 c t 1) from BI.Entails.refl _) $$ S2
    iapply (wp_start3 I K 1 0 c (e1.1 _) (e1.2.1 _) (e1.2.2 _) hp rfl rfl rfl rfl rfl rfl rfl rfl rfl rfl rfl rfl) $$ HO HP1 HL1 S1
    iintro HO HF1
    iapply (wp_start3 I K 0 1 c (e2.1 _) (e2.2.1 _) (e2.2.2 _) hp rfl rfl rfl rfl rfl rfl rfl rfl rfl rfl rfl rfl) $$ HO HP2 HL2 S2
    iintro HO HF2
    iapply (wp_in4 c 1) $$ G4
    iintro G4
    iapply (wp_col9 c 1) $$ G9
    iintro G9
    iapply (wp_in4 c 2) $$ G4
    iintro G4
    iapply (wp_col9 c 2) $$ G9
    iintro G9
    iapply (wp_wait3 I K 0 1 c rfl rfl rfl rfl rfl rfl (by decide) (by rfl) (by rfl) (by rfl) (by rfl) (by rfl) (by rfl)) $$ HO HF2
    iintro HO R1 D1 Z1
    ihave J := (landed_two3 I c 1) $$ D1
    icases J with ⟨S3, S4⟩
    ihave S4 := (show Tri (fun t => nextP I c t 1) ⊢ Tri (fun t => srcP I 0 c t 2) from BI.Entails.refl _) $$ S4
    iapply (wp_start3 I K 1 1 c (e3.1 _) (e3.2.1 _) (e3.2.2 _) hp rfl rfl rfl rfl rfl rfl rfl rfl rfl rfl rfl rfl) $$ HO HP3 HL3 S3
    iintro HO HF3
  · iapply Hk $$ [HO HP4 HL4 S4] HF1 HF3 R0 R1 Z0 Z1 G4 G9
    simp only [Last, Hold]
    isplitl [HO]; · iexact HO
    isplitl [HP4]; · iexact HP4
    isplitl [HL4]; · iexact HL4
    iexact S4
  · iapply (wp_start3 I K 0 2 c (e4.1 _) (e4.2.1 _) (e4.2.2 _) hp rfl rfl rfl rfl rfl rfl rfl rfl rfl rfl rfl rfl) $$ HO HP4 HL4 S4
    iintro HO HF4
    iapply Hk $$ [HO HF4] HF1 HF3 R0 R1 Z0 Z1 G4 G9
    simp only [Last, Gone]
    isplitl [HO]; · iexact HO
    iexact HF4

end Part

end Cert.Gather.Talk

end
-- ==== Proof.Gather.Part41.lean ====
/- The last hop. -/
module

public import proofs.«01_k».proof.Proof.Gather.Part40

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-- The device's parity, as the program computes it. -/
def word (p : Fin 2) : BitVec 32 := match p with
  | 0 => 0#32
  | 1 => 1#32

section Part
variable (K : KN) (c : Dev nD)

/-- All copies started, those between partners still under way. -/
def Away : sProp 𝕄 :=
  iprop(owesA I K c [] ∗ Tri (fun t => Fly 1 c t 0) ∗ Tri (fun t => Fly 1 c t 1) ∗ Tri (fun t => Fly 1 c t 2))
/-- Those as well have been read and have landed. -/
def Home : sProp 𝕄 :=
  iprop(owesA I K c [] ∗ (Tri (fun t => srcP I 1 c t 0) ∗ Tri (fun t => dstP I 1 c t 0) ∗ Tri (fun t => Zero (F := F) 1 c t 0))
    ∗ (Tri (fun t => srcP I 1 c t 1) ∗ Tri (fun t => dstP I 1 c t 1) ∗ Tri (fun t => Zero (F := F) 1 c t 1))
    ∗ (Tri (fun t => srcP I 1 c t 2) ∗ Tri (fun t => dstP I 1 c t 2) ∗ Tri (fun t => Zero (F := F) 1 c t 2)))
def Swap (p : Fin 2) : sProp 𝕄 := match p with
  | 0 => Home I K c
  | 1 => Away I K c

set_option maxHeartbeats 1000000 in
/-- The last hop, and on devices of even `y` the last waits. -/
theorem wp_part41 {α : Type} {Q : α → sProp 𝕄} {kk : BitVec 32 → Prog (TpuEff nD τ sig (Elt F) Λ₀ .tc) α}
    (f9 : Vec F S1024x2048 .bf16) (f10 : Vec F S1024x512 .bf16) (f11 : Vec F S1024x32 .bf16) (v2 v5 v8 v30 v43 : BitVec 32) :
    Last I K c (par c)
      ⊢ iprop(Tri (fun t => Fly 1 c t 0) -∗ Tri (fun t => Fly 1 c t 1) -∗ Tri (fun t => Pre 1 c t 2) -∗ Land3 1 c 2
          -∗ at' c cc0_stg4_0 (I.wq c) -∗ at' c cc0_stg5_0 (I.wqr c) -∗ at' c cc0_stg6_0 (I.wkr c)
          -∗ at' c cc0_stg9_0 f9 -∗ at' c cc0_stg10_0 f10 -∗ at' c cc0_stg11_0 f11
          -∗ (Swap I K c (par c) -∗ Tri (fun t => srcP I 0 c t 2) -∗ Tri (fun t => nextP I c t 2) -∗ Tri (fun t => Zero (F := F) 0 c t 2)
              -∗ at' c cc0_stg4_0 (I.wq c) -∗ at' c cc0_stg5_0 (I.wqr c) -∗ at' c cc0_stg6_0 (I.wkr c)
              -∗ at' c cc0_stg9_0 (putCol 3 f9 (k0_pay9 (k0_pay2 (I.x c)) (colW 3 (I.wq c))))
              -∗ at' c cc0_stg10_0 (k0_pay10 (k0_pay2 (I.x c)) (I.wqr c)) -∗ at' c cc0_stg11_0 (k0_pay11 (k0_pay2 (I.x c)) (I.wkr c))
              -∗ wp frame (wpE (defs₀ (F := F)) 𝒱₀ (c : Thread nD τ) none) Set.univ (kk (Scalar.extui (Scalar.cmpi .eq (word (par c)) 1#32))) Q)
          -∗ wp frame (wpE (defs₀ (F := F)) 𝒱₀ (c : Thread nD τ) none) Set.univ
              (k0_part41 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 c v2 v5 v8 v30 (word (par c)) v43 (k0_pay2 (I.x c)) >>= kk) Q) := by
  rw [k0_part41_eq_skeleton]; unfold k0_part41_skel
  iintro HX HY0 HY1 HP HL G4 G5 G6 G9 G10 G11 Hk
  have hc := conds c (par c) rfl
  rcases fin2 (par c) with hp | hp <;> rw [hp] at hc ⊢ <;> obtain ⟨-, -, -, -, -, -, -, -, -, h10, h11, h12⟩ := hc
  · have h10 : ¬ k0_cond10 c = 1#1 := by rw [h10]; decide
    have h11 : k0_cond11 c = 1#1 := by rw [h11]
    have h12 : ¬ k0_cond12 c = 1#1 := by rw [h12]; decide
    have h13 : Scalar.cmpi .ne (Scalar.extui (Scalar.cmpi .eq (word 0) 0#32) : BitVec 32) 0#32 = 1#1 := by decide
    have e := (are34 c).get
    simp only [dif_neg h10, dif_pos h11, dif_neg h12, dif_pos h13, k0_part19_eq_skeleton, k0_part20_eq_skeleton, k0_part21_eq_skeleton, k0_part25_eq_skeleton, k0_part26_eq_skeleton, k0_part27_eq_skeleton, k0_part28_eq_skeleton, k0_part29_eq_skeleton, k0_part30_eq_skeleton]
    unfold k0_part19_skel k0_part20_skel k0_part21_skel k0_part25_skel k0_part26_skel k0_part27_skel k0_part28_skel k0_part29_skel k0_part30_skel
    simp only [Prog.lift, Prog.bind_op, Prog.bind_ret, Prog.pure_eq_ret]
    simp only [Last, Gone]
    icases HX with ⟨HO, HF⟩
    iapply (wp_in4 c 3) $$ G4
    iintro G4
    iapply (wp_col9 c 3) $$ G9
    iintro G9
    iapply (wp_in5 c) $$ G5
    iintro G5
    iapply (wp_out10 c) $$ G10
    iintro G10
    iapply (wp_in6 c) $$ G6
    iintro G6
    iapply (wp_out11 c) $$ G11
    iintro G11
    iapply (wp_wait3 I K 0 2 c rfl rfl rfl rfl rfl rfl (by decide) (by rfl) (by rfl) (by rfl) (by rfl) (by rfl) (by rfl)) $$ HO HF
    iintro HO R D Z
    ihave J := (landed_two3 I c 2) $$ D
    icases J with ⟨S, N⟩
    iapply (wp_start3 I K 1 2 c (e.1 _) (e.2.1 _) (e.2.2 _) hp rfl rfl rfl rfl rfl rfl rfl rfl rfl rfl rfl rfl) $$ HO HP HL S
    iintro HO HY2
    iapply (wp_wait33 I K 1 0 c rfl rfl rfl rfl rfl rfl (by decide) (by rfl) (by rfl) (by rfl) (by rfl) (by rfl) (by rfl)) $$ HO HY0
    iintro HO A0 B0 Z0
    iapply (wp_wait33 I K 1 1 c rfl rfl rfl rfl rfl rfl (by decide) (by rfl) (by rfl) (by rfl) (by rfl) (by rfl) (by rfl)) $$ HO HY1
    iintro HO A1 B1 Z1
    iapply (wp_wait33 I K 1 2 c rfl rfl rfl rfl rfl rfl (by decide) (by rfl) (by rfl) (by rfl) (by rfl) (by rfl) (by rfl)) $$ HO HY2
    iintro HO A2 B2 Z2
    iapply Hk $$ [HO A0 B0 Z0 A1 B1 Z1 A2 B2 Z2] R N Z G4 G5 G6 G9 G10 G11
    simp only [Swap, Home]
    isplitl [HO]; · iexact HO
    isplitl [A0 B0 Z0]
    · isplitl [A0]; · iexact A0
      isplitl [B0]; · iexact B0
      iexact Z0
    isplitl [A1 B1 Z1]
    · isplitl [A1]; · iexact A1
      isplitl [B1]; · iexact B1
      iexact Z1
    isplitl [A2]; · iexact A2
    isplitl [B2]; · iexact B2
    iexact Z2
  · have h10 : k0_cond10 c = 1#1 := by rw [h10]
    have h11 : ¬ k0_cond11 c = 1#1 := by rw [h11]; decide
    have h12 : k0_cond12 c = 1#1 := by rw [h12]
    have h13 : ¬ Scalar.cmpi .ne (Scalar.extui (Scalar.cmpi .eq (word 1) 0#32) : BitVec 32) 0#32 = 1#1 := by decide
    have e0 := (are31 c).get
    have e := (are37 c).get
    simp only [dif_pos h10, dif_neg h11, dif_pos h12, dif_neg h13, k0_part18_eq_skeleton, k0_part22_eq_skeleton, k0_part23_eq_skeleton, k0_part24_eq_skeleton]
    unfold k0_part18_skel k0_part22_skel k0_part23_skel k0_part24_skel
    simp only [Prog.lift, Prog.bind_op, Prog.bind_ret, Prog.pure_eq_ret]
    simp only [Last, Hold]
    icases HX with ⟨HO, HP0, HL0, HS0⟩
    iapply (wp_start3 I K 0 2 c (e0.1 _) (e0.2.1 _) (e0.2.2 _) hp rfl rfl rfl rfl rfl rfl rfl rfl rfl rfl rfl rfl) $$ HO HP0 HL0 HS0
    iintro HO HF
    iapply (wp_in4 c 3) $$ G4
    iintro G4
    iapply (wp_col9 c 3) $$ G9
    iintro G9
    iapply (wp_in5 c) $$ G5
    iintro G5
    iapply (wp_out10 c) $$ G10
    iintro G10
    iapply (wp_in6 c) $$ G6
    iintro G6
    iapply (wp_out11 c) $$ G11
    iintro G11
    iapply (wp_wait3 I K 0 2 c rfl rfl rfl rfl rfl rfl (by decide) (by rfl) (by rfl) (by rfl) (by rfl) (by rfl) (by rfl)) $$ HO HF
    iintro HO R D Z
    ihave J := (landed_two3 I c 2) $$ D
    icases J with ⟨S, N⟩
    iapply (wp_start3 I K 1 2 c (e.1 _) (e.2.1 _) (e.2.2 _) hp rfl rfl rfl rfl rfl rfl rfl rfl rfl rfl rfl rfl) $$ HO HP HL S
    iintro HO HY2
    iapply Hk $$ [HO HY0 HY1 HY2] R N Z G4 G5 G6 G9 G10 G11
    simp only [Swap, Away]
    isplitl [HO]; · iexact HO
    isplitl [HY0]; · iexact HY0
    isplitl [HY1]; · iexact HY1
    iexact HY2
end Part

end Cert.Gather.Talk

end
-- ==== Proof.Gather.Part42.lean ====
/- The gathered chunks, and the last products. -/
module

public import proofs.«01_k».proof.Proof.Gather.Part41

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## Slots, read -/

def slC (i : Fin 4) (f : Vec F S4x1024x128 .bf16) : Vec F S1x1024x128 .bf16 := fun j =>
  f (fun a => match a with | ⟨0, _⟩ => i | ⟨1, _⟩ => j 1 | ⟨2, _⟩ => j 2)
theorem slC_read (i : Fin 4) (inb : ∀ a, (![i.val, 0, 0] : Fin 3 → ℕ) a + S1x1024x128.size a ≤ S4x1024x128.size a) (f : Vec F S4x1024x128 .bf16) :
    (fun j : S1x1024x128.Idx => f ((Rect.unit (s := S4x1024x128) ![i.val, 0, 0] S1x1024x128.size inb).emb j)) = slC i f := by
  funext j
  show f _ = f _
  congr 1
  funext a
  match a with
  | ⟨0, _⟩ => exact Fin.ext (by have : (j 0).val < 1 := (j 0).isLt; show i.val + 1 * (j 0).val = i.val; omega)
  | ⟨1, _⟩ => exact Fin.ext (by show 0 + 1 * (j 1).val = (j 1).val; omega)
  | ⟨2, _⟩ => exact Fin.ext (by show 0 + 1 * (j 2).val = (j 2).val; omega)

def slU (i : Fin 4) (f : Vec F S4x128x2048 .bf16) : Vec F S1x128x2048 .bf16 := fun j =>
  f (fun a => match a with | ⟨0, _⟩ => i | ⟨1, _⟩ => j 1 | ⟨2, _⟩ => j 2)
theorem slU_read (i : Fin 4) (inb : ∀ a, (![i.val, 0, 0] : Fin 3 → ℕ) a + S1x128x2048.size a ≤ S4x128x2048.size a) (f : Vec F S4x128x2048 .bf16) :
    (fun j : S1x128x2048.Idx => f ((Rect.unit (s := S4x128x2048) ![i.val, 0, 0] S1x128x2048.size inb).emb j)) = slU i f := by
  funext j
  show f _ = f _
  congr 1
  funext a
  match a with
  | ⟨0, _⟩ => exact Fin.ext (by have : (j 0).val < 1 := (j 0).isLt; show i.val + 1 * (j 0).val = i.val; omega)
  | ⟨1, _⟩ => exact Fin.ext (by show 0 + 1 * (j 1).val = (j 1).val; omega)
  | ⟨2, _⟩ => exact Fin.ext (by show 0 + 1 * (j 2).val = (j 2).val; omega)

section Slots
variable {α : Type} (c : Dev nD)

theorem wp_slotC (i : Fin 4) {Q : α → sProp 𝕄} {inb hl} {k : Vec F S1x1024x128 .bf16 → Prog (TpuEff nD τ sig (Elt F) Λ₀ .tc) α} {f : Vec F S4x1024x128 .bf16} :
    at' c cc0_scratch0 f
      ⊢ iprop((at' c cc0_scratch0 f -∗ wp frame (wpE (defs₀ (F := F)) 𝒱₀ (c : Thread nD τ) none) Set.univ (k (slC i f)) Q)
          -∗ wp frame (wpE (defs₀ (F := F)) 𝒱₀ (c : Thread nD τ) none) Set.univ
              (.op (.load (Memref.whole cc0_scratch0) (Rect.unit (s := S4x1024x128) ![i.val, 0, 0] S1x1024x128.size inb).toLoadRect hl) k) Q) := by
  iintro H Hk
  iapply (wp_load 𝒱₀ (c : Thread nD τ) none Set.univ (m := Memref.whole cc0_scratch0) (Finset.subset_univ _)) $$ H
  iintro H
  rw [show (Memref.whole cc0_scratch0).view.readAt (Elt F) (Rect.unit (s := S4x1024x128) ![i.val, 0, 0] S1x1024x128.size inb).toLoadRect f = slC i f from slC_read i inb f]
  iapply Hk $$ H

theorem wp_slotK (i : Fin 4) {Q : α → sProp 𝕄} {inb hl} {k : Vec F S1x128x2048 .bf16 → Prog (TpuEff nD τ sig (Elt F) Λ₀ .tc) α} {f : Vec F S4x128x2048 .bf16} :
    at' c cc0_scratch1 f
      ⊢ iprop((at' c cc0_scratch1 f -∗ wp frame (wpE (defs₀ (F := F)) 𝒱₀ (c : Thread nD τ) none) Set.univ (k (slU i f)) Q)
          -∗ wp frame (wpE (defs₀ (F := F)) 𝒱₀ (c : Thread nD τ) none) Set.univ
              (.op (.load (Memref.whole cc0_scratch1) (Rect.unit (s := S4x128x2048) ![i.val, 0, 0] S1x128x2048.size inb).toLoadRect hl) k) Q) := by
  iintro H Hk
  iapply (wp_load 𝒱₀ (c : Thread nD τ) none Set.univ (m := Memref.whole cc0_scratch1) (Finset.subset_univ _)) $$ H
  iintro H
  rw [show (Memref.whole cc0_scratch1).view.readAt (Elt F) (Rect.unit (s := S4x128x2048) ![i.val, 0, 0] S1x128x2048.size inb).toLoadRect f = slU i f from slU_read i inb f]
  iapply Hk $$ H

theorem wp_slotV (i : Fin 4) {Q : α → sProp 𝕄} {inb hl} {k : Vec F S1x128x2048 .bf16 → Prog (TpuEff nD τ sig (Elt F) Λ₀ .tc) α} {f : Vec F S4x128x2048 .bf16} :
    at' c cc0_scratch2 f
      ⊢ iprop((at' c cc0_scratch2 f -∗ wp frame (wpE (defs₀ (F := F)) 𝒱₀ (c : Thread nD τ) none) Set.univ (k (slU i f)) Q)
          -∗ wp frame (wpE (defs₀ (F := F)) 𝒱₀ (c : Thread nD τ) none) Set.univ
              (.op (.load (Memref.whole cc0_scratch2) (Rect.unit (s := S4x128x2048) ![i.val, 0, 0] S1x128x2048.size inb).toLoadRect hl) k) Q) := by
  iintro H Hk
  iapply (wp_load 𝒱₀ (c : Thread nD τ) none Set.univ (m := Memref.whole cc0_scratch2) (Finset.subset_univ _)) $$ H
  iintro H
  rw [show (Memref.whole cc0_scratch2).view.readAt (Elt F) (Rect.unit (s := S4x128x2048) ![i.val, 0, 0] S1x128x2048.size inb).toLoadRect f = slU i f from slU_read i inb f]
  iapply Hk $$ H
end Slots

section Part
variable (K : KN) (c : Dev nD)

/-- The latent, the two up-projections: four chunks each, as put together for the last products. -/
def cAll : FVec F S1024x512 .bf16 := k0_pay12 (slC 0 (fullC I c)) (slC 1 (fullC I c)) (slC 2 (fullC I c)) (slC 3 (fullC I c))
def kAll : FVec F S512x2048 .bf16 := k0_pay13 (slU 0 (fullK I c)) (slU 1 (fullK I c)) (slU 2 (fullK I c)) (slU 3 (fullK I c))
def v0 : FVec F S128x2048 .bf16 := k0_pay14 (slU 0 (fullV I c))
def v1 : FVec F S128x2048 .bf16 := k0_pay15 (slU 1 (fullV I c))
def v2 : FVec F S128x2048 .bf16 := k0_pay16 (slU 2 (fullV I c))
def v3 : Vec F S1x128x2048 .bf16 := slU 3 (fullV I c)

/-- Everything read or landed makes up the scratch buffers again. -/
theorem parted :
    iprop((Tri (fun t => keep I c t) ∗ Tri (fun t => srcP I 0 c t 0)) ∗ (Tri (fun t => srcP I 1 c t 0) ∗ Tri (fun t => srcP I 0 c t 1) ∗ Tri (fun t => dstP I 1 c t 0))
        ∗ (Tri (fun t => srcP I 1 c t 1) ∗ Tri (fun t => srcP I 0 c t 2) ∗ Tri (fun t => dstP I 1 c t 1))
        ∗ (Tri (fun t => srcP I 1 c t 2) ∗ Tri (fun t => nextP I c t 2) ∗ Tri (fun t => dstP I 1 c t 2)))
      ⊢ iprop(parts I c 0 ∗ parts I c 1 ∗ parts I c 2) := by
  unfold Tri parts keep
  iintro ⟨⟨⟨⟨A0, B0⟩, ⟨A1, B1⟩, A2, B2⟩, C0, C1, C2⟩, ⟨⟨D0, D1, D2⟩, ⟨E0, E1, E2⟩, F0, F1, F2⟩, ⟨⟨G0, G1, G2⟩, ⟨H0, H1, H2⟩, J0, J1, J2⟩, ⟨M0, M1, M2⟩, ⟨N0, N1, N2⟩, P0, P1, P2⟩
  isplitl [A0 B0 C0 D0 E0 F0 G0 H0 J0 M0 N0 P0]
  · isplitl [A0 C0 B0]
    · isplitl [A0]; · iexact A0
      isplitl [C0]; · iexact C0
      iexact B0
    isplitl [D0 E0 F0]
    · isplitl [D0]; · iexact D0
      isplitl [E0]; · iexact E0
      iexact F0
    isplitl [G0 H0 J0]
    · isplitl [G0]; · iexact G0
      isplitl [H0]; · iexact H0
      iexact J0
    isplitl [M0]; · iexact M0
    isplitl [N0]; · iexact N0
    iexact P0
  isplitl [A1 B1 C1 D1 E1 F1 G1 H1 J1 M1 N1 P1]
  · isplitl [A1 C1 B1]
    · isplitl [A1]; · iexact A1
      isplitl [C1]; · iexact C1
      iexact B1
    isplitl [D1 E1 F1]
    · isplitl [D1]; · iexact D1
      isplitl [E1]; · iexact E1
      iexact F1
    isplitl [G1 H1 J1]
    · isplitl [G1]; · iexact G1
      isplitl [H1]; · iexact H1
      iexact J1
    isplitl [M1]; · iexact M1
    isplitl [N1]; · iexact N1
    iexact P1
  · isplitl [A2 C2 B2]
    · isplitl [A2]; · iexact A2
      isplitl [C2]; · iexact C2
      iexact B2
    isplitl [D2 E2 F2]
    · isplitl [D2]; · iexact D2
      isplitl [E2]; · iexact E2
      iexact F2
    isplitl [G2 H2 J2]
    · isplitl [G2]; · iexact G2
      isplitl [H2]; · iexact H2
      iexact J2
    isplitl [M2]; · iexact M2
    isplitl [N2]; · iexact N2
    iexact P2

theorem gathered :
    iprop((Tri (fun t => keep I c t) ∗ Tri (fun t => srcP I 0 c t 0)) ∗ (Tri (fun t => srcP I 1 c t 0) ∗ Tri (fun t => srcP I 0 c t 1) ∗ Tri (fun t => dstP I 1 c t 0))
        ∗ (Tri (fun t => srcP I 1 c t 1) ∗ Tri (fun t => srcP I 0 c t 2) ∗ Tri (fun t => dstP I 1 c t 1))
        ∗ (Tri (fun t => srcP I 1 c t 2) ∗ Tri (fun t => nextP I c t 2) ∗ Tri (fun t => dstP I 1 c t 2)))
      ⊢ iprop(at' c cc0_scratch0 (fullC I c) ∗ at' c cc0_scratch1 (fullK I c) ∗ at' c cc0_scratch2 (fullV I c)) :=
  (parted I c).trans (BI.sep_mono (joinC I c) (BI.sep_mono (joinK I c) (joinV I c)))

set_option maxHeartbeats 1000000 in
/-- On devices of odd `y` the last waits; then the gathered chunks are read. -/
theorem wp_part42 {α : Type} {Q : α → sProp 𝕄} {kk : (Σ' (v162 : FVec F S1024x512 .bf16) (v171 : FVec F S512x2048 .bf16) (v173 : FVec F S128x2048 .bf16) (v175 : FVec F S128x2048 .bf16), FVec F S128x2048 .bf16) → Prog (TpuEff nD τ sig (Elt F) Λ₀ .tc) α}
    (w2 w8 w43 : BitVec 32) :
    Swap I K c (par c)
      ⊢ iprop(Tri (fun t => keep I c t) -∗ Tri (fun t => srcP I 0 c t 0) -∗ Tri (fun t => srcP I 0 c t 1) -∗ Tri (fun t => srcP I 0 c t 2) -∗ Tri (fun t => nextP I c t 2)
          -∗ (owesA I K c [] -∗ Tri (fun t => Zero (F := F) 1 c t 0) -∗ Tri (fun t => Zero (F := F) 1 c t 1) -∗ Tri (fun t => Zero (F := F) 1 c t 2)
              -∗ at' c cc0_scratch0 (fullC I c) -∗ at' c cc0_scratch1 (fullK I c) -∗ at' c cc0_scratch2 (fullV I c)
              -∗ wp frame (wpE (defs₀ (F := F)) 𝒱₀ (c : Thread nD τ) none) Set.univ (kk ⟨cAll I c, kAll I c, v0 I c, v1 I c, v2 I c⟩) Q)
          -∗ wp frame (wpE (defs₀ (F := F)) 𝒱₀ (c : Thread nD τ) none) Set.univ
              (k0_part42 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 w2 w8 w43 (Scalar.extui (Scalar.cmpi .eq (word (par c)) 1#32)) >>= kk) Q) := by
  rw [k0_part42_eq_skeleton]; unfold k0_part42_skel
  iintro HX KP R0 R1 R2 N Hk
  rcases fin2 (par c) with hp | hp <;> rw [hp]
  case' inl =>
    have h14 : ¬ Scalar.cmpi .ne (Scalar.extui (Scalar.cmpi .eq (word 0) 1#32) : BitVec 32) 0#32 = 1#1 := by decide
    simp only [dif_neg h14]
    simp only [Prog.lift, Prog.bind_op, Prog.bind_ret, Prog.pure_eq_ret]
    simp only [Swap, Home]
    icases HX with ⟨HO, ⟨A0, B0, Z0⟩, ⟨A1, B1, Z1⟩, A2, B2, Z2⟩
  case' inr =>
    have h14 : Scalar.cmpi .ne (Scalar.extui (Scalar.cmpi .eq (word 1) 1#32) : BitVec 32) 0#32 = 1#1 := by decide
    simp only [dif_pos h14, k0_part31_eq_skeleton, k0_part32_eq_skeleton, k0_part33_eq_skeleton, k0_part34_eq_skeleton, k0_part35_eq_skeleton, k0_part36_eq_skeleton]
    unfold k0_part31_skel k0_part32_skel k0_part33_skel k0_part34_skel k0_part35_skel k0_part36_skel
    simp only [Prog.lift, Prog.bind_op, Prog.bind_ret, Prog.pure_eq_ret]
    simp only [Swap, Away]
    icases HX with ⟨HO, HY0, HY1, HY2⟩
    iapply (wp_wait33 I K 1 0 c rfl rfl rfl rfl rfl rfl (by decide) (by rfl) (by rfl) (by rfl) (by rfl) (by rfl) (by rfl)) $$ HO HY0
    iintro HO A0 B0 Z0
    iapply (wp_wait33 I K 1 1 c rfl rfl rfl rfl rfl rfl (by decide) (by rfl) (by rfl) (by rfl) (by rfl) (by rfl) (by rfl)) $$ HO HY1
    iintro HO A1 B1 Z1
    iapply (wp_wait33 I K 1 2 c rfl rfl rfl rfl rfl rfl (by decide) (by rfl) (by rfl) (by rfl) (by rfl) (by rfl) (by rfl)) $$ HO HY2
    iintro HO A2 B2 Z2
  all_goals
    ihave HG := (gathered I c) $$ [KP R0 A0 R1 B0 A1 R2 B1 A2 N B2]
    · isplitl [KP R0]
      · isplitl [KP]; · iexact KP
        iexact R0
      isplitl [A0 R1 B0]
      · isplitl [A0]; · iexact A0
        isplitl [R1]; · iexact R1
        iexact B0
      isplitl [A1 R2 B1]
      · isplitl [A1]; · iexact A1
        isplitl [R2]; · iexact R2
        iexact B1
      isplitl [A2]; · iexact A2
      isplitl [N]; · iexact N
      iexact B2
    icases HG with ⟨SC, SK, SV⟩
    iapply (wp_slotC c 0) $$ SC; iintro SC
    iapply (wp_slotC c 1) $$ SC; iintro SC
    iapply (wp_slotC c 2) $$ SC; iintro SC
    iapply (wp_slotC c 3) $$ SC; iintro SC
    iapply (wp_slotK c 0) $$ SK; iintro SK
    iapply (wp_slotK c 1) $$ SK; iintro SK
    iapply (wp_slotK c 2) $$ SK; iintro SK
    iapply (wp_slotK c 3) $$ SK; iintro SK
    iapply (wp_slotV c 0) $$ SV; iintro SV
    iapply (wp_slotV c 1) $$ SV; iintro SV
    iapply (wp_slotV c 2) $$ SV; iintro SV
    iapply Hk $$ HO Z0 Z1 Z2 SC SK SV

def kW (i : Fin 4) : Vec F S1024x512 .bf16 := match i with
  | 0 => k0_pay18 (cAll I c) (kAll I c)
  | 1 => k0_pay20 (cAll I c) (kAll I c)
  | 2 => k0_pay22 (cAll I c) (kAll I c)
  | 3 => k0_pay24 (cAll I c) (kAll I c)
def vW (i : Fin 4) : Vec F S1024x512 .bf16 := match i with
  | 0 => k0_pay19 (cAll I c) (v0 I c) (v1 I c) (v2 I c) (v3 I c)
  | 1 => k0_pay21 (cAll I c) (v0 I c) (v1 I c) (v2 I c) (v3 I c)
  | 2 => k0_pay23 (cAll I c) (v0 I c) (v1 I c) (v2 I c) (v3 I c)
  | 3 => k0_pay1 (cAll I c) (k0_pay17 (v0 I c) (v1 I c) (v2 I c) (v3 I c))

/-- The last products, but for the last block of columns. -/
theorem wp_part43 {α : Type} {Q : α → sProp 𝕄} {kk : (Σ' (v180 : FVec F S512x2048 .bf16), FVec F S1024x512 .bf16) → Prog (TpuEff nD τ sig (Elt F) Λ₀ .tc) α}
    (f7 f8 : Vec F S1024x2048 .bf16) :
    at' c cc0_scratch2 (fullV I c)
      ⊢ iprop(at' c cc0_stg7_0 f7 -∗ at' c cc0_stg8_0 f8
          -∗ (at' c cc0_scratch2 (fullV I c) -∗ at' c cc0_stg7_0 (putCol 2 (putCol 1 (putCol 0 f7 (kW I c 0)) (kW I c 1)) (kW I c 2))
              -∗ at' c cc0_stg8_0 (putCol 2 (putCol 1 (putCol 0 f8 (vW I c 0)) (vW I c 1)) (vW I c 2))
              -∗ wp frame (wpE (defs₀ (F := F)) 𝒱₀ (c : Thread nD τ) none) Set.univ (kk ⟨k0_pay17 (v0 I c) (v1 I c) (v2 I c) (v3 I c), kW I c 3⟩) Q)
          -∗ wp frame (wpE (defs₀ (F := F)) 𝒱₀ (c : Thread nD τ) none) Set.univ
              (k0_part43 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 (cAll I c) (kAll I c) (v0 I c) (v1 I c) (v2 I c) >>= kk) Q) := by
  rw [k0_part43_eq_skeleton]; unfold k0_part43_skel
  simp only [Prog.lift, Prog.bind_op, Prog.bind_ret, Prog.pure_eq_ret]
  simp only [kW, vW, v3]
  iintro SV G7 G8 Hk
  iapply (wp_slotV c 3) $$ SV; iintro SV
  iapply (wp_col7 c 0) $$ G7; iintro G7
  iapply (wp_col8 c 0) $$ G8; iintro G8
  iapply (wp_col7 c 1) $$ G7; iintro G7
  iapply (wp_col8 c 1) $$ G8; iintro G8
  iapply (wp_col7 c 2) $$ G7; iintro G7
  iapply (wp_col8 c 2) $$ G8; iintro G8
  iapply Hk $$ SV G7 G8

end Part

end Cert.Gather.Talk

end
-- ==== Proof.Gather.Part38.lean ====
/- The barrier. -/
module

public import proofs.«01_k».proof.Proof.Gather.Part42

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## What a device's barrier signals hand over -/

/-- That the copies' cells on `c` are open. -/
def marks (c : Dev nD) : sProp 𝕄 := bigSep Finset.univ fun x : XC => reached ER (xCell c x) 0
instance marks_persistent (c : Dev nD) : BI.Persistent (marks (F := F) c) := by unfold marks; infer_instance

theorem lands_intro (k : Fin 2) (c d : Dev nD) (hd : peer k d = c) :
    iprop(marks (F := F) c ∗ lands k c 0 ∗ lands k c 1 ∗ lands k c 2) ⊢ Lands k d := by
  subst hd
  unfold Lands Land3 Land lands dstE marks
  iintro ⟨#HM, ⟨A0, A1, A2⟩, ⟨B0, B1, B2⟩, C0, C1, C2⟩
  isplitl [A0 B0 C0]
  · isplitl [A0]
    · isplitl [A0]; · iexact A0
      iapply (elimP (Φ := fun x : XC => (reached ER (xCell (peer k d) x) 0 : sProp 𝕄)) (1, k, 0, 0)); iexact HM
    isplitl [B0]
    · isplitl [B0]; · iexact B0
      iapply (elimP (Φ := fun x : XC => (reached ER (xCell (peer k d) x) 0 : sProp 𝕄)) (1, k, 1, 0)); iexact HM
    isplitl [C0]; · iexact C0
    iapply (elimP (Φ := fun x : XC => (reached ER (xCell (peer k d) x) 0 : sProp 𝕄)) (1, k, 2, 0)); iexact HM
  isplitl [A1 B1 C1]
  · isplitl [A1]
    · isplitl [A1]; · iexact A1
      iapply (elimP (Φ := fun x : XC => (reached ER (xCell (peer k d) x) 0 : sProp 𝕄)) (1, k, 0, 1)); iexact HM
    isplitl [B1]
    · isplitl [B1]; · iexact B1
      iapply (elimP (Φ := fun x : XC => (reached ER (xCell (peer k d) x) 0 : sProp 𝕄)) (1, k, 1, 1)); iexact HM
    isplitl [C1]; · iexact C1
    iapply (elimP (Φ := fun x : XC => (reached ER (xCell (peer k d) x) 0 : sProp 𝕄)) (1, k, 2, 1)); iexact HM
  isplitl [A2]
  · isplitl [A2]; · iexact A2
    iapply (elimP (Φ := fun x : XC => (reached ER (xCell (peer k d) x) 0 : sProp 𝕄)) (1, k, 0, 2)); iexact HM
  isplitl [B2]
  · isplitl [B2]; · iexact B2
    iapply (elimP (Φ := fun x : XC => (reached ER (xCell (peer k d) x) 0 : sProp 𝕄)) (1, k, 1, 2)); iexact HM
  isplitl [C2]; · iexact C2
  iapply (elimP (Φ := fun x : XC => (reached ER (xCell (peer k d) x) 0 : sProp 𝕄)) (1, k, 2, 2)); iexact HM

theorem dev1_eq (c : Dev nD) : (⟨k0_dev1 c, k0_dev1_lt c⟩ : Dev nD) = lf c := Fin.ext (by revert c; decide +kernel)
theorem dev2_eq (c : Dev nD) : (⟨k0_dev2 c, k0_dev2_lt c⟩ : Dev nD) = rt c := Fin.ext (by revert c; decide +kernel)
theorem dev3_eq (c : Dev nD) : (⟨k0_dev3 c, k0_dev3_lt c⟩ : Dev nD) = pt c := Fin.ext (by revert c; decide +kernel)

/-- A device's parity, from its logical id. -/
theorem par_word (c : Dev nD) :
    (Scalar.select (Scalar.andi (Scalar.xori (Scalar.cmpi .slt (Scalar.remsi (Scalar.remsi (Scalar.divsi (Dev.word c) 4#32) 4#32) (Scalar.select (Scalar.cmpi .eq 2#32 0#32) 1#32 2#32)) 0#32) (Scalar.cmpi .slt (Scalar.select (Scalar.cmpi .eq 2#32 0#32) 1#32 2#32) 0#32))
        (Scalar.cmpi .ne (Scalar.remsi (Scalar.remsi (Scalar.divsi (Dev.word c) 4#32) 4#32) (Scalar.select (Scalar.cmpi .eq 2#32 0#32) 1#32 2#32)) 0#32))
      (Scalar.addi (Scalar.remsi (Scalar.remsi (Scalar.divsi (Dev.word c) 4#32) 4#32) (Scalar.select (Scalar.cmpi .eq 2#32 0#32) 1#32 2#32)) (Scalar.select (Scalar.cmpi .eq 2#32 0#32) 1#32 2#32))
      (Scalar.remsi (Scalar.remsi (Scalar.divsi (Dev.word c) 4#32) 4#32) (Scalar.select (Scalar.cmpi .eq 2#32 0#32) 1#32 2#32)) : BitVec 32) = word (par c) := by
  revert c; decide +kernel

section Part
variable (K : KN) (c : Dev nD)

/-- The barrier: the three signals hand over the landing regions, the wait brings the neighbours'. -/
theorem wp_part38 {α : Type} {Q : α → sProp 𝕄} {kk : (Σ' (v40 : BitVec 32) (v43 : BitVec 32) (v64 : FVec F S1024x2048 .bf16), Vec F S2048x128 .bf16) → Prog (TpuEff nD τ sig (Elt F) Λ₀ .tc) α}
    {v32 v33 : BitVec 32} {v34 : BitVec 1}
    (hw : Scalar.select (Scalar.andi (Scalar.xori (Scalar.cmpi .slt v33 0#32) (Scalar.cmpi .slt v32 0#32)) v34) (Scalar.addi v33 v32) v33 = word (par c))
    (v2 v5 v8 v19 v30 : BitVec 32) (W : Waits sig Unit) :
    iprop(records I K ∗ levAts L lv ∗ owes (c : Thread nD τ) (O₀ c) W ∗ marks c
        ∗ dutyTok ER (barCell (lf c)) 0 0 ∗ dutyTok ER (barCell (rt c)) 0 1 ∗ dutyTok ER (barCell (pt c)) 0 2
        ∗ atPos ER (barCell c) 0 ∅ 0 ∗ cred (tallyAt (barCell c) () 3))
      ⊢ iprop((lands 0 c 0 ∗ lands 0 c 1 ∗ lands 0 c 2) -∗ (lands 1 c 0 ∗ lands 1 c 1 ∗ lands 1 c 2)
          -∗ at' c cc0_stg0_0 (I.x c) -∗ at' c cc0_stg1_0 (I.wd c)
          -∗ (∀ v43, owesA I K c order -∗ Lands 0 c -∗ Lands 1 c -∗ semVal (barCell c) 0 -∗ at' c cc0_stg0_0 (I.x c) -∗ at' c cc0_stg1_0 (I.wd c)
              -∗ wp frame (wpE (defs₀ (F := F)) 𝒱₀ (c : Thread nD τ) none) Set.univ (kk ⟨word (par c), v43, k0_pay2 (I.x c), I.wd c⟩) Q)
          -∗ wp frame (wpE (defs₀ (F := F)) 𝒱₀ (c : Thread nD τ) none) Set.univ
              (k0_part38 (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6 c v2 v5 v8 v19 v30 v32 v33 v34 >>= kk) Q) := by
  rw [k0_part38_eq_skeleton]; unfold k0_part38_skel
  simp only [semSignalWord, semWaitWord, Prog.lift, Prog.bind_op, Prog.bind_ret, Prog.pure_eq_ret]
  iintro ⟨#HI, #Hlev, HO, #HM, T0, T1, T2, HaB, HcB⟩ L0 L1 G0 G1 Hk
  rw [dev1_eq c, dev2_eq c, dev3_eq c]
  unfold O₀
  iapply (Rounds.wp_signal 𝒱₀ ER (copyRd I) (c : Thread nD τ) none (dst := (lf c : Thread nD τ)) (κ := K.1 (lf c))
      (d := 0) (by rw [duties_bar]; exact Finset.mem_univ _) ((amount_bar I (lf c) 0).trans (by decide)) () (owedL c order + tallyAt (barCell (pt c)) () 1 + tallyAt (barCell (rt c)) () 1) rfl)
    $$ [HO T0 L0]
  · ihave #HB := (rec_bar I K (lf c)) $$ HI
    icases HB with ⟨#HB1, #HB2⟩
    isplitr; · iexact HB1
    isplitl [HO]; · iexact HO
    isplitl [T0]; · iexact T0
    isplitl [L0]
    · rw [payload_bar_right]
      iapply (lands_intro 0 c (lf c) (peer_from 0 c))
      isplitr; · iexact HM
      iexact L0
    iexact HB2
  iintro HO

  iapply (Rounds.wp_signal 𝒱₀ ER (copyRd I) (c : Thread nD τ) none (dst := (rt c : Thread nD τ)) (κ := K.1 (rt c))
      (d := 1) (by rw [duties_bar]; exact Finset.mem_univ _) ((amount_bar I (rt c) 1).trans (by decide)) () (owedL c order + tallyAt (barCell (pt c)) () 1) rfl)
    $$ [HO T1]
  · ihave #HB := (rec_bar I K (rt c)) $$ HI
    icases HB with ⟨#HB1, #HB2⟩
    isplitr; · iexact HB1
    isplitl [HO]; · iexact HO
    isplitl [T1]; · iexact T1
    isplitr; · rw [payload_bar_left]; iempintro
    iexact HB2
  iintro HO

  iapply (Rounds.wp_signal 𝒱₀ ER (copyRd I) (c : Thread nD τ) none (dst := (pt c : Thread nD τ)) (κ := K.1 (pt c))
      (d := 2) (by rw [duties_bar]; exact Finset.mem_univ _) ((amount_bar I (pt c) 2).trans (by decide)) () (owedL c order) rfl)
    $$ [HO T2 L1]
  · ihave #HB := (rec_bar I K (pt c)) $$ HI
    icases HB with ⟨#HB1, #HB2⟩
    isplitr; · iexact HB1
    isplitl [HO]; · iexact HO
    isplitl [T2]; · iexact T2
    isplitl [L1]
    · rw [payload_bar_partner]
      iapply (lands_intro 1 c (pt c) (peer_from 1 c))
      isplitr; · iexact HM
      iexact L1
    iexact HB2
  iintro HO

  ihave #HB := (rec_bar I K c) $$ HI
  icases HB with ⟨#HB1, #HB2⟩
  iapply (Rounds.wp_wait_rest_token 𝒱₀ ER (copyRd I) (c : Thread nD τ) none (κ := K.1 c)
      (wpE_semWait_eq 𝒱₀ (c : Thread nD τ) none Set.univ) (Set.mem_univ _) () (O := owedL c order) (W := W) (R := 0) (m := 0) (T := ∅)
      (by rw [expect_bar]; decide)) $$ [HcB HO HaB]
  · isplitr; · iexact HB1
    isplitl [HcB]; · iexact HcB
    isplitl [HO]; · iexact HO
    isplitr; · iapply (mayWait (F := F) c (.reg barS) 1 order (le_of_eq (lv_bar c)) (by decide)); iexact Hlev
    iexact HaB
  iintro ⟨HO, HaB, -, Hpay⟩
  ihave Hp := (ent_of_eq (rest_bar I c)) $$ Hpay
  icases Hp with ⟨HL0, -, HL1⟩
  imod (Rounds.cell_close ER (copyRd I) (Set.mem_univ (K.1 c)) (fun h => h) (R := 0 + 1) (duties_later I (barCell c))) $$ [HaB] with HzB
  · isplitr; · iexact HB1
    iexact HaB
  iapply (wp_in0 c) $$ G0; iintro G0
  iapply (wp_in1 c) $$ G1; iintro G1
  rw [hw]
  iapply Hk $$ [HO] HL0 HL1 HzB G0 G1
  unfold owesA
  isplitr; · iexact HI
  isplitr; · iexact Hlev
  iexists _; iexact HO

end Part

end Cert.Gather.Talk

end
-- ==== Proof.Gather.Body.lean ====
/- The whole body on one device. -/
module

public import proofs.«01_k».proof.Proof.Gather.Part38

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

section Body
variable (K : KN) (c : Dev nD)

/-! ## The results -/

def qW (i : Fin 4) : Vec F S1024x512 .bf16 := match i with
  | 0 => k0_pay6 (k0_pay2 (I.x c)) (colW 0 (I.wq c))
  | 1 => k0_pay7 (k0_pay2 (I.x c)) (colW 1 (I.wq c))
  | 2 => k0_pay8 (k0_pay2 (I.x c)) (colW 2 (I.wq c))
  | 3 => k0_pay9 (k0_pay2 (I.x c)) (colW 3 (I.wq c))
/-- The keys, the values, the queries, and the parts of the queries and of the keys that are rotated. -/
def kOut : Vec F S1024x2048 .bf16 := colBlk (kW I c)
def vOut : Vec F S1024x2048 .bf16 := colBlk (vW I c)
def qOut : Vec F S1024x2048 .bf16 := colBlk (qW I c)
def qrOut : Vec F S1024x512 .bf16 := k0_pay10 (k0_pay2 (I.x c)) (I.wqr c)
def krOut : Vec F S1024x32 .bf16 := k0_pay11 (k0_pay2 (I.x c)) (I.wkr c)

theorem kOut_eq (f : Vec F S1024x2048 .bf16) : putCol 3 (putCol 2 (putCol 1 (putCol 0 f (kW I c 0)) (kW I c 1)) (kW I c 2)) (kW I c 3) = kOut I c := putCol_all f (kW I c)
theorem vOut_eq (f : Vec F S1024x2048 .bf16) :
    putCol 3 (putCol 2 (putCol 1 (putCol 0 f (vW I c 0)) (vW I c 1)) (vW I c 2)) (k0_pay1 (cAll I c) (k0_pay17 (v0 I c) (v1 I c) (v2 I c) (v3 I c))) = vOut I c := putCol_all f (vW I c)
theorem qOut_eq (f : Vec F S1024x2048 .bf16) :
    putCol 3 (putCol 2 (putCol 1 (putCol 0 f (k0_pay6 (k0_pay2 (I.x c)) (colW 0 (I.wq c)))) (k0_pay7 (k0_pay2 (I.x c)) (colW 1 (I.wq c)))) (k0_pay8 (k0_pay2 (I.x c)) (colW 2 (I.wq c))))
      (k0_pay9 (k0_pay2 (I.x c)) (colW 3 (I.wq c))) = qOut I c := putCol_all f (qW I c)

/-! ## The body -/

/-- A device's share of the handshake's tokens. -/
def ready : sProp 𝕄 :=
  iprop((marks c ∗ dutyTok ER (barCell (lf c)) 0 0 ∗ dutyTok ER (barCell (rt c)) 0 1 ∗ dutyTok ER (barCell (pt c)) 0 2
      ∗ atPos ER (barCell c) 0 ∅ 0 ∗ cred (tallyAt (barCell c) () 3))
    ∗ (Tri (fun t => Pre 0 c t 0) ∗ Tri (fun t => Pre 0 c t 1) ∗ Tri (fun t => Pre 0 c t 2))
    ∗ Tri (fun t => Pre 1 c t 0) ∗ Tri (fun t => Pre 1 c t 1) ∗ Tri (fun t => Pre 1 c t 2))
/-- All the device's semaphores at zero. -/
def done : sProp 𝕄 :=
  iprop(semVal (barCell c) 0 ∗ (Tri (fun t => Zero 0 c t 0) ∗ Tri (fun t => Zero 0 c t 1) ∗ Tri (fun t => Zero 0 c t 2))
    ∗ Tri (fun t => Zero 1 c t 0) ∗ Tri (fun t => Zero 1 c t 1) ∗ Tri (fun t => Zero 1 c t 2))
/-- The inputs' staging buffers. -/
def inputs : sProp 𝕄 :=
  iprop(at' c cc0_stg0_0 (I.x c) ∗ at' c cc0_stg1_0 (I.wd c) ∗ at' c cc0_stg2_0 (I.wk c) ∗ at' c cc0_stg3_0 (I.wv c) ∗ at' c cc0_stg4_0 (I.wq c) ∗ at' c cc0_stg5_0 (I.wqr c) ∗ at' c cc0_stg6_0 (I.wkr c))

set_option maxHeartbeats 2000000 in
theorem wp_body {Q : PUnit → sProp 𝕄} (W : Waits sig Unit) (f0 : Vec F S4x1024x128 .bf16) (f1 f2 : Vec F S4x128x2048 .bf16)
    (f7 f8 f9 : Vec F S1024x2048 .bf16) (f10 : Vec F S1024x512 .bf16) (f11 : Vec F S1024x32 .bf16) :
    iprop(records I K ∗ levAts L lv ∗ owes (c : Thread nD τ) (O₀ c) W)
      ⊢ iprop(ready c -∗ inputs I c -∗ (at' c cc0_stg7_0 f7 ∗ at' c cc0_stg8_0 f8 ∗ at' c cc0_stg9_0 f9 ∗ at' c cc0_stg10_0 f10 ∗ at' c cc0_stg11_0 f11)
          -∗ (at' c cc0_scratch0 f0 ∗ at' c cc0_scratch1 f1 ∗ at' c cc0_scratch2 f2)
          -∗ (owesA I K c [] -∗ done c -∗ inputs I c
              -∗ (at' c cc0_stg7_0 (kOut I c) ∗ at' c cc0_stg8_0 (vOut I c) ∗ at' c cc0_stg9_0 (qOut I c) ∗ at' c cc0_stg10_0 (qrOut I c) ∗ at' c cc0_stg11_0 (krOut I c))
              -∗ (at' c cc0_scratch0 (fullC I c) ∗ at' c cc0_scratch1 (fullK I c) ∗ at' c cc0_scratch2 (fullV I c)) -∗ Q ⟨⟩)
          -∗ wp frame (wpE (defs₀ (F := F)) 𝒱₀ (c : Thread nD τ) none) Set.univ
              (cc0_body (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6) Q) := by
  rw [cc0_body_eq_skeleton]; unfold cc0_body_skel
  rw [k0_part37_eq_skeleton]; unfold k0_part37_skel
  simp only [Prog.lift, Prog.bind_op, Prog.bind_ret, Prog.pure_eq_ret, wp_deviceId]
  unfold ready inputs
  iintro ⟨#HI, #Hlev, HO⟩ ⟨⟨#HM, T0, T1, T2, HaB, HcB⟩, ⟨P00, P01, P02⟩, P10, P11, P12⟩ ⟨G0, G1, G2, G3, G4, G5, G6⟩ ⟨G7, G8, G9, G10, G11⟩ ⟨S0, S1, S2⟩ Hk
  ihave X0 := (takeC c f0) $$ S0
  icases X0 with ⟨O0, A0, B0⟩
  ihave X1 := (takeK c f1) $$ S1
  icases X1 with ⟨O1, A1, B1⟩
  ihave X2 := (takeV c f2) $$ S2
  icases X2 with ⟨O2, A2, B2⟩
  iapply (wp_part38 I K c (par_word c) _ _ _ _ _ W) $$ [HO T0 T1 T2 HaB HcB] [A0 A1 A2] [B0 B1 B2] G0 G1
  · isplitr; · iexact HI
    isplitr; · iexact Hlev
    isplitl [HO]; · iexact HO
    isplitr; · iexact HM
    isplitl [T0]; · iexact T0
    isplitl [T1]; · iexact T1
    isplitl [T2]; · iexact T2
    isplitl [HaB]; · iexact HaB
    iexact HcB
  · isplitl [A0]; · iexact A0
    isplitl [A1]; · iexact A1
    iexact A2
  · isplitl [B0]; · iexact B0
    isplitl [B1]; · iexact B1
    iexact B2
  iintro %v43 HO HL0 HL1 HzB G0 G1
  unfold Lands
  icases HL0 with ⟨L00, L01, L02⟩
  icases HL1 with ⟨L10, L11, L12⟩
  rw [show order = (0, 0, 0) :: (0, 1, 0) :: (0, 2, 0) :: l15 from rfl]
  iapply (wp_part39 I K c f0 f1 f2 f9 _ _ _ _) $$ HO P00 L00 O0 O1 O2 G2 G3 G4 G9
  iintro %r HO F0 KP G2 G3 G4 G9
  iapply (wp_part40 I K c _ _ _ _ _ _ _ _ _) $$ HO F0 P10 L10 P01 L01 P11 L11 P02 L02 G4 G9
  iintro HX FY0 FY1 R0 R1 Z0 Z1 G4 G9
  iapply (wp_part41 I K c _ f10 f11 _ _ _ _ _) $$ HX FY0 FY1 P12 L12 G4 G5 G6 G9 G10 G11
  iintro HX R2 N Z2 G4 G5 G6 G9 G10 G11
  iapply (wp_part42 I K c _ _ _) $$ HX KP R0 R1 R2 N
  iintro HO Y0 Y1 Y2 S0 S1 S2
  iapply (wp_part43 I c f7 f8) $$ S2 G7 G8
  iintro S2 G7 G8
  iapply (wp_col7 c 3) $$ G7; iintro G7
  iapply (wp_col8 c 3) $$ G8; iintro G8
  rw [kOut_eq, vOut_eq, qOut_eq, wp_ret]
  imodintro
  unfold done
  iapply Hk $$ HO [HzB Z0 Z1 Z2 Y0 Y1 Y2] [G0 G1 G2 G3 G4 G5 G6] [G7 G8 G9 G10 G11] [S0 S1 S2]
  · isplitl [HzB]; · iexact HzB
    isplitl [Z0 Z1 Z2]
    · isplitl [Z0]; · iexact Z0
      isplitl [Z1]; · iexact Z1
      iexact Z2
    isplitl [Y0]; · iexact Y0
    isplitl [Y1]; · iexact Y1
    iexact Y2
  · isplitl [G0]; · iexact G0
    isplitl [G1]; · iexact G1
    isplitl [G2]; · iexact G2
    isplitl [G3]; · iexact G3
    isplitl [G4]; · iexact G4
    isplitl [G5]; · iexact G5
    iexact G6
  · isplitl [G7]; · iexact G7
    isplitl [G8]; · iexact G8
    isplitl [G9]; · iexact G9
    isplitl [G10]; · iexact G10
    iexact G11
  · isplitl [S0]; · iexact S0
    isplitl [S1]; · iexact S1
    iexact S2

end Body

end Cert.Gather.Talk

end
-- ==== Proof.Gather.Deal.lean ====
/- How the launch deals the handshake: the cells, the tokens and the credits each device starts with. -/
module

public import proofs.«01_k».proof.Proof.Gather.Body

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

/-! ## The copies one by one -/

theorem order_nodup : order.Nodup := by decide
theorem order_univ : order.toFinset = Finset.univ := by decide

theorem fam_split {J : Type} {s : Finset J} {Φ Ψ : J → sProp 𝕄} : bigSep s (fun i => iprop(Φ i ∗ Ψ i)) ⊢ (iprop(bigSep s Φ ∗ bigSep s Ψ) : sProp 𝕄) :=
  Entails.of_eq (bigSep_sep' _ _ _)
theorem fam_join {J : Type} {s : Finset J} {Φ Ψ : J → sProp 𝕄} : iprop(bigSep s Φ ∗ bigSep s Ψ) ⊢ (bigSep s (fun i => iprop(Φ i ∗ Ψ i)) : sProp 𝕄) :=
  Entails.of_eq (bigSep_sep' _ _ _).symm
theorem fam_union {J : Type} [DecidableEq J] {s t : Finset J} (h : Disjoint s t) {Φ : J → sProp 𝕄} :
    bigSep (s ∪ t) Φ = (iprop(bigSep s Φ ∗ bigSep t Φ) : sProp 𝕄) := bigSep_union h
theorem chain {J : Type} (i j : J) (l : List J) (Φ : J → sProp 𝕄) : bigSepL (i :: j :: l) Φ = iprop(Φ i ∗ bigSepL (j :: l) Φ) := rfl
theorem copies_eq (Φ : CP → sProp 𝕄) : bigSep Finset.univ Φ = bigSepL order Φ := bigSep_univ_eq_bigSepL order (by decide) (by decide) Φ
theorem cells_eq (Φ : XC → sProp 𝕄) :
    bigSep Finset.univ Φ = iprop((bigSep Finset.univ fun x : CP => Φ (0, x)) ∗ bigSep Finset.univ fun x : CP => Φ (1, x)) := by
  rw [bigSep_univ_prod, BI.bigSep_fin_two]; rfl

/-! ## What the launch deals a device -/

section Device
variable (c : Dev nD)

/-- The tokens a device pays with: at its three neighbours' barriers, and at both cells of each of its copies. -/
def pays : sProp 𝕄 :=
  iprop((dutyTok ER (barCell (lf c)) 0 0 ∗ dutyTok ER (barCell (rt c)) 0 1 ∗ dutyTok ER (barCell (pt c)) 0 2)
    ∗ (bigSep Finset.univ fun x : CP => dutyTok ER (SC x.1 c x.2.1 x.2.2) 0 0)
    ∗ bigSep Finset.univ fun x : CP => dutyTok ER (RC x.1 (peer x.1 c) x.2.1 x.2.2) 0 0)
/-- The credits for what is owed to it. -/
def creds : sProp 𝕄 :=
  iprop(cred (tallyAt (barCell c) () 3) ∗ bigSep Finset.univ fun x : CP => cred (tallyAt (RC x.1 c x.2.1 x.2.2) () (N x.2.1)))
/-- Its share before its copies' cells are opened. -/
def shut : sProp 𝕄 :=
  iprop(atPos ER (barCell c) 0 ∅ 0 ∗ (bigSep Finset.univ fun x : XC => openTok ER (xCell c x)) ∗ pays c)

/-- The copies' own semaphores, all zero. -/
abbrev osem (x : XC) : SemLoc sig := .dma (dsem x)

theorem open_all (K : KN) :
    iprop(records I K ∗ (bigSep Finset.univ fun x : XC => openTok ER (xCell c x)) ∗ Pipeline.ownSems0 osem c)
      ⊢ (|={Set.univ}=> iprop((bigSep Finset.univ fun x : XC => atPos ER (xCell c x) 0 ∅ 0) ∗ marks c) : sProp 𝕄) := by
  have h : iprop(records I K ∗ bigSep Finset.univ fun x : XC => iprop(openTok ER (xCell c x) ∗ semVal (xCell c x) 0))
      ⊢ (|={Set.univ}=> bigSep Finset.univ fun x : XC => iprop(atPos ER (xCell c x) 0 ∅ 0 ∗ reached ER (xCell c x) 0) : sProp 𝕄) := by
    refine (bigSep_with_persistent (R := records I K) (Ψ := fun x : XC => iprop(|={Set.univ}=> iprop(atPos ER (xCell c x) 0 ∅ 0 ∗ reached ER (xCell c x) 0))) fun x _ => ?_).trans (bigSep_fupd _ _)
    iintro ⟨#HI, Ho, Hv⟩
    iapply (Rounds.cell_open ER (copyRd I) (g := xCell c x) (Set.mem_univ (K.2 (c, x))))
    isplitr; · iapply (rec_x I K c x); iexact HI
    isplitl [Ho] <;> iassumption
  unfold Pipeline.ownSems0 marks
  iintro ⟨#HI, Ho, Hv⟩
  imod h $$ [Ho Hv] with H
  · isplitr; · iexact HI
    iapply (fam_join (s := (Finset.univ : Finset XC)))
    isplitl [Ho] <;> iassumption
  imodintro
  iapply (fam_split (s := (Finset.univ : Finset XC))) $$ H

/-- The copies' shares, before they start. -/
def pres : sProp 𝕄 := bigSep Finset.univ fun x : CP => Pre x.1 c x.2.1 x.2.2

theorem pres_intro : iprop(marks c ∗ (bigSep Finset.univ fun x : XC => atPos ER (xCell c x) 0 ∅ 0)
      ∗ (bigSep Finset.univ fun x : CP => dutyTok ER (SC x.1 c x.2.1 x.2.2) 0 0)
      ∗ (bigSep Finset.univ fun x : CP => dutyTok ER (RC x.1 (peer x.1 c) x.2.1 x.2.2) 0 0)
      ∗ bigSep Finset.univ fun x : CP => cred (tallyAt (RC x.1 c x.2.1 x.2.2) () (N x.2.1))) ⊢ (pres c : sProp 𝕄) := by
  unfold pres Pre
  rw [bigSep_sep', bigSep_sep', bigSep_sep', bigSep_sep', bigSep_sep', cells_eq]
  unfold marks
  rw [cells_eq]
  iintro ⟨⟨HM, -⟩, ⟨HA, HB⟩, HS, HR, HC⟩
  isplitl [HS]; · iexact HS
  isplitl [HM]; · iexact HM
  isplitl [HR]; · iexact HR
  isplitl [HA]; · iexact HA
  isplitl [HB]; · iexact HB
  iexact HC

theorem pres_list : (pres c : sProp 𝕄)
    ⊢ iprop((Tri (fun t => Pre 0 c t 0) ∗ Tri (fun t => Pre 0 c t 1) ∗ Tri (fun t => Pre 0 c t 2))
      ∗ Tri (fun t => Pre 1 c t 0) ∗ Tri (fun t => Pre 1 c t 1) ∗ Tri (fun t => Pre 1 c t 2)) := by
  unfold pres Tri
  rw [copies_eq]
  simp only [order, chain, bigSepL_singleton]
  iintro ⟨A0, A1, A2, B0, B1, B2, A3, A4, A5, B3, B4, B5, A6, A7, A8, B6, B7, B8⟩
  isplitl [A0 A1 A2 A3 A4 A5 A6 A7 A8]
  · isplitl [A0 A1 A2]
    · isplitl [A0]; · iexact A0
      isplitl [A1] <;> iassumption
    isplitl [A3 A4 A5]
    · isplitl [A3]; · iexact A3
      isplitl [A4] <;> iassumption
    isplitl [A6]; · iexact A6
    isplitl [A7] <;> iassumption
  isplitl [B0 B1 B2]
  · isplitl [B0]; · iexact B0
    isplitl [B1] <;> iassumption
  isplitl [B3 B4 B5]
  · isplitl [B3]; · iexact B3
    isplitl [B4] <;> iassumption
  isplitl [B6]; · iexact B6
  isplitl [B7] <;> iassumption

theorem zeros_list : iprop((Tri (fun t => Zero 0 c t 0) ∗ Tri (fun t => Zero 0 c t 1) ∗ Tri (fun t => Zero 0 c t 2))
      ∗ Tri (fun t => Zero 1 c t 0) ∗ Tri (fun t => Zero 1 c t 1) ∗ Tri (fun t => Zero 1 c t 2))
    ⊢ (bigSep Finset.univ fun x : CP => Zero x.1 c x.2.1 x.2.2 : sProp 𝕄) := by
  unfold Tri
  rw [copies_eq]
  simp only [order, chain, bigSepL_singleton]
  iintro ⟨⟨⟨A0, A1, A2⟩, ⟨A3, A4, A5⟩, A6, A7, A8⟩, ⟨B0, B1, B2⟩, ⟨B3, B4, B5⟩, B6, B7, B8⟩
  isplitl [A0]; · iexact A0
  isplitl [A1]; · iexact A1
  isplitl [A2]; · iexact A2
  isplitl [B0]; · iexact B0
  isplitl [B1]; · iexact B1
  isplitl [B2]; · iexact B2
  isplitl [A3]; · iexact A3
  isplitl [A4]; · iexact A4
  isplitl [A5]; · iexact A5
  isplitl [B3]; · iexact B3
  isplitl [B4]; · iexact B4
  isplitl [B5]; · iexact B5
  isplitl [A6]; · iexact A6
  isplitl [A7]; · iexact A7
  isplitl [A8]; · iexact A8
  isplitl [B6]; · iexact B6
  isplitl [B7] <;> iassumption

theorem done_own : (done c : sProp 𝕄) ⊢ iprop(semVal (barCell c) 0 ∗ Pipeline.ownSems0 osem c) := by
  unfold done
  iintro ⟨Hb, HZ⟩
  isplitl [Hb]; · iexact Hb
  ihave H := (zeros_list c) $$ HZ
  unfold Pipeline.ownSems0 Zero
  rw [cells_eq]
  iapply (fam_split (s := (Finset.univ : Finset CP))) $$ H

/-- Opened, the share is what the body starts with. -/
theorem open_ready (K : KN) : iprop(records I K ∗ shut c ∗ creds c ∗ Pipeline.ownSems0 osem c) ⊢ (|={Set.univ}=> ready c : sProp 𝕄) := by
  unfold shut pays creds
  iintro ⟨#HI, ⟨HaB, Ho, ⟨T0, T1, T2⟩, HtS, HtR⟩, ⟨HcB, HcR⟩, Hv⟩
  imod (open_all I c K) $$ [Ho Hv] with ⟨Hat, #HM⟩
  · isplitr; · iexact HI
    isplitl [Ho] <;> iassumption
  imodintro
  unfold ready
  isplitl [T0 T1 T2 HaB HcB]
  · isplitr; · iexact HM
    isplitl [T0]; · iexact T0
    isplitl [T1]; · iexact T1
    isplitl [T2]; · iexact T2
    isplitl [HaB]; · iexact HaB
    iexact HcB
  iapply (pres_list (F := F) c)
  iapply (pres_intro (F := F) c)
  isplitr; · iexact HM
  isplitl [Hat]; · iexact Hat
  isplitl [HtS]; · iexact HtS
  isplitl [HtR]; · iexact HtR
  iexact HcR

/-! ## The credits of what is owed at launch -/

theorem owedL_order (d : Dev nD) : owedL d order = ∑ x : CP, tallyAt (RC x.1 (peer x.1 d) x.2.1 x.2.2) () (N x.2.1) := by
  rw [← order_univ, List.sum_toFinset _ order_nodup]; rfl

theorem launch_copy (x : CP) : (Pipeline.launchCred (fun d => tallyAt (RC x.1 (peer x.1 d) x.2.1 x.2.2) () (N x.2.1)) c : sProp 𝕄)
    ⊢ cred (tallyAt (RC x.1 c x.2.1 x.2.2) () (N x.2.1)) :=
  Pipeline.launchCred_tallyAt (.dma (dsem (1, x))) (peer x.1) (from' x.1) (peer_from x.1) (from_peer x.1) () (N x.2.1) c
theorem launch_barrier (f finv : Dev nD → Dev nD) (h1 : ∀ c, f (finv c) = c) (h2 : ∀ d, finv (f d) = d) :
    (Pipeline.launchCred (fun d => tallyAt (barCell (f d)) () 1) c : sProp 𝕄) ⊢ cred (tallyAt (barCell c) () 1) :=
  Pipeline.launchCred_tallyAt (.reg barS) f finv h1 h2 () 1 c

theorem tally_three (g : GSem nD τ sig) : (tallyAt g () 1 + tallyAt g () 1 + tallyAt g () 1 : CellTallies nD τ sig Unit) = tallyAt g () 3 := by
  rw [tallyAt_add, tallyAt_add]

theorem creds_intro : (Pipeline.launchCred O₀ c : sProp 𝕄) ⊢ creds c := by
  rw [show (O₀ : Dev nD → CellTallies nD τ sig Unit) = fun d => ((((∑ x : CP, tallyAt (RC x.1 (peer x.1 d) x.2.1 x.2.2) () (N x.2.1))
    + tallyAt (barCell (pt d)) () 1) + tallyAt (barCell (rt d)) () 1) + tallyAt (barCell (lf d)) () 1) from funext fun d => by rw [← owedL_order]; rfl]
  rw [Pipeline.launchCred_add, Pipeline.launchCred_add, Pipeline.launchCred_add, Pipeline.launchCred_sum]
  unfold creds
  iintro ⟨⟨⟨HX, HP⟩, HR⟩, HL⟩
  isplitl [HP HR HL]
  · rw [← tally_three]
    iapply (cred_add _ _).2
    isplitr [HL]
    · iapply (cred_add _ _).2
      isplitl [HP]; · iapply (launch_barrier c pt pt pt_pt pt_pt) $$ HP
      iapply (launch_barrier c rt lf rt_lf lf_rt) $$ HR
    iapply (launch_barrier c lf rt lf_rt rt_lf) $$ HL
  iapply (show _ ⊢ _ from bigSep_mono fun x _ => launch_copy (F := F) c x) $$ HX

end Device

/-! ## The cells and the tokens -/

def barEmb : Dev nD ↪ GSem nD τ sig := ⟨barCell, fun _ _ h => congrArg (fun g : GSem nD τ sig => g.1.1) h⟩
def xEmb : Dev nD × XC ↪ GSem nD τ sig := ⟨fun cx => xCell cx.1 cx.2, fun a b h =>
  Prod.ext (congrArg (fun g : GSem nD τ sig => g.1.1) h) (dsem_inj (SemLoc.dma.inj (congrArg Prod.snd h)))⟩
abbrev barCells : Finset (GSem nD τ sig) := Finset.univ.map barEmb
abbrev xCells : Finset (GSem nD τ sig) := Finset.univ.map xEmb

theorem cells_disjoint : Disjoint barCells xCells := by
  rw [Finset.disjoint_left]
  rintro g h₁ h₂
  obtain ⟨c, -, rfl⟩ := Finset.mem_map.mp h₁
  obtain ⟨cx, -, h⟩ := Finset.mem_map.mp h₂
  nomatch (congrArg Prod.snd h : (_ : SemLoc sig) = _)

def barTok : Dev nD × Fin 3 ↪ GSem nD τ sig × ℕ × Fin 3 := ⟨fun a => (barCell a.1, 0, a.2), fun a b h =>
  Prod.ext (congrArg (fun t : GSem nD τ sig × ℕ × Fin 3 => t.1.1.1) h) (congrArg (fun t : GSem nD τ sig × ℕ × Fin 3 => t.2.2) h)⟩
def xTok : Dev nD × XC ↪ GSem nD τ sig × ℕ × Fin 3 := ⟨fun a => (xCell a.1 a.2, 0, 0), fun a b h =>
  xEmb.injective (congrArg (fun t : GSem nD τ sig × ℕ × Fin 3 => t.1) h)⟩
def copyToks : Finset (GSem nD τ sig × ℕ × Fin 3) := Finset.univ.map barTok ∪ Finset.univ.map xTok
theorem toks_disjoint : Disjoint (Finset.univ.map barTok) (Finset.univ.map xTok) := by
  rw [Finset.disjoint_left]
  rintro g h₁ h₂
  obtain ⟨a, -, rfl⟩ := Finset.mem_map.mp h₁
  obtain ⟨b, -, h⟩ := Finset.mem_map.mp h₂
  nomatch (congrArg (fun t : GSem nD τ sig × ℕ × Fin 3 => t.1.2) h : (_ : SemLoc sig) = _)

def right : Dev nD ≃ Dev nD := ⟨rt, lf, lf_rt, rt_lf⟩
def across : Dev nD ≃ Dev nD := ⟨pt, pt, pt_pt, pt_pt⟩
def along (k : Fin 2) : Dev nD ≃ Dev nD := ⟨peer k, from' k, from_peer k, peer_from k⟩

theorem recv_deal : (bigSep Finset.univ fun c : Dev nD => bigSep Finset.univ fun x : CP => (dutyTok ER (RC x.1 c x.2.1 x.2.2) 0 0 : sProp 𝕄))
    = bigSep Finset.univ fun c : Dev nD => bigSep Finset.univ fun x : CP => (dutyTok ER (RC x.1 (peer x.1 c) x.2.1 x.2.2) 0 0 : sProp 𝕄) := by
  rw [bigSep_univ_comm, bigSep_univ_comm (fun (c : Dev nD) (x : CP) => (dutyTok ER (RC x.1 (peer x.1 c) x.2.1 x.2.2) 0 0 : sProp 𝕄))]
  exact bigSep_congr fun x _ => bigSep_univ_equiv (along x.1) (fun c : Dev nD => (dutyTok ER (RC x.1 c x.2.1 x.2.2) 0 0 : sProp 𝕄))

/-- Each token goes to the device that pays with it. -/
theorem toks_deal : (bigSep copyToks fun x => (dutyTok ER x.1 x.2.1 x.2.2 : sProp 𝕄)) ⊢ bigSep Finset.univ fun c : Dev nD => pays c := by
  unfold copyToks pays
  rw [bigSep_union toks_disjoint, bigSep_map, bigSep_map, bigSep_univ_prod, bigSep_univ_prod]
  rw [bigSep_sep', bigSep_sep', bigSep_sep', bigSep_sep']
  refine BI.sep_mono ?_ ?_
  · rw [show (fun c : Dev nD => bigSep Finset.univ fun d : Fin 3 => (dutyTok ER (barTok (c, d)).1 (barTok (c, d)).2.1 (barTok (c, d)).2.2 : sProp 𝕄))
        = fun c => iprop(dutyTok ER (barCell c) 0 0 ∗ dutyTok ER (barCell c) 0 1 ∗ dutyTok ER (barCell c) 0 2) from funext fun c => by
      rw [bigSep_univ_eq_bigSepL [0, 1, 2] (by decide) (by decide), bigSepL_cons_cons, bigSepL_cons_cons, bigSepL_singleton]; rfl]
    rw [bigSep_sep', bigSep_sep', bigSep_univ_equiv right.symm (fun c : Dev nD => (dutyTok ER (barCell c) 0 0 : sProp 𝕄)),
      bigSep_univ_equiv right (fun c : Dev nD => (dutyTok ER (barCell c) 0 1 : sProp 𝕄)),
      bigSep_univ_equiv across (fun c : Dev nD => (dutyTok ER (barCell c) 0 2 : sProp 𝕄))]
    exact BI.Entails.refl _
  · rw [show (fun c : Dev nD => bigSep Finset.univ fun x : XC => (dutyTok ER (xTok (c, x)).1 (xTok (c, x)).2.1 (xTok (c, x)).2.2 : sProp 𝕄))
        = fun c => iprop((bigSep Finset.univ fun x : CP => dutyTok ER (SC x.1 c x.2.1 x.2.2) 0 0) ∗ bigSep Finset.univ fun x : CP => dutyTok ER (RC x.1 c x.2.1 x.2.2) 0 0)
        from funext fun c => by rw [cells_eq]; rfl]
    rw [bigSep_sep']
    rw [recv_deal]
    exact BI.Entails.refl _

/-- The names of the invariants, indexed as the body reads them. -/
def named (κ : GSem nD τ sig → ℕ) : KN := (fun c => κ (barCell c), fun cx => κ (xCell cx.1 cx.2))

/-- The invariants under them. -/
theorem records_intro (κ : GSem nD τ sig → ℕ) :
    iprop((bigSep (barCells ∪ xCells) fun g => cellInv ER (copyRd I) (κ g) g) ∗ bigSep barCells fun g => reached ER g 0)
      ⊢ records I (named κ) := by
  unfold records named
  rw [fam_union cells_disjoint, bigSep_map, bigSep_map, bigSep_map]
  iintro ⟨⟨H1, H2⟩, H3⟩
  isplitl [H1]; · iexact H1
  isplitl [H3]; · iexact H3
  iexact H2

/-- The launch element of the handshake: the barrier cells with their counters, the copies' cells dormant. -/
def uB : UB := launchOf barCells xCells copyToks

theorem unit_free : ∀ g ∈ xCells, ¬ (copyRd I).unitless g := fun g _ h => h
theorem fund : iprop((bigSep barCells fun g => semVal g 0) ∗ BI.own (ER uB))
    ⊢ (|={Set.univ}=> ∃ κ : GSem nD τ sig → ℕ, iprop((bigSep (barCells ∪ xCells) fun g => cellInv ER (copyRd I) (κ g) g)
       ∗ (bigSep barCells fun g => reached ER g 0) ∗ (bigSep barCells fun g => atPos ER g 0 ∅ 0) ∗ (bigSep xCells fun g => openTok ER g)
       ∗ (bigSep copyToks fun x => dutyTok ER x.1 x.2.1 x.2.2)) : sProp 𝕄) := by
  unfold uB
  iintro H
  imod (Rounds.fund_launch ER (copyRd I) cells_disjoint (unit_free I) copyToks ∅) $$ H with ⟨%κ, -, H⟩
  imodintro
  iexists κ
  iexact H

theorem vals_at : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
theorem pos_at : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
theorem open_at : bigSep xCells (fun g => (openTok ER g : sProp 𝕄))
      ⊢ bigSep Finset.univ (fun c : Dev nD => bigSep Finset.univ fun x : XC => (openTok ER (xCell c x) : sProp 𝕄)) :=
    Entails.of_eq ((bigSep_map (s := Finset.univ) xEmb (Φ := fun g : GSem nD τ sig => (openTok ER g : sProp 𝕄))).trans (bigSep_univ_prod _))

theorem shuts : iprop((bigSep barCells fun g => atPos ER g 0 ∅ 0) ∗ (bigSep xCells fun g => openTok ER g)
       ∗ (bigSep copyToks fun x => dutyTok ER x.1 x.2.1 x.2.2)) ⊢ (bigSep Finset.univ fun c : Dev nD => shut c : sProp 𝕄) := by
  unfold shut
  rw [bigSep_sep', bigSep_sep']
  exact BI.sep_mono (pos_at (F := F)) (BI.sep_mono (open_at (F := F)) (toks_deal (F := F)))

/-- What the funding of the cells leaves, dealt to the devices. -/
theorem spread : iprop(∃ κ : GSem nD τ sig → ℕ, (bigSep (barCells ∪ xCells) fun g => cellInv ER (copyRd I) (κ g) g)
       ∗ (bigSep barCells fun g => reached ER g 0) ∗ (bigSep barCells fun g => atPos ER g 0 ∅ 0) ∗ (bigSep xCells fun g => openTok ER g)
       ∗ (bigSep copyToks fun x => dutyTok ER x.1 x.2.1 x.2.2))
    ⊢ (∃ K : KN, iprop(records I K ∗ bigSep Finset.univ fun c : Dev nD => shut c) : sProp 𝕄) := by
  iintro ⟨%κ, Hinv, Hr, Hs⟩
  iexists (named κ)
  isplitl [Hinv Hr]
  · iapply (records_intro I κ)
    isplitl [Hinv] <;> iassumption
  iapply (shuts (F := F)) $$ Hs

theorem deal : iprop((bigSep Finset.univ fun c : Dev nD => semVal (barCell c) 0) ∗ BI.own (ER uB))
    ⊢ (|={Set.univ}=> ∃ K : KN, iprop(records I K ∗ bigSep Finset.univ fun c : Dev nD => shut c) : sProp 𝕄) :=
  (BI.sep_mono (vals_at (F := F)) (BI.Entails.refl _)).trans ((fund I).trans (fupd_mono (spread I)))

end Cert.Gather.Talk

end
-- ==== Proof.Gather.Region.lean ====
/- The gather call as one pipeline: its proof data over the arrays as it finds them, and its body obligation. -/
module

public import proofs.«01_k».proof.Proof.Gather.Deal
public import proofs.«01_k».proof.Proof.Gen.Gather.Launch
public import proofs.«01_k».proof.Proof.Gen.Gather.Points

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

open Idealize.ShloMosaic.Pipeline (Dat BodyObligation)

variable (W : Dev nD → Valuation τ sig (Elt F))

/-- The seven inputs, read off the arrays as the call finds them. -/
def insOf : Ins F where
  x c := W c (Proc.devRef .tc main_arg0)
  wd c := W c (Proc.devRef .tc main_arg1)
  wk c := W c (Proc.devRef .tc main_arg2)
  wv c := W c (Proc.devRef .tc main_arg3)
  wq c := W c (Proc.devRef .tc main_arg4)
  wqr c := W c (Proc.devRef .tc main_arg5)
  wkr c := W c (Proc.devRef .tc main_arg6)

/-! ## The call's proof data -/

/-- What the handshake leaves a device between the launch and the call, at the call's entry, and after it. -/
def held0 (c : Dev nD) : sProp 𝕄 := iprop((∃ K, records (insOf W) K ∗ shut c) ∗ creds c)
def open0 (c : Dev nD) : sProp 𝕄 := iprop(∃ K, records (insOf W) K ∗ levAts L lv ∗ ready c)
def shut0 (c : Dev nD) : sProp 𝕄 := semVal (barCell c) 0

/-- The three scratch buffers at contents not chosen. -/
def scratch (c : Dev nD) : sProp 𝕄 :=
  iprop((∃ f, at' c cc0_scratch0 f) ∗ (∃ f, at' c cc0_scratch1 f) ∗ (∃ f, at' c cc0_scratch2 f))

def gat (c : Dev nD) : Dat τ (Elt F) Unit ℕ UU ℕ cfg0 c where
  A w := W c (Proc.devRef .tc (Pipeline.arrRef spec0 w))
  after w _ := match w with
    | ⟨0, _⟩ => (insOf W).x c
    | ⟨1, _⟩ => (insOf W).wd c
    | ⟨2, _⟩ => (insOf W).wk c
    | ⟨3, _⟩ => (insOf W).wv c
    | ⟨4, _⟩ => (insOf W).wq c
    | ⟨5, _⟩ => (insOf W).wqr c
    | ⟨6, _⟩ => (insOf W).wkr c
    | ⟨7, _⟩ => kOut (insOf W) c
    | ⟨8, _⟩ => vOut (insOf W) c
    | ⟨9, _⟩ => qOut (insOf W) c
    | ⟨10, _⟩ => qrOut (insOf W) c
    | ⟨11, _⟩ => krOut (insOf W) c
  Φ t := match t with
    | ⟨0, _⟩ => iprop(open0 W c ∗ scratch c ∗ ∃ r, prngReg c r)
    | ⟨_ + 1, _⟩ => iprop((shut0 c ∗ Pipeline.ownSems0 osem c) ∗ scratch c ∗ ∃ r, prngReg c r)
  q _ := fullShare
  owed t := match t with
    | ⟨0, _⟩ => O₀ c
    | ⟨_ + 1, _⟩ => 0

theorem stage_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ at' c b f) := by
  unfold owns; simp only [Memref.view_whole, View.read_whole, View.set_whole]

/-- A window over a whole buffer, at no grid: its one block is the buffer. -/
theorem rect_whole {s : Shape} {e : EltTy} {cs : CoreSpace} (arr : Memref sig .tc .hbm s e) (o y : Bool) (st : Memref sig .tc (.core cs) ⟨s.rank, s.size⟩ e)
    (sem : DmaSem sig) (ha : arr.IsWhole) (hs : st.IsWhole) (t : Fin Pipeline.Grid.none.N) (j : s.Idx) :
    ((Pipeline.Window.whole arr o y st sem ha hs).rect t).emb j = j :=
  funext fun a => Fin.ext (by
    rw [Rect.emb_apply]
    show 0 * s.size a + 1 * (j a).val = (j a).val
    omega)
theorem block_read {s : Shape} {e : EltTy} {cs : CoreSpace} (arr : Memref sig .tc .hbm s e) (o y : Bool) (st : Memref sig .tc (.core cs) ⟨s.rank, s.size⟩ e)
    (sem : DmaSem sig) (ha : arr.IsWhole) (hs : st.IsWhole) (t : Fin Pipeline.Grid.none.N) (X : arr.view.ref.ty.Contents (Elt F)) :
    ((Pipeline.Window.whole arr o y st sem ha hs).blk t).view.read (Elt F) X = arr.view.read (Elt F) X :=
  funext fun j => congrArg (arr.view.read (Elt F) X) (rect_whole arr o y st sem ha hs t j)
theorem block_set {s : Shape} {e : EltTy} {cs : CoreSpace} (arr : Memref sig .tc .hbm s e) (o y : Bool) (st : Memref sig .tc (.core cs) ⟨s.rank, s.size⟩ e)
    (sem : DmaSem sig) (ha : arr.IsWhole) (hs : st.IsWhole) (t : Fin Pipeline.Grid.none.N) (j : s.Idx) :
    arr.view.emb j ∈ ((Pipeline.Window.whole arr o y st sem ha hs).blk t).view.set := by
  have h := ((Pipeline.Window.whole arr o y st sem ha hs).blk t).view.emb_mem_set j
  rwa [show ((Pipeline.Window.whole arr o y st sem ha hs).blk t).view.emb j = arr.view.emb j from congrArg arr.view.emb (rect_whole arr o y st sem ha hs t j)] at h

theorem fetches (w : Fin 12) (h : w.val < 7) (t : Fin cfg0.N) : (cfg0.win w).fetch t = true := by
  rw [fin_N0 t]; revert w; decide

theorem owesAt_elim {c : Dev nD} (dat : Dat τ (Elt F) Unit ℕ UU ℕ cfg0 c) (t : Fin (cfg0.N + 1)) (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%Wt, -, HO⟩; iexists Wt; iexact HO
theorem owesAt_intro {c : Dev nD} (dat : Dat τ (Elt F) Unit ℕ UU ℕ cfg0 c) (t : Fin (cfg0.N + 1)) (O : CellTallies nD τ sig Unit) (h0 : dat.owed t = O)
    (hr : dat.recorded t = Set.univ) : iprop(∃ W, owes (c : Thread nD τ) O W) ⊢ (dat.owesAt () t : sProp 𝕄) := by
  unfold Dat.owesAt Pipeline.owesWithin Dat.bound; rw [h0, hr]
  iintro ⟨%Wt, HO⟩; iexists Wt; isplitr; · ipureintro; exact fun _ _ => Or.inl trivial
  iexact HO

abbrev stg (c : Dev nD) (b : Ref sig .tc) (X : b.ty.Contents (Elt F)) : sProp 𝕄 :=
  iprop(∃ f : Buf (Elt F) ((c : Thread nD τ).loc b), ⌜f = X⌝ ∗ at' c b f)

def bodyPre (c : Dev nD) : sProp 𝕄 :=
  iprop((open0 W c ∗ scratch c ∗ ∃ r, prngReg c r)
    ∗ (gat W c).owesAt () t0_0.castSucc
    ∗ (∃ d, stg c cc0_stg0_0 ((gat W c).before (0 : Fin 12) t0_0 d))
    ∗ (∃ d, stg c cc0_stg1_0 ((gat W c).before (1 : Fin 12) t0_0 d))
    ∗ (∃ d, stg c cc0_stg2_0 ((gat W c).before (2 : Fin 12) t0_0 d))
    ∗ (∃ d, stg c cc0_stg3_0 ((gat W c).before (3 : Fin 12) t0_0 d))
    ∗ (∃ d, stg c cc0_stg4_0 ((gat W c).before (4 : Fin 12) t0_0 d))
    ∗ (∃ d, stg c cc0_stg5_0 ((gat W c).before (5 : Fin 12) t0_0 d))
    ∗ (∃ d, stg c cc0_stg6_0 ((gat W c).before (6 : Fin 12) t0_0 d))
    ∗ (∃ d, stg c cc0_stg7_0 ((gat W c).before (7 : Fin 12) t0_0 d))
    ∗ (∃ d, stg c cc0_stg8_0 ((gat W c).before (8 : Fin 12) t0_0 d))
    ∗ (∃ d, stg c cc0_stg9_0 ((gat W c).before (9 : Fin 12) t0_0 d))
    ∗ (∃ d, stg c cc0_stg10_0 ((gat W c).before (10 : Fin 12) t0_0 d))
    ∗ (∃ d, stg c cc0_stg11_0 ((gat W c).before (11 : Fin 12) t0_0 d)))
def bodyPost (c : Dev nD) : sProp 𝕄 :=
  iprop(((shut0 c ∗ Pipeline.ownSems0 osem c) ∗ scratch c ∗ ∃ r, prngReg c r)
    ∗ (gat W c).owesAt () t0_0.succ
    ∗ stg c cc0_stg0_0 ((insOf W).x c)
    ∗ stg c cc0_stg1_0 ((insOf W).wd c)
    ∗ stg c cc0_stg2_0 ((insOf W).wk c)
    ∗ stg c cc0_stg3_0 ((insOf W).wv c)
    ∗ stg c cc0_stg4_0 ((insOf W).wq c)
    ∗ stg c cc0_stg5_0 ((insOf W).wqr c)
    ∗ stg c cc0_stg6_0 ((insOf W).wkr c)
    ∗ stg c cc0_stg7_0 (kOut (insOf W) c)
    ∗ stg c cc0_stg8_0 (vOut (insOf W) c)
    ∗ stg c cc0_stg9_0 (qOut (insOf W) c)
    ∗ stg c cc0_stg10_0 (qrOut (insOf W) c)
    ∗ stg c cc0_stg11_0 (krOut (insOf W) c))

/-- The body, from what the pipeline calls it with to what it hands back. -/
theorem body_run (c : Dev nD) (Kt : PUnit → sProp 𝕄) :
    iprop(bodyPre W c ∗ (bodyPost W c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6) Kt := by
  unfold bodyPre open0 scratch
  iintro ⟨⟨⟨⟨%K, #HI, #HL, Hr⟩, ⟨⟨%f0, H0⟩, ⟨%f1, H1⟩, ⟨%f2, H2⟩⟩, Hp⟩, HO,
    ⟨%d0, %g0, %hg0, G0⟩, ⟨%d1, %g1, %hg1, G1⟩, ⟨%d2, %g2, %hg2, G2⟩, ⟨%d3, %g3, %hg3, G3⟩, ⟨%d4, %g4, %hg4, G4⟩, ⟨%d5, %g5, %hg5, G5⟩, ⟨%d6, %g6, %hg6, G6⟩, ⟨%d7, %g7, %hg7, G7⟩, ⟨%d8, %g8, %hg8, G8⟩, ⟨%d9, %g9, %hg9, G9⟩, ⟨%d10, %g10, %hg10, G10⟩, ⟨%d11, %g11, %hg11, G11⟩⟩, Hk⟩
  obtain rfl : g0 = (insOf W).x c := by rw [hg0]; unfold Dat.before; rw [if_pos (fetches 0 (by decide) t0_0)]; exact (show (win0_0.blk t0_0).view.read (Elt F) (W c (Proc.devRef .tc main_arg0)) = W c (Proc.devRef .tc main_arg0) from block_read (F := F) (Memref.whole main_arg0) _ _ _ _ _ _ _ _)
  obtain rfl : g1 = (insOf W).wd c := by rw [hg1]; unfold Dat.before; rw [if_pos (fetches 1 (by decide) t0_0)]; exact (show (win0_1.blk t0_0).view.read (Elt F) (W c (Proc.devRef .tc main_arg1)) = W c (Proc.devRef .tc main_arg1) from block_read (F := F) (Memref.whole main_arg1) _ _ _ _ _ _ _ _)
  obtain rfl : g2 = (insOf W).wk c := by rw [hg2]; unfold Dat.before; rw [if_pos (fetches 2 (by decide) t0_0)]; exact (show (win0_2.blk t0_0).view.read (Elt F) (W c (Proc.devRef .tc main_arg2)) = W c (Proc.devRef .tc main_arg2) from block_read (F := F) (Memref.whole main_arg2) _ _ _ _ _ _ _ _)
  obtain rfl : g3 = (insOf W).wv c := by rw [hg3]; unfold Dat.before; rw [if_pos (fetches 3 (by decide) t0_0)]; exact (show (win0_3.blk t0_0).view.read (Elt F) (W c (Proc.devRef .tc main_arg3)) = W c (Proc.devRef .tc main_arg3) from block_read (F := F) (Memref.whole main_arg3) _ _ _ _ _ _ _ _)
  obtain rfl : g4 = (insOf W).wq c := by rw [hg4]; unfold Dat.before; rw [if_pos (fetches 4 (by decide) t0_0)]; exact (show (win0_4.blk t0_0).view.read (Elt F) (W c (Proc.devRef .tc main_arg4)) = W c (Proc.devRef .tc main_arg4) from block_read (F := F) (Memref.whole main_arg4) _ _ _ _ _ _ _ _)
  obtain rfl : g5 = (insOf W).wqr c := by rw [hg5]; unfold Dat.before; rw [if_pos (fetches 5 (by decide) t0_0)]; exact (show (win0_5.blk t0_0).view.read (Elt F) (W c (Proc.devRef .tc main_arg5)) = W c (Proc.devRef .tc main_arg5) from block_read (F := F) (Memref.whole main_arg5) _ _ _ _ _ _ _ _)
  obtain rfl : g6 = (insOf W).wkr c := by rw [hg6]; unfold Dat.before; rw [if_pos (fetches 6 (by decide) t0_0)]; exact (show (win0_6.blk t0_0).view.read (Elt F) (W c (Proc.devRef .tc main_arg6)) = W c (Proc.devRef .tc main_arg6) from block_read (F := F) (Memref.whole main_arg6) _ _ _ _ _ _ _ _)
  ihave HO' := (owesAt_elim (gat W c) t0_0.castSucc (O₀ c) rfl) $$ HO
  icases HO' with ⟨%Wt, HO⟩
  iapply (wp_body (insOf W) K c Wt f0 f1 f2 g7 g8 g9 g10 g11) $$ [HO] [Hr] [G0 G1 G2 G3 G4 G5 G6] [G7 G8 G9 G10 G11] [H0 H1 H2] [Hk Hp]
  · isplitr; · iexact HI
    isplitr; · iexact HL
    iexact HO
  · iexact Hr
  · unfold inputs
    isplitl [G0]; · iexact G0
    isplitl [G1]; · iexact G1
    isplitl [G2]; · iexact G2
    isplitl [G3]; · iexact G3
    isplitl [G4]; · iexact G4
    isplitl [G5]; · iexact G5
    iexact G6
  · isplitl [G7]; · iexact G7
    isplitl [G8]; · iexact G8
    isplitl [G9]; · iexact G9
    isplitl [G10] <;> iassumption
  · isplitl [H0]; · iexact H0
    isplitl [H1] <;> iassumption
  unfold inputs owesA
  rw [show owedL c [] = (0 : CellTallies nD τ sig Unit) from rfl]
  iintro ⟨-, -, HO⟩ Hd ⟨G0, G1, G2, G3, G4, G5, G6⟩ ⟨G7, G8, G9, G10, G11⟩ ⟨H0, H1, H2⟩
  iapply Hk
  unfold bodyPost shut0 scratch
  isplitl [Hd H0 H1 H2 Hp]
  · isplitl [Hd]; · iapply (done_own (F := F) c) $$ Hd
    isplitl [H0 H1 H2]
    · isplitl [H0]; · iexists _; iexact H0
      isplitl [H1]; · iexists _; iexact H1
      iexists _; iexact H2
    iexact Hp
  isplitl [HO]; · iapply (owesAt_intro (gat W c) t0_0.succ 0 rfl rfl) $$ HO
  isplitl [G0]
  · iexists _; isplitr
    · ipureintro; rfl
    iexact G0
  isplitl [G1]
  · iexists _; isplitr
    · ipureintro; rfl
    iexact G1
  isplitl [G2]
  · iexists _; isplitr
    · ipureintro; rfl
    iexact G2
  isplitl [G3]
  · iexists _; isplitr
    · ipureintro; rfl
    iexact G3
  isplitl [G4]
  · iexists _; isplitr
    · ipureintro; rfl
    iexact G4
  isplitl [G5]
  · iexists _; isplitr
    · ipureintro; rfl
    iexact G5
  isplitl [G6]
  · iexists _; isplitr
    · ipureintro; rfl
    iexact G6
  isplitl [G7]
  · iexists _; isplitr
    · ipureintro; rfl
    iexact G7
  isplitl [G8]
  · iexists _; isplitr
    · ipureintro; rfl
    iexact G8
  isplitl [G9]
  · iexists _; isplitr
    · ipureintro; rfl
    iexact G9
  isplitl [G10]
  · iexists _; isplitr
    · ipureintro; rfl
    iexact G10
  iexists _; isplitr
  · ipureintro; rfl
  iexact G11

/-- The call's obligation. -/
theorem body_obligation (c : Dev nD) : BodyObligation (gat W c) defs₀ 𝒱₀ () Set.univ := fun t => by
  rw [fin_N0 t]
  rw [bigSep_W0, bigSep_W0]
  simp only [stage_eq]
  show bodyPre W c ⊢ wp frame _ _ (cc0_body (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_stg4_0) (Memref.isWhole_whole _) (Memref.whole cc0_stg5_0) (Memref.isWhole_whole _)
                (Memref.whole cc0_stg6_0) (Memref.isWhole_whole _) (Memref.whole cc0_stg7_0) (Memref.isWhole_whole _) (Memref.whole cc0_stg8_0) (Memref.isWhole_whole _)
                (Memref.whole cc0_stg9_0) (Memref.isWhole_whole _) (Memref.whole cc0_stg10_0) (Memref.isWhole_whole _) (Memref.whole cc0_stg11_0) (Memref.isWhole_whole _)
                (Memref.whole cc0_scratch0) (Memref.isWhole_whole _) (Memref.whole cc0_scratch1) (Memref.isWhole_whole _) (Memref.whole cc0_scratch2) (Memref.isWhole_whole _)
                cc0_scratch3 cc0_scratch4 cc0_scratch5
                cc0_scratch6) (fun _ => bodyPost W c)
  iintro H
  iapply (body_run W c _)
  isplitl [H]; · iexact H
  iintro H; iexact H

end Cert.Gather.Talk

end
-- ==== Proof.Gather.Ends.lean ====
/- What the gather call leaves in its arrays, and how it is entered and left. -/
module

public import proofs.«01_k».proof.Proof.Gather.Region

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

open Idealize.ShloMosaic.Pipeline (Dat BodyObligation)

variable (W : Dev nD → Valuation τ sig (Elt F))

/-- What a device owes at launch is owed at cells above the staging cells' level. -/
theorem O₀_pos {c : Dev nD} {g : GSem nD τ sig} {u : Unit} (h : 0 < O₀ c g u) :
    (∃ x : CP, g = RC x.1 (peer x.1 c) x.2.1 x.2.2) ∨ ∃ d, g = barCell d := by
  unfold O₀ at h
  rw [Pi.add_apply, Finsupp.add_apply, Pi.add_apply, Finsupp.add_apply, Pi.add_apply, Finsupp.add_apply, tallyAt_apply, tallyAt_apply, tallyAt_apply] at h
  by_cases h1 : g = barCell (lf c)
  · exact .inr ⟨_, h1⟩
  by_cases h2 : g = barCell (rt c)
  · exact .inr ⟨_, h2⟩
  by_cases h3 : g = barCell (pt c)
  · exact .inr ⟨_, h3⟩
  rw [if_neg fun e => h3 e.1, if_neg fun e => h2 e.1, if_neg fun e => h1 e.1] at h
  obtain ⟨x, -, rfl⟩ := owedL_pos (show 0 < owedL c order g u by simpa only [Nat.add_zero] using h)
  exact .inl ⟨x, rfl⟩

theorem owed_cut (c : Dev nD) (t : Fin (cfg0.N + 1)) (g : GSem nD τ sig) (i : Unit) (h : 0 < (gat W c).owed t g i) :
    i ∈ L g ∧ (0 : ℕ) < lv g i := by
  have hc : (gat W c).owed t = O₀ c ∨ (gat W c).owed t = 0 := by
    obtain ⟨t, ht⟩ := t
    cases t with
    | zero => exact .inl rfl
    | succ t => exact .inr rfl
  rcases hc with hc | hc
  · rw [hc] at h
    rcases O₀_pos h with ⟨⟨k, t, n⟩, rfl⟩ | ⟨d, rfl⟩
    · refine ⟨by rw [L_R]; exact Finset.mem_singleton_self _, ?_⟩
      show 0 < lv (RC k (peer k c) t n) ()
      rw [lv_R]; unfold lvX; split <;> omega
    · refine ⟨by rw [L_bar]; exact Finset.mem_singleton_self _, ?_⟩
      show 0 < lv (barCell d) ()
      rw [lv_bar]; exact Nat.one_pos
  · rw [hc] at h; exact absurd h (Nat.lt_irrefl 0)

theorem stage_sem : ∀ (w : Fin 12) (s : Fin (spec0 w).nbuf), ((spec0 w).sem s).val < 12 := by decide
theorem stage_lv (c : Dev nD) (w : Fin 12) (s : Fin (spec0 w).nbuf) : lv ((c : Thread nD τ), .dma ((spec0 w).sem s)) () ≤ 0 := by
  refine le_of_eq (if_neg fun h => ?_)
  have := stage_sem w s; omega

/-! ## What the arrays end at -/

theorem flushes (w : Fin 12) (h : 7 ≤ w.val) : (cfg0.win w).flush t0_0 = true := by revert w; decide
theorem end_in (c : Dev nD) (w : Fin 12) (h : (cfg0.win w).isOut = false) (n : ℕ) : (gat W c).arrAt w n = W c (Proc.devRef .tc (Pipeline.arrRef spec0 w)) :=
  (gat W c).arrAt_in w h n
theorem end_out (c : Dev nD) (w : Fin 12) (h : 7 ≤ w.val) :
    (gat W c).arrAt w cfg0.N = ((cfg0.win w).blk t0_0).view.write (Elt F) ((gat W c).arrAt w 0) ((gat W c).flushed w t0_0) Finset.univ := by
  have e := (gat W c).arrAt_succ w t0_0
  rw [if_pos (flushes w h)] at e
  exact (congrArg ((gat W c).arrAt w) N_0).trans e
theorem block_write {s : Shape} {e : EltTy} {cs : CoreSpace} (arr : Memref sig .tc .hbm s e) (o y : Bool) (st : Memref sig .tc (.core cs) ⟨s.rank, s.size⟩ e)
    (sem : DmaSem sig) (ha : arr.IsWhole) (hs : st.IsWhole) (t : Fin Pipeline.Grid.none.N) (X : arr.view.ref.ty.Contents (Elt F)) (v : s.Idx → Elt F e) :
    arr.view.read (Elt F) (((Pipeline.Window.whole arr o y st sem ha hs).blk t).view.write (Elt F) X v Finset.univ) = v :=
  (block_read (F := F) arr o y st sem ha hs t _).symm.trans (View.read_write_univ (v := ((Pipeline.Window.whole arr o y st sem ha hs).blk t).view) X v)

/-- The arrays after the call: the five results written, all else as before. -/
def next (c : Dev nD) : Valuation τ sig (Elt F) :=
  Function.update (Function.update (Function.update (Function.update (Function.update (W c) (Proc.devRef .tc main_v1_0) (kOut (insOf W) c)) (Proc.devRef .tc main_v1_1) (vOut (insOf W) c)) (Proc.devRef .tc main_v1_2) (qOut (insOf W) c)) (Proc.devRef .tc main_v1_3) (qrOut (insOf W) c)) (Proc.devRef .tc main_v1_4) (krOut (insOf W) c)

theorem next_7 (c : Dev nD) : next W c (Proc.devRef .tc main_v1_0) = kOut (insOf W) c := by
  unfold next
  rw [Function.update_of_ne (by decide), Function.update_of_ne (by decide), Function.update_of_ne (by decide), Function.update_of_ne (by decide), Function.update_self]
theorem end_7 (c : Dev nD) : (gat W c).arrAt (7 : Fin 12) cfg0.N = next W c (Proc.devRef .tc main_v1_0) := by
  rw [next_7]
  exact (end_out W c 7 (by decide)).trans (block_write (F := F) (Memref.whole main_v1_0) _ _ _ _ (Memref.isWhole_whole _) (Memref.isWhole_whole _) t0_0 _ _)

theorem next_8 (c : Dev nD) : next W c (Proc.devRef .tc main_v1_1) = vOut (insOf W) c := by
  unfold next
  rw [Function.update_of_ne (by decide), Function.update_of_ne (by decide), Function.update_of_ne (by decide), Function.update_self]
theorem end_8 (c : Dev nD) : (gat W c).arrAt (8 : Fin 12) cfg0.N = next W c (Proc.devRef .tc main_v1_1) := by
  rw [next_8]
  exact (end_out W c 8 (by decide)).trans (block_write (F := F) (Memref.whole main_v1_1) _ _ _ _ (Memref.isWhole_whole _) (Memref.isWhole_whole _) t0_0 _ _)

theorem next_9 (c : Dev nD) : next W c (Proc.devRef .tc main_v1_2) = qOut (insOf W) c := by
  unfold next
  rw [Function.update_of_ne (by decide), Function.update_of_ne (by decide), Function.update_self]
theorem end_9 (c : Dev nD) : (gat W c).arrAt (9 : Fin 12) cfg0.N = next W c (Proc.devRef .tc main_v1_2) := by
  rw [next_9]
  exact (end_out W c 9 (by decide)).trans (block_write (F := F) (Memref.whole main_v1_2) _ _ _ _ (Memref.isWhole_whole _) (Memref.isWhole_whole _) t0_0 _ _)

theorem next_10 (c : Dev nD) : next W c (Proc.devRef .tc main_v1_3) = qrOut (insOf W) c := by
  unfold next
  rw [Function.update_of_ne (by decide), Function.update_self]
theorem end_10 (c : Dev nD) : (gat W c).arrAt (10 : Fin 12) cfg0.N = next W c (Proc.devRef .tc main_v1_3) := by
  rw [next_10]
  exact (end_out W c 10 (by decide)).trans (block_write (F := F) (Memref.whole main_v1_3) _ _ _ _ (Memref.isWhole_whole _) (Memref.isWhole_whole _) t0_0 _ _)

theorem next_11 (c : Dev nD) : next W c (Proc.devRef .tc main_v1_4) = krOut (insOf W) c := by
  unfold next
  rw [Function.update_self]
theorem end_11 (c : Dev nD) : (gat W c).arrAt (11 : Fin 12) cfg0.N = next W c (Proc.devRef .tc main_v1_4) := by
  rw [next_11]
  exact (end_out W c 11 (by decide)).trans (block_write (F := F) (Memref.whole main_v1_4) _ _ _ _ (Memref.isWhole_whole _) (Memref.isWhole_whole _) t0_0 _ _)

theorem next_of (c : Dev nD) (b : DevRef τ sig) (h : ∀ r ∈ [main_v1_0, main_v1_1, main_v1_2, main_v1_3, main_v1_4], b ≠ Proc.devRef .tc r) : next W c b = W c b := by
  unfold next
  rw [Function.update_of_ne (h _ (by simp)), Function.update_of_ne (h _ (by simp)), Function.update_of_ne (h _ (by simp)),
    Function.update_of_ne (h _ (by simp)), Function.update_of_ne (h _ (by simp))]

theorem ends (c : Dev nD) : ∀ w : Fin 12, (gat W c).arrAt w cfg0.N = next W c (Proc.devRef .tc (Pipeline.arrRef spec0 w))
  | 0 => (end_in W c 0 (by decide) _).trans (next_of W c (Proc.devRef .tc main_arg0) (by decide)).symm
  | 1 => (end_in W c 1 (by decide) _).trans (next_of W c (Proc.devRef .tc main_arg1) (by decide)).symm
  | 2 => (end_in W c 2 (by decide) _).trans (next_of W c (Proc.devRef .tc main_arg2) (by decide)).symm
  | 3 => (end_in W c 3 (by decide) _).trans (next_of W c (Proc.devRef .tc main_arg3) (by decide)).symm
  | 4 => (end_in W c 4 (by decide) _).trans (next_of W c (Proc.devRef .tc main_arg4) (by decide)).symm
  | 5 => (end_in W c 5 (by decide) _).trans (next_of W c (Proc.devRef .tc main_arg5) (by decide)).symm
  | 6 => (end_in W c 6 (by decide) _).trans (next_of W c (Proc.devRef .tc main_arg6) (by decide)).symm
  | 7 => end_7 W c
  | 8 => end_8 W c
  | 9 => end_9 W c
  | 10 => end_10 W c
  | 11 => end_11 W c

/-! ## Entering and leaving the call -/

theorem enter (c : Dev nD) : iprop(held0 W c ∗ Pipeline.ownSems0 osem c ∗ levAts L lv) ⊢ (|={Set.univ}=> open0 W c : sProp 𝕄) := by
  unfold held0 open0
  iintro ⟨⟨⟨%K, #HI, Hs⟩, Hc⟩, Ho, #HL⟩
  imod (open_ready (insOf W) c K) $$ [Hs Hc Ho] with Hr
  · isplitr; · iexact HI
    isplitl [Hs]; · iexact Hs
    isplitl [Hc]; · iexact Hc
    iexact Ho
  imodintro
  iexists K
  isplitr; · iexact HI
  isplitr; · iexact HL
  iexact Hr

theorem begins (c : Dev nD) (H : sProp 𝕄) :
    iprop(Pipeline.scopedRest (Ix := Unit) (Name := ℕ) (U := UU) (Lvl := ℕ) (Val := Elt F) spec0 c ∗ (∃ r, prngReg c r) ∗ H ∗ open0 W c) ⊢ ((gat W c).Φ 0 : sProp 𝕄) := by
  rw [scopedRest0_eq, show (gat W c).Φ 0 = iprop(open0 W c ∗ scratch c ∗ ∃ r, prngReg c r) from rfl]
  unfold scratch
  iintro ⟨Hs, Hp, -, HX⟩
  isplitl [HX]; · iexact HX
  isplitl [Hs]; · iexact Hs
  iexact Hp

theorem leaves (c : Dev nD) : ((gat W c).Φ (Fin.last cfg0.N) : sProp 𝕄)
    ⊢ iprop(Pipeline.scopedRest (Ix := Unit) (Name := ℕ) (U := UU) (Lvl := ℕ) (Val := Elt F) spec0 c ∗ (∃ r, prngReg c r) ∗ emp ∗ Pipeline.ownSems0 osem c ∗ shut0 c) := by
  rw [scopedRest0_eq, show (gat W c).Φ (Fin.last cfg0.N) = iprop((shut0 c ∗ Pipeline.ownSems0 osem c) ∗ scratch c ∗ ∃ r, prngReg c r) from by
    rw [show Fin.last cfg0.N = t0_0.succ from Fin.ext N_0]; rfl]
  unfold scratch
  iintro ⟨⟨Hb, Ho⟩, Hs, Hp⟩
  isplitl [Hs]; · iexact Hs
  isplitl [Hp]; · iexact Hp
  isplitr; · iempintro
  isplitl [Ho]; · iexact Ho
  iexact Hb

end Cert.Gather.Talk

end
-- ==== Proof.Gather.Run.lean ====
/- The program run on all devices: the launch, the one call, and what memory and the counters end at. -/
module

public import proofs.«01_k».proof.Proof.Gather.Ends
public import Idealize.ShloMosaic.Lib.Pipeline.RegionTalk

@[expose] public section

set_option maxRecDepth 16384

noncomputable section

namespace Cert.Gather.Talk

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Ins F)

local notation "𝕄" => MT nD τ sig Unit (Elt F) ℕ UU ℕ

open Idealize.ShloMosaic.Pipeline (Dat)

variable (m : (ℓ : Loc nD τ sig) → Buf (Elt F) ℓ) (ρ : Dev nD → PrngReg)

/-! ## The run's parts -/

abbrev adm : (p : Fin 1) → (pcfgs (F := F) p).Adm := fun p => (cfgs p).toPCfg_adm

/-- The arrays at launch, and at the end. -/
def V₀ (c : Dev nD) : Valuation τ sig (Elt F) := fun b => m (c, b)
def V₁ (c : Dev nD) : Valuation τ sig (Elt F) := next (V₀ m) c

def pdats : (p : Fin 1) → (c : Dev nD) → Dat τ (Elt F) Unit ℕ UU ℕ (Pipeline.pin (pcfgs (F := F)) adm p) c
  | ⟨0, _⟩ => fun c => gat (V₀ m) c
  | ⟨_ + 1, h⟩ => absurd h (Nat.not_lt.2 (Nat.le_add_left _ _))

local notation "ℝ𝕊" => Pipeline.RegionSeg (pcfgs (F := F)) adm (pdats m) () defs₀ 𝒱₀ L lv

theorem cells_inj : Function.Injective (Pipeline.cellOf (nD := nD) (τ := τ) (Pipeline.pin (pcfgs (F := F)) adm)) := cellOf_inj

theorem kitP : Pipeline.PLaunchFacts (nD := nD) (τ := τ) (pcfgs (F := F)) 0 where
  cellOf_inj a := by rw [Subsingleton.elim a adm]; exact cells_inj
  win := winFacts0
  pre := Pipeline.PreFacts.none _
  block_pos := block_pos0
  arr_whole := arr_whole0
  stage_whole := stage_whole0

theorem share_full (c : Dev nD) (w : Fin 12) : (gat (V₀ m) c).share w = fullShare := by
  unfold Dat.share; split <;> rfl

set_option backward.isDefEq.respectTransparency.types false in
/-- The call as a segment of the run: it takes what the launch kept for it and leaves the barrier's counter at zero. -/
def reg0 : ℝ𝕊 0 :=
  Pipeline.RegionSeg.ofTalk (pcfgs (F := F)) adm (pdats m) () defs₀ 𝒱₀ L lv 0 osem (by decide : Pipeline.OwnSemFacts spec0 osem)
    ∅ ∅ (Finset.Subset.refl _) kitP rfl (fun c => (body_obligation (V₀ m) c).loose)
    (fun _ => 0) O₀ (fun c => (zero_add (O₀ c)).symm) (fun _ => rfl) (fun _ => rfl) (fun c w => share_full m c w)
    (V₀ m) (V₁ m) (fun _ b hb => absurd hb (by rw [Finset.sdiff_self]; exact Finset.notMem_empty b))
    (held0 (V₀ m)) shut0 (open0 (V₀ m)) shut0 (enter (V₀ m)) (fun c => begins (V₀ m) c _)
    (fun c => (leaves (V₀ m) c).trans (by
      unfold StableHlo.held
      rw [BI.bigSep_empty]
      exact BI.Entails.refl _))
    (fun c => by iintro H; imodintro; iexact H)
    (fun _ => 0)
    ⟨fun c w s => by rw [L_tc]; exact Finset.mem_singleton_self _, fun c w s => stage_lv c w s, fun c t g i h => owed_cut (V₀ m) c t g i h⟩
    (fun _ => iprop(emp))
    (fun _ _ => rfl) (fun c w => ends (V₀ m) c w)

def segs : List (Pipeline.Seg (pcfgs (F := F)) adm (pdats m) () defs₀ 𝒱₀ L lv) := [.region (reg0 m)]

theorem main_run (c : Dev nD) : main (F := F) c = Pipeline.Seg.run (segs m) :=
  main_segs adm (pdats m) () 𝒱₀ L lv (reg0 m) c

/-! ## The launch -/

abbrev bufs : Finset (DevRef τ sig) := (StableHlo.tcRefs τ sig).filter fun b => ¬ b.isScoped

theorem bufs_arr : Pipeline.arrRefs (τ := τ) (pcfgs (F := F) 0).spec = bufs := by
  show Pipeline.arrRefs (τ := τ) spec0 = bufs
  decide

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]; rfl

theorem bufs_eq (c : Dev nD) (W : Valuation τ sig (Elt F)) : (StableHlo.held (c : Thread nD τ) bufs W : sProp 𝕄)
    = iprop(at' c main_arg0 (W (Proc.devRef .tc main_arg0)) ∗ at' c main_arg1 (W (Proc.devRef .tc main_arg1)) ∗ at' c main_arg2 (W (Proc.devRef .tc main_arg2)) ∗ at' c main_arg3 (W (Proc.devRef .tc main_arg3)) ∗ at' c main_arg4 (W (Proc.devRef .tc main_arg4)) ∗ at' c main_arg5 (W (Proc.devRef .tc main_arg5)) ∗ at' c main_arg6 (W (Proc.devRef .tc main_arg6)) ∗ at' c main_v1_0 (W (Proc.devRef .tc main_v1_0)) ∗ at' c main_v1_1 (W (Proc.devRef .tc main_v1_1)) ∗ at' c main_v1_2 (W (Proc.devRef .tc main_v1_2)) ∗ at' c main_v1_3 (W (Proc.devRef .tc main_v1_3)) ∗ at' c main_v1_4 (W (Proc.devRef .tc main_v1_4))) := by
  unfold StableHlo.held
  exact bigSep_eq_bigSepL_of_eq [Proc.devRef .tc main_arg0, Proc.devRef .tc main_arg1, Proc.devRef .tc main_arg2, Proc.devRef .tc main_arg3, Proc.devRef .tc main_arg4, Proc.devRef .tc main_arg5, Proc.devRef .tc main_arg6, Proc.devRef .tc main_v1_0, Proc.devRef .tc main_v1_1, Proc.devRef .tc main_v1_2, Proc.devRef .tc main_v1_3, Proc.devRef .tc main_v1_4] (by decide) (by decide) _

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The handshake's share of the ghost state, given whole to device 0. -/
def onDev (c₀ : Dev nD) (X : sProp 𝕄) (c : Dev nD) : sProp 𝕄 := if c = c₀ then X else BI.emp
theorem onDev_all (c₀ : Dev nD) (X : sProp 𝕄) : (bigSep Finset.univ (onDev c₀ X) : sProp 𝕄) = X := by
  rw [bigSep_univ_at _ c₀, bigSep_congr (s := Finset.univ.erase c₀) (Ψ := fun _ => (BI.emp : sProp 𝕄)) fun c hc => by
    unfold onDev; rw [if_neg (Finset.ne_of_mem_erase hc)], BI.bigSep_emp_const]
  unfold onDev; rw [if_pos rfl]
  exact BI.equiv_iff.mp sep_emp
def G : Dev nD → sProp 𝕄 := onDev 0 (BI.own (ER uB))
def u₀ : UU := (initOf (Pipeline.cells (Pipeline.pin (pcfgs (F := F)) adm) cells_inj) (Pipeline.launchToks (Pipeline.pin (pcfgs (F := F)) adm) cells_inj), uB)

/-- What each device starts with. -/
def rest (c : Dev nD) : sProp 𝕄 := iprop(StableHlo.held (c : Thread nD τ) bufs (V₀ m c) ∗ creds c ∗ owes (c : Thread nD τ) (O₀ c) ∅ ∗ ∃ r, prngReg c r)
def T₀ (c : Dev nD) : sProp 𝕄 :=
  iprop(StableHlo.held (c : Thread nD τ) bufs (V₀ m c) ∗ held0 (V₀ m) c ∗ (∃ r, prngReg c r) ∗ ∃ W, owes (c : Thread nD τ) (O₀ c) W)
def Tₙ (c : Dev nD) : sProp 𝕄 := iprop(StableHlo.held (c : Thread nD τ) bufs (V₁ m c) ∗ semVal (barCell c) 0)

theorem start_at (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ G c)) : sProp 𝕄) := by
  rw [show (unscopedBufs c (fun b => m ((c : Thread nD τ).loc b)) : sProp 𝕄) = StableHlo.held (c : Thread nD τ) bufs (V₀ m c) from unscopedBufs_held c (V₀ m c),
    unscopedSems0_eq]
  unfold rest
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem T₀_intro (K : KN) (c : Dev nD) : iprop(records (insOf (V₀ m)) K ∗ (shut c ∗ rest m c)) ⊢ (T₀ m c : sProp 𝕄) := by
  unfold T₀ rest held0
  iintro ⟨#HR, Hs, Hh, Hc, HO, Hp⟩
  isplitl [Hh]; · iexact Hh
  isplitl [Hs Hc]
  · isplitl [Hs]
    · iexists K; isplitr; · iexact HR
      iexact Hs
    iexact Hc
  isplitl [Hp]; · iexact Hp
  iexists _; iexact HO

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ (T₀ m) : sProp 𝕄) := by
  iintro ⟨H, -⟩
  ihave H' := (show _ ⊢ (bigSep Finset.univ fun c : Dev nD => iprop(rest m c ∗ (semVal (barCell c) 0 ∗ G c)) : sProp 𝕄) from bigSep_mono fun c _ => start_at m ρ c) $$ H
  ihave H2 := fam_split $$ H'; icases H2 with ⟨HB, H3⟩
  ihave H4 := fam_split $$ H3; icases H4 with ⟨Hv, HG⟩
  ihave Hu := (show bigSep Finset.univ (G (F := F)) ⊢ BI.own (ER uB) from Entails.of_eq (onDev_all (F := F) 0 (BI.own (ER uB)))) $$ HG
  imod (deal (insOf (V₀ m))) $$ [Hv Hu] with ⟨%K, #HR, Hs⟩
  · isplitl [Hv]; · iexact Hv
    iexact Hu
  imodintro
  iapply (bigSep_with_persistent (R := records (insOf (V₀ m)) K) (Φ := fun c => iprop(shut c ∗ rest m c)) fun c _ => T₀_intro m K c)
  isplitr; · iexact HR
  iapply fam_join
  isplitl [Hs] <;> iassumption

theorem reg0_pre (c : Dev nD) : T₀ m c ⊢ (reg0 m).pre c := by
  show _ ⊢ iprop(StableHlo.held (c.tc : Thread nD τ) (Pipeline.arrRefs (τ := τ) (pcfgs (F := F) 0).spec) (V₀ m c) ∗ (∃ r, prngReg c r)
    ∗ (StableHlo.held (c.tc : Thread nD τ) ∅ (V₀ m c) ∗ emp) ∗ held0 (V₀ m) c ∗ ∃ Wd, owes (c : Thread nD τ) (0 + O₀ c) Wd)
  rw [bufs_arr, zero_add, show (StableHlo.held (c.tc : Thread nD τ) ∅ (V₀ m c) : sProp 𝕄) = BI.emp from BI.bigSep_empty]
  unfold T₀
  iintro ⟨Hh, HK, Hp, HO⟩
  isplitl [Hh]; · iexact Hh
  isplitl [Hp]; · iexact Hp
  isplitr
  · isplitr
    · iempintro
    iempintro
  isplitl [HK] <;> iassumption

theorem reg0_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₁ m c) ∗ (∃ r, prngReg c r)
    ∗ (StableHlo.held (c.tc : Thread nD τ) ∅ (V₁ m c) ∗ emp) ∗ shut0 c ∗ ∃ Wd, owes (c : Thread nD τ) (0 : CellTallies nD τ sig Unit) Wd) ⊢ _
  rw [bufs_arr]
  unfold Tₙ shut0
  iintro ⟨Hh, -, -, Hb, HO⟩
  isplitl [Hh Hb]
  · isplitl [Hh] <;> iassumption
  iexact HO

theorem unscoped_eq : ∀ sm : SemLoc sig, sm.isScoped .tc = false → sm = .reg barS := by decide

set_option backward.isDefEq.respectTransparency.types false in
/-- From any memory with zero counters the program runs on all devices to its end: the arrays end as the call leaves them,
    and every semaphore counter is at zero. -/
theorem run_main : θ_run defs (onTc (τ := τ) (main (F := F))) ⟨m, fun _ => 0, ρ⟩
    (fun r => (∀ c : Dev nD, r.2.mem ((c : Thread nD τ).loc main_arg0) = V₁ m c (Proc.devRef .tc main_arg0)
      ∧ r.2.mem ((c : Thread nD τ).loc main_arg1) = V₁ m c (Proc.devRef .tc main_arg1)
      ∧ r.2.mem ((c : Thread nD τ).loc main_arg2) = V₁ m c (Proc.devRef .tc main_arg2)
      ∧ r.2.mem ((c : Thread nD τ).loc main_arg3) = V₁ m c (Proc.devRef .tc main_arg3)
      ∧ r.2.mem ((c : Thread nD τ).loc main_arg4) = V₁ m c (Proc.devRef .tc main_arg4)
      ∧ r.2.mem ((c : Thread nD τ).loc main_arg5) = V₁ m c (Proc.devRef .tc main_arg5)
      ∧ r.2.mem ((c : Thread nD τ).loc main_arg6) = V₁ m c (Proc.devRef .tc main_arg6)
      ∧ r.2.mem ((c : Thread nD τ).loc main_v1_0) = V₁ m c (Proc.devRef .tc main_v1_0)
      ∧ r.2.mem ((c : Thread nD τ).loc main_v1_1) = V₁ m c (Proc.devRef .tc main_v1_1)
      ∧ r.2.mem ((c : Thread nD τ).loc main_v1_2) = V₁ m c (Proc.devRef .tc main_v1_2)
      ∧ r.2.mem ((c : Thread nD τ).loc main_v1_3) = V₁ m c (Proc.devRef .tc main_v1_3)
      ∧ r.2.mem ((c : Thread nD τ).loc main_v1_4) = V₁ m c (Proc.devRef .tc main_v1_4)) ∧ r.2.sem = fun _ => 0) :=
  Pipeline.θ_run_regions_kit_sems (pcfgs (F := F)) adm (pdats m) () cells_inj EP defs₀ 𝒱₀ L lv m ρ main (segs m)
    (fun c Q => by rw [main_run m c])
    (by simp only [segs, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onDev_all]; iexact HX)
    (T₀ := T₀ m) (Tₙ := Tₙ m)
    (hch := ⟨fun c => reg0_pre m c, fun c => reg0_post m c⟩)
    (hinit := init m ρ)
    (QY := fun c s => (s.mem ((c : Thread nD τ).loc main_arg0) = V₁ m c (Proc.devRef .tc main_arg0)
      ∧ s.mem ((c : Thread nD τ).loc main_arg1) = V₁ m c (Proc.devRef .tc main_arg1)
      ∧ s.mem ((c : Thread nD τ).loc main_arg2) = V₁ m c (Proc.devRef .tc main_arg2)
      ∧ s.mem ((c : Thread nD τ).loc main_arg3) = V₁ m c (Proc.devRef .tc main_arg3)
      ∧ s.mem ((c : Thread nD τ).loc main_arg4) = V₁ m c (Proc.devRef .tc main_arg4)
      ∧ s.mem ((c : Thread nD τ).loc main_arg5) = V₁ m c (Proc.devRef .tc main_arg5)
      ∧ s.mem ((c : Thread nD τ).loc main_arg6) = V₁ m c (Proc.devRef .tc main_arg6)
      ∧ s.mem ((c : Thread nD τ).loc main_v1_0) = V₁ m c (Proc.devRef .tc main_v1_0)
      ∧ s.mem ((c : Thread nD τ).loc main_v1_1) = V₁ m c (Proc.devRef .tc main_v1_1)
      ∧ s.mem ((c : Thread nD τ).loc main_v1_2) = V₁ m c (Proc.devRef .tc main_v1_2)
      ∧ s.mem ((c : Thread nD τ).loc main_v1_3) = V₁ m c (Proc.devRef .tc main_v1_3)
      ∧ s.mem ((c : Thread nD τ).loc main_v1_4) = V₁ m c (Proc.devRef .tc main_v1_4))
      ∧ s.sem (barCell c) = 0)
    (hfin := fun c s' => by
      dsimp only [Tₙ]; rw [bufs_eq]
      iintro ⟨⟨⟨H0, H1, H2, H3, H4, H5, H6, H7, H8, H9, H10, H11⟩, Hb0⟩, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      icombine HSI H8 gives %h8
      icombine HSI H9 gives %h9
      icombine HSI H10 gives %h10
      icombine HSI H11 gives %h11
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9, Buf.eq_of_forall_mem_univ h10, Buf.eq_of_forall_mem_univ h11⟩, by simpa using hb⟩
      iexact HSI)
    (hQ := fun s h hs => ⟨fun c => (h c).1, sem_eq_zero hs fun c sm hsm => by
      obtain rfl := unscoped_eq sm hsm
      exact (h c).2⟩)

end Cert.Gather.Talk

end
-- ==== Proof.Gather.Value.lean ====
/- What the gather call by itself computes over the extended reals: its results are those of the whole program's call. -/
module

public import proofs.«01_k».proof.Proof.Kernel.Value
public import proofs.«01_k».proof.Proof.Gather.Run

@[expose] public section

set_option maxRecDepth 16384

noncomputable section

namespace Cert.Gather.Talk

open Cert.Gather Cert.Gather.Gen
open Cert.Product
open Cert.Kernel.Talk (Held)
open Idealize.ShloMosaic Idealize.ShloMosaic.TcCoe Idealize.ShloMosaic.ValueIdx

/-- The call's operands, as the whole program's call has them. -/
def same (I : Ins Ideal) : Cert.Kernel.Talk.Ins Ideal := ⟨I.x, I.wd, I.wk, I.wv, I.wq, I.wqr, I.wkr⟩

variable {I : Ins Ideal} {X : Mat 1024 2048} {Wd : Mat 2048 512} {Wk Wv : Mat 512 2048} (h : Held (same I) X Wd Wk Wv)
include h

theorem kOut_val (c : Dev nD) : kOut I c = prod (prod X Wd) Wk := (show kOut I c = Cert.Kernel.Talk.kOut (same I) c from rfl).trans (Cert.Kernel.Talk.kOut_val h c)
theorem vOut_val (c : Dev nD) : vOut I c = prod (prod X Wd) Wv := (show vOut I c = Cert.Kernel.Talk.vOut (same I) c from rfl).trans (Cert.Kernel.Talk.vOut_val h c)
theorem qOut_val (c : Dev nD) : qOut I c = prod (M := 1024) (K := 2048) (N := 2048) X (I.wq c) :=
  (show qOut I c = Cert.Kernel.Talk.qOut (same I) c from rfl).trans (Cert.Kernel.Talk.qOut_val h c)
theorem qrOut_val (c : Dev nD) : qrOut I c = prod (M := 1024) (K := 2048) (N := 512) X (I.wqr c) :=
  (show qrOut I c = Cert.Kernel.Talk.qrOut (same I) c from rfl).trans (Cert.Kernel.Talk.qrOut_val h c)
theorem krOut_val (c : Dev nD) : krOut I c = prod (M := 1024) (K := 2048) (N := 32) X (I.wkr c) :=
  (show krOut I c = Cert.Kernel.Talk.krOut (same I) c from rfl).trans (Cert.Kernel.Talk.krOut_val h c)

end Cert.Gather.Talk

end
-- ==== Proof.Gather.Same.lean ====
/- Gather read over the extended reals is printed as a program of its own. It is the same program: the
   same main function, the same body for every label. A run of the one is therefore a run of the other. -/
module

public import proofs.«01_k».proof.Proof.Gen.Gather
public import proofs.«01_k».proof.Proof.Gen.GatherIdeal
public import Idealize.ShloMosaic.PureOps.Ideal

@[expose] public section

set_option maxRecDepth 65536
set_option maxHeartbeats 4000000

noncomputable section

namespace Cert.Gather.Same

open Cert.Gather
open Idealize.ShloMosaic Idealize.SL.Sem

theorem main_eq : Cert.GatherIdeal.main (F := Ideal) = main (F := Ideal) := rfl

theorem bodies_eq : Cert.GatherIdeal.defs₀ (F := Ideal) = defs₀ (F := Ideal) := by
  funext k ℓ a
  cases k
  case tc =>
    match ℓ, a with
    | 0, (t, s) => rfl
    | ⟨n + 1, h⟩, _ => exact absurd h (by omega)
  all_goals rfl

theorem defs_eq : Cert.GatherIdeal.defs (F := Ideal) = defs (F := Ideal) := by
  funext k ℓ a
  match k, ℓ, a with
  | .tc, .inl ℓ, a => exact congrArg _ (congrFun (congrFun (congrFun bodies_eq .tc) ℓ) a)
  | .tc, .inr (.entry p), _ => fin_cases p <;> rfl
  | .tc, .inr (.pipe p), (a, t) => fin_cases p <;> rfl
  | .scScalar _, .inl _, _ => rfl
  | .scVector _ _, .inl _, _ => rfl
  | .scScalar _, .inr (.entry _), _ => rfl
  | .scScalar _, .inr (.pipe _), _ => rfl
  | .scVector _ _, .inr (.entry _), _ => rfl
  | .scVector _ _, .inr (.pipe _), _ => rfl

theorem run_eq (s : MemSt nD τ sig (Elt Ideal)) : θ_run (Cert.GatherIdeal.defs (F := Ideal)) (onTc (τ := τ) (Cert.GatherIdeal.main (F := Ideal))) s
    = θ_run (defs (F := Ideal)) (onTc (τ := τ) (main (F := Ideal))) s :=
  (congrArg (fun d => θ_run d (onTc (τ := τ) (Cert.GatherIdeal.main (F := Ideal))) s) defs_eq).trans
    (congrArg (fun p => θ_run (defs (F := Ideal)) (onTc (τ := τ) p) s) main_eq)

theorem moved (s : MemSt nD τ sig (Elt Ideal)) {Q : PUnit × MemSt nD τ sig (Elt Ideal) → Prop}
    (h : θ_run (defs (F := Ideal)) (onTc (τ := τ) (main (F := Ideal))) s Q) :
    θ_run (Cert.GatherIdeal.defs (F := Ideal)) (onTc (τ := τ) (Cert.GatherIdeal.main (F := Ideal))) s Q := by
  rw [run_eq s]
  exact h

end Cert.Gather.Same

end
-- ==== Proof.Gather.Claims.lean ====
/- The gather call: it runs and leaves its operands on every device, for bits and over the extended reals; its reference
   runs; and over the extended reals the call's five results are the reference's on every device. -/
module

public import proofs.«01_k».proof.Defs
public import proofs.«01_k».proof.Proof.Gen.GatherIdeal
public import proofs.«01_k».proof.Proof.Gen.GatherReferenceIdeal.Run
public import proofs.«01_k».proof.Proof.Gather.Value
public import proofs.«01_k».proof.Proof.Cuts
public import proofs.«01_k».proof.Proof.Gather.Same
public import Idealize.ShloMosaic.Adequacy
public import Idealize.ShloMosaic.Init

@[expose] public section

set_option maxRecDepth 65536

noncomputable section

namespace Cert.Gather.Alone

open Cert.Gather Cert.Gather.Gen Cert.Gather.Talk Cert.Product Cert.Cuts
open Cert.Kernel.Talk (Held)
open Idealize.ShloMosaic Idealize.ShloMosaic.ValueIdx Idealize.SL.Sem

/-- The run, with the contents that the arrays end at. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v1_0) = kOut (insOf (V₀ m)) c
      ∧ r.2.mem ((c.tc : Thread nD τ).loc main_v1_1) = vOut (insOf (V₀ m)) c
      ∧ r.2.mem ((c.tc : Thread nD τ).loc main_v1_2) = qOut (insOf (V₀ m)) c
      ∧ r.2.mem ((c.tc : Thread nD τ).loc main_v1_3) = qrOut (insOf (V₀ m)) c
      ∧ r.2.mem ((c.tc : Thread nD τ).loc main_v1_4) = krOut (insOf (V₀ m)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => by
    obtain ⟨h0, h1, h2, h3, h4, h5, h6, r0, r1, r2, r3, r4⟩ := h.1 c
    exact ⟨r0.trans (next_7 _ c), r1.trans (next_8 _ c), r2.trans (next_9 _ c), r3.trans (next_10 _ c), r4.trans (next_11 _ c),
      h0.trans (next_of _ c (Proc.devRef .tc main_arg0) (by decide)),
      h1.trans (next_of _ c (Proc.devRef .tc main_arg1) (by decide)),
      h2.trans (next_of _ c (Proc.devRef .tc main_arg2) (by decide)),
      h3.trans (next_of _ c (Proc.devRef .tc main_arg3) (by decide)),
      h4.trans (next_of _ c (Proc.devRef .tc main_arg4) (by decide)),
      h5.trans (next_of _ c (Proc.devRef .tc main_arg5) (by decide)),
      h6.trans (next_of _ c (Proc.devRef .tc main_arg6) (by decide))⟩, h.2⟩) (run_main m ρ)

theorem kept {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => (h.1 c).2.2.2.2.2, h.2⟩) (run m ρ)

theorem value (m : (ℓ : Loc nD τ sig) → Buf (Elt Ideal) ℓ) (ρ : Dev nD → PrngReg) {X : Mat 1024 2048} {Wd : Mat 2048 512} {Wk Wv : Mat 512 2048}
    {Wq : Mat 2048 2048} {Wqr : Mat 2048 512} {Wkr : Mat 2048 32} (hh : Held (same (insOf (V₀ m))) X Wd Wk Wv)
    (hq : ∀ c : Dev nD, m ((c.tc : Thread nD τ).loc main_arg4) = Wq) (hqr : ∀ c : Dev nD, m ((c.tc : Thread nD τ).loc main_arg5) = Wqr)
    (hkr : ∀ c : Dev nD, m ((c.tc : Thread nD τ).loc main_arg6) = Wkr) :
    θ_run (defs (F := Ideal)) (onTc (τ := τ) (main (F := Ideal))) ⟨m, fun _ => 0, ρ⟩ (fun r => ∀ c : Dev nD,
      r.2.mem ((c.tc : Thread nD τ).loc main_v1_0) = prod (prod X Wd) Wk
      ∧ r.2.mem ((c.tc : Thread nD τ).loc main_v1_1) = prod (prod X Wd) Wv
      ∧ r.2.mem ((c.tc : Thread nD τ).loc main_v1_2) = prod X Wq
      ∧ r.2.mem ((c.tc : Thread nD τ).loc main_v1_3) = prod X Wqr
      ∧ r.2.mem ((c.tc : Thread nD τ).loc main_v1_4) = prod X Wkr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨r0, r1, r2, r3, r4, keep⟩ := h.1 c
    exact ⟨r0.trans (kOut_val hh c), r1.trans (vOut_val hh c), r2.trans ((qOut_val hh c).trans (congrArg (prod X) (hq c))),
      r3.trans ((qrOut_val hh c).trans (congrArg (prod X) (hqr c))), r4.trans ((krOut_val hh c).trans (congrArg (prod X) (hkr c))), keep⟩) (run m ρ)

theorem frame_gather : Cert.quiescent_Gather := fun m ρ _ => kept (F := Bits) m ρ

theorem frame_gatherIdeal : Cert.quiescent_GatherIdeal := fun m ρ _ => Same.moved ⟨m, fun _ => 0, ρ⟩ (kept (F := Ideal) m ρ)

theorem frame_gatherReferenceIdeal : Cert.quiescent_GatherReferenceIdeal := fun m ρ _ =>
  (θ_run Cert.GatherReferenceIdeal.defs _ _).mono (fun r h => ⟨fun c => (h c).2.2.2.2.2, sem_eq_zero_of_no_sems (by decide) r.2⟩)
    (Cert.GatherReferenceIdeal.Value.run (F := Ideal) m ρ)

theorem algebraic_gather : Cert.algebraic_GatherIdeal_GatherReferenceIdeal := by
  intro m g m' g' _ hin
  let A (b) := m' (((0 : Dev Cert.GatherReferenceIdeal.nD).tc : Thread Cert.GatherReferenceIdeal.nD Cert.GatherReferenceIdeal.τ).loc b)
  let X : Mat 1024 2048 := A Cert.GatherReferenceIdeal.main_arg0
  let Wd : Mat 2048 512 := A Cert.GatherReferenceIdeal.main_arg1
  let Wk : Mat 512 2048 := A Cert.GatherReferenceIdeal.main_arg2
  let Wv : Mat 512 2048 := A Cert.GatherReferenceIdeal.main_arg3
  let Wq : Mat 2048 2048 := A Cert.GatherReferenceIdeal.main_arg4
  let Wqr : Mat 2048 512 := A Cert.GatherReferenceIdeal.main_arg5
  let Wkr : Mat 2048 32 := A Cert.GatherReferenceIdeal.main_arg6
  have hh : Held (same (insOf (V₀ m))) X Wd Wk Wv :=
    { x := fun c => (hin c).1
      wd := fun c j => (congrFun (hin c).2.1 j).trans (cut_cols c Wd j)
      wk := fun c j => (congrFun (hin c).2.2.1 j).trans (cut_rows c Wk j)
      wv := fun c j => (congrFun (hin c).2.2.2.1 j).trans (cut_rows c Wv j) }
  refine ⟨prod (prod X Wd) Wk, prod (prod X Wd) Wv, prod X Wq, prod X Wqr, prod X Wkr, ?_, ?_⟩
  · exact Same.moved ⟨m, fun _ => 0, g⟩ (value m g hh (fun c => (hin c).2.2.2.2.1) (fun c => (hin c).2.2.2.2.2.1) fun c => (hin c).2.2.2.2.2.2)
  · refine (θ_run Cert.GatherReferenceIdeal.defs _ _).mono (fun _ h => ?_) (Cert.GatherReferenceIdeal.Value.run (F := Ideal) m' g')
    obtain ⟨r0, r1, r2, r3, r4, hs⟩ := h 0
    have hc := host (M := 1024) (K := 2048) (N := 512) Cert.GatherReferenceIdeal.dot_S1024x2048_S2048x512_S1024x512_1_0_0_1_n_n rfl X Wd bitsLt_bf16_f32
    refine ⟨r0.trans ?_, r1.trans ?_, r2.trans (host (M := 1024) (K := 2048) (N := 2048) _ rfl X Wq _), r3.trans (host (M := 1024) (K := 2048) (N := 512) _ rfl X Wqr _),
      r4.trans (host (M := 1024) (K := 2048) (N := 32) _ rfl X Wkr _), hs⟩
    · exact (host (M := 1024) (K := 512) (N := 2048) Cert.GatherReferenceIdeal.dot_S1024x512_S512x2048_S1024x2048_1_0_0_1_n_n rfl _ Wk _).trans (congrArg (fun c => prod c Wk) hc)
    · exact (host (M := 1024) (K := 512) (N := 2048) Cert.GatherReferenceIdeal.dot_S1024x512_S512x2048_S1024x2048_1_0_0_1_n_n rfl _ Wv _).trans (congrArg (fun c => prod c Wv) hc)

end Cert.Gather.Alone

end
-- ==== Proof.AttnIdeal.Value.lean ====
/- The attention call by itself: its result as one function of its operands, from what the body computes for one batch. -/
module

public import proofs.«01_k».proof.Proof.Kernel.AttendValue
public import proofs.«01_k».proof.Proof.Gen.AttnIdeal.Value

@[expose] public section

noncomputable section

namespace Cert.AttnIdeal.Batches

open Cert.AttnIdeal Cert.AttnIdeal.Gen Cert.AttnIdeal.Value
open Cert.Kernel.Batches (batch whole)
open Cert.Attention (out entry score)
open Idealize.ShloMosaic Idealize.ShloMosaic.TcCoe Idealize.ShloMosaic.ValueIdx Idealize.SL.Sem

variable (m : (ℓ : Loc nD τ sig) → Buf (Elt Ideal) ℓ) (ρ : Dev nD → PrngReg)

/-- The body is the one that the whole program runs. -/
theorem out_eq (q k v : Vec Ideal S1x512x2048 .bf16) (qr : Vec Ideal S1x512x512 .bf16) (kr : Vec Ideal S1x512x32 .bf16) :
    out0_5 q k v qr kr = out q k v qr kr :=
  (show out0_5 q k v qr kr = Cert.Kernel.Attend.left q k v qr kr from rfl).trans (Cert.Kernel.Batches.out_eq q k v qr kr)

theorem read0 (c : Dev nD) (t : Fin cfg0.N) (s : Fin 512) (d : Fin 2048) : iblk m c 0 t (ix3 0 s d) = V m c main_arg0 (ix3 (batch t) s d) :=
  congrArg (V m c main_arg0) (whole (win0_0.index t) (batch t) (Cert.Kernel.Batches.idx0 t) _ s d ⟨rfl, rfl, rfl⟩)
theorem read1 (c : Dev nD) (t : Fin cfg0.N) (s : Fin 512) (d : Fin 2048) : iblk m c 1 t (ix3 0 s d) = V m c main_arg1 (ix3 (batch t) s d) :=
  congrArg (V m c main_arg1) (whole (win0_1.index t) (batch t) (Cert.Kernel.Batches.idx1 t) _ s d ⟨rfl, rfl, rfl⟩)
theorem read2 (c : Dev nD) (t : Fin cfg0.N) (s : Fin 512) (d : Fin 2048) : iblk m c 2 t (ix3 0 s d) = V m c main_arg2 (ix3 (batch t) s d) :=
  congrArg (V m c main_arg2) (whole (win0_2.index t) (batch t) (Cert.Kernel.Batches.idx2 t) _ s d ⟨rfl, rfl, rfl⟩)
theorem read3 (c : Dev nD) (t : Fin cfg0.N) (s : Fin 512) (d : Fin 512) : iblk m c 3 t (ix3 0 s d) = V m c main_arg3 (ix3 (batch t) s d) :=
  congrArg (V m c main_arg3) (whole (win0_3.index t) (batch t) (Cert.Kernel.Batches.idx3 t) _ s d ⟨rfl, rfl, rfl⟩)
theorem read4 (c : Dev nD) (t : Fin cfg0.N) (s : Fin 512) (d : Fin 32) : iblk m c 4 t (ix3 0 s d) = V m c main_arg4 (ix3 (batch t) s d) :=
  congrArg (V m c main_arg4) (whole (win0_4.index t) (batch t) (Cert.Kernel.Batches.idx4 t) _ s d ⟨rfl, rfl, rfl⟩)
theorem emb5 (t : Fin cfg0.N) (s : Fin 512) (d : Fin 2048) : ((cfg0.win 5).blk t).view.emb (ix3 0 s d : S1x512x2048.Idx) = ix3 (batch t) s d :=
  whole (win0_5.index t) (batch t) (Cert.Kernel.Batches.idx5 t) _ s d ⟨rfl, rfl, rfl⟩

/-- What point `t` writes back is its batch of the result. -/
theorem flushed_eq (c : Dev nD) (t : Fin cfg0.N) :
    (dats m 0 c).flushed 5 t = ((cfg0.win 5).blk t).view.read (Elt Ideal)
      (out (V m c main_arg0) (V m c main_arg1) (V m c main_arg2) (V m c main_arg3) (V m c main_arg4)) := by
  rw [flushed5, out_eq]
  funext j
  obtain ⟨s, d, rfl⟩ : ∃ (s : Fin 512) (d : Fin 2048), j = ix3 0 s d :=
    ⟨j 1, j 2, (eq_ix3 j).trans (congrArg (fun z => ix3 z (j 1) (j 2)) (Subsingleton.elim (α := Fin 1) (j 0) 0))⟩
  show entry (iblk m c 0 t) (iblk m c 1 t) (iblk m c 2 t) (iblk m c 3 t) (iblk m c 4 t) 0 s d
    = out (V m c main_arg0) (V m c main_arg1) (V m c main_arg2) (V m c main_arg3) (V m c main_arg4) (((cfg0.win 5).blk t).view.emb (ix3 0 s d : S1x512x2048.Idx))
  rw [emb5]
  show _ = entry (V m c main_arg0) (V m c main_arg1) (V m c main_arg2) (V m c main_arg3) (V m c main_arg4) (batch t) s d
  unfold entry score
  simp only [read0 m, read1 m, read2 m, read3 m, read4 m]

/-- Every index of the result is in its batch's block. -/
theorem covered (i : S2x512x2048.Idx) :
    ∃ t : Fin cfg0.N, (cfg0.win 5).flush t = true ∧ i ∈ ((cfg0.win 5).blk t).view.set := by
  obtain ⟨t, ht⟩ : ∃ t : Fin cfg0.N, batch t = i 0 := ⟨⟨(i 0).val, by rw [show cfg0.N = 2 from Cert.Kernel.Batches.points]; exact (i 0).isLt⟩, rfl⟩
  have e : ((cfg0.win 5).blk t).view.emb (ix3 0 (i 1) (i 2) : S1x512x2048.Idx) = i :=
    (emb5 t (i 1) (i 2)).trans ((congrArg (fun b => (ix3 b (i 1) (i 2) : S2x512x2048.Idx)) ht).trans (eq_ix3 i).symm)
  exact ⟨t, flush0_5 t, e ▸ ((cfg0.win 5).blk t).view.emb_mem_set (ix3 0 (i 1) (i 2) : S1x512x2048.Idx)⟩

/-- The result after the run. -/
theorem final (c : Dev nD) : (dats m 0 c).arrAt 5 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 (out (V m c main_arg0) (V m c main_arg1) (V m c main_arg2) (V m c main_arg3) (V m c main_arg4))
    (fun t _ => flushed_eq m c t) covered).trans (by rw [V_main_arg0, V_main_arg1, V_main_arg2, V_main_arg3, V_main_arg4])

end Cert.AttnIdeal.Batches

end
-- ==== Proof.AttnReferenceIdeal.Value.lean ====
/- The attention reference's result as the same function of its operands, for real queries and keys. -/
module

public import proofs.«01_k».proof.Proof.ReferenceIdeal.Value
public import proofs.«01_k».proof.Proof.Gen.AttnReferenceIdeal.Run

@[expose] public section

noncomputable section

namespace Cert.AttnReferenceIdeal.Heads

open Cert.AttnReferenceIdeal Cert.AttnReferenceIdeal.Gen Cert.AttnReferenceIdeal.Value
open Cert.Attention (out)
open Cert.Softmax (IsReal)
open Idealize.ShloMosaic Idealize.ShloMosaic.TcCoe Idealize.SL.Sem

/-- The reference's attention is the one of the whole layer. -/
theorem res_eq (m : (ℓ : Loc nD τ sig) → Buf (Elt Ideal) ℓ) (c : Dev nD)
    (hq : ∀ i, IsReal (m ((c.tc : Thread nD τ).loc main_arg0) i)) (hk : ∀ i, IsReal (m ((c.tc : Thread nD τ).loc main_arg1) i))
    (hqr : ∀ i, IsReal (m ((c.tc : Thread nD τ).loc main_arg3) i)) (hkr : ∀ i, IsReal (m ((c.tc : Thread nD τ).loc main_arg4) i)) :
    res_main_v29 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) :=
  Eq.trans (by unfold res_main_v29; rfl) (Cert.ReferenceIdeal.Heads.result _ _ _ _ _ hq hk hqr hkr)

end Cert.AttnReferenceIdeal.Heads

end
-- ==== Proof.AttnIdeal.Claims.lean ====
/- The attention call: it runs and leaves its operands, for bits and over the extended reals, and over the extended
   reals its result is the reference's where queries and keys are finite. -/
module

public import proofs.«01_k».proof.Defs
public import proofs.«01_k».proof.Proof.AttnIdeal.Value
public import proofs.«01_k».proof.Proof.AttnReferenceIdeal.Value
public import proofs.«01_k».proof.Proof.Gen.Attn.Frame
public import proofs.«01_k».proof.Proof.Gen.Pre_finite_heads
public import proofs.«01_k».proof.Proof.Finite

@[expose] public section

noncomputable section

namespace Cert.AttnIdeal.Batches

open Idealize.ShloMosaic Idealize.ShloMosaic.ValueIdx Idealize.SL.Sem
open Cert.Softmax (IsReal)
open Cert.Finite (real_of_all)

theorem frame_attn : Cert.quiescent_Attn := fun m ρ _ => Cert.Attn.Gen.frame m ρ

theorem frame_attnIdeal : Cert.quiescent_AttnIdeal := fun m ρ _ => Cert.AttnIdeal.Gen.frame m ρ

theorem frame_attnIdeal_finite : Cert.quiescent_AttnIdeal_pre_finite_heads := fun m ρ _ => Cert.AttnIdeal.Gen.frame m ρ

theorem frame_attnReferenceIdeal : Cert.quiescent_AttnReferenceIdeal := fun m ρ _ =>
  (θ_run Cert.AttnReferenceIdeal.defs _ _).mono (fun r h => ⟨fun c => (h c).2, sem_eq_zero_of_no_sems (by decide) r.2⟩)
    (Cert.AttnReferenceIdeal.Value.run (F := Ideal) m ρ)

theorem frame_attnReferenceIdeal_finite : Cert.quiescent_AttnReferenceIdeal_pre_finite_heads := fun m ρ _ =>
  frame_attnReferenceIdeal m ρ trivial

/-! ## What the precondition says -/

theorem finite_reads (q k v : FVec Ideal ⟨3, ![2, 512, 2048]⟩ .bf16) (qr : FVec Ideal ⟨3, ![2, 512, 512]⟩ .bf16) (kr : FVec Ideal ⟨3, ![2, 512, 32]⟩ .bf16)
    (h : Cert.Pre_finite_heads.fn (F := Ideal) q k v qr kr ix0 = 1#1) :
    (∀ i, IsReal (q i)) ∧ (∀ i, IsReal (k i)) ∧ (∀ i, IsReal (qr i)) ∧ ∀ i, IsReal (kr i) := by
  obtain ⟨h, hkr⟩ := IntOp.andi_eq_one.1 h
  obtain ⟨h, hqr⟩ := IntOp.andi_eq_one.1 h
  obtain ⟨hq, hk⟩ := IntOp.andi_eq_one.1 h
  exact ⟨real_of_all q _ _ _ hq, real_of_all k _ _ _ hk, real_of_all qr _ _ _ hqr, real_of_all kr _ _ _ hkr⟩

theorem algebraic_attn : Cert.algebraic_AttnIdeal_AttnReferenceIdeal_pre_finite_heads := by
  intro m g m' g' hpre hin
  refine ⟨fun c => Cert.Attention.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)), ?_, ?_⟩
  · exact (θ_run defs _ _).mono (fun _ h c => ⟨(h c).1.trans (final m c), (h c).2⟩) (Value.run_blocks (F := Ideal) m g)
  · refine (θ_run Cert.AttnReferenceIdeal.defs _ _).mono (fun _ h c => ⟨(h c).1.trans ?_, (h c).2⟩)
      (Cert.AttnReferenceIdeal.Value.run (F := Ideal) m' g')
    obtain ⟨e0, e1, e2, e3, e4⟩ := hin c
    obtain ⟨hq, hk, hqr, hkr⟩ := finite_reads _ _ _ _ _ (congrFun (hpre c) ix0)
    refine (Cert.AttnReferenceIdeal.Heads.res_eq m' c (fun i => ?_) (fun i => ?_) (fun i => ?_) (fun i => ?_)).trans ?_
    · rw [e0]; exact hq i
    · rw [e1]; exact hk i
    · rw [e3]; exact hqr i
    · rw [e4]; exact hkr i
    · rw [e0, e1, e2, e3, e4]

end Cert.AttnIdeal.Batches

end
-- ==== Proof.OutProjIdeal.Value.lean ====
/- The output product's result as one function of its operands, over the extended reals: grid point `t` writes columns
   `512 t` to `512 t + 511` of the product. -/
module

public import proofs.«01_k».proof.Proof.Product
public import proofs.«01_k».proof.Proof.Kernel.ProjectValue
public import proofs.«01_k».proof.Proof.Gen.OutProjIdeal.Value

@[expose] public section

noncomputable section

namespace Cert.OutProjIdeal.Columns

open Cert.OutProjIdeal Cert.OutProjIdeal.Gen Cert.OutProjIdeal.Value
open Cert.Kernel.Columns (col)
open Idealize.ShloMosaic Idealize.ShloMosaic.TcCoe Idealize.ShloMosaic.ValueIdx Idealize.SL.Sem

theorem zeros : (![0, 0] : Fin 2 → Nat) = fun _ => 0 := funext fun a => by fin_cases a <;> rfl

/-- The body's result: the product of the rows and the block of columns. -/
theorem out_eq (A : Vec Ideal S1024x2048 .bf16) (B : Vec Ideal S2048x512 .bf16) :
    out0_2 A B = Cert.Product.prod A B := by
  unfold out0_2
  rw [View.canon_unit_zero zeros, View.ld_unit_zero zeros, View.ld_unit_zero zeros]
  exact Cert.Product.dot _ rfl A B (by decide)

variable (m : (ℓ : Loc nD τ sig) → Buf (Elt Ideal) ℓ) (ρ : Dev nD → PrngReg)

theorem emb0 (t : Fin cfg0.N) (j : S1024x2048.Idx) : ((cfg0.win 0).blk t).view.emb j = j := Cert.Kernel.Columns.emb0 t j
theorem emb1 (t : Fin cfg0.N) (j : S2048x512.Idx) : ((cfg0.win 1).blk t).view.emb j = ix2 (j 0) (col t (j 1)) := Cert.Kernel.Columns.emb1 t j
theorem emb2 (t : Fin cfg0.N) (j : S1024x512.Idx) : ((cfg0.win 2).blk t).view.emb j = ix2 (j 0) (col t (j 1)) := Cert.Kernel.Columns.emb2 t j

/-- What point `t` writes back is its columns of the product. -/
theorem flushed_eq (c : Dev nD) (t : Fin cfg0.N) :
    (dats m 0 c).flushed 2 t
      = ((cfg0.win 2).blk t).view.read (Elt Ideal) (Cert.Product.prod (V m c main_arg0) (V m c main_arg1)) := by
  rw [flushed2, out_eq]
  funext j
  show Cert.Product.prod (iblk m c 0 t) (iblk m c 1 t) j
    = Cert.Product.prod (V m c main_arg0) (V m c main_arg1) (((cfg0.win 2).blk t).view.emb j)
  rw [emb2]
  refine Finset.sum_congr rfl fun k _ => ?_
  exact congrArg₂ (fun x y : EReal => x * y) (congrArg (V m c main_arg0) (emb0 t _)) (congrArg (V m c main_arg1) (emb1 t _))

/-- Every index of the result is in the block of its column. -/
theorem covered (i : S1024x2048.Idx) :
    ∃ t : Fin cfg0.N, (cfg0.win 2).flush t = true ∧ i ∈ ((cfg0.win 2).blk t).view.set := by
  have h1 : (i 1).val < 2048 := (i 1).isLt
  have hN : cfg0.N = 4 := by decide +kernel
  obtain ⟨t, ht⟩ : ∃ t : Fin cfg0.N, t.val = (i 1).val / 512 := ⟨⟨(i 1).val / 512, by omega⟩, rfl⟩
  have h := ((cfg0.win 2).blk t).view.emb_mem_set (ix2 (i 0) ⟨(i 1).val % 512, Nat.mod_lt _ (by omega)⟩ : S1024x512.Idx)
  rw [emb2] at h
  have e : (ix2 (i 0) (col t ⟨(i 1).val % 512, Nat.mod_lt _ (by omega)⟩) : S1024x2048.Idx) = i := by
    funext a; apply Fin.ext
    match a with
    | ⟨0, _⟩ => rfl
    | ⟨1, _⟩ => show t.val * 512 + (i 1).val % 512 = (i 1).val; omega
  exact ⟨t, flush0_2 t, e ▸ h⟩

/-- The result after the run: the product of the two arguments. -/
theorem final (c : Dev nD) : (dats m 0 c).arrAt 2 cfg0.N
    = Cert.Product.prod (m ((c : Thread nD τ).loc main_arg0)) (m ((c : Thread nD τ).loc main_arg1)) :=
  ((dats m 0 c).arrAt_eq_of_cover 2 (Cert.Product.prod (V m c main_arg0) (V m c main_arg1))
    (fun t _ => flushed_eq m c t) covered).trans (by rw [V_main_arg0, V_main_arg1])

end Cert.OutProjIdeal.Columns

end
-- ==== Proof.OutProjIdeal.Claims.lean ====
/- The output product: it runs and leaves its operands, for bits and over the extended reals, and over the extended
   reals its result is the reference's. -/
module

public import proofs.«01_k».proof.Defs
public import proofs.«01_k».proof.Proof.OutProjIdeal.Value
public import proofs.«01_k».proof.Proof.Gen.OutProj.Frame
public import proofs.«01_k».proof.Proof.Gen.OutProjReferenceIdeal.Run

@[expose] public section

noncomputable section

namespace Cert.OutProjIdeal.Columns

open Idealize.ShloMosaic Idealize.SL.Sem

theorem frame_outProj : Cert.quiescent_OutProj := fun m ρ _ => Cert.OutProj.Gen.frame m ρ

theorem frame_outProjIdeal : Cert.quiescent_OutProjIdeal := fun m ρ _ => Cert.OutProjIdeal.Gen.frame m ρ

theorem frame_outProjReferenceIdeal : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

/-- The reference's result is the product too. -/
theorem reference (A : FVec Ideal ⟨2, ![1024, 2048]⟩ .bf16) (B : FVec Ideal ⟨2, ![2048, 2048]⟩ .bf16) :
    extf .f32 (truncf .bf16 (Host.dotGeneral Cert.OutProjReferenceIdeal.dot_S1024x2048_S2048x2048_S1024x2048_1_0_0_1_n_n none A B)
      Cert.OutProjReferenceIdeal.Gen.bitsLt_bf16_f32) Cert.OutProjReferenceIdeal.Gen.bitsLt_bf16_f32 = Cert.Product.prod A B :=
  Cert.Product.host (M := 1024) (K := 2048) (N := 2048) _ rfl A B Cert.OutProjReferenceIdeal.Gen.bitsLt_bf16_f32

theorem algebraic_outProj : Cert.algebraic_OutProjIdeal_OutProjReferenceIdeal := by
  intro m g m' g' _ hin
  refine ⟨fun c => Cert.Product.prod (m ((c.tc : Thread nD τ).loc main_arg0)) (m ((c.tc : Thread nD τ).loc main_arg1)), ?_, ?_⟩
  · exact (θ_run defs _ _).mono (fun _ h c => ⟨(h c).1.trans (final m c), (h c).2⟩) (Value.run_blocks (F := Ideal) m g)
  · refine (θ_run Cert.OutProjReferenceIdeal.defs _ _).mono (fun _ h c => ⟨((h c).1.trans (reference _ _)).trans ?_, (h c).2⟩)
      (Cert.OutProjReferenceIdeal.Value.run (F := Ideal) m' g')
    exact congrArg₂ Cert.Product.prod (hin c).1 (hin c).2

end Cert.OutProjIdeal.Columns

end
-- ==== Proof.lean ====
/- The claims together: those of the whole kernel, and those of each of its three calls by itself. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Gather
public import proofs.«01_k».proof.Proof.Gen.GatherIdeal
public import proofs.«01_k».proof.Proof.Gen.GatherReferenceIdeal
public import proofs.«01_k».proof.Proof.Gen.Pre_finite_KernelIdeal
public import proofs.«01_k».proof.Proof.Gen.Pre_finite_ReferenceIdeal
public import proofs.«01_k».proof.Proof.Gen.Pre_finite_heads
public import proofs.«01_k».proof.Proof.Kernel.Claims
public import proofs.«01_k».proof.Proof.Gather.Claims
public import proofs.«01_k».proof.Proof.AttnIdeal.Claims
public import proofs.«01_k».proof.Proof.OutProjIdeal.Claims

@[expose] public section

noncomputable section

namespace Cert.Proof

open Cert.Kernel.Whole Cert.Gather.Alone Cert.AttnIdeal.Batches Cert.OutProjIdeal.Columns

theorem claim : Cert.Claim := ⟨Cert.Kernel.Gen.facts, Cert.KernelIdeal.Gen.facts, Cert.ReferenceIdeal.Gen.facts,
  Cert.Gather.Gen.facts, Cert.GatherIdeal.Gen.facts, Cert.GatherReferenceIdeal.Gen.facts,
  Cert.Attn.Gen.facts, Cert.AttnIdeal.Gen.facts, Cert.AttnReferenceIdeal.Gen.facts,
  Cert.OutProj.Gen.facts, Cert.OutProjIdeal.Gen.facts, Cert.OutProjReferenceIdeal.Gen.facts,
  Cert.Pre_finite_KernelIdeal.Gen.facts, Cert.Pre_finite_ReferenceIdeal.Gen.facts, Cert.Pre_finite_heads.Gen.facts,
  frame_kernel, frame_kernelIdeal, frame_kernelIdeal_finite, frame_referenceIdeal, frame_referenceIdeal_finite,
  frame_gather, frame_gatherIdeal, frame_gatherReferenceIdeal,
  frame_attn, frame_attnIdeal, frame_attnIdeal_finite, frame_attnReferenceIdeal, frame_attnReferenceIdeal_finite,
  frame_outProj, frame_outProjIdeal, frame_outProjReferenceIdeal,
  trivial, algebraic, trivial, algebraic_gather, trivial, algebraic_attn, trivial, algebraic_outProj⟩

end Cert.Proof

end
